-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_qk_512 [hPre_finite_qk_512 : Cert.Pre_finite_qk_512.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_qk_512.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_qk_512 [hPre_finite_qk_512 : Cert.Pre_finite_qk_512.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_qk_512.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_qk_128 [hPre_finite_qk_128 : Cert.Pre_finite_qk_128.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_qk_128.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_qk_128 [hPre_finite_qk_128 : Cert.Pre_finite_qk_128.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_qk_128.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_lse [hPre_finite_lse : Cert.Pre_finite_lse.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_lse.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_lse [hPre_finite_lse : Cert.Pre_finite_lse.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_lse.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_qk_512 [hKernel7Ideal : Cert.Kernel7Ideal.Facts] [hPre_finite_qk_512 : Cert.Pre_finite_qk_512.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_qk_512 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_qk_512 [hReference7Ideal : Cert.Reference7Ideal.Facts] [hPre_finite_qk_512 : Cert.Pre_finite_qk_512.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_qk_512 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_qk_128 [hKernel8Ideal : Cert.Kernel8Ideal.Facts] [hPre_finite_qk_128 : Cert.Pre_finite_qk_128.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_qk_128 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_qk_128 [hReference8Ideal : Cert.Reference8Ideal.Facts] [hPre_finite_qk_128 : Cert.Pre_finite_qk_128.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_qk_128 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Kernel10Ideal_pre_finite_lse [hKernel10Ideal : Cert.Kernel10Ideal.Facts] [hPre_finite_lse : Cert.Pre_finite_lse.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_lse m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Reference10Ideal_pre_finite_lse [hReference10Ideal : Cert.Reference10Ideal.Facts] [hPre_finite_lse : Cert.Pre_finite_lse.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_lse m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v17)) (v2 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_v18) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v19)) (v1 : (c : Dev Cert.Kernel4Ideal.nD) → Buf (Elt Ideal) ((c.tc : Thread Cert.Kernel4Ideal.nD Cert.Kernel4Ideal.τ).loc Cert.Kernel4Ideal.main_v20)) (v2 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_v20) = v1 c
          ∧ r.2.mem ((c.tc : Thread Cert.Kernel4Ideal.nD Cert.Kernel4Ideal.τ).loc Cert.Kernel4Ideal.main_v21) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v39)) (v1 : (c : Dev Cert.Kernel6Ideal.nD) → Buf (Elt Ideal) ((c.tc : Thread Cert.Kernel6Ideal.nD Cert.Kernel6Ideal.τ).loc Cert.Kernel6Ideal.main_v44)) (v2 : (c : Dev Cert.Kernel6Ideal.nD) → Buf (Elt Ideal) ((c.tc : Thread Cert.Kernel6Ideal.nD Cert.Kernel6Ideal.τ).loc Cert.Kernel6Ideal.main_v47)) (v3 : (c : Dev Cert.Kernel6Ideal.nD) → Buf (Elt Ideal) ((c.tc : Thread Cert.Kernel6Ideal.nD Cert.Kernel6Ideal.τ).loc Cert.Kernel6Ideal.main_v52)) (v4 : (c : Dev Cert.Kernel6Ideal.nD) → Buf (Elt Ideal) ((c.tc : Thread Cert.Kernel6Ideal.nD Cert.Kernel6Ideal.τ).loc Cert.Kernel6Ideal.main_v55)) (v5 : (c : Dev Cert.Kernel6Ideal.nD) → Buf (Elt Ideal) ((c.tc : Thread Cert.Kernel6Ideal.nD Cert.Kernel6Ideal.τ).loc Cert.Kernel6Ideal.main_v60)) (v6 : (c : Dev Cert.Kernel6Ideal.nD) → Buf (Elt Ideal) ((c.tc : Thread Cert.Kernel6Ideal.nD Cert.Kernel6Ideal.τ).loc Cert.Kernel6Ideal.main_v63)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v39) = v0 c
          ∧ r.2.mem ((c.tc : Thread Cert.Kernel6Ideal.nD Cert.Kernel6Ideal.τ).loc Cert.Kernel6Ideal.main_v44) = v1 c
          ∧ r.2.mem ((c.tc : Thread Cert.Kernel6Ideal.nD Cert.Kernel6Ideal.τ).loc Cert.Kernel6Ideal.main_v47) = v2 c
          ∧ r.2.mem ((c.tc : Thread Cert.Kernel6Ideal.nD Cert.Kernel6Ideal.τ).loc Cert.Kernel6Ideal.main_v52) = v3 c
          ∧ r.2.mem ((c.tc : Thread Cert.Kernel6Ideal.nD Cert.Kernel6Ideal.τ).loc Cert.Kernel6Ideal.main_v55) = v4 c
          ∧ r.2.mem ((c.tc : Thread Cert.Kernel6Ideal.nD Cert.Kernel6Ideal.τ).loc Cert.Kernel6Ideal.main_v60) = v5 c
          ∧ r.2.mem ((c.tc : Thread Cert.Kernel6Ideal.nD Cert.Kernel6Ideal.τ).loc Cert.Kernel6Ideal.main_v63) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_v81) = v1 c
          ∧ r.2.mem ((c.tc : Thread Cert.Reference6Ideal.nD Cert.Reference6Ideal.τ).loc Cert.Reference6Ideal.main_v85) = v2 c
          ∧ r.2.mem ((c.tc : Thread Cert.Reference6Ideal.nD Cert.Reference6Ideal.τ).loc Cert.Reference6Ideal.main_v89) = v3 c
          ∧ r.2.mem ((c.tc : Thread Cert.Reference6Ideal.nD Cert.Reference6Ideal.τ).loc Cert.Reference6Ideal.main_v93) = v4 c
          ∧ r.2.mem ((c.tc : Thread Cert.Reference6Ideal.nD Cert.Reference6Ideal.τ).loc Cert.Reference6Ideal.main_v97) = v5 c
          ∧ r.2.mem ((c.tc : Thread Cert.Reference6Ideal.nD Cert.Reference6Ideal.τ).loc Cert.Reference6Ideal.main_v101) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_qk_512 [hKernel7Ideal : Cert.Kernel7Ideal.Facts] [hReference7Ideal : Cert.Reference7Ideal.Facts] [hPre_finite_qk_512 : Cert.Pre_finite_qk_512.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_qk_512 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v48) = v2 c
          ∧ r.2.mem ((c.tc : Thread Cert.Reference7Ideal.nD Cert.Reference7Ideal.τ).loc Cert.Reference7Ideal.main_v49) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite_qk_128 [hKernel8Ideal : Cert.Kernel8Ideal.Facts] [hReference8Ideal : Cert.Reference8Ideal.Facts] [hPre_finite_qk_128 : Cert.Pre_finite_qk_128.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_qk_128 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_v47) = v1 c
          ∧ r.2.mem ((c.tc : Thread Cert.Reference8Ideal.nD Cert.Reference8Ideal.τ).loc Cert.Reference8Ideal.main_v48) = v2 c
          ∧ r.2.mem ((c.tc : Thread Cert.Reference8Ideal.nD Cert.Reference8Ideal.τ).loc Cert.Reference8Ideal.main_v49) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite_lse [hKernel10Ideal : Cert.Kernel10Ideal.Facts] [hReference10Ideal : Cert.Reference10Ideal.Facts] [hPre_finite_lse : Cert.Pre_finite_lse.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_lse m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v51) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_qk : Cert.Pre_finite_qk.Facts) (hPre_tables_in_range : Cert.Pre_tables_in_range.Facts) (hPre_finite_qk_512 : Cert.Pre_finite_qk_512.Facts) (hPre_finite_qk_128 : Cert.Pre_finite_qk_128.Facts) (hPre_finite_lse : Cert.Pre_finite_lse.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_qk_512 (hKernel7Ideal := hKernel7Ideal) (hPre_finite_qk_512 := hPre_finite_qk_512)
    ∧ quiescent_Reference7Ideal (hReference7Ideal := hReference7Ideal)
    ∧ quiescent_Reference7Ideal_pre_finite_qk_512 (hReference7Ideal := hReference7Ideal) (hPre_finite_qk_512 := hPre_finite_qk_512)
    ∧ quiescent_Kernel8 (hKernel8 := hKernel8)
    ∧ quiescent_Kernel8Ideal (hKernel8Ideal := hKernel8Ideal)
    ∧ quiescent_Kernel8Ideal_pre_finite_qk_128 (hKernel8Ideal := hKernel8Ideal) (hPre_finite_qk_128 := hPre_finite_qk_128)
    ∧ quiescent_Reference8Ideal (hReference8Ideal := hReference8Ideal)
    ∧ quiescent_Reference8Ideal_pre_finite_qk_128 (hReference8Ideal := hReference8Ideal) (hPre_finite_qk_128 := hPre_finite_qk_128)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_lse (hKernel10Ideal := hKernel10Ideal) (hPre_finite_lse := hPre_finite_lse)
    ∧ quiescent_Reference10Ideal (hReference10Ideal := hReference10Ideal)
    ∧ quiescent_Reference10Ideal_pre_finite_lse (hReference10Ideal := hReference10Ideal) (hPre_finite_lse := hPre_finite_lse)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_qk_512 (hKernel7Ideal := hKernel7Ideal) (hReference7Ideal := hReference7Ideal) (hPre_finite_qk_512 := hPre_finite_qk_512)
    ∧ preserves_Kernel8_Kernel8Ideal
    ∧ algebraic_Kernel8Ideal_Reference8Ideal_pre_finite_qk_128 (hKernel8Ideal := hKernel8Ideal) (hReference8Ideal := hReference8Ideal) (hPre_finite_qk_128 := hPre_finite_qk_128)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_lse (hKernel10Ideal := hKernel10Ideal) (hReference10Ideal := hReference10Ideal) (hPre_finite_lse := hPre_finite_lse)
-- ==== Pre_finite_lse.lean ====
abbrev S16384x512 : Shape := ⟨2, ![16384, 512]⟩
abbrev S16384x1024 : Shape := ⟨2, ![16384, 1024]⟩
abbrev S1x512x1024 : Shape := ⟨3, ![1, 512, 1024]⟩
abbrev S1x1024 : Shape := ⟨2, ![1, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x512 .f32) (main_arg6 : FVec F S16384x1024 .f32) (main_arg7 : FVec F S1x512x1024 .f32) (main_arg8 : FVec F S1x1024 .f32) (main_arg9 : FVec F S1x1024 .f32) : IVec S_ 1 :=
  let main_v0 : FVec F S16384x512 .f32 := Host.absf main_arg3
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg4
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg5
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Pre_finite_qk.lean ====
abbrev S32x64x512 : Shape := ⟨3, ![32, 64, 512]⟩
abbrev S32x2048x512 : Shape := ⟨3, ![32, 2048, 512]⟩
abbrev S32x128x512 : Shape := ⟨3, ![32, 128, 512]⟩
abbrev S_ : Shape := ⟨0, ![]⟩

class Facts : Prop where
  bitsLt_bf16_f32 : FTy.bits .bf16 < FTy.bits .f32
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S32x128x512 : S_.BroadcastsInDim S32x128x512 (![] : Fin 0 → Fin S32x128x512.rank)
  reducesTo_S32x128x512_S_d0_1_2 : S32x128x512.ReducesTo [0, 1, 2] S_

variable [Facts]

def fn {F : FTy → Type} [FloatOps F] (main_arg0 : FVec F S32x64x512 .bf16) (main_arg1 : FVec F S32x2048x512 .f32) (main_arg2 : FVec F S32x2048x512 .f32) (main_arg3 : FVec F S32x128x512 .f32) (main_arg4 : FVec F S32x128x512 .f32) : IVec S_ 1 :=
  let main_v0 : FVec F S32x64x512 .f32 := (extf .f32 · bitsLt_bf16_f32) main_arg0
  let main_v1 : FVec F S32x64x512 .f32 := Host.absf main_v0
  let main_cst : FVec F S_ .f32 := constant S_ .f32 0x7F800000#32
  let main_v2 : FVec F S32x64x512 .f32 := broadcastInDim S32x64x512 ![] bcast_S_S32x64x512 main_cst
  let main_v3 : IVec S32x64x512 1 := cmpf .olt main_v1 main_v2
  let main_c : IVec S_ 1 := constantI S_ 1 1#1
  let main_v4 : IVec S_ 1 := (fun x v => Host.reduce IntOp.andi x v reducesTo_S32x64x512_S_d0_1_2 h_S_) main_v3 main_c
  let main_v5 : FVec F S32x2048x512 .f32 := Host.absf main_arg1
  let main_cst_0 : FVec F S_ .f32 := constant S_ .f32 0x7F800000#32
  let main_v6 : FVec F S32x2048x512 .f32 := broadcastInDim S32x2048x512 ![] bcast_S_S32x2048x512 main_cst_0
  let main_v7 : IVec S32x2048x512 1 := cmpf .olt main_v5 main_v6
  let main_c_1 : IVec S_ 1 := constantI S_ 1 1#1
  let main_v8 : IVec S_ 1 := (fun x v => Host.reduce IntOp.andi x v reducesTo_S32x2048x512_S_d0_1_2 h_S_) main_v7 main_c_1
  let main_v9 : IVec S_ 1 := andi main_v4 main_v8
  let main_v10 : FVec F S32x128x512 .f32 := Host.absf main_arg3
  let main_cst_2 : FVec F S_ .f32 := constant S_ .f32 0x7F800000#32
  let main_v11 : FVec F S32x128x512 .f32 := broadcastInDim S32x128x512 ![] bcast_S_S32x128x512 main_cst_2
  let main_v12 : IVec S32x128x512 1 := cmpf .olt main_v10 main_v11
  let main_c_3 : IVec S_ 1 := constantI S_ 1 1#1
  let main_v13 : IVec S_ 1 := (fun x v => Host.reduce IntOp.andi x v reducesTo_S32x128x512_S_d0_1_2 h_S_) main_v12 main_c_3
  let main_v14 : IVec S_ 1 := andi main_v9 main_v13
  main_v14
-- ==== Pre_finite_qk_128.lean ====
abbrev S32x64x512 : Shape := ⟨3, ![32, 64, 512]⟩
abbrev S32x128x512 : Shape := ⟨3, ![32, 128, 512]⟩
abbrev S_ : Shape := ⟨0, ![]⟩

class Facts : Prop where
  bitsLt_bf16_f32 : FTy.bits .bf16 < FTy.bits .f32
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S32x128x512 : S_.BroadcastsInDim S32x128x512 (![] : Fin 0 → Fin S32x128x512.rank)
  reducesTo_S32x128x512_S_d0_1_2 : S32x128x512.ReducesTo [0, 1, 2] S_

variable [Facts]

def fn {F : FTy → Type} [FloatOps F] (main_arg0 : FVec F S32x64x512 .bf16) (main_arg1 : FVec F S32x128x512 .f32) (main_arg2 : FVec F S32x128x512 .f32) (main_arg3 : FVec F S32x128x512 .f32) (main_arg4 : FVec F S32x128x512 .f32) : IVec S_ 1 :=
  let main_v0 : FVec F S32x64x512 .f32 := (extf .f32 · bitsLt_bf16_f32) main_arg0
  let main_v1 : FVec F S32x64x512 .f32 := Host.absf main_v0
  let main_cst : FVec F S_ .f32 := constant S_ .f32 0x7F800000#32
  let main_v2 : FVec F S32x64x512 .f32 := broadcastInDim S32x64x512 ![] bcast_S_S32x64x512 main_cst
  let main_v3 : IVec S32x64x512 1 := cmpf .olt main_v1 main_v2
  let main_c : IVec S_ 1 := constantI S_ 1 1#1
  let main_v4 : IVec S_ 1 := (fun x v => Host.reduce IntOp.andi x v reducesTo_S32x64x512_S_d0_1_2 h_S_) main_v3 main_c
  let main_v5 : FVec F S32x128x512 .f32 := Host.absf main_arg1
  let main_cst_0 : FVec F S_ .f32 := constant S_ .f32 0x7F800000#32
  let main_v6 : FVec F S32x128x512 .f32 := broadcastInDim S32x128x512 ![] bcast_S_S32x128x512 main_cst_0
  let main_v7 : IVec S32x128x512 1 := cmpf .olt main_v5 main_v6
  let main_c_1 : IVec S_ 1 := constantI S_ 1 1#1
  let main_v8 : IVec S_ 1 := (fun x v => Host.reduce IntOp.andi x v reducesTo_S32x128x512_S_d0_1_2 h_S_) main_v7 main_c_1
  let main_v9 : IVec S_ 1 := andi main_v4 main_v8
  let main_v10 : FVec F S32x128x512 .f32 := Host.absf main_arg3
  let main_cst_2 : FVec F S_ .f32 := constant S_ .f32 0x7F800000#32
  let main_v11 : FVec F S32x128x512 .f32 := broadcastInDim S32x128x512 ![] bcast_S_S32x128x512 main_cst_2
  let main_v12 : IVec S32x128x512 1 := cmpf .olt main_v10 main_v11
  let main_c_3 : IVec S_ 1 := constantI S_ 1 1#1
  let main_v13 : IVec S_ 1 := (fun x v => Host.reduce IntOp.andi x v reducesTo_S32x128x512_S_d0_1_2 h_S_) main_v12 main_c_3
  let main_v14 : IVec S_ 1 := andi main_v9 main_v13
  main_v14
-- ==== Pre_finite_qk_512.lean ====
abbrev S32x64x512 : Shape := ⟨3, ![32, 64, 512]⟩
abbrev S32x512x512 : Shape := ⟨3, ![32, 512, 512]⟩
abbrev S32x128x512 : Shape := ⟨3, ![32, 128, 512]⟩
abbrev S_ : Shape := ⟨0, ![]⟩

class Facts : Prop where
  bitsLt_bf16_f32 : FTy.bits .bf16 < FTy.bits .f32
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S32x128x512 : S_.BroadcastsInDim S32x128x512 (![] : Fin 0 → Fin S32x128x512.rank)
  reducesTo_S32x128x512_S_d0_1_2 : S32x128x512.ReducesTo [0, 1, 2] S_

variable [Facts]

def fn {F : FTy → Type} [FloatOps F] (main_arg0 : FVec F S32x64x512 .bf16) (main_arg1 : FVec F S32x512x512 .f32) (main_arg2 : FVec F S32x512x512 .f32) (main_arg3 : FVec F S32x128x512 .f32) (main_arg4 : FVec F S32x128x512 .f32) : IVec S_ 1 :=
  let main_v0 : FVec F S32x64x512 .f32 := (extf .f32 · bitsLt_bf16_f32) main_arg0
  let main_v1 : FVec F S32x64x512 .f32 := Host.absf main_v0
  let main_cst : FVec F S_ .f32 := constant S_ .f32 0x7F800000#32
  let main_v2 : FVec F S32x64x512 .f32 := broadcastInDim S32x64x512 ![] bcast_S_S32x64x512 main_cst
  let main_v3 : IVec S32x64x512 1 := cmpf .olt main_v1 main_v2
  let main_c : IVec S_ 1 := constantI S_ 1 1#1
  let main_v4 : IVec S_ 1 := (fun x v => Host.reduce IntOp.andi x v reducesTo_S32x64x512_S_d0_1_2 h_S_) main_v3 main_c
  let main_v5 : FVec F S32x512x512 .f32 := Host.absf main_arg1
  let main_cst_0 : FVec F S_ .f32 := constant S_ .f32 0x7F800000#32
  let main_v6 : FVec F S32x512x512 .f32 := broadcastInDim S32x512x512 ![] bcast_S_S32x512x512 main_cst_0
  let main_v7 : IVec S32x512x512 1 := cmpf .olt main_v5 main_v6
  let main_c_1 : IVec S_ 1 := constantI S_ 1 1#1
  let main_v8 : IVec S_ 1 := (fun x v => Host.reduce IntOp.andi x v reducesTo_S32x512x512_S_d0_1_2 h_S_) main_v7 main_c_1
  let main_v9 : IVec S_ 1 := andi main_v4 main_v8
  let main_v10 : FVec F S32x128x512 .f32 := Host.absf main_arg3
  let main_cst_2 : FVec F S_ .f32 := constant S_ .f32 0x7F800000#32
  let main_v11 : FVec F S32x128x512 .f32 := broadcastInDim S32x128x512 ![] bcast_S_S32x128x512 main_cst_2
  let main_v12 : IVec S32x128x512 1 := cmpf .olt main_v10 main_v11
  let main_c_3 : IVec S_ 1 := constantI S_ 1 1#1
  let main_v13 : IVec S_ 1 := (fun x v => Host.reduce IntOp.andi x v reducesTo_S32x128x512_S_d0_1_2 h_S_) main_v12 main_c_3
  let main_v14 : IVec S_ 1 := andi main_v9 main_v13
  main_v14
-- ==== Pre_tables_in_range.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : IVec S40 32) (main_arg1 : IVec S40 32) (main_arg2 : IVec S1 32) (main_arg3 : FVec F S40960x1024 .bf16) (main_arg4 : FVec F S8x1024x3584 .f32) (main_arg5 : FVec F S8x1024x3584 .f32) (main_arg6 : FVec F S8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 0#32
  let main_v6 : IVec S40 32 := broadcastInDim S40 ![] bcast_S_S40 main_c_2
  let main_v7 : IVec S40 1 := cmpi .sge main_arg1 main_v6
  let main_c_3 : IVec S_ 32 := constantI S_ 32 40#32
  let main_v8 : IVec S40 32 := broadcastInDim S40 ![] bcast_S_S40 main_c_3
  let main_v9 : IVec S40 1 := cmpi .slt main_arg1 main_v8
  let main_v10 : IVec S40 1 := andi main_v7 main_v9
  let main_c_4 : IVec S_ 1 := constantI S_ 1 1#1
  let main_v11 : IVec S_ 1 := (fun x v => Host.reduce IntOp.andi x v reducesTo_S40_S_d0 h_S_) main_v10 main_c_4
  let main_v12 : IVec S_ 1 := andi main_v5 main_v11
  main_v12
-- ==== Kernel.lean ====
abbrev S32x64x512 : Shape := ⟨3, ![32, 64, 512]⟩
abbrev S32x2048x512 : Shape := ⟨3, ![32, 2048, 512]⟩
abbrev S32x128x512 : Shape := ⟨3, ![32, 128, 512]⟩
abbrev S32x64x128 : Shape := ⟨3, ![32, 64, 128]⟩
abbrev S1x64x512 : Shape := ⟨3, ![1, 64, 512]⟩
abbrev S1x2048x512 : Shape := ⟨3, ![1, 2048, 512]⟩
abbrev S1x128x512 : Shape := ⟨3, ![1, 128, 512]⟩
abbrev S1x64x128 : Shape := ⟨3, ![1, 64, 128]⟩
abbrev S2048x512 : Shape := ⟨2, ![2048, 512]⟩
abbrev S128x512 : Shape := ⟨2, ![128, 512]⟩
abbrev S2040x512 : Shape := ⟨2, ![2040, 512]⟩
abbrev S1x2040x512 : Shape := ⟨3, ![1, 2040, 512]⟩
abbrev S8x512 : Shape := ⟨2, ![8, 512]⟩
abbrev S1x8x512 : Shape := ⟨3, ![1, 8, 512]⟩
abbrev S64x512 : Shape := ⟨2, ![64, 512]⟩
abbrev S64x2048 : Shape := ⟨2, ![64, 2048]⟩
abbrev S64x128 : Shape := ⟨2, ![64, 128]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S32x64x512, .bf16⟩
  | .hbm, ⟨1, _⟩ => ⟨S32x2048x512, .f32⟩
  | .hbm, ⟨2, _⟩ => ⟨S32x2048x512, .f32⟩
  | .hbm, ⟨3, _⟩ => ⟨S32x128x512, .f32⟩
  | .hbm, ⟨4, _⟩ => ⟨S32x128x512, .f32⟩
  | .hbm, ⟨5, _⟩ => ⟨S32x64x512, .f32⟩
  | .hbm, ⟨6, _⟩ => ⟨S32x64x128, .f32⟩
  | .hbm, ⟨7, _⟩ => ⟨S32x2048x512, .f32⟩
  | .hbm, ⟨8, _⟩ => ⟨S32x2048x512, .f32⟩
  | .local _ .vmem, ⟨0, _⟩ => ⟨S1x64x512, .bf16⟩
  | .local _ .vmem, ⟨1, _⟩ => ⟨S1x64x512, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x64x512, .f32⟩
  | .local _ .vmem, ⟨11, _⟩ => ⟨S1x64x512, .f32⟩
  | .local _ .vmem, ⟨12, _⟩ => ⟨S1x64x128, .f32⟩
  | .local _ .vmem, ⟨13, _⟩ => ⟨S1x64x128, .f32⟩
  | .local _ .vmem, ⟨14, _⟩ => ⟨S1x2048x512, .f32⟩
  | .local _ .vmem, ⟨15, _⟩ => ⟨S1x2048x512, .f32⟩
  | .local _ .vmem, ⟨16, _⟩ => ⟨S1x2048x512, .f32⟩
  | .local _ .vmem, ⟨17, _⟩ => ⟨S1x2048x512, .f32⟩
  | _, _ => ⟨S32x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x64x512 : Shape := ⟨3, ![32, 64, 512]⟩
abbrev S32x2048x512 : Shape := ⟨3, ![32, 2048, 512]⟩
abbrev S32x128x512 : Shape := ⟨3, ![32, 128, 512]⟩
abbrev S32x8x512 : Shape := ⟨3, ![32, 8, 512]⟩
abbrev S32x2056x512 : Shape := ⟨3, ![32, 2056, 512]⟩
abbrev S64 : Shape := ⟨1, ![64]⟩
abbrev S_ : Shape := ⟨0, ![]⟩
abbrev S64x1 : Shape := ⟨2, ![64, 1]⟩
abbrev S129 : Shape := ⟨1, ![129]⟩
abbrev S1x129 : Shape := ⟨2, ![1, 129]⟩
abbrev S64x129 : Shape := ⟨2, ![64, 129]⟩
abbrev S64x129x1 : Shape := ⟨3, ![64, 129, 1]⟩
abbrev S32x64x129x512 : Shape := ⟨4, ![32, 64, 129, 512]⟩
abbrev S32x64x129 : Shape := ⟨3, ![32, 64, 129]⟩
abbrev S32x64 : Shape := ⟨2, ![32, 64]⟩
abbrev S32x64x1 : Shape := ⟨3, ![32, 64, 1]⟩
abbrev S32x64x128 : Shape := ⟨3, ![32, 64, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x64x512, .bf16⟩
  | .hbm, ⟨1, _⟩ => ⟨S32x2048x512, .f32⟩
  | .hbm, ⟨2, _⟩ => ⟨S32x2048x512, .f32⟩
  | .hbm, ⟨3, _⟩ => ⟨S32x128x512, .f32⟩
  | .hbm, ⟨4, _⟩ => ⟨S32x128x512, .f32⟩
  | .hbm, ⟨5, _⟩ => ⟨S32x8x512, .f32⟩
  | .hbm, ⟨6, _⟩ => ⟨S32x2056x512, .f32⟩
  | .hbm, ⟨7, _⟩ => ⟨S32x8x512, .f32⟩
  | .hbm, ⟨8, _⟩ => ⟨S32x2056x512, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S129, .i32⟩
  | .hbm, ⟨18, _⟩ => ⟨S1x129, .i32⟩
  | .hbm, ⟨19, _⟩ => ⟨S_, .i32⟩
  | .hbm, ⟨20, _⟩ => ⟨S1x129, .i32⟩
  | .hbm, ⟨21, _⟩ => ⟨S1x129, .i32⟩
  | .hbm, ⟨22, _⟩ => ⟨S64x129, .i32⟩
  | .hbm, ⟨23, _⟩ => ⟨S64x129, .i32⟩
  | .hbm, ⟨24, _⟩ => ⟨S64x129, .i32⟩
  | .hbm, ⟨25, _⟩ => ⟨S_, .i32⟩
  | .hbm, ⟨26, _⟩ => ⟨S64x129, .i32⟩
  | .hbm, ⟨27, _⟩ => ⟨S64x129, .i1⟩
  | .hbm, ⟨28, _⟩ => ⟨S_, .i32⟩
  | .hbm, ⟨29, _⟩ => ⟨S64x129, .i32⟩
  | .hbm, ⟨30, _⟩ => ⟨S64x129, .i32⟩
  | .hbm, ⟨31, _⟩ => ⟨S64x129, .i32⟩
  | .hbm, ⟨32, _⟩ => ⟨S64x129x1, .i32⟩
  | .hbm, ⟨33, _⟩ => ⟨S32x64x129x512, .f32⟩
  | .hbm, ⟨34, _⟩ => ⟨S_, .i32⟩
  | .hbm, ⟨35, _⟩ => ⟨S64x129, .i32⟩
  | .hbm, ⟨36, _⟩ => ⟨S64x129, .i1⟩
  | .hbm, ⟨37, _⟩ => ⟨S_, .i32⟩
  | .hbm, ⟨38, _⟩ => ⟨S64x129, .i32⟩
  | .hbm, ⟨39, _⟩ => ⟨S64x129, .i32⟩
  | .hbm, ⟨40, _⟩ => ⟨S64x129, .i32⟩
  | .hbm, ⟨41, _⟩ => ⟨S64x129x1, .i32⟩
  | .hbm, ⟨42, _⟩ => ⟨S32x64x129x512, .f32⟩
  | .hbm, ⟨43, _⟩ => ⟨S32x64x512, .f32⟩
  | .hbm, ⟨44, _⟩ => ⟨S32x64x129, .f32⟩
  | .hbm, ⟨45, _⟩ => ⟨S_, .f32⟩
  | .hbm, ⟨46, _⟩ => ⟨S32x64, .f32⟩
  | .hbm, ⟨47, _⟩ => ⟨S32x64x1, .f32⟩
  | .hbm, ⟨48, _⟩ => ⟨S32x64x129, .f32⟩
  | .hbm, ⟨49, _⟩ => ⟨S32x64x129, .f32⟩
  | .hbm, ⟨50, _⟩ => ⟨S32x64x129, .f32⟩
  | .hbm, ⟨51, _⟩ => ⟨S_, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64x1, .f32⟩
  | .hbm, ⟨56, _⟩ => ⟨S32x64x129, .f32⟩
  | .hbm, ⟨57, _⟩ => ⟨S32x64x129, .f32⟩
  | .hbm, ⟨58, _⟩ => ⟨S32x64x129, .f32⟩
  | .hbm, ⟨59, _⟩ => ⟨S32x64x512, .f32⟩
  | .hbm, ⟨60, _⟩ => ⟨S32x64x1, .f32⟩
  | .hbm, ⟨61, _⟩ => ⟨S32x64x128, .f32⟩
  | .hbm, ⟨62, _⟩ => ⟨S32x2048x512, .f32⟩
  | .hbm, ⟨63, _⟩ => ⟨S32x2048x512, .f32⟩
  | _, _ => ⟨S32x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel2.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 11
  | .smem => 3
  | _ => 0

abbrev bufTy : (tb : Table) → Fin (tcTables nBuf tb) → BufTy
  | .hbm, ⟨0, _⟩ => ⟨S40960x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S40, .i32⟩
  | .local _ .smem, ⟨1, _⟩ => ⟨S40, .i32⟩
  | .local _ .smem, ⟨2, _⟩ => ⟨S1, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c6_i32_21 : BitVec 32 := 6#32
  let v35 : BitVec 1 := Scalar.cmpi .eq arg1 c6_i32_21
  let v36 : BitVec 32 := Scalar.extui v35
  let c0_i32_22 : BitVec 32 := 0#32
  let v37 : BitVec 1 := Scalar.cmpi .ne v36 c0_i32_22
  v37

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c6_i32 : BitVec 32 := 6#32
  let v6 : BitVec 1 := Scalar.cmpi .eq arg1 c6_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S40) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 2 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40x1024x1024 : Shape := ⟨3, ![40, 1024, 1024]⟩
abbrev S_ : Shape := ⟨0, ![]⟩
abbrev S40x1 : Shape := ⟨2, ![40, 1]⟩
abbrev S40x1024x3584 : Shape := ⟨3, ![40, 1024, 3584]⟩
abbrev S40x3584x1024 : Shape := ⟨3, ![40, 3584, 1024]⟩
abbrev S40x1x1 : Shape := ⟨3, ![40, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S40, .i32⟩
  | .hbm, ⟨1, _⟩ => ⟨S40, .i32⟩
  | .hbm, ⟨2, _⟩ => ⟨S1, .i32⟩
  | .hbm, ⟨3, _⟩ => ⟨S40960x1024, .bf16⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S40960x1024, .f32⟩
  | .hbm, ⟨8, _⟩ => ⟨S40x1024x1024, .f32⟩
  | .hbm, ⟨9, _⟩ => ⟨S_, .i32⟩
  | .hbm, ⟨10, _⟩ => ⟨S40, .i32⟩
  | .hbm, ⟨11, _⟩ => ⟨S40, .i1⟩
  | .hbm, ⟨12, _⟩ => ⟨S_, .i32⟩
  | .hbm, ⟨13, _⟩ => ⟨S40, .i32⟩
  | .hbm, ⟨14, _⟩ => ⟨S40, .i32⟩
  | .hbm, ⟨15, _⟩ => ⟨S40, .i32⟩
  | .hbm, ⟨16, _⟩ => ⟨S40x1, .i32⟩
  | .hbm, ⟨17, _⟩ => ⟨S40x1024x1024, .f32⟩
  | .hbm, ⟨18, _⟩ => ⟨S_, .i32⟩
  | .hbm, ⟨19, _⟩ => ⟨S40, .i32⟩
  | .hbm, ⟨20, _⟩ => ⟨S40, .i1⟩
  | .hbm, ⟨21, _⟩ => ⟨S_, .i32⟩
  | .hbm, ⟨22, _⟩ => ⟨S40, .i32⟩
  | .hbm, ⟨23, _⟩ => ⟨S40, .i32⟩
  | .hbm, ⟨24, _⟩ => ⟨S40, .i32⟩
  | .hbm, ⟨25, _⟩ => ⟨S40x1, .i32⟩
  | .hbm, ⟨26, _⟩ => ⟨S40x1024x3584, .f32⟩
  | .hbm, ⟨27, _⟩ => ⟨S_, .i32⟩
  | .hbm, ⟨28, _⟩ => ⟨S40, .i32⟩
  | .hbm, ⟨29, _⟩ => ⟨S40, .i1⟩
  | .hbm, ⟨30, _⟩ => ⟨S_, .i32⟩
  | .hbm, ⟨31, _⟩ => ⟨S40, .i32⟩
  | .hbm, ⟨32, _⟩ => ⟨S40, .i32⟩
  | .hbm, ⟨33, _⟩ => ⟨S40, .i32⟩
  | .hbm, ⟨34, _⟩ => ⟨S40x1, .i32⟩
  | .hbm, ⟨35, _⟩ => ⟨S40x1024x3584, .f32⟩
  | .hbm, ⟨36, _⟩ => ⟨S_, .i32⟩
  | .hbm, ⟨37, _⟩ => ⟨S40, .i32⟩
  | .hbm, ⟨38, _⟩ => ⟨S40, .i1⟩
  | .hbm, ⟨39, _⟩ => ⟨S_, .i32⟩
  | .hbm, ⟨40, _⟩ => ⟨S40, .i32⟩
  | .hbm, ⟨41, _⟩ => ⟨S40, .i32⟩
  | .hbm, ⟨42, _⟩ => ⟨S40, .i32⟩
  | .hbm, ⟨43, _⟩ => ⟨S40x1, .i32⟩
  | .hbm, ⟨44, _⟩ => ⟨S40x3584x1024, .f32⟩
  | .hbm, ⟨45, _⟩ => ⟨S40x1024x3584, .f32⟩
  | .hbm, ⟨46, _⟩ => ⟨S40x1024x3584, .f32⟩
  | .hbm, ⟨47, _⟩ => ⟨S40x1024x3584, .f32⟩
  | .hbm, ⟨48, _⟩ => ⟨S_, .f32⟩
  | .hbm, ⟨49, _⟩ => ⟨S40x1024x3584, .f32⟩
  | .hbm, ⟨50, _⟩ => ⟨S40x1024x3584, .f32⟩
  | .hbm, ⟨51, _⟩ => ⟨S_, .f32⟩
  | .hbm, ⟨52, _⟩ => ⟨S40x1024x3584, .f32⟩
  | .hbm, ⟨53, _⟩ => ⟨S40x1024x3584, .f32⟩
  | .hbm, ⟨54, _⟩ => ⟨S40x1024x3584, .f32⟩
  | .hbm, ⟨55, _⟩ => ⟨S40x1024x3584, .f32⟩
  | .hbm, ⟨56, _⟩ => ⟨S40x1024x3584, .f32⟩
  | .hbm, ⟨57, _⟩ => ⟨S40x1024x1024, .f32⟩
  | .hbm, ⟨58, _⟩ => ⟨S40, .i32⟩
  | .hbm, ⟨59, _⟩ => ⟨S_, .i32⟩
  | .hbm, ⟨60, _⟩ => ⟨S40, .i32⟩
  | .hbm, ⟨61, _⟩ => ⟨S40, .i1⟩
  | .hbm, ⟨62, _⟩ => ⟨S40x1x1, .i1⟩
  | .hbm, ⟨63, _⟩ => ⟨S_, .f32⟩
  | .hbm, ⟨64, _⟩ => ⟨S_, .f32⟩
  | .hbm, ⟨65, _⟩ => ⟨S40x1024x1024, .i1⟩
  | .hbm, ⟨66, _⟩ => ⟨S40x1024x1024, .f32⟩
  | .hbm, ⟨67, _⟩ => ⟨S40x1024x1024, .f32⟩
  | .hbm, ⟨68, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x3080 : Shape := ⟨3, ![1, 1024, 3080]⟩
abbrev S16384x1024 : Shape := ⟨2, ![16384, 1024]⟩
abbrev S1024x3080 : Shape := ⟨2, ![1024, 3080]⟩
abbrev S1024x1024 : Shape := ⟨2, ![1024, 1024]⟩
abbrev S1024x512 : Shape := ⟨2, ![1024, 512]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S16384x3200 : Shape := ⟨2, ![16384, 3200]⟩
abbrev S512x1024 : Shape := ⟨2, ![512, 1024]⟩
abbrev S512x3200 : Shape := ⟨2, ![512, 3200]⟩
abbrev S2x8192x3200 : Shape := ⟨3, ![2, 8192, 3200]⟩
abbrev S2x3x1024 : Shape := ⟨3, ![2, 3, 1024]⟩
abbrev S16384x512 : Shape := ⟨2, ![16384, 512]⟩
abbrev S2x8192x8x64 : Shape := ⟨4, ![2, 8192, 8, 64]⟩
abbrev S1x2x8192x8x64 : Shape := ⟨5, ![1, 2, 8192, 8, 64]⟩
abbrev S1x2x3x1024 : Shape := ⟨4, ![1, 2, 3, 1024]⟩

abbrev nBuf : Space → Nat
  | .hbm => 22
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1x1024x3080, .f32⟩
  | .hbm, ⟨2, _⟩ => ⟨S16384x1024, .f32⟩
  | .hbm, ⟨3, _⟩ => ⟨S1024x3080, .f32⟩
  | .hbm, ⟨4, _⟩ => ⟨S1024x1024, .f32⟩
  | .hbm, ⟨5, _⟩ => ⟨S1024x512, .f32⟩
  | .hbm, ⟨6, _⟩ => ⟨S1024x1536, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x3200, .f32⟩
  | .hbm, ⟨11, _⟩ => ⟨S1024x3200, .bf16⟩
  | .hbm, ⟨12, _⟩ => ⟨S16384x3200, .f32⟩
  | .hbm, ⟨13, _⟩ => ⟨S2x8192x3200, .f32⟩
  | .hbm, ⟨14, _⟩ => ⟨S2x3x1024, .f32⟩
  | .hbm, ⟨15, _⟩ => ⟨S16384x512, .f32⟩
  | .hbm, ⟨16, _⟩ => ⟨S2x8192x8x64, .f32⟩
  | .hbm, ⟨17, _⟩ => ⟨S16384x512, .f32⟩
  | .hbm, ⟨18, _⟩ => ⟨S2x8192x8x64, .f32⟩
  | .hbm, ⟨19, _⟩ => ⟨S1x2x8192x8x64, .f32⟩
  | .hbm, ⟨20, _⟩ => ⟨S1x2x8192x8x64, .f32⟩
  | .hbm, ⟨21, _⟩ => ⟨S1x2x3x1024, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2x8192x1024 : Shape := ⟨3, ![2, 8192, 1024]⟩
abbrev S1x1024x3080 : Shape := ⟨3, ![1, 1024, 3080]⟩
abbrev S_ : Shape := ⟨0, ![]⟩
abbrev S2x3x1024 : Shape := ⟨3, ![2, 3, 1024]⟩
abbrev S1024x3080 : Shape := ⟨2, ![1024, 3080]⟩
abbrev S2x8192x3080 : Shape := ⟨3, ![2, 8192, 3080]⟩
abbrev S2x8192x512 : Shape := ⟨3, ![2, 8192, 512]⟩
abbrev S2x8192x8 : Shape := ⟨3, ![2, 8192, 8]⟩
abbrev S2x8195x1024 : Shape := ⟨3, ![2, 8195, 1024]⟩
abbrev S2x8192x8x64 : Shape := ⟨4, ![2, 8192, 8, 64]⟩
abbrev S1x2x8192x8x64 : Shape := ⟨5, ![1, 2, 8192, 8, 64]⟩
abbrev S1x2x3x1024 : Shape := ⟨4, ![1, 2, 3, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x3080, .f32⟩
  | .hbm, ⟨2, _⟩ => ⟨S_, .f32⟩
  | .hbm, ⟨3, _⟩ => ⟨S2x3x1024, .f32⟩
  | .hbm, ⟨4, _⟩ => ⟨S1024x3080, .f32⟩
  | .hbm, ⟨5, _⟩ => ⟨S2x8192x3080, .f32⟩
  | .hbm, ⟨6, _⟩ => ⟨S2x8192x512, .f32⟩
  | .hbm, ⟨7, _⟩ => ⟨S2x8192x1024, .f32⟩
  | .hbm, ⟨8, _⟩ => ⟨S2x8192x8, .f32⟩
  | .hbm, ⟨9, _⟩ => ⟨S2x8192x512, .f32⟩
  | .hbm, ⟨10, _⟩ => ⟨S2x8192x512, .f32⟩
  | .hbm, ⟨11, _⟩ => ⟨S2x8192x512, .f32⟩
  | .hbm, ⟨12, _⟩ => ⟨S2x8195x1024, .f32⟩
  | .hbm, ⟨13, _⟩ => ⟨S2x8192x8x64, .f32⟩
  | .hbm, ⟨14, _⟩ => ⟨S2x8192x8x64, .f32⟩
  | .hbm, ⟨15, _⟩ => ⟨S2x3x1024, .f32⟩
  | .hbm, ⟨16, _⟩ => ⟨S1x2x8192x8x64, .f32⟩
  | .hbm, ⟨17, _⟩ => ⟨S1x2x8192x8x64, .f32⟩
  | .hbm, ⟨18, _⟩ => ⟨S1x2x3x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel4.lean ====
abbrev S32x8x1024 : Shape := ⟨3, ![32, 8, 1024]⟩
abbrev S1x32x3x1024 : Shape := ⟨4, ![1, 32, 3, 1024]⟩
abbrev S1x1024x3080 : Shape := ⟨3, ![1, 1024, 3080]⟩
abbrev S256x1024 : Shape := ⟨2, ![256, 1024]⟩
abbrev S1024x3080 : Shape := ⟨2, ![1024, 3080]⟩
abbrev S1024x1024 : Shape := ⟨2, ![1024, 1024]⟩
abbrev S1024x512 : Shape := ⟨2, ![1024, 512]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S256x3200 : Shape := ⟨2, ![256, 3200]⟩
abbrev S32x8x3200 : Shape := ⟨3, ![32, 8, 3200]⟩
abbrev S32x3x1024 : Shape := ⟨3, ![32, 3, 1024]⟩
abbrev S32x11x1024 : Shape := ⟨3, ![32, 11, 1024]⟩
abbrev S256x512 : Shape := ⟨2, ![256, 512]⟩
abbrev S32x8x512 : Shape := ⟨3, ![32, 8, 512]⟩
abbrev S1x32x8x8x64 : Shape := ⟨5, ![1, 32, 8, 8, 64]⟩

abbrev nBuf : Space → Nat
  | .hbm => 26
  | .vmem => 3
  | .smem => 0
  | _ => 0

abbrev bufTy : (tb : Table) → Fin (tcTables nBuf tb) → BufTy
  | .hbm, ⟨0, _⟩ => ⟨S32x8x1024, .f32⟩
  | .hbm, ⟨1, _⟩ => ⟨S1x32x3x1024, .f32⟩
  | .hbm, ⟨2, _⟩ => ⟨S1x1024x3080, .f32⟩
  | .hbm, ⟨3, _⟩ => ⟨S256x1024, .f32⟩
  | .hbm, ⟨4, _⟩ => ⟨S1024x3080, .f32⟩
  | .hbm, ⟨5, _⟩ => ⟨S1024x1024, .f32⟩
  | .hbm, ⟨6, _⟩ => ⟨S1024x512, .f32⟩
  | .hbm, ⟨7, _⟩ => ⟨S1024x1536, .f32⟩
  | .hbm, ⟨8, _⟩ => ⟨S1024x8, .f32⟩
  | .hbm, ⟨9, _⟩ => ⟨S_, .f32⟩
  | .hbm, ⟨10, _⟩ => ⟨S1024x120, .f32⟩
  | .hbm, ⟨11, _⟩ => ⟨S1024x3200, .f32⟩
  | .hbm, ⟨12, _⟩ => ⟨S1024x3200, .bf16⟩
  | .hbm, ⟨13, _⟩ => ⟨S256x3200, .f32⟩
  | .hbm, ⟨14, _⟩ => ⟨S32x8x3200, .f32⟩
  | .hbm, ⟨15, _⟩ => ⟨S32x3x1024, .f32⟩
  | .hbm, ⟨16, _⟩ => ⟨S32x8x1024, .f32⟩
  | .hbm, ⟨17, _⟩ => ⟨S32x11x1024, .f32⟩
  | .hbm, ⟨18, _⟩ => ⟨S32x3x1024, .f32⟩
  | .hbm, ⟨19, _⟩ => ⟨S256x512, .f32⟩
  | .hbm, ⟨20, _⟩ => ⟨S32x8x512, .f32⟩
  | .hbm, ⟨21, _⟩ => ⟨S256x512, .f32⟩
  | .hbm, ⟨22, _⟩ => ⟨S32x8x512, .f32⟩
  | .hbm, ⟨23, _⟩ => ⟨S1x32x8x8x64, .f32⟩
  | .hbm, ⟨24, _⟩ => ⟨S1x32x8x8x64, .f32⟩
  | .hbm, ⟨25, _⟩ => ⟨S1x32x3x1024, .f32⟩
  | .local _ .vmem, ⟨0, _⟩ => ⟨S256x1024, .f32⟩
  | .local _ .vmem, ⟨1, _⟩ => ⟨S1024x3200, .bf16⟩
  | .local _ .vmem, ⟨2, _⟩ => ⟨S256x3200, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference4Ideal.lean ====
abbrev S32x8x1024 : Shape := ⟨3, ![32, 8, 1024]⟩
abbrev S1x32x3x1024 : Shape := ⟨4, ![1, 32, 3, 1024]⟩
abbrev S1x1024x3080 : Shape := ⟨3, ![1, 1024, 3080]⟩
abbrev S32x3x1024 : Shape := ⟨3, ![32, 3, 1024]⟩
abbrev S1024x3080 : Shape := ⟨2, ![1024, 3080]⟩
abbrev S32x8x3080 : Shape := ⟨3, ![32, 8, 3080]⟩
abbrev S32x8x512 : Shape := ⟨3, ![32, 8, 512]⟩
abbrev S32x8x8 : Shape := ⟨3, ![32, 8, 8]⟩
abbrev S32x11x1024 : Shape := ⟨3, ![32, 11, 1024]⟩
abbrev S32x8x8x64 : Shape := ⟨4, ![32, 8, 8, 64]⟩
abbrev S1x32x8x8x64 : Shape := ⟨5, ![1, 32, 8, 8, 64]⟩

abbrev nBuf : Space → Nat
  | .hbm => 19
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x32x3x1024, .f32⟩
  | .hbm, ⟨2, _⟩ => ⟨S1x1024x3080, .f32⟩
  | .hbm, ⟨3, _⟩ => ⟨S32x3x1024, .f32⟩
  | .hbm, ⟨4, _⟩ => ⟨S1024x3080, .f32⟩
  | .hbm, ⟨5, _⟩ => ⟨S32x8x3080, .f32⟩
  | .hbm, ⟨6, _⟩ => ⟨S32x8x512, .f32⟩
  | .hbm, ⟨7, _⟩ => ⟨S32x8x1024, .f32⟩
  | .hbm, ⟨8, _⟩ => ⟨S32x8x8, .f32⟩
  | .hbm, ⟨9, _⟩ => ⟨S32x8x512, .f32⟩
  | .hbm, ⟨10, _⟩ => ⟨S32x8x512, .f32⟩
  | .hbm, ⟨11, _⟩ => ⟨S32x8x512, .f32⟩
  | .hbm, ⟨12, _⟩ => ⟨S32x11x1024, .f32⟩
  | .hbm, ⟨13, _⟩ => ⟨S32x8x8x64, .f32⟩
  | .hbm, ⟨14, _⟩ => ⟨S32x8x8x64, .f32⟩
  | .hbm, ⟨15, _⟩ => ⟨S32x3x1024, .f32⟩
  | .hbm, ⟨16, _⟩ => ⟨S1x32x8x8x64, .f32⟩
  | .hbm, ⟨17, _⟩ => ⟨S1x32x8x8x64, .f32⟩
  | .hbm, ⟨18, _⟩ => ⟨S1x32x3x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S_ : Shape := ⟨0, ![]⟩
abbrev S1024x2816 : Shape := ⟨2, ![1024, 2816]⟩
abbrev S2816x1024 : Shape := ⟨2, ![2816, 1024]⟩
abbrev S16384x2816 : Shape := ⟨2, ![16384, 2816]⟩
abbrev S1024 : Shape := ⟨1, ![1024]⟩
abbrev S16384 : Shape := ⟨1, ![16384]⟩
abbrev S16384x1 : Shape := ⟨2, ![16384, 1]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x1024, .f32⟩
  | .hbm, ⟨25, _⟩ => ⟨S16384x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel6.lean ====
abbrev S16384x1024 : Shape := ⟨2, ![16384, 1024]⟩
abbrev S1x1024x4608 : Shape := ⟨3, ![1, 1024, 4608]⟩
abbrev S1024x4608 : Shape := ⟨2, ![1024, 4608]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x4608 : Shape := ⟨2, ![16384, 4608]⟩
abbrev S512x1024 : Shape := ⟨2, ![512, 1024]⟩
abbrev S1024x1536 : Shape := ⟨2, ![1024, 1536]⟩
abbrev S512x128 : Shape := ⟨2, ![512, 128]⟩
abbrev S512x1536 : Shape := ⟨2, ![512, 1536]⟩
abbrev S16384x1536 : Shape := ⟨2, ![16384, 1536]⟩
abbrev S2x8192x3x8x64 : Shape := ⟨5, ![2, 8192, 3, 8, 64]⟩
abbrev S16384x512 : Shape := ⟨2, ![16384, 512]⟩
abbrev S2x8192x8x64 : Shape := ⟨4, ![2, 8192, 8, 64]⟩
abbrev S2x128x8x64 : Shape := ⟨4, ![2, 128, 8, 64]⟩
abbrev S1x2x128x8x64 : Shape := ⟨5, ![1, 2, 128, 8, 64]⟩
abbrev S2x512x8x64 : Shape := ⟨4, ![2, 512, 8, 64]⟩
abbrev S1x2x512x8x64 : Shape := ⟨5, ![1, 2, 512, 8, 64]⟩
abbrev S2x2048x8x64 : Shape := ⟨4, ![2, 2048, 8, 64]⟩
abbrev S1x2x2048x8x64 : Shape := ⟨5, ![1, 2, 2048, 8, 64]⟩

abbrev nBuf : Space → Nat
  | .hbm => 73
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024x4608, .f32⟩
  | .hbm, ⟨2, _⟩ => ⟨S1024x4608, .f32⟩
  | .hbm, ⟨3, _⟩ => ⟨S1024x4608, .bf16⟩
  | .hbm, ⟨4, _⟩ => ⟨S8192, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8192, .f32⟩
  | .hbm, ⟨20, _⟩ => ⟨S8192x1, .f32⟩
  | .hbm, ⟨21, _⟩ => ⟨S1x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x48, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x8, .f32⟩
  | .hbm, ⟨33, _⟩ => ⟨S8192x64, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S8192x8, .f32⟩
  | .hbm, ⟨38, _⟩ => ⟨S8192x64, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S16384x4608, .f32⟩
  | .hbm, ⟨47, _⟩ => ⟨S16384x1536, .f32⟩
  | .hbm, ⟨48, _⟩ => ⟨S2x8192x3x8x64, .f32⟩
  | .hbm, ⟨49, _⟩ => ⟨S16384x512, .f32⟩
  | .hbm, ⟨50, _⟩ => ⟨S16384x512, .f32⟩
  | .hbm, ⟨51, _⟩ => ⟨S2x8192x8x64, .f32⟩
  | .hbm, ⟨52, _⟩ => ⟨S2x128x8x64, .f32⟩
  | .hbm, ⟨53, _⟩ => ⟨S1x2x128x8x64, .f32⟩
  | .hbm, ⟨54, _⟩ => ⟨S2x8192x8x64, .f32⟩
  | .hbm, ⟨55, _⟩ => ⟨S2x128x8x64, .f32⟩
  | .hbm, ⟨56, _⟩ => ⟨S1x2x128x8x64, .f32⟩
  | .hbm, ⟨57, _⟩ => ⟨S16384x512, .f32⟩
  | .hbm, ⟨58, _⟩ => ⟨S16384x512, .f32⟩
  | .hbm, ⟨59, _⟩ => ⟨S2x8192x8x64, .f32⟩
  | .hbm, ⟨60, _⟩ => ⟨S2x512x8x64, .f32⟩
  | .hbm, ⟨61, _⟩ => ⟨S1x2x512x8x64, .f32⟩
  | .hbm, ⟨62, _⟩ => ⟨S2x8192x8x64, .f32⟩
  | .hbm, ⟨63, _⟩ => ⟨S2x512x8x64, .f32⟩
  | .hbm, ⟨64, _⟩ => ⟨S1x2x512x8x64, .f32⟩
  | .hbm, ⟨65, _⟩ => ⟨S16384x512, .f32⟩
  | .hbm, ⟨66, _⟩ => ⟨S16384x512, .f32⟩
  | .hbm, ⟨67, _⟩ => ⟨S2x8192x8x64, .f32⟩
  | .hbm, ⟨68, _⟩ => ⟨S2x2048x8x64, .f32⟩
  | .hbm, ⟨69, _⟩ => ⟨S1x2x2048x8x64, .f32⟩
  | .hbm, ⟨70, _⟩ => ⟨S2x8192x8x64, .f32⟩
  | .hbm, ⟨71, _⟩ => ⟨S2x2048x8x64, .f32⟩
  | .hbm, ⟨72, _⟩ => ⟨S1x2x2048x8x64, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x1536, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .f32⟩
  | .local _ .vmem, ⟨11, _⟩ => ⟨S512x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c2_i32_3 : BitVec 32 := 2#32
  let v8 : BitVec 1 := Scalar.cmpi .sge arg1 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x1024 : Shape := ⟨2, ![16384, 1024]⟩
abbrev S1x1024x4608 : Shape := ⟨3, ![1, 1024, 4608]⟩
abbrev S2x8192x1024 : Shape := ⟨3, ![2, 8192, 1024]⟩
abbrev S1024x4608 : Shape := ⟨2, ![1024, 4608]⟩
abbrev S2x8192x4608 : Shape := ⟨3, ![2, 8192, 4608]⟩
abbrev S2x8192x1536 : Shape := ⟨3, ![2, 8192, 1536]⟩
abbrev S8192 : Shape := ⟨1, ![8192]⟩
abbrev S2x8192x3x8x64 : Shape := ⟨5, ![2, 8192, 3, 8, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x1x8 : Shape := ⟨5, ![1, 8192, 1, 1, 8]⟩
abbrev S2x8192x3x8x8 : Shape := ⟨5, ![2, 8192, 3, 8, 8]⟩
abbrev S2x8192x3x8x48 : Shape := ⟨5, ![2, 8192, 3, 8, 48]⟩
abbrev S2x8192x1x8x64 : Shape := ⟨5, ![2, 8192, 1, 8, 64]⟩
abbrev S2x8192x8x64 : Shape := ⟨4, ![2, 8192, 8, 64]⟩
abbrev S2x128x8x64 : Shape := ⟨4, ![2, 128, 8, 64]⟩
abbrev S1x2x128x8x64 : Shape := ⟨5, ![1, 2, 128, 8, 64]⟩
abbrev S2x512x8x64 : Shape := ⟨4, ![2, 512, 8, 64]⟩
abbrev S1x2x512x8x64 : Shape := ⟨5, ![1, 2, 512, 8, 64]⟩
abbrev S2x2048x8x64 : Shape := ⟨4, ![2, 2048, 8, 64]⟩
abbrev S1x2x2048x8x64 : Shape := ⟨5, ![1, 2, 2048, 8, 64]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x4608, .f32⟩
  | .hbm, ⟨2, _⟩ => ⟨S2x8192x1024, .f32⟩
  | .hbm, ⟨3, _⟩ => ⟨S1024x4608, .f32⟩
  | .hbm, ⟨4, _⟩ => ⟨S2x8192x4608, .f32⟩
  | .hbm, ⟨5, _⟩ => ⟨S2x8192x1536, .f32⟩
  | .hbm, ⟨6, _⟩ => ⟨S2x8192x1536, .f32⟩
  | .hbm, ⟨7, _⟩ => ⟨S2x8192x1536, .f32⟩
  | .hbm, ⟨8, _⟩ => ⟨S8192, .i32⟩
  | .hbm, ⟨9, _⟩ => ⟨S2x8192x3x8x64, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8192, .f32⟩
  | .hbm, ⟨25, _⟩ => ⟨S8192x1, .f32⟩
  | .hbm, ⟨26, _⟩ => ⟨S1x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S1x8192x1x1x8, .f32⟩
  | .hbm, ⟨32, _⟩ => ⟨S8192x8, .f32⟩
  | .hbm, ⟨33, _⟩ => ⟨S1x8192x1x1x8, .f32⟩
  | .hbm, ⟨34, _⟩ => ⟨S2x8192x3x8x8, .f32⟩
  | .hbm, ⟨35, _⟩ => ⟨S2x8192x3x8x8, .f32⟩
  | .hbm, ⟨36, _⟩ => ⟨S2x8192x3x8x8, .f32⟩
  | .hbm, ⟨37, _⟩ => ⟨S2x8192x3x8x8, .f32⟩
  | .hbm, ⟨38, _⟩ => ⟨S2x8192x3x8x8, .f32⟩
  | .hbm, ⟨39, _⟩ => ⟨S2x8192x3x8x8, .f32⟩
  | .hbm, ⟨40, _⟩ => ⟨S2x8192x3x8x8, .f32⟩
  | .hbm, ⟨41, _⟩ => ⟨S2x8192x3x8x8, .f32⟩
  | .hbm, ⟨42, _⟩ => ⟨S2x8192x3x8x8, .f32⟩
  | .hbm, ⟨43, _⟩ => ⟨S2x8192x3x8x8, .f32⟩
  | .hbm, ⟨44, _⟩ => ⟨S2x8192x3x8x8, .f32⟩
  | .hbm, ⟨45, _⟩ => ⟨S2x8192x3x8x8, .f32⟩
  | .hbm, ⟨46, _⟩ => ⟨S2x8192x3x8x48, .f32⟩
  | .hbm, ⟨47, _⟩ => ⟨S2x8192x3x8x64, .f32⟩
  | .hbm, ⟨48, _⟩ => ⟨S2x8192x3x8x64, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8192, .f32⟩
  | .hbm, ⟨64, _⟩ => ⟨S8192x1, .f32⟩
  | .hbm, ⟨65, _⟩ => ⟨S1x8, .f32⟩
  | .hbm, ⟨66, _⟩ => ⟨S8192x8, .f32⟩
  | .hbm, ⟨67, _⟩ => ⟨S8192x8, .f32⟩
  | .hbm, ⟨68, _⟩ => ⟨S8192x8, .f32⟩
  | .hbm, ⟨69, _⟩ => ⟨S8192x8, .f32⟩
  | .hbm, ⟨70, _⟩ => ⟨S1x8192x1x1x8, .f32⟩
  | .hbm, ⟨71, _⟩ => ⟨S8192x8, .f32⟩
  | .hbm, ⟨72, _⟩ => ⟨S1x8192x1x1x8, .f32⟩
  | .hbm, ⟨73, _⟩ => ⟨S2x8192x3x8x8, .f32⟩
  | .hbm, ⟨74, _⟩ => ⟨S2x8192x3x8x8, .f32⟩
  | .hbm, ⟨75, _⟩ => ⟨S2x8192x3x8x8, .f32⟩
  | .hbm, ⟨76, _⟩ => ⟨S2x8192x3x8x8, .f32⟩
  | .hbm, ⟨77, _⟩ => ⟨S2x8192x3x8x8, .f32⟩
  | .hbm, ⟨78, _⟩ => ⟨S2x8192x3x8x8, .f32⟩
  | .hbm, ⟨79, _⟩ => ⟨S2x8192x3x8x8, .f32⟩
  | .hbm, ⟨80, _⟩ => ⟨S2x8192x3x8x8, .f32⟩
  | .hbm, ⟨81, _⟩ => ⟨S2x8192x3x8x8, .f32⟩
  | .hbm, ⟨82, _⟩ => ⟨S2x8192x3x8x8, .f32⟩
  | .hbm, ⟨83, _⟩ => ⟨S2x8192x3x8x8, .f32⟩
  | .hbm, ⟨84, _⟩ => ⟨S2x8192x3x8x8, .f32⟩
  | .hbm, ⟨85, _⟩ => ⟨S2x8192x3x8x48, .f32⟩
  | .hbm, ⟨86, _⟩ => ⟨S2x8192x3x8x64, .f32⟩
  | .hbm, ⟨87, _⟩ => ⟨S2x8192x3x8x64, .f32⟩
  | .hbm, ⟨88, _⟩ => ⟨S2x8192x1x8x64, .f32⟩
  | .hbm, ⟨89, _⟩ => ⟨S2x8192x8x64, .f32⟩
  | .hbm, ⟨90, _⟩ => ⟨S2x128x8x64, .f32⟩
  | .hbm, ⟨91, _⟩ => ⟨S1x2x128x8x64, .f32⟩
  | .hbm, ⟨92, _⟩ => ⟨S2x8192x1x8x64, .f32⟩
  | .hbm, ⟨93, _⟩ => ⟨S2x8192x8x64, .f32⟩
  | .hbm, ⟨94, _⟩ => ⟨S2x128x8x64, .f32⟩
  | .hbm, ⟨95, _⟩ => ⟨S1x2x128x8x64, .f32⟩
  | .hbm, ⟨96, _⟩ => ⟨S2x8192x1x8x64, .f32⟩
  | .hbm, ⟨97, _⟩ => ⟨S2x8192x8x64, .f32⟩
  | .hbm, ⟨98, _⟩ => ⟨S2x512x8x64, .f32⟩
  | .hbm, ⟨99, _⟩ => ⟨S1x2x512x8x64, .f32⟩
  | .hbm, ⟨100, _⟩ => ⟨S2x8192x1x8x64, .f32⟩
  | .hbm, ⟨101, _⟩ => ⟨S2x8192x8x64, .f32⟩
  | .hbm, ⟨102, _⟩ => ⟨S2x512x8x64, .f32⟩
  | .hbm, ⟨103, _⟩ => ⟨S1x2x512x8x64, .f32⟩
  | .hbm, ⟨104, _⟩ => ⟨S2x8192x1x8x64, .f32⟩
  | .hbm, ⟨105, _⟩ => ⟨S2x8192x8x64, .f32⟩
  | .hbm, ⟨106, _⟩ => ⟨S2x2048x8x64, .f32⟩
  | .hbm, ⟨107, _⟩ => ⟨S1x2x2048x8x64, .f32⟩
  | .hbm, ⟨108, _⟩ => ⟨S2x8192x1x8x64, .f32⟩
  | .hbm, ⟨109, _⟩ => ⟨S2x8192x8x64, .f32⟩
  | .hbm, ⟨110, _⟩ => ⟨S2x2048x8x64, .f32⟩
  | .hbm, ⟨111, _⟩ => ⟨S1x2x2048x8x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩

abbrev nD : Nat := 1
abbrev τ : Topo := Topo.v7x

variable {F : FTy → Type} [FloatOps F]
-- ==== Kernel7.lean ====
abbrev S32x64x512 : Shape := ⟨3, ![32, 64, 512]⟩
abbrev S32x512x512 : Shape := ⟨3, ![32, 512, 512]⟩
abbrev S32x128x512 : Shape := ⟨3, ![32, 128, 512]⟩
abbrev S32x64x128 : Shape := ⟨3, ![32, 64, 128]⟩
abbrev S1x64x512 : Shape := ⟨3, ![1, 64, 512]⟩
abbrev S1x512x512 : Shape := ⟨3, ![1, 512, 512]⟩
abbrev S1x128x512 : Shape := ⟨3, ![1, 128, 512]⟩
abbrev S1x64x128 : Shape := ⟨3, ![1, 64, 128]⟩
abbrev S512x512 : Shape := ⟨2, ![512, 512]⟩
abbrev S128x512 : Shape := ⟨2, ![128, 512]⟩
abbrev S504x512 : Shape := ⟨2, ![504, 512]⟩
abbrev S1x504x512 : Shape := ⟨3, ![1, 504, 512]⟩
abbrev S8x512 : Shape := ⟨2, ![8, 512]⟩
abbrev S1x8x512 : Shape := ⟨3, ![1, 8, 512]⟩
abbrev S64x512 : Shape := ⟨2, ![64, 512]⟩
abbrev S64x128 : Shape := ⟨2, ![64, 128]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S32x64x512, .bf16⟩
  | .hbm, ⟨1, _⟩ => ⟨S32x512x512, .f32⟩
  | .hbm, ⟨2, _⟩ => ⟨S32x512x512, .f32⟩
  | .hbm, ⟨3, _⟩ => ⟨S32x128x512, .f32⟩
  | .hbm, ⟨4, _⟩ => ⟨S32x128x512, .f32⟩
  | .hbm, ⟨5, _⟩ => ⟨S32x64x512, .f32⟩
  | .hbm, ⟨6, _⟩ => ⟨S32x64x128, .f32⟩
  | .hbm, ⟨7, _⟩ => ⟨S32x512x512, .f32⟩
  | .hbm, ⟨8, _⟩ => ⟨S32x512x512, .f32⟩
  | .local _ .vmem, ⟨0, _⟩ => ⟨S1x64x512, .bf16⟩
  | .local _ .vmem, ⟨1, _⟩ => ⟨S1x64x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x64x512, .f32⟩
  | .local _ .vmem, ⟨11, _⟩ => ⟨S1x64x512, .f32⟩
  | .local _ .vmem, ⟨12, _⟩ => ⟨S1x64x128, .f32⟩
  | .local _ .vmem, ⟨13, _⟩ => ⟨S1x64x128, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S32x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S32x64x512 : Shape := ⟨3, ![32, 64, 512]⟩
abbrev S32x512x512 : Shape := ⟨3, ![32, 512, 512]⟩
abbrev S32x128x512 : Shape := ⟨3, ![32, 128, 512]⟩
abbrev S32x8x512 : Shape := ⟨3, ![32, 8, 512]⟩
abbrev S32x520x512 : Shape := ⟨3, ![32, 520, 512]⟩
abbrev S64 : Shape := ⟨1, ![64]⟩
abbrev S_ : Shape := ⟨0, ![]⟩
abbrev S64x1 : Shape := ⟨2, ![64, 1]⟩
abbrev S129 : Shape := ⟨1, ![129]⟩
abbrev S1x129 : Shape := ⟨2, ![1, 129]⟩
abbrev S64x129 : Shape := ⟨2, ![64, 129]⟩
abbrev S64x129x1 : Shape := ⟨3, ![64, 129, 1]⟩
abbrev S32x64x129x512 : Shape := ⟨4, ![32, 64, 129, 512]⟩
abbrev S32x64x129 : Shape := ⟨3, ![32, 64, 129]⟩
abbrev S32x64 : Shape := ⟨2, ![32, 64]⟩
abbrev S32x64x1 : Shape := ⟨3, ![32, 64, 1]⟩
abbrev S32x64x128 : Shape := ⟨3, ![32, 64, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x64x512, .bf16⟩
  | .hbm, ⟨1, _⟩ => ⟨S32x512x512, .f32⟩
  | .hbm, ⟨2, _⟩ => ⟨S32x512x512, .f32⟩
  | .hbm, ⟨3, _⟩ => ⟨S32x128x512, .f32⟩
  | .hbm, ⟨4, _⟩ => ⟨S32x128x512, .f32⟩
  | .hbm, ⟨5, _⟩ => ⟨S32x8x512, .f32⟩
  | .hbm, ⟨6, _⟩ => ⟨S32x520x512, .f32⟩
  | .hbm, ⟨7, _⟩ => ⟨S32x8x512, .f32⟩
  | .hbm, ⟨8, _⟩ => ⟨S32x520x512, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S129, .i32⟩
  | .hbm, ⟨18, _⟩ => ⟨S1x129, .i32⟩
  | .hbm, ⟨19, _⟩ => ⟨S_, .i32⟩
  | .hbm, ⟨20, _⟩ => ⟨S1x129, .i32⟩
  | .hbm, ⟨21, _⟩ => ⟨S1x129, .i32⟩
  | .hbm, ⟨22, _⟩ => ⟨S64x129, .i32⟩
  | .hbm, ⟨23, _⟩ => ⟨S64x129, .i32⟩
  | .hbm, ⟨24, _⟩ => ⟨S64x129, .i32⟩
  | .hbm, ⟨25, _⟩ => ⟨S_, .i32⟩
  | .hbm, ⟨26, _⟩ => ⟨S64x129, .i32⟩
  | .hbm, ⟨27, _⟩ => ⟨S64x129, .i1⟩
  | .hbm, ⟨28, _⟩ => ⟨S_, .i32⟩
  | .hbm, ⟨29, _⟩ => ⟨S64x129, .i32⟩
  | .hbm, ⟨30, _⟩ => ⟨S64x129, .i32⟩
  | .hbm, ⟨31, _⟩ => ⟨S64x129, .i32⟩
  | .hbm, ⟨32, _⟩ => ⟨S64x129x1, .i32⟩
  | .hbm, ⟨33, _⟩ => ⟨S32x64x129x512, .f32⟩
  | .hbm, ⟨34, _⟩ => ⟨S_, .i32⟩
  | .hbm, ⟨35, _⟩ => ⟨S64x129, .i32⟩
  | .hbm, ⟨36, _⟩ => ⟨S64x129, .i1⟩
  | .hbm, ⟨37, _⟩ => ⟨S_, .i32⟩
  | .hbm, ⟨38, _⟩ => ⟨S64x129, .i32⟩
  | .hbm, ⟨39, _⟩ => ⟨S64x129, .i32⟩
  | .hbm, ⟨40, _⟩ => ⟨S64x129, .i32⟩
  | .hbm, ⟨41, _⟩ => ⟨S64x129x1, .i32⟩
  | .hbm, ⟨42, _⟩ => ⟨S32x64x129x512, .f32⟩
  | .hbm, ⟨43, _⟩ => ⟨S32x64x512, .f32⟩
  | .hbm, ⟨44, _⟩ => ⟨S32x64x129, .f32⟩
  | .hbm, ⟨45, _⟩ => ⟨S_, .f32⟩
  | .hbm, ⟨46, _⟩ => ⟨S32x64, .f32⟩
  | .hbm, ⟨47, _⟩ => ⟨S32x64x1, .f32⟩
  | .hbm, ⟨48, _⟩ => ⟨S32x64x129, .f32⟩
  | .hbm, ⟨49, _⟩ => ⟨S32x64x129, .f32⟩
  | .hbm, ⟨50, _⟩ => ⟨S32x64x129, .f32⟩
  | .hbm, ⟨51, _⟩ => ⟨S_, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64x1, .f32⟩
  | .hbm, ⟨56, _⟩ => ⟨S32x64x129, .f32⟩
  | .hbm, ⟨57, _⟩ => ⟨S32x64x129, .f32⟩
  | .hbm, ⟨58, _⟩ => ⟨S32x64x129, .f32⟩
  | .hbm, ⟨59, _⟩ => ⟨S32x64x512, .f32⟩
  | .hbm, ⟨60, _⟩ => ⟨S32x64x1, .f32⟩
  | .hbm, ⟨61, _⟩ => ⟨S32x64x128, .f32⟩
  | .hbm, ⟨62, _⟩ => ⟨S32x512x512, .f32⟩
  | .hbm, ⟨63, _⟩ => ⟨S32x512x512, .f32⟩
  | _, _ => ⟨S32x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel8.lean ====
abbrev S32x64x512 : Shape := ⟨3, ![32, 64, 512]⟩
abbrev S32x128x512 : Shape := ⟨3, ![32, 128, 512]⟩
abbrev S32x64x128 : Shape := ⟨3, ![32, 64, 128]⟩
abbrev S1x64x512 : Shape := ⟨3, ![1, 64, 512]⟩
abbrev S1x128x512 : Shape := ⟨3, ![1, 128, 512]⟩
abbrev S1x64x128 : Shape := ⟨3, ![1, 64, 128]⟩
abbrev S128x512 : Shape := ⟨2, ![128, 512]⟩
abbrev S120x512 : Shape := ⟨2, ![120, 512]⟩
abbrev S1x120x512 : Shape := ⟨3, ![1, 120, 512]⟩
abbrev S8x512 : Shape := ⟨2, ![8, 512]⟩
abbrev S1x8x512 : Shape := ⟨3, ![1, 8, 512]⟩
abbrev S64x512 : Shape := ⟨2, ![64, 512]⟩
abbrev S64x128 : Shape := ⟨2, ![64, 128]⟩
abbrev S64 : Shape := ⟨1, ![64]⟩
abbrev S64x1 : Shape := ⟨2, ![64, 1]⟩

abbrev nBuf : Space → Nat
  | .hbm => 9
  | .vmem => 18
  | .smem => 0
  | _ => 0

abbrev bufTy : (tb : Table) → Fin (tcTables nBuf tb) → BufTy
  | .hbm, ⟨0, _⟩ => ⟨S32x64x512, .bf16⟩
  | .hbm, ⟨1, _⟩ => ⟨S32x128x512, .f32⟩
  | .hbm, ⟨2, _⟩ => ⟨S32x128x512, .f32⟩
  | .hbm, ⟨3, _⟩ => ⟨S32x128x512, .f32⟩
  | .hbm, ⟨4, _⟩ => ⟨S32x128x512, .f32⟩
  | .hbm, ⟨5, _⟩ => ⟨S32x64x512, .f32⟩
  | .hbm, ⟨6, _⟩ => ⟨S32x64x128, .f32⟩
  | .hbm, ⟨7, _⟩ => ⟨S32x128x512, .f32⟩
  | .hbm, ⟨8, _⟩ => ⟨S32x128x512, .f32⟩
  | .local _ .vmem, ⟨0, _⟩ => ⟨S1x64x512, .bf16⟩
  | .local _ .vmem, ⟨1, _⟩ => ⟨S1x64x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x64x512, .f32⟩
  | .local _ .vmem, ⟨11, _⟩ => ⟨S1x64x512, .f32⟩
  | .local _ .vmem, ⟨12, _⟩ => ⟨S1x64x128, .f32⟩
  | .local _ .vmem, ⟨13, _⟩ => ⟨S1x64x128, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | _, _ => ⟨S32x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S32x64x512 : Shape := ⟨3, ![32, 64, 512]⟩
abbrev S32x128x512 : Shape := ⟨3, ![32, 128, 512]⟩
abbrev S32x8x512 : Shape := ⟨3, ![32, 8, 512]⟩
abbrev S32x136x512 : Shape := ⟨3, ![32, 136, 512]⟩
abbrev S64 : Shape := ⟨1, ![64]⟩
abbrev S_ : Shape := ⟨0, ![]⟩
abbrev S64x1 : Shape := ⟨2, ![64, 1]⟩
abbrev S129 : Shape := ⟨1, ![129]⟩
abbrev S1x129 : Shape := ⟨2, ![1, 129]⟩
abbrev S64x129 : Shape := ⟨2, ![64, 129]⟩
abbrev S64x129x1 : Shape := ⟨3, ![64, 129, 1]⟩
abbrev S32x64x129x512 : Shape := ⟨4, ![32, 64, 129, 512]⟩
abbrev S32x64x129 : Shape := ⟨3, ![32, 64, 129]⟩
abbrev S32x64 : Shape := ⟨2, ![32, 64]⟩
abbrev S32x64x1 : Shape := ⟨3, ![32, 64, 1]⟩
abbrev S32x64x128 : Shape := ⟨3, ![32, 64, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x64x512, .bf16⟩
  | .hbm, ⟨1, _⟩ => ⟨S32x128x512, .f32⟩
  | .hbm, ⟨2, _⟩ => ⟨S32x128x512, .f32⟩
  | .hbm, ⟨3, _⟩ => ⟨S32x128x512, .f32⟩
  | .hbm, ⟨4, _⟩ => ⟨S32x128x512, .f32⟩
  | .hbm, ⟨5, _⟩ => ⟨S32x8x512, .f32⟩
  | .hbm, ⟨6, _⟩ => ⟨S32x136x512, .f32⟩
  | .hbm, ⟨7, _⟩ => ⟨S32x8x512, .f32⟩
  | .hbm, ⟨8, _⟩ => ⟨S32x136x512, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S129, .i32⟩
  | .hbm, ⟨18, _⟩ => ⟨S1x129, .i32⟩
  | .hbm, ⟨19, _⟩ => ⟨S_, .i32⟩
  | .hbm, ⟨20, _⟩ => ⟨S1x129, .i32⟩
  | .hbm, ⟨21, _⟩ => ⟨S1x129, .i32⟩
  | .hbm, ⟨22, _⟩ => ⟨S64x129, .i32⟩
  | .hbm, ⟨23, _⟩ => ⟨S64x129, .i32⟩
  | .hbm, ⟨24, _⟩ => ⟨S64x129, .i32⟩
  | .hbm, ⟨25, _⟩ => ⟨S_, .i32⟩
  | .hbm, ⟨26, _⟩ => ⟨S64x129, .i32⟩
  | .hbm, ⟨27, _⟩ => ⟨S64x129, .i1⟩
  | .hbm, ⟨28, _⟩ => ⟨S_, .i32⟩
  | .hbm, ⟨29, _⟩ => ⟨S64x129, .i32⟩
  | .hbm, ⟨30, _⟩ => ⟨S64x129, .i32⟩
  | .hbm, ⟨31, _⟩ => ⟨S64x129, .i32⟩
  | .hbm, ⟨32, _⟩ => ⟨S64x129x1, .i32⟩
  | .hbm, ⟨33, _⟩ => ⟨S32x64x129x512, .f32⟩
  | .hbm, ⟨34, _⟩ => ⟨S_, .i32⟩
  | .hbm, ⟨35, _⟩ => ⟨S64x129, .i32⟩
  | .hbm, ⟨36, _⟩ => ⟨S64x129, .i1⟩
  | .hbm, ⟨37, _⟩ => ⟨S_, .i32⟩
  | .hbm, ⟨38, _⟩ => ⟨S64x129, .i32⟩
  | .hbm, ⟨39, _⟩ => ⟨S64x129, .i32⟩
  | .hbm, ⟨40, _⟩ => ⟨S64x129, .i32⟩
  | .hbm, ⟨41, _⟩ => ⟨S64x129x1, .i32⟩
  | .hbm, ⟨42, _⟩ => ⟨S32x64x129x512, .f32⟩
  | .hbm, ⟨43, _⟩ => ⟨S32x64x512, .f32⟩
  | .hbm, ⟨44, _⟩ => ⟨S32x64x129, .f32⟩
  | .hbm, ⟨45, _⟩ => ⟨S_, .f32⟩
  | .hbm, ⟨46, _⟩ => ⟨S32x64, .f32⟩
  | .hbm, ⟨47, _⟩ => ⟨S32x64x1, .f32⟩
  | .hbm, ⟨48, _⟩ => ⟨S32x64x129, .f32⟩
  | .hbm, ⟨49, _⟩ => ⟨S32x64x129, .f32⟩
  | .hbm, ⟨50, _⟩ => ⟨S32x64x129, .f32⟩
  | .hbm, ⟨51, _⟩ => ⟨S_, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64x1, .f32⟩
  | .hbm, ⟨56, _⟩ => ⟨S32x64x129, .f32⟩
  | .hbm, ⟨57, _⟩ => ⟨S32x64x129, .f32⟩
  | .hbm, ⟨58, _⟩ => ⟨S32x64x129, .f32⟩
  | .hbm, ⟨59, _⟩ => ⟨S32x64x512, .f32⟩
  | .hbm, ⟨60, _⟩ => ⟨S32x64x1, .f32⟩
  | .hbm, ⟨61, _⟩ => ⟨S32x64x128, .f32⟩
  | .hbm, ⟨62, _⟩ => ⟨S32x128x512, .f32⟩
  | .hbm, ⟨63, _⟩ => ⟨S32x128x512, .f32⟩
  | _, _ => ⟨S32x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel9.lean ====
abbrev S16384x512 : Shape := ⟨2, ![16384, 512]⟩
abbrev S16384x1024 : Shape := ⟨2, ![16384, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S512x1024, .bf16⟩
  | .hbm, ⟨13, _⟩ => ⟨S512x1024, .bf16⟩
  | .hbm, ⟨14, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S16384x512 : Shape := ⟨2, ![16384, 512]⟩
abbrev S16384x1024 : Shape := ⟨2, ![16384, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel10.lean ====
abbrev S16384x512 : Shape := ⟨2, ![16384, 512]⟩
abbrev S16384x1024 : Shape := ⟨2, ![16384, 1024]⟩
abbrev S1x512x1024 : Shape := ⟨3, ![1, 512, 1024]⟩
abbrev S1x1024 : Shape := ⟨2, ![1, 1024]⟩
abbrev S1024 : Shape := ⟨1, ![1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S1x512x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S512x1024, .f32⟩
  | .hbm, ⟨15, _⟩ => ⟨S512x1024, .bf16⟩
  | .hbm, ⟨16, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S16384x512 : Shape := ⟨2, ![16384, 512]⟩
abbrev S16384x1024 : Shape := ⟨2, ![16384, 1024]⟩
abbrev S1x512x1024 : Shape := ⟨3, ![1, 512, 1024]⟩
abbrev S1x1024 : Shape := ⟨2, ![1, 1024]⟩
abbrev S1x16384x512 : Shape := ⟨3, ![1, 16384, 512]⟩
abbrev S3x16384x512 : Shape := ⟨3, ![3, 16384, 512]⟩
abbrev S_ : Shape := ⟨0, ![]⟩
abbrev S512x1024 : Shape := ⟨2, ![512, 1024]⟩
abbrev S1024 : Shape := ⟨1, ![1024]⟩
abbrev S16384 : Shape := ⟨1, ![16384]⟩
abbrev S16384x1 : Shape := ⟨2, ![16384, 1]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S1x512x1024, .f32⟩
  | .hbm, ⟨8, _⟩ => ⟨S1x1024, .f32⟩
  | .hbm, ⟨9, _⟩ => ⟨S1x1024, .f32⟩
  | .hbm, ⟨10, _⟩ => ⟨S1x16384x512, .f32⟩
  | .hbm, ⟨11, _⟩ => ⟨S1x16384x512, .f32⟩
  | .hbm, ⟨12, _⟩ => ⟨S1x16384x512, .f32⟩
  | .hbm, ⟨13, _⟩ => ⟨S3x16384x512, .f32⟩
  | .hbm, ⟨14, _⟩ => ⟨S_, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S1x16384x512, .f32⟩
  | .hbm, ⟨20, _⟩ => ⟨S3x16384x512, .f32⟩
  | .hbm, ⟨21, _⟩ => ⟨S3x16384x512, .f32⟩
  | .hbm, ⟨22, _⟩ => ⟨S3x16384x512, .f32⟩
  | .hbm, ⟨23, _⟩ => ⟨S_, .f32⟩
  | .hbm, ⟨24, _⟩ => ⟨S16384x512, .f32⟩
  | .hbm, ⟨25, _⟩ => ⟨S1x16384x512, .f32⟩
  | .hbm, ⟨26, _⟩ => ⟨S3x16384x512, .f32⟩
  | .hbm, ⟨27, _⟩ => ⟨S3x16384x512, .f32⟩
  | .hbm, ⟨28, _⟩ => ⟨S1x16384x512, .f32⟩
  | .hbm, ⟨29, _⟩ => ⟨S1x16384x512, .f32⟩
  | .hbm, ⟨30, _⟩ => ⟨S1x16384x512, .f32⟩
  | .hbm, ⟨31, _⟩ => ⟨S3x16384x512, .f32⟩
  | .hbm, ⟨32, _⟩ => ⟨S3x16384x512, .f32⟩
  | .hbm, ⟨33, _⟩ => ⟨S_, .f32⟩
  | .hbm, ⟨34, _⟩ => ⟨S16384x512, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S512x1024, .f32⟩
  | .hbm, ⟨39, _⟩ => ⟨S16384x1024, .f32⟩
  | .hbm, ⟨40, _⟩ => ⟨S16384x1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.DilMath.lean ====
module

public import Idealize.ShloMosaic.Lib.Pointwise

@[expose] public section

set_option maxRecDepth 16384

noncomputable section

open Idealize.ShloMosaic

/-! ## Attention over a masked buffer is attention over the gathered positions

   One query, over the extended reals. The kernel scores all 2048 keys of the buffer and 128 rows of new keys, sets the
   disallowed ones to −∞ and divides at the end; the reference takes the 129 keys at ages 0, 16, …, 2048 and weighs each
   value with `exp (s − lse)`. -/

namespace Cert.Proof.DilMath

/-- The new token whose query row `r` of the queries is: row `8 h + i` is head `h`'s query of new token `i`. -/
def tok (r : Fin 64) : Fin 8 := ⟨r.val % 8, by omega⟩

/-- The buffer position of key number `k + 1` of the query of new token `i`: 16 (k + 1) tokens back. -/
def pos (i : Fin 8) (k : Fin 128) : Fin 2048 := ⟨2048 + i.val - 16 * (k.val + 1), by omega⟩

/-- The new token `i` as one of the 128 rows the new keys are padded to. -/
def newRow (i : Fin 8) : Fin 128 := ⟨i.val, by omega⟩

/-- What the query of new token `i` sees as its key number `m`: its own token's, then every 16th of the buffer's going back. -/
def pick {α : Type} (i : Fin 8) (b : Fin 2048 → α) (n : Fin 128 → α) : Fin 129 → α :=
  Fin.cases (n (newRow i)) (fun k => b (pos i k))

/-- The buffer's scores with −∞ at the disallowed positions; -/
def maskB (i : Fin 8) (zb : Fin 2048 → EReal) (j : Fin 2048) : EReal := if (2048 + i.val - j.val) % 16 = 0 then zb j else ⊥

/-- the new keys' scores likewise. -/
def maskN (i : Fin 8) (zn : Fin 128 → EReal) (j : Fin 128) : EReal := if i.val = j.val then zn j else ⊥

/-- A sum over the buffer of terms that vanish off the allowed positions is the sum over the allowed ones. -/
theorem sum_buf (i : Fin 8) (f : Fin 2048 → EReal) (h : ∀ j : Fin 2048, (2048 + i.val - j.val) % 16 ≠ 0 → f j = 0) :
    ∑ j, f j = ∑ k, f (pos i k) := by
  symm
  refine Finset.sum_of_injOn (pos i) ?_ ?_ ?_ ?_
  · intro a _ b _ e
    have e' := congrArg Fin.val e
    simp only [pos] at e'
    apply Fin.ext
    omega
  · intro a _
    simp
  · intro j _ hj
    refine h j fun h0 => hj ?_
    refine ⟨⟨(2048 + i.val - j.val) / 16 - 1, by omega⟩, by simp, ?_⟩
    apply Fin.ext
    simp only [pos]
    omega
  · intro k _
    rfl

/-- A sum over the new rows of terms that vanish off the query's own row is that row's term. -/
theorem sum_new (i : Fin 8) (f : Fin 128 → EReal) (h : ∀ j : Fin 128, i.val ≠ j.val → f j = 0) :
    ∑ j, f j = f (newRow i) :=
  Finset.sum_eq_single _ (fun j _ hj => h j fun e => hj (Fin.ext e.symm)) (fun hn => absurd (Finset.mem_univ _) hn)

theorem pick_zero {α : Type} (i : Fin 8) (b : Fin 2048 → α) (n : Fin 128 → α) : pick i b n 0 = n (newRow i) := rfl
theorem pick_succ {α : Type} (i : Fin 8) (b : Fin 2048 → α) (n : Fin 128 → α) (k : Fin 128) : pick i b n k.succ = b (pos i k) := rfl

theorem maskB_pos (i : Fin 8) (zb : Fin 2048 → EReal) (k : Fin 128) : maskB i zb (pos i k) = zb (pos i k) := by
  unfold maskB
  rw [if_pos]
  simp only [pos]
  omega

theorem maskN_row (i : Fin 8) (zn : Fin 128 → EReal) : maskN i zn (newRow i) = zn (newRow i) := if_pos rfl

/-- The maximum over the masked scores is the maximum over the gathered ones. -/
theorem max_eq (i : Fin 8) (zb : Fin 2048 → EReal) (zn : Fin 128 → EReal) :
    max (Finset.univ.fold max ⊥ (maskB i zb)) (Finset.univ.fold max ⊥ (maskN i zn)) = Finset.univ.fold max ⊥ (pick i zb zn) := by
  show max (Finset.univ.sup (maskB i zb)) (Finset.univ.sup (maskN i zn)) = Finset.univ.sup (pick i zb zn)
  apply le_antisymm
  · refine max_le (Finset.sup_le fun j _ => ?_) (Finset.sup_le fun j _ => ?_)
    · unfold maskB
      split
      · rename_i h
        obtain ⟨k, e⟩ : ∃ k, j = pos i k := ⟨⟨(2048 + i.val - j.val) / 16 - 1, by omega⟩, by
          apply Fin.ext; simp only [pos]; omega⟩
        rw [e, ← pick_succ i zb zn k]
        exact Finset.le_sup (f := pick i zb zn) (Finset.mem_univ k.succ)
      · exact bot_le
    · unfold maskN
      split
      · rename_i h
        have e : j = newRow i := Fin.ext h.symm
        rw [e, ← pick_zero i zb zn]
        exact Finset.le_sup (f := pick i zb zn) (Finset.mem_univ 0)
      · exact bot_le
  · refine Finset.sup_le fun m _ => ?_
    refine Fin.cases ?_ (fun k => ?_) m
    · rw [pick_zero, ← maskN_row i zn]
      exact le_max_of_le_right (Finset.le_sup (f := maskN i zn) (Finset.mem_univ _))
    · rw [pick_succ, ← maskB_pos i zb k]
      exact le_max_of_le_left (Finset.le_sup (f := maskB i zb) (Finset.mem_univ _))

theorem exp_bot_sub (x : EReal) : Ideal.exp (⊥ - x) = 0 := by rw [EReal.bot_sub]; exact Ideal.exp_bot

/-- Sums weighted by the exponentials of masked scores are sums over the gathered ones. -/
theorem sum_eq (i : Fin 8) (zb : Fin 2048 → EReal) (zn : Fin 128 → EReal) (x : EReal) (wb : Fin 2048 → EReal) (wn : Fin 128 → EReal) :
    (∑ j, Ideal.exp (maskB i zb j - x) * wb j) + (∑ j, Ideal.exp (maskN i zn j - x) * wn j)
      = ∑ m, Ideal.exp (pick i zb zn m - x) * pick i wb wn m := by
  have h1 := sum_buf i (fun j => Ideal.exp (maskB i zb j - x) * wb j)
    (fun j hj => by simp only [maskB, if_neg hj, exp_bot_sub, zero_mul])
  have h2 := sum_new i (fun j => Ideal.exp (maskN i zn j - x) * wn j)
    (fun j hj => by simp only [maskN, if_neg hj, exp_bot_sub, zero_mul])
  rw [h1, h2, add_comm]
  refine Eq.trans ?_ (Fin.sum_univ_succ _).symm
  simp only [pick_zero, pick_succ, maskB_pos, maskN_row]

theorem den_eq (i : Fin 8) (zb : Fin 2048 → EReal) (zn : Fin 128 → EReal) (x : EReal) :
    (∑ j, Ideal.exp (maskB i zb j - x)) + (∑ j, Ideal.exp (maskN i zn j - x)) = ∑ m, Ideal.exp (pick i zb zn m - x) := by
  have h1 := sum_buf i (fun j => Ideal.exp (maskB i zb j - x)) (fun j hj => by simp only [maskB, if_neg hj, exp_bot_sub])
  have h2 := sum_new i (fun j => Ideal.exp (maskN i zn j - x)) (fun j hj => by simp only [maskN, if_neg hj, exp_bot_sub])
  rw [h1, h2, add_comm]
  refine Eq.trans ?_ (Fin.sum_univ_succ _).symm
  simp only [pick_zero, pick_succ, maskB_pos, maskN_row]

/-- The sum of reals, taken among the reals or among the extended ones. -/
theorem coe_sum {α : Type} (S : Finset α) (f : α → ℝ) : ((∑ k ∈ S, f k : ℝ) : EReal) = ∑ k ∈ S, (f k : EReal) := by
  induction S using Finset.cons_induction with
  | empty => simp
  | cons a S ha ih => rw [Finset.sum_cons, Finset.sum_cons, EReal.coe_add, ih]

/-- Weighing by `exp (s − (mx + log den))` is weighing by `exp (s − mx)` and dividing the sum by `den`, for finite scores;
    the values may be infinite. -/
theorem softmax_div {n : ℕ} (s : Fin (n + 1) → ℝ) (w : Fin (n + 1) → EReal) (mx : ℝ) :
    ∑ m, Ideal.exp ((s m : EReal) - ((mx : EReal) + Ideal.log (∑ k, Ideal.exp ((s k : EReal) - mx)))) * w m
      = Ideal.div (∑ m, Ideal.exp ((s m : EReal) - mx) * w m) (∑ k, Ideal.exp ((s k : EReal) - mx)) := by
  have he : ∀ k, Ideal.exp ((s k : EReal) - mx) = ((Real.exp (s k - mx) : ℝ) : EReal) := fun k => by
    rw [← EReal.coe_sub, Ideal.exp_coe]
  have hd : ∑ k, Ideal.exp ((s k : EReal) - mx) = ((∑ k, Real.exp (s k - mx) : ℝ) : EReal) := by
    simp only [he]
    exact (coe_sum _ _).symm
  have hpos : 0 < ∑ k, Real.exp (s k - mx) := Finset.sum_pos (fun k _ => Real.exp_pos _) Finset.univ_nonempty
  rw [hd, Ideal.div_coe hpos.ne', Ideal.log_coe, if_neg (not_le.mpr hpos), ← EReal.coe_add]
  have hq : (0 : EReal) ≤ ((1 / (∑ k, Real.exp (s k - mx)) : ℝ) : EReal) := by
    exact_mod_cast (one_div_pos.mpr hpos).le
  generalize hD : ∑ k, Real.exp (s k - mx) = D at *
  have hsum : ∀ (S : Finset (Fin (n + 1))) (g : Fin (n + 1) → EReal),
      (∑ m ∈ S, g m) * ((1 / D : ℝ) : EReal) = ∑ m ∈ S, g m * ((1 / D : ℝ) : EReal) := by
    intro S g
    induction S using Finset.cons_induction with
    | empty => simp
    | cons a S ha ih =>
      rw [Finset.sum_cons, Finset.sum_cons, EReal.right_distrib_of_nonneg_of_ne_top hq (EReal.coe_ne_top _), ih]
  rw [hsum]
  refine Finset.sum_congr rfl fun m _ => ?_
  rw [he, ← EReal.coe_sub, Ideal.exp_coe, mul_assoc, mul_comm (w m), ← mul_assoc, ← EReal.coe_mul]
  congr 2
  rw [← sub_sub, Real.exp_sub, Real.exp_log hpos, one_div, div_eq_mul_inv]

/-- The maximum of finitely many real scores is real. -/
theorem max_real {n : ℕ} (s : Fin (n + 1) → EReal) (h : ∀ m, ∃ x : ℝ, s m = x) : ∃ x : ℝ, Finset.univ.fold max ⊥ s = (x : EReal) := by
  obtain ⟨m, _, e⟩ := Finset.exists_mem_eq_sup Finset.univ Finset.univ_nonempty s
  obtain ⟨x, hx⟩ := h m
  exact ⟨x, (show Finset.univ.fold max ⊥ s = Finset.univ.sup s from rfl).trans (e.trans hx)⟩

/-- The kernel's attention output for one query and column is the reference's. -/
theorem out_eq (i : Fin 8) (zb : Fin 2048 → EReal) (zn : Fin 128 → EReal) (wb : Fin 2048 → EReal) (wn : Fin 128 → EReal)
    (hb : ∀ j, ∃ x : ℝ, zb j = x) (hn : ∀ j, ∃ x : ℝ, zn j = x) (mx den : EReal)
    (hmx : mx = Finset.univ.fold max ⊥ (pick i zb zn)) (hden : den = ∑ m, Ideal.exp (pick i zb zn m - mx)) :
    Ideal.div ((∑ j, Ideal.exp (maskB i zb j - mx) * wb j) + (∑ j, Ideal.exp (maskN i zn j - mx) * wn j)) den
      = ∑ m, Ideal.exp (pick i zb zn m - (mx + Ideal.log den)) * pick i wb wn m := by
  have hp : ∀ m, ∃ x : ℝ, pick i zb zn m = x := Fin.cases (hn _) (fun k => hb _)
  obtain ⟨x, hx⟩ := max_real _ hp
  choose s hs using hp
  rw [sum_eq, hden, hmx, hx]
  simp only [hs]
  exact (softmax_div s _ x).symm

end Cert.Proof.DilMath
-- ==== Proof.DilKer.lean ====
module

public import proofs.«01_k».proof.Proof.Gen.KernelIdeal.Value
public import proofs.«01_k».proof.Proof.DilMath

@[expose] public section

set_option maxRecDepth 16384

noncomputable section

open Idealize.ShloMosaic Idealize.ShloMosaic.TcCoe Idealize.SL.Sem
open Idealize.ShloMosaic.Pipeline (Dat)

namespace Cert.Proof.DilKer

open Cert.KernelIdeal Cert.KernelIdeal.Gen Cert.Proof.DilMath

/-! ## The payloads of one grid point, read at an index -/

section Payloads

theorem hz3 : (![0, 0, 0] : Fin 3 → Nat) = fun _ => 0 := funext fun a => by fin_cases a <;> rfl

/-- The remainder the kernel writes: the machine's, moved into the sign of the divisor. -/
def fm (x n : BitVec 32) : BitVec 32 :=
  Scalar.select (IntOp.andi (IntOp.xori (IntOp.cmpi CmpIPredicate.slt (IntOp.remsi ArithUnit.vector x n) 0#32)
      (Scalar.cmpi CmpIPredicate.slt n 0#32)) (IntOp.cmpi CmpIPredicate.ne (IntOp.remsi ArithUnit.vector x n) 0#32))
    (IntOp.addi (IntOp.remsi ArithUnit.vector x n) n) (IntOp.remsi ArithUnit.vector x n)

theorem sel8 : Scalar.select (Scalar.cmpi CmpIPredicate.eq 8#32 0#32) 1#32 8#32 = 8#32 := by decide
theorem sel16 : Scalar.select (Scalar.cmpi CmpIPredicate.eq 16#32 0#32) 1#32 16#32 = 16#32 := by decide
theorem fm8 : ∀ r : Fin 64, fm (BitVec.ofNat 32 r) 8#32 = BitVec.ofNat 32 (r.val % 8) := by decide +kernel

/-- The age `16 a + b` is allowed when it is a multiple of 16 of at most 2048. -/
theorem age_ok : ∀ a : Fin 129, ∀ b : Fin 16,
    IntOp.andi (IntOp.cmpi CmpIPredicate.eq (fm (BitVec.ofNat 32 (16 * a.val + b.val)) 16#32) 0#32)
      (IntOp.cmpi CmpIPredicate.sle (BitVec.ofNat 32 (16 * a.val + b.val)) 2048#32) = if b.val = 0 then 1#1 else 0#1 := by decide +kernel

theorem new_ok : ∀ i : Fin 8, ∀ j : Fin 128,
    IntOp.andi (IntOp.andi (IntOp.cmpi CmpIPredicate.sge (IntOp.subi (BitVec.ofNat 32 i.val) (BitVec.ofNat 32 j.val)) 0#32)
      (IntOp.cmpi CmpIPredicate.eq (fm (IntOp.subi (BitVec.ofNat 32 i.val) (BitVec.ofNat 32 j.val)) 16#32) 0#32))
      (IntOp.cmpi CmpIPredicate.slt (BitVec.ofNat 32 j.val) 8#32) = if i.val = j.val then 1#1 else 0#1 := by decide +kernel

theorem m1_at (r : Fin 64) (j : Fin 2048) : k0_pay17 kernelRun0_A.sl.v26 8#32 (ix2 r j)
    = if (2048 + r.val % 8 - j.val) % 16 = 0 then 1#1 else 0#1 := by
  unfold kernelRun0_A.sl.v26
  pointwise [k0_pay17]
  simp only [sel8, sel16]
  have e : IntOp.subi (IntOp.addi (2048#32) (fm (BitVec.ofNat 32 r.val) 8#32)) (BitVec.ofNat 32 j.val)
      = BitVec.ofNat 32 (16 * ((2048 + r.val % 8 - j.val) / 16) + (2048 + r.val % 8 - j.val) % 16) := by
    rw [fm8, Nat.div_add_mod]
    unfold IntOp.subi IntOp.addi
    have := j.isLt
    apply BitVec.eq_of_toNat_eq
    simp
    omega
  have h := age_ok ⟨(2048 + r.val % 8 - j.val) / 16, by omega⟩ ⟨(2048 + r.val % 8 - j.val) % 16, by omega⟩
  simp only [← e] at h
  exact h

theorem m2_at (r : Fin 64) (j : Fin 128) : k0_pay18 kernelRun0_A.sl.v68 8#32 0#1 1#32 (ix2 r j)
    = if r.val % 8 = j.val then 1#1 else 0#1 := by
  unfold kernelRun0_A.sl.v68
  pointwise [k0_pay18]
  simp only [sel8, sel16]
  have h := new_ok ⟨r.val % 8, by omega⟩ j
  simp only [← fm8] at h
  exact h

theorem bits_bot : Ideal.ofBits .f32 4286578688#32 = (⊥ : EReal) := by simp [Ideal.ofBits, Ideal.ieee]

variable (q : Vec Ideal S1x64x512 .bf16) (kb vb : Vec Ideal S1x2048x512 .f32) (kn vn : Vec Ideal S1x128x512 .f32)

/-- The score of row `r` of the block against a buffer key, -/
def zb (r : Fin 64) (j : Fin 2048) : EReal := ∑ x : Fin 512, q (ix3 0 r x) * kb (ix3 0 j x)

/-- and against a new key. -/
def zn (r : Fin 64) (j : Fin 128) : EReal := ∑ x : Fin 512, q (ix3 0 r x) * kn (ix3 0 j x)

/-- The kernel's masked scores of the buffer; -/
abbrev B : FVec Ideal S64x2048 .f32 := k0_pay19 (k0_pay8 kb) (k0_pay16 q) (k0_pay17 kernelRun0_A.sl.v26 8#32)

/-- its mask of the new rows; -/
abbrev M : IVec S64x128 1 := k0_pay18 kernelRun0_A.sl.v68 8#32 0#1 1#32

theorem sb_at (r : Fin 64) (j : Fin 2048) : B q kb (ix2 r j) = maskB (tok r) (zb q kb r) j := by
  unfold B
  pointwise [k0_pay19, k0_pay8, k0_pay16]
  rw [m1_at, bits_bot]
  unfold maskB
  by_cases h : (2048 + r.val % 8 - j.val) % 16 = 0
  · rw [if_pos h, if_pos (show (2048 + (tok r).val - j.val) % 16 = 0 from h)]; rfl
  · rw [if_neg h, if_neg (show ¬ (2048 + (tok r).val - j.val) % 16 = 0 from h)]; rfl

theorem sn_at (r : Fin 64) (j : Fin 128) :
    k0_pay1 (k0_pay16 q) M (k0_pay20 (k0_pay10 kn)) (ix2 r j) = maskN (tok r) (zn q kn r) j := by
  unfold M
  pointwise [k0_pay1, k0_pay20, k0_pay10, k0_pay16]
  rw [m2_at, bits_bot]
  unfold maskN
  by_cases h : r.val % 8 = j.val
  · rw [if_pos h, if_pos (show (tok r).val = j.val from h)]; rfl
  · rw [if_neg h, if_neg (show ¬ (tok r).val = j.val from h)]; rfl

/-- The largest score of row `r`. -/
def mxOf (r : Fin 64) : EReal := Finset.univ.fold max ⊥ (pick (tok r) (zb q kb r) (zn q kn r))

/-- The sum of the exponentials of row `r`. -/
def denOf (r : Fin 64) : EReal := ∑ k, Ideal.exp (pick (tok r) (zb q kb r) (zn q kn r) k - mxOf q kb kn r)

theorem mx_at (r : Fin 64) : k0_pay2 (k0_pay16 q) M (B q kb) (k0_pay20 (k0_pay10 kn)) (ix2 r 0) = mxOf q kb kn r := by
  pointwise [k0_pay2]
  simp only [sb_at, sn_at, bits_bot]
  exact max_eq (tok r) (zb q kb r) (zn q kn r)

theorem den_at (r : Fin 64) : k0_pay5 (k0_pay16 q) M (B q kb) (k0_pay20 (k0_pay10 kn)) (ix2 r 0) = denOf q kb kn r := by
  pointwise [k0_pay5, k0_pay3, k0_pay4]
  simp only [sb_at, sn_at, mx_at]
  exact den_eq (tok r) (zb q kb r) (zn q kn r) _

/-- The log-sum-exp the kernel stores, on every lane. -/
theorem l_at (r : Fin 64) (d : Fin 128) : k0_pay7 (k0_pay16 q) M (B q kb) (k0_pay20 (k0_pay10 kn)) (ix3 0 r d)
    = mxOf q kb kn r + Ideal.log (denOf q kb kn r) := by
  pointwise [k0_pay7]
  rw [mx_at, den_at]

/-- The attention output the kernel stores, when the scores are finite. -/
theorem o_at (r : Fin 64) (d : Fin 512) (hb : ∀ j, ∃ x : ℝ, zb q kb r j = x) (hn : ∀ j, ∃ x : ℝ, zn q kn r j = x) :
    k0_pay6 (k0_pay9 vb) (k0_pay11 vn) (k0_pay16 q) M (B q kb) (k0_pay20 (k0_pay10 kn)) (ix3 0 r d)
    = ∑ k, Ideal.exp (pick (tok r) (zb q kb r) (zn q kn r) k - (mxOf q kb kn r + Ideal.log (denOf q kb kn r)))
        * pick (tok r) (fun j => vb (ix3 0 j d)) (fun j => vn (ix3 0 j d)) k := by
  pointwise [k0_pay6, k0_pay3, k0_pay4, k0_pay9, k0_pay11]
  simp only [sb_at, sn_at, mx_at, den_at]
  exact out_eq (tok r) _ _ _ _ hb hn _ _ rfl rfl

theorem p12_at (r : Fin 2040) (d : Fin 512) : k0_pay12 kb (ix3 0 r d) = kb (ix3 0 ⟨8 + r.val, by omega⟩ d) := by
  pointwise [k0_pay12, k0_pay8]
theorem p13_at (r : Fin 8) (d : Fin 512) : k0_pay13 kn (ix3 0 r d) = kn (ix3 0 ⟨r.val, by omega⟩ d) := by
  pointwise [k0_pay13, k0_pay10]
theorem p14_at (r : Fin 2040) (d : Fin 512) : k0_pay14 vb (ix3 0 r d) = vb (ix3 0 ⟨8 + r.val, by omega⟩ d) := by
  pointwise [k0_pay14, k0_pay9]
theorem p15_at (r : Fin 8) (d : Fin 512) : k0_pay15 vn (ix3 0 r d) = vn (ix3 0 ⟨r.val, by omega⟩ d) := by
  pointwise [k0_pay15, k0_pay11]

end Payloads

/-! ## The result arrays -/

section Arrays

variable (m : (ℓ : Loc nD τ sig) → Buf (Elt Ideal) ℓ) (ρ : Dev nD → PrngReg)

theorem idx0 : ∀ t : Fin cfg0.N, win0_0.index t = ![t.val, 0, 0] :=
  (by decide +kernel : ∀ t : Fin grid0.N, win0_0.index t = ![t.val, 0, 0])

/-- Window 0's block at point `t` is sequence `t` of its argument. -/
theorem ib0 (c : Dev nD) (t : Fin cfg0.N) (r : Fin 64) (d : Fin 512) :
    iblk m c 0 t (ix3 0 r d) = m ((c : Thread nD τ).loc main_arg0) (ix3 ⟨t.val, t.isLt⟩ r d) := by
  unfold iblk
  refine congrArg (m ((c : Thread nD τ).loc main_arg0)) ?_
  funext a
  apply Fin.ext
  match a with
  | ⟨0, _⟩ => show win0_0.index t 0 * 1 + 1 * 0 = t.val; rw [idx0]; simp
  | ⟨1, _⟩ => show win0_0.index t 1 * 64 + 1 * r.val = r.val; rw [idx0]; simp
  | ⟨2, _⟩ => show win0_0.index t 2 * 512 + 1 * d.val = d.val; rw [idx0]; simp

theorem idx1 : ∀ t : Fin cfg0.N, win0_1.index t = ![t.val, 0, 0] :=
  (by decide +kernel : ∀ t : Fin grid0.N, win0_1.index t = ![t.val, 0, 0])

/-- Window 1's block at point `t` is sequence `t` of its argument. -/
theorem ib1 (c : Dev nD) (t : Fin cfg0.N) (r : Fin 2048) (d : Fin 512) :
    iblk m c 1 t (ix3 0 r d) = m ((c : Thread nD τ).loc main_arg1) (ix3 ⟨t.val, t.isLt⟩ r d) := by
  unfold iblk
  refine congrArg (m ((c : Thread nD τ).loc main_arg1)) ?_
  funext a
  apply Fin.ext
  match a with
  | ⟨0, _⟩ => show win0_1.index t 0 * 1 + 1 * 0 = t.val; rw [idx1]; simp
  | ⟨1, _⟩ => show win0_1.index t 1 * 2048 + 1 * r.val = r.val; rw [idx1]; simp
  | ⟨2, _⟩ => show win0_1.index t 2 * 512 + 1 * d.val = d.val; rw [idx1]; simp

theorem idx2 : ∀ t : Fin cfg0.N, win0_2.index t = ![t.val, 0, 0] :=
  (by decide +kernel : ∀ t : Fin grid0.N, win0_2.index t = ![t.val, 0, 0])

/-- Window 2's block at point `t` is sequence `t` of its argument. -/
theorem ib2 (c : Dev nD) (t : Fin cfg0.N) (r : Fin 2048) (d : Fin 512) :
    iblk m c 2 t (ix3 0 r d) = m ((c : Thread nD τ).loc main_arg2) (ix3 ⟨t.val, t.isLt⟩ r d) := by
  unfold iblk
  refine congrArg (m ((c : Thread nD τ).loc main_arg2)) ?_
  funext a
  apply Fin.ext
  match a with
  | ⟨0, _⟩ => show win0_2.index t 0 * 1 + 1 * 0 = t.val; rw [idx2]; simp
  | ⟨1, _⟩ => show win0_2.index t 1 * 2048 + 1 * r.val = r.val; rw [idx2]; simp
  | ⟨2, _⟩ => show win0_2.index t 2 * 512 + 1 * d.val = d.val; rw [idx2]; simp

theorem idx3 : ∀ t : Fin cfg0.N, win0_3.index t = ![t.val, 0, 0] :=
  (by decide +kernel : ∀ t : Fin grid0.N, win0_3.index t = ![t.val, 0, 0])

/-- Window 3's block at point `t` is sequence `t` of its argument. -/
theorem ib3 (c : Dev nD) (t : Fin cfg0.N) (r : Fin 128) (d : Fin 512) :
    iblk m c 3 t (ix3 0 r d) = m ((c : Thread nD τ).loc main_arg3) (ix3 ⟨t.val, t.isLt⟩ r d) := by
  unfold iblk
  refine congrArg (m ((c : Thread nD τ).loc main_arg3)) ?_
  funext a
  apply Fin.ext
  match a with
  | ⟨0, _⟩ => show win0_3.index t 0 * 1 + 1 * 0 = t.val; rw [idx3]; simp
  | ⟨1, _⟩ => show win0_3.index t 1 * 128 + 1 * r.val = r.val; rw [idx3]; simp
  | ⟨2, _⟩ => show win0_3.index t 2 * 512 + 1 * d.val = d.val; rw [idx3]; simp

theorem idx4 : ∀ t : Fin cfg0.N, win0_4.index t = ![t.val, 0, 0] :=
  (by decide +kernel : ∀ t : Fin grid0.N, win0_4.index t = ![t.val, 0, 0])

/-- Window 4's block at point `t` is sequence `t` of its argument. -/
theorem ib4 (c : Dev nD) (t : Fin cfg0.N) (r : Fin 128) (d : Fin 512) :
    iblk m c 4 t (ix3 0 r d) = m ((c : Thread nD τ).loc main_arg4) (ix3 ⟨t.val, t.isLt⟩ r d) := by
  unfold iblk
  refine congrArg (m ((c : Thread nD τ).loc main_arg4)) ?_
  funext a
  apply Fin.ext
  match a with
  | ⟨0, _⟩ => show win0_4.index t 0 * 1 + 1 * 0 = t.val; rw [idx4]; simp
  | ⟨1, _⟩ => show win0_4.index t 1 * 128 + 1 * r.val = r.val; rw [idx4]; simp
  | ⟨2, _⟩ => show win0_4.index t 2 * 512 + 1 * d.val = d.val; rw [idx4]; simp

theorem idx5 : ∀ t : Fin cfg0.N, win0_5.index t = ![t.val, 0, 0] :=
  (by decide +kernel : ∀ t : Fin grid0.N, win0_5.index t = ![t.val, 0, 0])

/-- Output window 5's block at point `t`, of any array. -/
theorem rd5 (f : S32x64x512.Idx → EReal) (t : Fin cfg0.N) (r : Fin 64) (d : Fin 512) :
    ((cfg0.win 5).blk t).view.read (Elt Ideal) f (ix3 0 r d) = f (ix3 ⟨t.val, t.isLt⟩ r d) := by
  refine congrArg f ?_
  funext a
  apply Fin.ext
  match a with
  | ⟨0, _⟩ => show win0_5.index t 0 * 1 + 1 * 0 = t.val; rw [idx5]; simp
  | ⟨1, _⟩ => show win0_5.index t 1 * 64 + 1 * r.val = r.val; rw [idx5]; simp
  | ⟨2, _⟩ => show win0_5.index t 2 * 512 + 1 * d.val = d.val; rw [idx5]; simp

theorem idx6 : ∀ t : Fin cfg0.N, win0_6.index t = ![t.val, 0, 0] :=
  (by decide +kernel : ∀ t : Fin grid0.N, win0_6.index t = ![t.val, 0, 0])

/-- Output window 6's block at point `t`, of any array. -/
theorem rd6 (f : S32x64x128.Idx → EReal) (t : Fin cfg0.N) (r : Fin 64) (d : Fin 128) :
    ((cfg0.win 6).blk t).view.read (Elt Ideal) f (ix3 0 r d) = f (ix3 ⟨t.val, t.isLt⟩ r d) := by
  refine congrArg f ?_
  funext a
  apply Fin.ext
  match a with
  | ⟨0, _⟩ => show win0_6.index t 0 * 1 + 1 * 0 = t.val; rw [idx6]; simp
  | ⟨1, _⟩ => show win0_6.index t 1 * 64 + 1 * r.val = r.val; rw [idx6]; simp
  | ⟨2, _⟩ => show win0_6.index t 2 * 128 + 1 * d.val = d.val; rw [idx6]; simp

theorem idx7 : ∀ t : Fin cfg0.N, win0_7.index t = ![t.val, 0, 0] :=
  (by decide +kernel : ∀ t : Fin grid0.N, win0_7.index t = ![t.val, 0, 0])

/-- Output window 7's block at point `t`, of any array. -/
theorem rd7 (f : S32x2048x512.Idx → EReal) (t : Fin cfg0.N) (r : Fin 2048) (d : Fin 512) :
    ((cfg0.win 7).blk t).view.read (Elt Ideal) f (ix3 0 r d) = f (ix3 ⟨t.val, t.isLt⟩ r d) := by
  refine congrArg f ?_
  funext a
  apply Fin.ext
  match a with
  | ⟨0, _⟩ => show win0_7.index t 0 * 1 + 1 * 0 = t.val; rw [idx7]; simp
  | ⟨1, _⟩ => show win0_7.index t 1 * 2048 + 1 * r.val = r.val; rw [idx7]; simp
  | ⟨2, _⟩ => show win0_7.index t 2 * 512 + 1 * d.val = d.val; rw [idx7]; simp

theorem idx8 : ∀ t : Fin cfg0.N, win0_8.index t = ![t.val, 0, 0] :=
  (by decide +kernel : ∀ t : Fin grid0.N, win0_8.index t = ![t.val, 0, 0])

/-- Output window 8's block at point `t`, of any array. -/
theorem rd8 (f : S32x2048x512.Idx → EReal) (t : Fin cfg0.N) (r : Fin 2048) (d : Fin 512) :
    ((cfg0.win 8).blk t).view.read (Elt Ideal) f (ix3 0 r d) = f (ix3 ⟨t.val, t.isLt⟩ r d) := by
  refine congrArg f ?_
  funext a
  apply Fin.ext
  match a with
  | ⟨0, _⟩ => show win0_8.index t 0 * 1 + 1 * 0 = t.val; rw [idx8]; simp
  | ⟨1, _⟩ => show win0_8.index t 1 * 2048 + 1 * r.val = r.val; rw [idx8]; simp
  | ⟨2, _⟩ => show win0_8.index t 2 * 512 + 1 * d.val = d.val; rw [idx8]; simp

theorem N32 (b : Fin 32) : b.val < cfg0.N := b.isLt

/-- The attention output of sequence `b`, as its point's payload. -/
theorem arr5 (c : Dev nD) (b : Fin 32) (r : Fin 64) (d : Fin 512) :
    (dats m 0 c).arrAt 5 cfg0.N (ix3 b r d)
      = k0_pay6 (k0_pay9 (iblk m c 2 ⟨b.val, N32 b⟩)) (k0_pay11 (iblk m c 4 ⟨b.val, N32 b⟩)) (k0_pay16 (iblk m c 0 ⟨b.val, N32 b⟩)) M
          (B (iblk m c 0 ⟨b.val, N32 b⟩) (iblk m c 1 ⟨b.val, N32 b⟩)) (k0_pay20 (k0_pay10 (iblk m c 3 ⟨b.val, N32 b⟩))) (ix3 0 r d) := by
  have h := congrFun (Value.blocks5 m c ⟨b.val, N32 b⟩ (flush0_5 _)) (ix3 0 r d)
  rw [rd5] at h
  refine h.trans ?_
  rw [Value.flushed5_A]
  unfold out0_A_5 kernelRun0_A
  simp only [View.readAt_eq_ld, Memref.IsWhole.read_unread, View.read_writes_junk_eq_canon]
  rw [View.canon_unit_zero (S := S1x64x512) hz3]
  unfold kernelRun0_A.sl.r_1 kernelRun0_A.sl.r_3 kernelRun0_A.sl.r_4 kernelRun0_A.sl.r_6 kernelRun0_A.sl.r_7 kernelRun0_A.sl.r_8
  unfold kernelRun0_A.sl.r kernelRun0_A.sl.r_2 kernelRun0_A.sl.r_4 kernelRun0_A.sl.r_5
  simp only [View.readAt_eq_ld, Memref.IsWhole.read_unread, View.ld_unit_zero (S := S1x2048x512) hz3,
    View.ld_unit_zero (S := S1x128x512) hz3, View.ld_unit_zero (S := S1x64x512) hz3]
  rfl

/-- Its log-sum-exp. -/
theorem arr6 (c : Dev nD) (b : Fin 32) (r : Fin 64) (d : Fin 128) :
    (dats m 0 c).arrAt 6 cfg0.N (ix3 b r d)
      = k0_pay7 (k0_pay16 (iblk m c 0 ⟨b.val, N32 b⟩)) M
          (B (iblk m c 0 ⟨b.val, N32 b⟩) (iblk m c 1 ⟨b.val, N32 b⟩)) (k0_pay20 (k0_pay10 (iblk m c 3 ⟨b.val, N32 b⟩))) (ix3 0 r d) := by
  have h := congrFun (Value.blocks6 m c ⟨b.val, N32 b⟩ (flush0_6 _)) (ix3 0 r d)
  rw [rd6] at h
  refine h.trans ?_
  rw [Value.flushed6_A]
  unfold out0_A_6 kernelRun0_A
  simp only [View.readAt_eq_ld, Memref.IsWhole.read_unread, View.read_writes_junk_eq_canon]
  rw [View.canon_unit_zero (S := S1x64x128) hz3]
  unfold kernelRun0_A.sl.r_4 kernelRun0_A.sl.r_6 kernelRun0_A.sl.r_7 kernelRun0_A.sl.r_8
  unfold kernelRun0_A.sl.r kernelRun0_A.sl.r_2 kernelRun0_A.sl.r_4 kernelRun0_A.sl.r_5
  simp only [View.readAt_eq_ld, Memref.IsWhole.read_unread, View.ld_unit_zero (S := S1x2048x512) hz3,
    View.ld_unit_zero (S := S1x128x512) hz3, View.ld_unit_zero (S := S1x64x512) hz3]
  rfl

/-- Two stores, rows 0 … 2039 and then rows 2040 … 2047, read at a row. -/
theorem two_rows (hA hB) (u : S1x2040x512.Idx → EReal) (v : S1x8x512.Idx → EReal) (r : Fin 2048) (d : Fin 512) :
    View.canon (Val := Elt Ideal) (s := S1x2048x512) (e := .f32)
      [⟨Rect.unit ![0, 2040, 0] ![1, 8, 512] hB, v⟩, ⟨Rect.unit ![0, 0, 0] ![1, 2040, 512] hA, u⟩] (ix3 0 r d)
      = if h : r.val < 2040 then u (ix3 0 ⟨r.val, h⟩ d) else v (ix3 0 ⟨r.val - 2040, by omega⟩ d) := by
  by_cases h : r.val < 2040
  · rw [dif_pos h]
    refine (View.canon_cons_of_not_mem _ _ ?_).trans ?_
    · intro hm
      have h' : 2040 ≤ r.val := ((Rect.mem_set_unit (inb := hB)).mp hm 1).1
      omega
    · have e : (ix3 0 r d : S1x2048x512.Idx) = (Rect.unit ![0, 0, 0] ![1, 2040, 512] hA).emb (ix3 0 ⟨r.val, h⟩ d) := by
        funext a
        apply Fin.ext
        match a with
        | ⟨0, _⟩ => rfl
        | ⟨1, _⟩ => show r.val = 0 + 1 * r.val; omega
        | ⟨2, _⟩ => show d.val = 0 + 1 * d.val; omega
      rw [e]
      exact View.canon_cons_emb _ _ _ _
  · rw [dif_neg h]
    have e : (ix3 0 r d : S1x2048x512.Idx) = (Rect.unit ![0, 2040, 0] ![1, 8, 512] hB).emb (ix3 0 ⟨r.val - 2040, by omega⟩ d) := by
      funext a
      apply Fin.ext
      match a with
      | ⟨0, _⟩ => rfl
      | ⟨1, _⟩ => show r.val = 2040 + 1 * (r.val - 2040); omega
      | ⟨2, _⟩ => show d.val = 0 + 1 * d.val; omega
    rw [e]
    exact View.canon_cons_emb _ _ _ _

/-- The moved-on buffer of keys. -/
theorem arr7 (c : Dev nD) (b : Fin 32) (r : Fin 2048) (d : Fin 512) :
    (dats m 0 c).arrAt 7 cfg0.N (ix3 b r d)
      = if h : r.val < 2040 then m ((c : Thread nD τ).loc main_arg1) (ix3 b ⟨r.val + 8, by omega⟩ d)
        else m ((c : Thread nD τ).loc main_arg3) (ix3 b ⟨r.val - 2040, by omega⟩ d) := by
  have h := congrFun (Value.blocks7 m c ⟨b.val, N32 b⟩ (flush0_7 _)) (ix3 0 r d)
  rw [rd7] at h
  refine h.trans ?_
  rw [Value.flushed7_A]
  unfold out0_A_7 kernelRun0_A
  simp only [View.readAt_eq_ld, Memref.IsWhole.read_unread, View.ld_unit_zero (S := S1x2048x512) hz3,
    View.ld_unit_zero (S := S1x128x512) hz3, View.read_writes_junk_eq_canon]
  refine (two_rows _ _ _ _ r d).trans ?_
  by_cases h : r.val < 2040
  · rw [dif_pos h, dif_pos h, p12_at, ib1]
    exact congrArg (fun n => m ((c : Thread nD τ).loc main_arg1) (ix3 b n d)) (Fin.ext (show 8 + r.val = r.val + 8 by omega))
  · rw [dif_neg h, dif_neg h, p13_at, ib3]

/-- The moved-on buffer of values. -/
theorem arr8 (c : Dev nD) (b : Fin 32) (r : Fin 2048) (d : Fin 512) :
    (dats m 0 c).arrAt 8 cfg0.N (ix3 b r d)
      = if h : r.val < 2040 then m ((c : Thread nD τ).loc main_arg2) (ix3 b ⟨r.val + 8, by omega⟩ d)
        else m ((c : Thread nD τ).loc main_arg4) (ix3 b ⟨r.val - 2040, by omega⟩ d) := by
  have h := congrFun (Value.blocks8 m c ⟨b.val, N32 b⟩ (flush0_8 _)) (ix3 0 r d)
  rw [rd8] at h
  refine h.trans ?_
  rw [Value.flushed8_A]
  unfold out0_A_8 kernelRun0_A
  simp only [View.readAt_eq_ld, Memref.IsWhole.read_unread, View.ld_unit_zero (S := S1x2048x512) hz3,
    View.ld_unit_zero (S := S1x128x512) hz3, View.read_writes_junk_eq_canon]
  refine (two_rows _ _ _ _ r d).trans ?_
  by_cases h : r.val < 2040
  · rw [dif_pos h, dif_pos h, p14_at, ib2]
    exact congrArg (fun n => m ((c : Thread nD τ).loc main_arg2) (ix3 b n d)) (Fin.ext (show 8 + r.val = r.val + 8 by omega))
  · rw [dif_neg h, dif_neg h, p15_at, ib4]

end Arrays

end Cert.Proof.DilKer
-- ==== Proof.DilRef.lean ====
module

public import proofs.«01_k».proof.Proof.Gen.ReferenceIdeal.Read
public import proofs.«01_k».proof.Proof.DilMath

@[expose] public section

set_option maxRecDepth 16384

noncomputable section

open Idealize.ShloMosaic Idealize.ShloMosaic.TcCoe Idealize.SL.Sem

namespace Cert.Proof.DilRef

open Cert.ReferenceIdeal Cert.ReferenceIdeal.Gen Cert.ReferenceIdeal.Read Cert.Proof.DilMath

/-- The gather read at an index: row `idx[r, m]`, read signed and clamped into the 2056 rows. -/
theorem gather_at (x : S32x2056x512.Idx → EReal) (idx : IVec S64x129x1 32) (b : Fin 32) (r : Fin 64) (k : Fin 129) (d : Fin 512) :
    Host.gather gather_S32x2056x512_S64x129x1_S32x64x129x512_03_1_n_n_1_2_321512 x idx (ix4 b r k d)
      = x (ix3 b ⟨min (idx (ix3 r k 0)).toInt.toNat 2055, by omega⟩ d) := by
  unfold Host.gather
  congr 1
  funext a
  refine Fin.ext ?_
  show gather_S32x2056x512_S64x129x1_S32x64x129x512_03_1_n_n_1_2_321512.start (ix4 b r k d) idx a
    + gather_S32x2056x512_S64x129x1_S32x64x129x512_03_1_n_n_1_2_321512.batchCoord (ix4 b r k d) a
    + gather_S32x2056x512_S64x129x1_S32x64x129x512_03_1_n_n_1_2_321512.offCoord (ix4 b r k d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.batchCoord GatherDims.offCoord
    rw [dif_neg (by decide), dif_neg (by decide), dif_pos (by decide), Nat.zero_add]
    rfl
  · unfold GatherDims.start GatherDims.batchCoord GatherDims.offCoord
    rw [dif_pos (by decide), dif_neg (by decide), dif_neg (by decide)]
    have hsi : gather_S32x2056x512_S64x129x1_S32x64x129x512_03_1_n_n_1_2_321512.siIdx (ix4 b r k d)
        ⟨List.idxOf (1 : Fin 3) gather_S32x2056x512_S64x129x1_S32x64x129x512_03_1_n_n_1_2_321512.startIndexMap,
          List.idxOf_lt_length_iff.2 (by decide)⟩ = ix3 r k 0 := by
      funext c
      refine Fin.ext ?_
      match c with
      | ⟨0, _⟩ => rfl
      | ⟨1, _⟩ => rfl
      | ⟨2, _⟩ => rfl
    exact congrArg (fun w : BitVec 32 => min w.toInt.toNat 2055) (congrArg idx hsi)
  · unfold GatherDims.start GatherDims.batchCoord GatherDims.offCoord
    rw [dif_neg (by decide), dif_neg (by decide), dif_pos (by decide), Nat.zero_add]
    rfl

theorem idx_word : ∀ i : Fin 8, ∀ k : Fin 129,
    (Scalar.select (IntOp.cmpi .slt (IntOp.subi (IntOp.addi 2048#32 (BitVec.ofNat 32 i.val)) (IntOp.muli 16#32 (BitVec.ofNat 32 k.val))) 0#32)
      (IntOp.addi (IntOp.subi (IntOp.addi 2048#32 (BitVec.ofNat 32 i.val)) (IntOp.muli 16#32 (BitVec.ofNat 32 k.val))) 2056#32)
      (IntOp.subi (IntOp.addi 2048#32 (BitVec.ofNat 32 i.val)) (IntOp.muli 16#32 (BitVec.ofNat 32 k.val)))).toInt.toNat = 2048 + i.val - 16 * k.val := by
  decide +kernel

theorem rem8 : ∀ r : Fin 64, IntOp.remsi .host (BitVec.ofNat 32 r.val) 8#32 = BitVec.ofNat 32 (r.val % 8) := by decide +kernel

theorem idx22 (r : Fin 64) (k : Fin 129) : (val_main_v22 (F := Ideal) (ix3 r k 0)).toInt.toNat = 2048 + r.val % 8 - 16 * k.val := by
  rw [← idx_word ⟨r.val % 8, by omega⟩ k]
  simp only [← rem8]
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_c_0, val_main_c_1, val_main_c_2, val_main_c_3]

theorem idx29 (r : Fin 64) (k : Fin 129) : (val_main_v29 (F := Ideal) (ix3 r k 0)).toInt.toNat = 2048 + r.val % 8 - 16 * k.val := by
  rw [← idx_word ⟨r.val % 8, by omega⟩ k]
  simp only [← rem8]
  pointwise [val_main_v29, val_main_v28, val_main_v27, val_main_v26, val_main_v25, val_main_v24, val_main_v16, val_main_v15, val_main_v14, val_main_v13, val_main_v12, val_main_v11, val_main_v10, val_main_v9, val_main_v8, val_main_v7, val_main_v6, val_main_v5, val_main_v4, val_main_c, val_main_c_0, val_main_c_1, val_main_c_4, val_main_c_5]

variable (x0 : (⟨S32x64x512, .bf16⟩ : BufTy).Contents (Elt Ideal)) (x1 x2 : (⟨S32x2048x512, .f32⟩ : BufTy).Contents (Elt Ideal))
  (x3 x4 : (⟨S32x128x512, .f32⟩ : BufTy).Contents (Elt Ideal))

theorem v1_at (b : Fin 32) (j : Fin 2056) (d : Fin 512) : val_main_v1 (F := Ideal) x1 x3 (ix3 b j d)
    = if h : j.val < 2048 then x1 (ix3 b ⟨j.val, h⟩ d) else x3 (ix3 b ⟨j.val - 2048, by omega⟩ d) := by
  pointwise [val_main_v1, val_main_v0]

theorem v3_at (b : Fin 32) (j : Fin 2056) (d : Fin 512) : val_main_v3 (F := Ideal) x2 x4 (ix3 b j d)
    = if h : j.val < 2048 then x2 (ix3 b ⟨j.val, h⟩ d) else x4 (ix3 b ⟨j.val - 2048, by omega⟩ d) := by
  pointwise [val_main_v3, val_main_v2]

/-- Laid after one another and read at the positions 16 k before token `r`'s, buffer and new rows give what `pick` does. -/
theorem cat_pick (f : Fin 2048 → EReal) (g : Fin 128 → EReal) (r : Fin 64) (k : Fin 129) (n : Fin 2056)
    (hn : n.val = 2048 + r.val % 8 - 16 * k.val) :
    (if h : n.val < 2048 then f ⟨n.val, h⟩ else g ⟨n.val - 2048, by omega⟩) = pick (tok r) f g k := by
  revert hn
  refine Fin.cases (fun hn => ?_) (fun k hn => ?_) k
  · rw [dif_neg (by rw [hn]; simp), pick_zero]
    congr 1
    apply Fin.ext
    simp only [newRow, tok, hn]
    simp
  · rw [dif_pos (by rw [hn]; simp only [Fin.val_succ]; omega), pick_succ]
    congr 1
    apply Fin.ext
    simp only [pos, tok, hn, Fin.val_succ]

theorem v23_at (b : Fin 32) (r : Fin 64) (k : Fin 129) (d : Fin 512) : val_main_v23 (F := Ideal) x1 x3 (ix4 b r k d)
    = pick (tok r) (fun j => x1 (ix3 b j d)) (fun j => x3 (ix3 b j d)) k := by
  unfold val_main_v23
  rw [gather_at, v1_at]
  refine cat_pick (fun j => x1 (ix3 b j d)) (fun j => x3 (ix3 b j d)) r k _ ?_
  show min _ 2055 = _
  rw [idx22]
  omega

theorem v30_at (b : Fin 32) (r : Fin 64) (k : Fin 129) (d : Fin 512) : val_main_v30 (F := Ideal) x2 x4 (ix4 b r k d)
    = pick (tok r) (fun j => x2 (ix3 b j d)) (fun j => x4 (ix3 b j d)) k := by
  unfold val_main_v30
  rw [gather_at, v3_at]
  refine cat_pick (fun j => x2 (ix3 b j d)) (fun j => x4 (ix3 b j d)) r k _ ?_
  show min _ 2055 = _
  rw [idx29]
  omega

/-- The score of row `r` against a buffer key, -/
def zb (b : Fin 32) (r : Fin 64) (j : Fin 2048) : EReal := ∑ x : Fin 512, x0 (ix3 b r x) * x1 (ix3 b j x)

/-- and against a new key. -/
def zn (b : Fin 32) (r : Fin 64) (j : Fin 128) : EReal := ∑ x : Fin 512, x0 (ix3 b r x) * x3 (ix3 b j x)

/-- The reference's scores of row `r`. -/
theorem v32_at (b : Fin 32) (r : Fin 64) (k : Fin 129) : val_main_v32 (F := Ideal) x0 x1 x3 (ix3 b r k)
    = pick (tok r) (zb x0 x1 b r) (zn x0 x3 b r) k := by
  pointwise [val_main_v32, val_main_v31]
  simp only [v23_at]
  refine Fin.cases ?_ (fun k => ?_) k <;> rfl

theorem cst_bot : val_main_cst (F := Ideal) (Shape.Idx.first h_S_) = (⊥ : EReal) := by
  show Ideal.ofBits .f32 0xFF800000#32 = ⊥
  simp [Ideal.ofBits, Ideal.ieee]

theorem cst_zero : val_main_cst_6 (F := Ideal) (Shape.Idx.first h_S_) = (0 : EReal) := by
  show Ideal.ofBits .f32 0x00000000#32 = 0
  simp

/-- The reference's largest score of a row. -/
def mxOf (b : Fin 32) (r : Fin 64) : EReal := Finset.univ.fold max ⊥ (pick (tok r) (zb x0 x1 b r) (zn x0 x3 b r))

/-- The reference's log-sum-exp of a row. -/
def lseOf (b : Fin 32) (r : Fin 64) : EReal :=
  mxOf x0 x1 x3 b r + Ideal.log (∑ k, Ideal.exp (pick (tok r) (zb x0 x1 b r) (zn x0 x3 b r) k - mxOf x0 x1 x3 b r))

theorem v33_at (b : Fin 32) (r : Fin 64) : val_main_v33 (F := Ideal) x0 x1 x3 (ix2 b r) = mxOf x0 x1 x3 b r := by
  pointwise [val_main_v33]
  simp only [v32_at, cst_bot]
  rfl

theorem v40_at (b : Fin 32) (r : Fin 64) : val_main_v40 (F := Ideal) x0 x1 x3 (ix2 b r) = lseOf x0 x1 x3 b r := by
  pointwise [val_main_v40, val_main_v39, val_main_v38, val_main_v37, val_main_v36, val_main_v35, val_main_v34]
  simp only [v32_at, v33_at, cst_zero, zero_add]
  rfl

/-- The reference's attention output; -/
theorem v45_at (b : Fin 32) (r : Fin 64) (d : Fin 512) : val_main_v45 (F := Ideal) x0 x1 x2 x3 x4 (ix3 b r d)
    = ∑ k, Ideal.exp (pick (tok r) (zb x0 x1 b r) (zn x0 x3 b r) k - lseOf x0 x1 x3 b r)
        * pick (tok r) (fun j => x2 (ix3 b j d)) (fun j => x4 (ix3 b j d)) k := by
  pointwise [val_main_v45, val_main_v44, val_main_v43, val_main_v42, val_main_v41]
  simp only [v32_at, v40_at, v30_at]

/-- its log-sum-exp, on every lane; -/
theorem v47_at (b : Fin 32) (r : Fin 64) (d : Fin 128) : val_main_v47 (F := Ideal) x0 x1 x3 (ix3 b r d) = lseOf x0 x1 x3 b r := by
  pointwise [val_main_v47, val_main_v46]
  exact v40_at x0 x1 x3 b r

/-- the buffer of keys moved on by the eight new ones; -/
theorem v48_at (b : Fin 32) (r : Fin 2048) (d : Fin 512) : val_main_v48 (F := Ideal) x1 x3 (ix3 b r d)
    = if h : r.val < 2040 then x1 (ix3 b ⟨r.val + 8, by omega⟩ d) else x3 (ix3 b ⟨r.val - 2040, by omega⟩ d) := by
  pointwise [val_main_v48]
  rw [v1_at]
  by_cases h : r.val < 2040
  · rw [dif_pos h, dif_pos (show 8 + r.val < 2048 by omega)]
    exact congrArg (fun n => x1 (ix3 b n d)) (Fin.ext (show 8 + r.val = r.val + 8 by omega))
  · rw [dif_neg h, dif_neg (show ¬ 8 + r.val < 2048 by omega)]
    exact congrArg (fun n => x3 (ix3 b n d)) (Fin.ext (show 8 + r.val - 2048 = r.val - 2040 by omega))

/-- and the buffer of values likewise. -/
theorem v49_at (b : Fin 32) (r : Fin 2048) (d : Fin 512) : val_main_v49 (F := Ideal) x2 x4 (ix3 b r d)
    = if h : r.val < 2040 then x2 (ix3 b ⟨r.val + 8, by omega⟩ d) else x4 (ix3 b ⟨r.val - 2040, by omega⟩ d) := by
  pointwise [val_main_v49]
  rw [v3_at]
  by_cases h : r.val < 2040
  · rw [dif_pos h, dif_pos (show 8 + r.val < 2048 by omega)]
    exact congrArg (fun n => x2 (ix3 b n d)) (Fin.ext (show 8 + r.val = r.val + 8 by omega))
  · rw [dif_neg h, dif_neg (show ¬ 8 + r.val < 2048 by omega)]
    exact congrArg (fun n => x4 (ix3 b n d)) (Fin.ext (show 8 + r.val - 2048 = r.val - 2040 by omega))

end Cert.Proof.DilRef
-- ==== Proof.DilClaim.lean ====
module

public import proofs.«01_k».proof.Defs
public import proofs.«01_k».proof.Proof.Gen.Kernel.Frame
public import proofs.«01_k».proof.Proof.DilKer
public import proofs.«01_k».proof.Proof.DilRef
public import proofs.«01_k».proof.Proof.Gen.Pre_finite_qk
public import proofs.«01_k».proof.Proof.Gen.ReferenceIdeal.Run
public import Idealize.ShloMosaic.Lib.ReduceAll
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.DilClaim

open Cert.Proof.DilMath

/-! ## The precondition -/

/-- An extended real of magnitude below infinity is a real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = r := by
  have e : Ideal.ofBits .f32 0x7F800000#32 = (⊤ : EReal) := by simp [Ideal.ofBits, Ideal.ieee]
  rw [e] at h
  induction x with
  | bot =>
    have h' : Ideal.cmp .olt (max (⊥ : EReal) (-⊥)) ⊤ = 1#1 := h
    simp [Ideal.cmp] at h'
  | coe r => exact ⟨r, rfl⟩
  | top =>
    have h' : Ideal.cmp .olt (max (⊤ : EReal) (-⊤)) ⊤ = 1#1 := h
    simp [Ideal.cmp] at h'

/-- A product of finite rows is finite. -/
theorem dot_real {n : ℕ} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [coe_sum]
  simp only [ha, hb, EReal.coe_mul]

section

variable (x0 : FVec Ideal Cert.Pre_finite_qk.S32x64x512 .bf16) (x1 x2 : FVec Ideal Cert.Pre_finite_qk.S32x2048x512 .f32)
  (x3 x4 : FVec Ideal Cert.Pre_finite_qk.S32x128x512 .f32)

/-- What the precondition says: queries, buffered and new keys are real. -/
theorem pre_real (h : Cert.Pre_finite_qk.fn (F := Ideal) x0 x1 x2 x3 x4 = fun _ => 1#1) :
    (∀ i, ∃ r : ℝ, x0 i = r) ∧ (∀ i, ∃ r : ℝ, x1 i = r) ∧ (∀ i, ∃ r : ℝ, x3 i = r) := by
  have h0 := congrFun h (fun a => a.elim0)
  unfold Cert.Pre_finite_qk.fn at h0
  simp only at h0
  have hand : ∀ a b : BitVec 1, IntOp.andi a b = 1#1 → a = 1#1 ∧ b = 1#1 := by decide
  obtain ⟨h1, h3⟩ := hand _ _ h0
  obtain ⟨h1, h2⟩ := hand _ _ h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end

/-! ## The claim -/

section

open Cert.KernelIdeal Cert.KernelIdeal.Gen

variable (m : (ℓ : Loc nD τ sig) → Buf (Elt Ideal) ℓ) (m' : (ℓ : Loc Cert.ReferenceIdeal.nD Cert.ReferenceIdeal.τ Cert.ReferenceIdeal.sig) → Buf (Elt Ideal) ℓ)

/-- The five arguments of the kernel, on a device. -/
abbrev A0 (c : Dev nD) : S32x64x512.Idx → EReal := m ((c.tc : Thread nD τ).loc main_arg0)
abbrev A1 (c : Dev nD) : S32x2048x512.Idx → EReal := m ((c.tc : Thread nD τ).loc main_arg1)
abbrev A2 (c : Dev nD) : S32x2048x512.Idx → EReal := m ((c.tc : Thread nD τ).loc main_arg2)
abbrev A3 (c : Dev nD) : S32x128x512.Idx → EReal := m ((c.tc : Thread nD τ).loc main_arg3)
abbrev A4 (c : Dev nD) : S32x128x512.Idx → EReal := m ((c.tc : Thread nD τ).loc main_arg4)

/-- An index of three coordinates, taken apart. -/
theorem ex3 {n k l : ℕ} (i : (⟨3, ![n, k, l]⟩ : Shape).Idx) : ∃ (a : Fin n) (b : Fin k) (c : Fin l), i = ix3 a b c :=
  ⟨i 0, i 1, i 2, eq_ix3 i⟩

/-- The scores of a point's blocks are the scores of the arguments' sequence. -/
theorem zb_eq (c : Dev nD) (b : Fin 32) (r : Fin 64) :
    DilKer.zb (iblk m c 0 ⟨b.val, DilKer.N32 b⟩) (iblk m c 1 ⟨b.val, DilKer.N32 b⟩) r = DilRef.zb (A0 m c) (A1 m c) b r := by
  funext j
  unfold DilKer.zb DilRef.zb
  refine Finset.sum_congr rfl fun x _ => ?_
  rw [DilKer.ib0, DilKer.ib1]

theorem zn_eq (c : Dev nD) (b : Fin 32) (r : Fin 64) :
    DilKer.zn (iblk m c 0 ⟨b.val, DilKer.N32 b⟩) (iblk m c 3 ⟨b.val, DilKer.N32 b⟩) r = DilRef.zn (A0 m c) (A3 m c) b r := by
  funext j
  unfold DilKer.zn DilRef.zn
  refine Finset.sum_congr rfl fun x _ => ?_
  rw [DilKer.ib0, DilKer.ib3]

theorem lse_eq (c : Dev nD) (b : Fin 32) (r : Fin 64) :
    DilKer.mxOf (iblk m c 0 ⟨b.val, DilKer.N32 b⟩) (iblk m c 1 ⟨b.val, DilKer.N32 b⟩) (iblk m c 3 ⟨b.val, DilKer.N32 b⟩) r
      + Ideal.log (DilKer.denOf (iblk m c 0 ⟨b.val, DilKer.N32 b⟩) (iblk m c 1 ⟨b.val, DilKer.N32 b⟩) (iblk m c 3 ⟨b.val, DilKer.N32 b⟩) r)
      = DilRef.lseOf (A0 m c) (A1 m c) (A3 m c) b r := by
  unfold DilKer.denOf DilKer.mxOf
  rw [zb_eq, zn_eq]
  rfl

/-- The kernel's attention output is the reference's. -/
theorem res0 (c : Dev nD) (h0 : ∀ i, ∃ r : ℝ, A0 m c i = r) (h1 : ∀ i, ∃ r : ℝ, A1 m c i = r) (h3 : ∀ i, ∃ r : ℝ, A3 m c i = r) :
    (dats m 0 c).arrAt 5 cfg0.N = Cert.ReferenceIdeal.Read.val_main_v45 (F := Ideal) (A0 m c) (A1 m c) (A2 m c) (A3 m c) (A4 m c) := by
  funext i
  obtain ⟨b, r, d, rfl⟩ := ex3 i
  refine (DilKer.arr5 m c b r d).trans (Eq.trans ?_ (DilRef.v45_at _ _ _ _ _ b r d).symm)
  rw [DilKer.o_at, lse_eq, zb_eq, zn_eq]
  · simp only [DilKer.ib2, DilKer.ib4]
  · intro j
    rw [zb_eq]
    exact dot_real _ _ (fun x => h0 _) (fun x => h1 _)
  · intro j
    rw [zn_eq]
    exact dot_real _ _ (fun x => h0 _) (fun x => h3 _)

/-- Its log-sum-exp is the reference's. -/
theorem res1 (c : Dev nD) :
    (dats m 0 c).arrAt 6 cfg0.N = Cert.ReferenceIdeal.Read.val_main_v47 (F := Ideal) (A0 m c) (A1 m c) (A3 m c) := by
  funext i
  obtain ⟨b, r, d, rfl⟩ := ex3 i
  refine (DilKer.arr6 m c b r d).trans (Eq.trans ?_ (DilRef.v47_at _ _ _ b r d).symm)
  rw [DilKer.l_at, lse_eq]

/-- The moved-on buffers are the reference's. -/
theorem res2 (c : Dev nD) :
    (dats m 0 c).arrAt 7 cfg0.N = Cert.ReferenceIdeal.Read.val_main_v48 (F := Ideal) (A1 m c) (A3 m c) := by
  funext i
  obtain ⟨b, r, d, rfl⟩ := ex3 i
  exact (DilKer.arr7 m c b r d).trans (DilRef.v48_at _ _ b r d).symm

theorem res3 (c : Dev nD) :
    (dats m 0 c).arrAt 8 cfg0.N = Cert.ReferenceIdeal.Read.val_main_v49 (F := Ideal) (A2 m c) (A4 m c) := by
  funext i
  obtain ⟨b, r, d, rfl⟩ := ex3 i
  exact (DilKer.arr8 m c b r d).trans (DilRef.v49_at _ _ b r d).symm

end

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_qk := fun m ρ _ => Cert.KernelIdeal.Gen.frame m ρ

theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ri_pre : Cert.quiescent_ReferenceIdeal_pre_finite_qk := fun m ρ _ => frame_ri m ρ trivial

/-- On finite queries and keys the kernel's four result arrays are the reference's. -/
theorem algebraic : Cert.algebraic_KernelIdeal_ReferenceIdeal_pre_finite_qk := by
  intro m ρ m' ρ' hpre hagree
  have hr := fun c => pre_real _ _ _ _ _ (hpre c)
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · rw [Cert.ReferenceIdeal.Read.val_main_v45_eq, (hagree c).1, (hagree c).2.1, (hagree c).2.2.1, (hagree c).2.2.2.1, (hagree c).2.2.2.2]
    exact (res0 m c (hr c).1 (hr c).2.1 (hr c).2.2).symm
  · rw [Cert.ReferenceIdeal.Read.val_main_v47_eq, (hagree c).1, (hagree c).2.1, (hagree c).2.2.2.1]
    exact (res1 m c).symm
  · rw [(hagree c).2.1, (hagree c).2.2.2.1]
    exact (res2 m c).symm
  · rw [(hagree c).2.2.1, (hagree c).2.2.2.2]
    exact (res3 m c).symm

end Cert.Proof.DilClaim
-- ==== Proof.ExpRunI.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

/-! The five ways the experts kernel's body can run at a grid point, each with what the accumulator and the
    output block hold afterwards, for any number of used tiles in the third table. -/

noncomputable section

namespace ExpRunI

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three tables as the body is handed them. -/
abbrev tb0 : Memref sig .tc .smem S40 .i32 := Memref.whole main_arg0
abbrev htb0 : tb0.IsWhole := Memref.isWhole_whole _
abbrev tb1 : Memref sig .tc .smem S40 .i32 := Memref.whole main_arg1
abbrev htb1 : tb1.IsWhole := Memref.isWhole_whole _
abbrev tb2 : Memref sig .tc .smem S1 .i32 := Memref.whole main_arg2
abbrev htb2 : tb2.IsWhole := Memref.isWhole_whole _

/-- The contents of a table's buffer on core `c`, and half a share of it. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The number of used tiles, as the body loads it from the third table. -/
abbrev nuOf (c : Dev nD) (x : TbBuf (F := F) c tb2) : BitVec 32 :=
  View.readAt (Elt F) tb2.view (Rect.unit (s := S1) ![0] S1.size inb_S1_S1_0).toLoadRect x (Shape.Idx.first (numel1_S1.symm ▸ Nat.one_pos))

/-- "This is the first chunk of the tile", "the last chunk of the tile". -/
abbrev isFirst (i : grid0.Coords) : Prop := (Scalar.cmpi .ne (Scalar.extui (Scalar.cmpi .eq (BitVec.ofNat 32 (i 1).val) 0#32)) 0#32) = 1#1
abbrev isLast (i : grid0.Coords) : Prop := k0_cond3 i = 1#1

theorem hz2 : (![0, 0] : Fin 2 → ℕ) = fun _ => 0 := by funext i; fin_cases i <;> rfl
theorem hz3 : (![0, 0, 0] : Fin 3 → ℕ) = fun _ => 0 := by funext i; fin_cases i <;> rfl

/-- A store over a whole block leaves its payload, -/
theorem read_one {S : Shape} {e : EltTy} {sp : Space} (v : View sig .tc sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_of_cover_last v f v v.junk _ L L (View.mem_set_unit_zero h inb), View.read_writes_junk_eq_canon,
    View.canon_cons_unit_zero h inb]

/-- and a load of a whole block reads it. -/
theorem ld_one {S : Shape} {e : EltTy} {sp : Space} (M : Memref sig .tc sp S e) (hM : M.IsWhole) {off : Fin S.rank → ℕ} (h : off = fun _ => 0)
    (inb : ∀ a, off a + S.size a ≤ S.size a) (x : Vec F S e) :
    View.readAt (Elt F) M.view (Rect.unit off S.size inb).toLoadRect (hM.unread x) = x := by
  rw [View.readAt_eq_ld, hM.read_unread, View.ld_unit_zero (S := S) h]

theorem pay2_congr {a a' : Vec F S1024x1024 .bf16} {b b' d d' : Vec F S1x1024x512 .f32} {s s' : Vec F S1024x1024 .f32} {w w' : Vec F S1x512x1024 .f32}
    (h1 : a = a') (h2 : b = b') (h3 : d = d') (h4 : s = s') (h5 : w = w') : k0_pay2 a b d s w = k0_pay2 a' b' d' s' w' := by
  subst h1 h2 h3 h4 h5; rfl

set_option maxHeartbeats 1000000 in
/-- A used tile's first chunk: the accumulator restarts. -/
theorem runA (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .f32) (xs : Vec F S1024x1024 .f32) (xt0 : TbBuf (F := F) c tb0) (xt1 : TbBuf (F := F) c tb1) (xt2 : TbBuf (F := F) c tb2)
    (hc0 : k0_cond1 i (nuOf c xt2) = 1#1) (hc1 : isFirst i) (hc2 : ¬isLast i) (hc3 : ¬(k0_cond4 i (nuOf c xt2) = 1#1)) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (xs) ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (k0_pay2 x0 x1 x2 k0_pay1 x3) ∗ tbPt c tb0 xt0 ∗ tbPt c tb1 xt1 ∗ tbPt c tb2 xt2) -∗ K ⟨⟩))
      ⊢ wp frame (wpE (defs₀ (F := F)) Variants.none c none) E (cc0_moe_experts i tb0 htb0 tb1 htb1 tb2 htb2 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hfs
  sl_exec (disch := first | sl_exact hc0 | sl_exact hc1 | sl_exact hc2 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [HS]
  · iexists _; isplitr; swap; · iexact HS
    ipureintro
    refine (read_one (S := S1024x1024) _ _ hz2 _ _ _).trans (pay2_congr (ld_one (S := S1024x1024) _ harg5 hz2 _ _) (ld_one (S := S1x1024x512) _ harg6 hz3 _ _) (ld_one (S := S1x1024x512) _ harg7 hz3 _ _) (View.readCov_unit_zero (S := S1024x1024) _ hz2 _ _) (ld_one (S := S1x512x1024) _ harg8 hz3 _ _))
  isplitl [HT0]; · iexact HT0
  isplitl [HT1]; · iexact HT1
  iexact HT2

set_option maxHeartbeats 1000000 in
/-- A used tile's middle chunk: the accumulator grows. -/
theorem runB (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .f32) (xs : Vec F S1024x1024 .f32) (xt0 : TbBuf (F := F) c tb0) (xt1 : TbBuf (F := F) c tb1) (xt2 : TbBuf (F := F) c tb2)
    (hc0 : k0_cond1 i (nuOf c xt2) = 1#1) (hc1 : ¬isFirst i) (hc2 : ¬isLast i) (hc3 : ¬(k0_cond4 i (nuOf c xt2) = 1#1)) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (xs) ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (k0_pay2 x0 x1 x2 xs x3) ∗ tbPt c tb0 xt0 ∗ tbPt c tb1 xt1 ∗ tbPt c tb2 xt2) -∗ K ⟨⟩))
      ⊢ wp frame (wpE (defs₀ (F := F)) Variants.none c none) E (cc0_moe_experts i tb0 htb0 tb1 htb1 tb2 htb2 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hfs
  sl_exec (disch := first | sl_exact hc0 | sl_exact hc1 | sl_exact hc2 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [HS]
  · iexists _; isplitr; swap; · iexact HS
    ipureintro
    refine (read_one (S := S1024x1024) _ _ hz2 _ _ _).trans (pay2_congr (ld_one (S := S1024x1024) _ harg5 hz2 _ _) (ld_one (S := S1x1024x512) _ harg6 hz3 _ _) (ld_one (S := S1x1024x512) _ harg7 hz3 _ _) (ld_one (S := S1024x1024) _ harg10 hz2 _ _) (ld_one (S := S1x512x1024) _ harg8 hz3 _ _))
  isplitl [HT0]; · iexact HT0
  isplitl [HT1]; · iexact HT1
  iexact HT2

set_option maxHeartbeats 1000000 in
/-- A used tile's last chunk: the accumulator grows and is stored. -/
theorem runC (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .f32) (xs : Vec F S1024x1024 .f32) (xt0 : TbBuf (F := F) c tb0) (xt1 : TbBuf (F := F) c tb1) (xt2 : TbBuf (F := F) c tb2)
    (hc0 : k0_cond1 i (nuOf c xt2) = 1#1) (hc1 : ¬isFirst i) (hc2 : isLast i) (hc3 : ¬(k0_cond4 i (nuOf c xt2) = 1#1)) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (xs) ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (k0_pay2 x0 x1 x2 xs x3) ∗ owns (c : Thread nD τ) arg10 fullShare (k0_pay2 x0 x1 x2 xs x3) ∗ tbPt c tb0 xt0 ∗ tbPt c tb1 xt1 ∗ tbPt c tb2 xt2) -∗ K ⟨⟩))
      ⊢ wp frame (wpE (defs₀ (F := F)) Variants.none c none) E (cc0_moe_experts i tb0 htb0 tb1 htb1 tb2 htb2 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hfs
  sl_exec (disch := first | sl_exact hc0 | sl_exact hc1 | sl_exact hc2 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; swap; · iexact H4
    ipureintro
    refine (read_one (S := S1024x1024) _ _ hz2 _ _ _).trans ((View.readCov_unit_zero (S := S1024x1024) _ hz2 _ _).trans ?_)
    exact pay2_congr (ld_one (S := S1024x1024) _ harg5 hz2 _ _) (ld_one (S := S1x1024x512) _ harg6 hz3 _ _) (ld_one (S := S1x1024x512) _ harg7 hz3 _ _) (ld_one (S := S1024x1024) _ harg10 hz2 _ _) (ld_one (S := S1x512x1024) _ harg8 hz3 _ _)
  isplitl [HS]
  · iexists _; isplitr; swap; · iexact HS
    ipureintro
    refine (read_one (S := S1024x1024) _ _ hz2 _ _ _).trans (pay2_congr (ld_one (S := S1024x1024) _ harg5 hz2 _ _) (ld_one (S := S1x1024x512) _ harg6 hz3 _ _) (ld_one (S := S1x1024x512) _ harg7 hz3 _ _) (ld_one (S := S1024x1024) _ harg10 hz2 _ _) (ld_one (S := S1x512x1024) _ harg8 hz3 _ _))
  isplitl [HT0]; · iexact HT0
  isplitl [HT1]; · iexact HT1
  iexact HT2

set_option maxHeartbeats 1000000 in
/-- An unused tile before its last chunk: nothing happens. -/
theorem runD (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .f32) (xs : Vec F S1024x1024 .f32) (xt0 : TbBuf (F := F) c tb0) (xt1 : TbBuf (F := F) c tb1) (xt2 : TbBuf (F := F) c tb2)
    (hc0 : ¬(k0_cond1 i (nuOf c xt2) = 1#1)) (hc3 : ¬(k0_cond4 i (nuOf c xt2) = 1#1)) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (xs) ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (xs) ∗ tbPt c tb0 xt0 ∗ tbPt c tb1 xt1 ∗ tbPt c tb2 xt2) -∗ K ⟨⟩))
      ⊢ wp frame (wpE (defs₀ (F := F)) Variants.none c none) E (cc0_moe_experts i tb0 htb0 tb1 htb1 tb2 htb2 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hfs
  sl_exec (disch := first | sl_exact hc0 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; · ipureintro; exact harg9.read_unread _
    iexact H4
  isplitl [HS]
  · iexists _; isplitr; · ipureintro; exact harg10.read_unread _
    iexact HS
  isplitl [HT0]; · iexact HT0
  isplitl [HT1]; · iexact HT1
  iexact HT2

set_option maxHeartbeats 1000000 in
/-- An unused tile's last chunk: zeros are stored. -/
theorem runE (c : Dev nD) (i : grid0.Coords) (arg5 : Memref sig .tc .vmem S1024x1024 .bf16) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x512x1024 .f32) (harg8 : arg8.IsWhole) (arg9 : Memref sig .tc .vmem S1024x1024 .f32) (harg9 : arg9.IsWhole) (arg10 : Memref sig .tc .vmem S1024x1024 .f32) (harg10 : arg10.IsWhole)
    (x0 : Vec F S1024x1024 .bf16) (x1 : Vec F S1x1024x512 .f32) (x2 : Vec F S1x1024x512 .f32) (x3 : Vec F S1x512x1024 .f32) (x4 : Vec F S1024x1024 .f32) (xs : Vec F S1024x1024 .f32) (xt0 : TbBuf (F := F) c tb0) (xt1 : TbBuf (F := F) c tb1) (xt2 : TbBuf (F := F) c tb2)
    (hc0 : ¬(k0_cond1 i (nuOf c xt2) = 1#1)) (hc3 : k0_cond4 i (nuOf c xt2) = 1#1) (E : Set ℕ) (K : PUnit → sProp 𝕄) :
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (x4) ∗ owns (c : Thread nD τ) arg10 fullShare (xs) ∗ tbPt c tb0 xt0 ∗ tbPt c tb1 xt1 ∗ tbPt c tb2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (k0_pay3) ∗ owns (c : Thread nD τ) arg10 fullShare (xs) ∗ tbPt c tb0 xt0 ∗ tbPt c tb1 xt1 ∗ tbPt c tb2 xt2) -∗ K ⟨⟩))
      ⊢ wp frame (wpE (defs₀ (F := F)) Variants.none c none) E (cc0_moe_experts i tb0 htb0 tb1 htb1 tb2 htb2 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HT0, HT1, HT2, Hk⟩
  obtain rfl := harg5.eq_unread hf0; obtain rfl := harg6.eq_unread hf1; obtain rfl := harg7.eq_unread hf2; obtain rfl := harg8.eq_unread hf3; obtain rfl := harg9.eq_unread hf4; obtain rfl := harg10.eq_unread hfs
  sl_exec (disch := first | sl_exact hc0 | sl_exact hc3)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; swap; · iexact H4
    ipureintro
    exact read_one (S := S1024x1024) _ _ hz2 _ _ _
  isplitl [HS]
  · iexists _; isplitr; · ipureintro; exact harg10.read_unread _
    iexact HS
  isplitl [HT0]; · iexact HT0
  isplitl [HT1]; · iexact HT1
  iexact HT2

end ExpRunI

end
-- ==== Proof.ExpFrameI.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import proofs.«01_k».proof.Proof.ExpRunI

@[expose] public section

set_option maxRecDepth 16384

/-! The experts kernel's run, for any tables whose blocks lie inside the arrays: what the accumulator holds after
    each grid point, what each output block is written back as, and that the arguments and counters end as they began. -/

noncomputable section

namespace ExpFrameI

open Cert.Kernel2Ideal Cert.Kernel2Ideal.Gen ExpRunI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The tables keep every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves, table by table. -/
theorem PhiT_eq (c : Dev nD) : (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, read off the run's post. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_arg0 (by decide : main_arg0 ∈ Pipeline.restRefs sig spec0),
      (h c).2 main_arg1 (by decide : main_arg1 ∈ Pipeline.restRefs sig spec0),
      (h c).2 main_arg2 (by decide : main_arg2 ∈ Pipeline.restRefs sig spec0),
      ((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3))⟩) h

/-- The number of used tiles. -/
abbrev nu : BitVec 32 := (tbl m).atD 2 ![0]
theorem nuOf_eq (c : Dev nD) : nuOf c (tbl m 2) = nu m := by
  obtain rfl : c = 0 := Subsingleton.elim _ _
  rfl

/-- Grid point `n` belongs to a used tile. -/
abbrev Used (v : BitVec 32) (n : ℕ) : Prop := ((n / 7 : ℕ) : ℤ) < v.toInt

theorem c0v (t : Fin grid0.N) : (grid0.coords t 0).val = t.val / 7 := by
  have ht : t.val < 280 := Nat.lt_of_lt_of_eq t.isLt N_0
  have e : (grid0.coords t 0).val = t.val / 7 % 40 := Pipeline.Grid.coords_val t 0 (by decide) rfl
  omega
theorem c1v (t : Fin grid0.N) : (grid0.coords t 1).val = t.val % 7 := by
  have e : (grid0.coords t 1).val = t.val / 1 % 7 := Pipeline.Grid.coords_val t 1 (by decide) rfl
  omega

theorem first_iff (t : Fin grid0.N) : isFirst (grid0.coords t) ↔ t.val % 7 = 0 := by
  have ht : t.val < 280 := Nat.lt_of_lt_of_eq t.isLt N_0
  simp only [isFirst, c1v]
  word_cmp
theorem last_iff (t : Fin grid0.N) : isLast (grid0.coords t) ↔ t.val % 7 = 6 := by
  have ht : t.val < 280 := Nat.lt_of_lt_of_eq t.isLt N_0
  simp only [isLast, k0_cond3, c1v]
  word_cmp

theorem slt_small (n : ℕ) (hn : n < 40) (v : BitVec 32) : (BitVec.ofNat 32 n).slt v = decide ((n : ℤ) < v.toInt) := by
  have e : (BitVec.ofNat 32 n).toInt = n := by
    exact (by decide : ∀ k : Fin 40, (BitVec.ofNat 32 k.val).toInt = k.val) ⟨n, hn⟩
  simp only [BitVec.slt, e]
theorem sle_small (n : ℕ) (hn : n < 40) (v : BitVec 32) : v.sle (BitVec.ofNat 32 n) = decide (v.toInt ≤ (n : ℤ)) := by
  have e : (BitVec.ofNat 32 n).toInt = n := by
    exact (by decide : ∀ k : Fin 40, (BitVec.ofNat 32 k.val).toInt = k.val) ⟨n, hn⟩
  simp only [BitVec.sle, e]

theorem bit1 : ∀ b : Bool, (Scalar.cmpi .ne (Scalar.extui (BitVec.ofBool b) : BitVec 32) 0#32 = 1#1) ↔ b = true := by decide
theorem bit2 : ∀ b b' : Bool, (Scalar.cmpi .ne (Scalar.extui (Scalar.andi (BitVec.ofBool b) (BitVec.ofBool b')) : BitVec 32) 0#32 = 1#1) ↔ (b = true ∧ b' = true) := by decide

theorem used_iff (t : Fin grid0.N) (v : BitVec 32) : k0_cond1 (grid0.coords t) v = 1#1 ↔ Used v t.val := by
  have ht : t.val < 280 := Nat.lt_of_lt_of_eq t.isLt N_0
  simp only [k0_cond1, c0v, Used]
  refine (bit1 ((BitVec.ofNat 32 (t.val / 7)).slt v)).trans ?_
  rw [slt_small _ (by omega)]; simp
theorem zero_iff (t : Fin grid0.N) (v : BitVec 32) : k0_cond4 (grid0.coords t) v = 1#1 ↔ (¬Used v t.val ∧ t.val % 7 = 6) := by
  have ht : t.val < 280 := Nat.lt_of_lt_of_eq t.isLt N_0
  simp only [k0_cond4, c0v, c1v, Used]
  refine (bit2 (v.sle (BitVec.ofNat 32 (t.val / 7))) (BitVec.ofNat 32 (t.val % 7) == 6#32)).trans ?_
  rw [sle_small _ (by omega)]
  have h6 : (BitVec.ofNat 32 (t.val % 7) == 6#32) = true ↔ t.val % 7 = 6 := by
    have : t.val % 7 < 7 := Nat.mod_lt _ (by decide)
    exact (by decide : ∀ k : Fin 7, (BitVec.ofNat 32 k.val == 6#32) = true ↔ k.val = 6) ⟨_, this⟩
  rw [decide_eq_true_iff, not_lt]
  exact and_congr Iff.rfl h6

/-- The output window is idle away from the last chunk and stored at it. -/
theorem idle4 (hO : Ok m) (t : Fin (cfgM m hO).N) (h : ¬t.val % 7 = 6) : (cfgM m hO).idle 4 (grid0.coords t) = true := by
  show (!(k0_cond1 (grid0.coords t) (nu m) == 1#1 && k0_cond3 (grid0.coords t) == 1#1) && !(k0_cond4 (grid0.coords t) (nu m) == 1#1)) = true
  have h3 : (k0_cond3 (grid0.coords t) == 1#1) = false := by
    rw [beq_eq_false_iff_ne]; exact fun e => h ((last_iff t).mp e)
  have h4 : (k0_cond4 (grid0.coords t) (nu m) == 1#1) = false := by
    rw [beq_eq_false_iff_ne]; exact fun e => h ((zero_iff t _).mp e).2
  rw [h3, h4]; simp
theorem live4 (hO : Ok m) (t : Fin (cfgM m hO).N) (h : t.val % 7 = 6) : (cfgM m hO).idle 4 (grid0.coords t) = false := by
  show (!(k0_cond1 (grid0.coords t) (nu m) == 1#1 && k0_cond3 (grid0.coords t) == 1#1) && !(k0_cond4 (grid0.coords t) (nu m) == 1#1)) = false
  have h3 : (k0_cond3 (grid0.coords t) == 1#1) = true := by
    rw [beq_iff_eq]; exact (last_iff t).mpr h
  by_cases hu : Used (nu m) t.val
  · have h1 : (k0_cond1 (grid0.coords t) (nu m) == 1#1) = true := by
      rw [beq_iff_eq]; exact (used_iff t _).mpr hu
    rw [h1, h3]; simp
  · have h4 : (k0_cond4 (grid0.coords t) (nu m) == 1#1) = true := by
      rw [beq_iff_eq]; exact (zero_iff t _).mpr ⟨hu, h⟩
    rw [h4]; simp

/-- The output block is written back at the last chunk of each tile. -/
theorem flush4 (hO : Ok m) : ∀ t : Fin (cfgM m hO).N, ((cfgM m hO).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)
theorem noFlush4 (hO : Ok m) (t : Fin (cfgM m hO).N) (h : ¬t.val % 7 = 6) : ((cfgM m hO).win 4).flush t = false :=
  Bool.eq_false_iff.mpr fun e => h ((flush4 m hO t).mp e)

/-- What the accumulator holds after point `n` of a used tile. -/
def acc (hO : Ok m) (c : Dev nD) : (n : ℕ) → n < (cfgM m hO).N → Vec F S1024x1024 .f32
  | 0, h => k0_pay2 (iblk m hO c 0 ⟨0, h⟩) (iblk m hO c 1 ⟨0, h⟩) (iblk m hO c 2 ⟨0, h⟩) k0_pay1 (iblk m hO c 3 ⟨0, h⟩)
  | n + 1, h => k0_pay2 (iblk m hO c 0 ⟨n + 1, h⟩) (iblk m hO c 1 ⟨n + 1, h⟩) (iblk m hO c 2 ⟨n + 1, h⟩)
      (if (n + 1) % 7 = 0 then k0_pay1 else acc hO c n (Nat.lt_of_succ_lt h)) (iblk m hO c 3 ⟨n + 1, h⟩)

theorem acc_first (hO : Ok m) (c : Dev nD) (t : Fin (cfgM m hO).N) (h : t.val % 7 = 0) :
    acc m hO c t.val t.isLt = k0_pay2 (iblk m hO c 0 t) (iblk m hO c 1 t) (iblk m hO c 2 t) k0_pay1 (iblk m hO c 3 t) := by
  obtain ⟨n, hn⟩ := t
  cases n with
  | zero => rw [acc]
  | succ n => rw [acc, if_pos h]
theorem acc_next (hO : Ok m) (c : Dev nD) (t : Fin (cfgM m hO).N) (k : ℕ) (hk : k < (cfgM m hO).N) (e : t.val = k + 1) (h : ¬t.val % 7 = 0) :
    acc m hO c t.val t.isLt = k0_pay2 (iblk m hO c 0 t) (iblk m hO c 1 t) (iblk m hO c 2 t) (acc m hO c k hk) (iblk m hO c 3 t) := by
  obtain ⟨n, hn⟩ := t
  subst e
  rw [acc, if_neg h]

/-- The accumulator as a scratch operand. -/
abbrev scM : Memref sig .tc .vmem S1024x1024 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Between the points: the accumulator holds `acc` of the point before whenever that point's tile is used. -/
def PhiS (hO : Ok m) (c : Dev nD) (n : ℕ) : sProp 𝕄 :=
  iprop(((∃ d, ⌜∀ k (hk : k < (cfgM m hO).N), n = k + 1 → Used (nu m) k → d = acc m hO c k hk⌝ ∗ owns (c : Thread nD τ) scM fullShare d) ∗ (∃ r, prngReg c r))
    ∗ tbPt c tb0 (tbl m 0) ∗ tbPt c tb1 (tbl m 1) ∗ tbPt c tb2 (tbl m 2))

/-- What a point leaves in the output block's buffer at its tile's last chunk. -/
def outAt (hO : Ok m) (c : Dev nD) (t : Fin (cfgM m hO).N) : Vec F S1024x1024 .f32 :=
  if Used (nu m) t.val then acc m hO c t.val t.isLt else k0_pay3

/-- The run's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
abbrev ms0 (hO : Ok m) (t : Fin (cfgM m hO).N) : Memref sig .tc .vmem S1024x1024 .bf16 := spec0_0.stage ((cfgM m hO).slots t 0)
abbrev ms1 (hO : Ok m) (t : Fin (cfgM m hO).N) : Memref sig .tc .vmem S1x1024x512 .f32 := spec0_1.stage ((cfgM m hO).slots t 1)
abbrev ms2 (hO : Ok m) (t : Fin (cfgM m hO).N) : Memref sig .tc .vmem S1x1024x512 .f32 := spec0_2.stage ((cfgM m hO).slots t 2)
abbrev ms3 (hO : Ok m) (t : Fin (cfgM m hO).N) : Memref sig .tc .vmem S1x512x1024 .f32 := spec0_3.stage ((cfgM m hO).slots t 3)
abbrev ms4 (hO : Ok m) (t : Fin (cfgM m hO).N) : Memref sig .tc .vmem S1024x1024 .f32 := spec0_4.stage ((cfgM m hO).slots t 4)

/-- The body at point `t`, on the buffers the pipeline hands it. -/
abbrev bodyAt (hO : Ok m) (t : Fin (cfgM m hO).N) : Prog (TpuEff nD τ sig (Elt F) Λ₀ .tc) PUnit :=
  cc0_moe_experts (grid0.coords t) tb0 htb0 tb1 htb1 tb2 htb2 (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) scM (Memref.isWhole_whole _)

/-- What the body is called with, -/
def bodyPre (hO : Ok m) (c : Dev nD) (t : Fin (cfgM m hO).N) : sProp 𝕄 :=
  iprop((dats m hO 0 c).Φ t.castSucc ∗ (dats m hO 0 c).owesAt () t.castSucc ∗ (∃ d, owns (c : Thread nD τ) (ms0 m hO t) fullShare ((dats m hO 0 c).before 0 t d)) ∗ (∃ d, owns (c : Thread nD τ) (ms1 m hO t) fullShare ((dats m hO 0 c).before 1 t d)) ∗ (∃ d, owns (c : Thread nD τ) (ms2 m hO t) fullShare ((dats m hO 0 c).before 2 t d)) ∗ (∃ d, owns (c : Thread nD τ) (ms3 m hO t) fullShare ((dats m hO 0 c).before 3 t d)) ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ ∗ (dats m hO 0 c).leavesExact 0 t ∗ (dats m hO 0 c).leavesExact 1 t ∗ (dats m hO 0 c).leavesExact 2 t ∗ (dats m hO 0 c).leavesExact 3 t ∗ (dats m hO 0 c).leavesExact 4 t)

theorem leaves0 (hO : Ok m) (c : Dev nD) (t : Fin (cfgM m hO).N) : (dats m hO 0 c).leavesExact 0 t = owns (c : Thread nD τ) (ms0 m hO t) fullShare (iblk m hO c 0 t) := by
  rw [← after0]; unfold Dat.leavesExact; rw [show (cfgM m hO).idle 0 ((cfgM m hO).grid.coords t) = false from rfl]; try rfl

theorem leaves1 (hO : Ok m) (c : Dev nD) (t : Fin (cfgM m hO).N) : (dats m hO 0 c).leavesExact 1 t = owns (c : Thread nD τ) (ms1 m hO t) fullShare (iblk m hO c 1 t) := by
  rw [← after1]; unfold Dat.leavesExact; rw [show (cfgM m hO).idle 1 ((cfgM m hO).grid.coords t) = false from rfl]; try rfl

theorem leaves2 (hO : Ok m) (c : Dev nD) (t : Fin (cfgM m hO).N) : (dats m hO 0 c).leavesExact 2 t = owns (c : Thread nD τ) (ms2 m hO t) fullShare (iblk m hO c 2 t) := by
  rw [← after2]; unfold Dat.leavesExact; rw [show (cfgM m hO).idle 2 ((cfgM m hO).grid.coords t) = false from rfl]; try rfl

theorem leaves3 (hO : Ok m) (c : Dev nD) (t : Fin (cfgM m hO).N) : (dats m hO 0 c).leavesExact 3 t = owns (c : Thread nD τ) (ms3 m hO t) fullShare (iblk m hO c 3 t) := by
  rw [← after3]; unfold Dat.leavesExact; rw [show (cfgM m hO).idle 3 ((cfgM m hO).grid.coords t) = false from rfl]; try rfl

theorem leaves4_live (hO : Ok m) (c : Dev nD) (t : Fin (cfgM m hO).N) (h : t.val % 7 = 6) :
    (dats m hO 0 c).leavesExact 4 t = owns (c : Thread nD τ) (ms4 m hO t) fullShare (outAt m hO c t) := by
  rw [← after4]; unfold Dat.leavesExact; rw [live4 m hO t h]; try rfl
theorem leaves4_idle (hO : Ok m) (c : Dev nD) (t : Fin (cfgM m hO).N) (h : ¬t.val % 7 = 6) :
    (dats m hO 0 c).leavesExact 4 t = iprop(∃ d, owns (c : Thread nD τ) (ms4 m hO t) fullShare ((dats m hO 0 c).before 4 t d)) :=
  Dat.leavesExact_idle (dats m hO 0 c) 4 t (idle4 m hO t h) (noFlush4 m hO t h)

set_option maxHeartbeats 4000000 in
/-- The body at every point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).owesAt () t.succ = (dats m hO 0 c).owesAt () t.castSucc from rfl]
  rw [show (dats m hO 0 c).Φ t.succ = PhiS m hO c (t.val + 1) from rfl, show (dats m hO 0 c).Φ t.castSucc = PhiS m hO c t.val from rfl]
  rw [leaves0, leaves1, leaves2, leaves3]
  unfold PhiS
  have hN : t.val < 280 := lt_of_lt_of_eq t.isLt (show (cfgM m hO).N = 280 from N_0)
  have hu1 := used_iff t (nu m)
  have hz1 := zero_iff t (nu m)
  have hf1 := first_iff t
  have hl1 := last_iff t
  rw [← nuOf_eq m c] at hu1 hz1
  have hU : Used (nuOf c (tbl m 2)) t.val ↔ Used (nu m) t.val := by rw [nuOf_eq]
  rw [hU] at hu1 hz1
  by_cases hu : Used (nu m) t.val
  · by_cases h0 : t.val % 7 = 0
    · rw [leaves4_idle m hO c t (by omega)]
      iintro ⟨⟨⟨⟨%d, %hd, HS⟩, Hg⟩, ⟨HT0, HT1, HT2⟩⟩, Ho, ⟨%d0, H0⟩, ⟨%d1, H1⟩, ⟨%d2, H2⟩, ⟨%d3, H3⟩, ⟨%d4, H4⟩⟩
      iapply (runA c (grid0.coords t) _ _ _ _ _ _ _ _ _ _ _ _ (iblk m hO c 0 t) (iblk m hO c 1 t) (iblk m hO c 2 t) (iblk m hO c 3 t) _ d (tbl m 0) (tbl m 1) (tbl m 2) (hu1.mpr hu) (hf1.mpr h0) (fun e => by have := hl1.mp e; omega) (fun e => (hz1.mp e).1 hu) Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      isplitl [HT2]; · iexact HT2
      iintro ⟨H0, H1, H2, H3, H4, HS, HT0, HT1, HT2⟩
      isplitl [HS Hg HT0 HT1 HT2]
      · isplitl [HS Hg]
        · isplitl [HS]
          · iexists _; isplitr; swap; · iexact HS
            ipureintro
            refine fun k hk e _ => by
                obtain rfl : t.val = k := by omega
                exact (acc_first m hO c t h0).symm
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexists _; iexact H4
    · by_cases h6 : t.val % 7 = 6
      · rw [leaves4_live m hO c t h6]
        iintro ⟨⟨⟨⟨%d, %hd, HS⟩, Hg⟩, ⟨HT0, HT1, HT2⟩⟩, Ho, ⟨%d0, H0⟩, ⟨%d1, H1⟩, ⟨%d2, H2⟩, ⟨%d3, H3⟩, ⟨%d4, H4⟩⟩
        have h1 : t.val - 1 < (cfgM m hO).N := Nat.lt_of_le_of_lt (Nat.sub_le _ _) t.isLt
        have hd' := hd (t.val - 1) h1 (by omega) (lt_of_le_of_lt (by exact_mod_cast Nat.div_le_div_right (Nat.sub_le _ _)) hu)
        have ho : outAt m hO c t = k0_pay2 (iblk m hO c 0 t) (iblk m hO c 1 t) (iblk m hO c 2 t) d (iblk m hO c 3 t) := by
          rw [outAt, if_pos hu, hd']; exact acc_next m hO c t (t.val - 1) h1 (by omega) h0
        rw [ho]
        iapply (runC c (grid0.coords t) _ _ _ _ _ _ _ _ _ _ _ _ (iblk m hO c 0 t) (iblk m hO c 1 t) (iblk m hO c 2 t) (iblk m hO c 3 t) _ d (tbl m 0) (tbl m 1) (tbl m 2) (hu1.mpr hu) (fun e => h0 (hf1.mp e)) (hl1.mpr h6) (fun e => (hz1.mp e).1 hu) Set.univ _)
        isplitl [H0]; · iexact H0
        isplitl [H1]; · iexact H1
        isplitl [H2]; · iexact H2
        isplitl [H3]; · iexact H3
        isplitl [H4]; · iexact H4
        isplitl [HS]; · iexact HS
        isplitl [HT0]; · iexact HT0
        isplitl [HT1]; · iexact HT1
        isplitl [HT2]; · iexact HT2
        iintro ⟨H0, H1, H2, H3, H4, HS, HT0, HT1, HT2⟩
        isplitl [HS Hg HT0 HT1 HT2]
        · isplitl [HS Hg]
          · isplitl [HS]
            · iexists _; isplitr; swap; · iexact HS
              ipureintro
              refine fun k hk e _ => by
                  obtain rfl : t.val = k := by omega
                  have h1 : t.val - 1 < (cfgM m hO).N := Nat.lt_of_le_of_lt (Nat.sub_le _ _) t.isLt
                  have hd' := hd (t.val - 1) h1 (by omega) (lt_of_le_of_lt (by exact_mod_cast Nat.div_le_div_right (Nat.sub_le _ _)) hu)
                  rw [hd']
                  exact (acc_next m hO c t (t.val - 1) h1 (by omega) h0).symm
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        iexact H4
      · rw [leaves4_idle m hO c t h6]
        iintro ⟨⟨⟨⟨%d, %hd, HS⟩, Hg⟩, ⟨HT0, HT1, HT2⟩⟩, Ho, ⟨%d0, H0⟩, ⟨%d1, H1⟩, ⟨%d2, H2⟩, ⟨%d3, H3⟩, ⟨%d4, H4⟩⟩
        iapply (runB c (grid0.coords t) _ _ _ _ _ _ _ _ _ _ _ _ (iblk m hO c 0 t) (iblk m hO c 1 t) (iblk m hO c 2 t) (iblk m hO c 3 t) _ d (tbl m 0) (tbl m 1) (tbl m 2) (hu1.mpr hu) (fun e => h0 (hf1.mp e)) (fun e => h6 (hl1.mp e)) (fun e => (hz1.mp e).1 hu) Set.univ _)
        isplitl [H0]; · iexact H0
        isplitl [H1]; · iexact H1
        isplitl [H2]; · iexact H2
        isplitl [H3]; · iexact H3
        isplitl [H4]; · iexact H4
        isplitl [HS]; · iexact HS
        isplitl [HT0]; · iexact HT0
        isplitl [HT1]; · iexact HT1
        isplitl [HT2]; · iexact HT2
        iintro ⟨H0, H1, H2, H3, H4, HS, HT0, HT1, HT2⟩
        isplitl [HS Hg HT0 HT1 HT2]
        · isplitl [HS Hg]
          · isplitl [HS]
            · iexists _; isplitr; swap; · iexact HS
              ipureintro
              refine fun k hk e _ => by
                  obtain rfl : t.val = k := by omega
                  have h1 : t.val - 1 < (cfgM m hO).N := Nat.lt_of_le_of_lt (Nat.sub_le _ _) t.isLt
                  have hd' := hd (t.val - 1) h1 (by omega) (lt_of_le_of_lt (by exact_mod_cast Nat.div_le_div_right (Nat.sub_le _ _)) hu)
                  rw [hd']
                  exact (acc_next m hO c t (t.val - 1) h1 (by omega) h0).symm
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        iexists _; iexact H4
  · by_cases h6 : t.val % 7 = 6
    · rw [leaves4_live m hO c t h6]
      iintro ⟨⟨⟨⟨%d, %hd, HS⟩, Hg⟩, ⟨HT0, HT1, HT2⟩⟩, Ho, ⟨%d0, H0⟩, ⟨%d1, H1⟩, ⟨%d2, H2⟩, ⟨%d3, H3⟩, ⟨%d4, H4⟩⟩
      rw [show outAt m hO c t = k0_pay3 from if_neg hu]
      iapply (runE c (grid0.coords t) _ _ _ _ _ _ _ _ _ _ _ _ (iblk m hO c 0 t) (iblk m hO c 1 t) (iblk m hO c 2 t) (iblk m hO c 3 t) _ d (tbl m 0) (tbl m 1) (tbl m 2) (fun e => hu (hu1.mp e)) (hz1.mpr ⟨hu, h6⟩) Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      isplitl [HT2]; · iexact HT2
      iintro ⟨H0, H1, H2, H3, H4, HS, HT0, HT1, HT2⟩
      isplitl [HS Hg HT0 HT1 HT2]
      · isplitl [HS Hg]
        · isplitl [HS]
          · iexists _; isplitr; swap; · iexact HS
            ipureintro
            refine fun k hk e h => by
                obtain rfl : t.val = k := by omega
                exact absurd h hu
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexact H4
    · rw [leaves4_idle m hO c t h6]
      iintro ⟨⟨⟨⟨%d, %hd, HS⟩, Hg⟩, ⟨HT0, HT1, HT2⟩⟩, Ho, ⟨%d0, H0⟩, ⟨%d1, H1⟩, ⟨%d2, H2⟩, ⟨%d3, H3⟩, ⟨%d4, H4⟩⟩
      iapply (runD c (grid0.coords t) _ _ _ _ _ _ _ _ _ _ _ _ (iblk m hO c 0 t) (iblk m hO c 1 t) (iblk m hO c 2 t) (iblk m hO c 3 t) _ d (tbl m 0) (tbl m 1) (tbl m 2) (fun e => hu (hu1.mp e)) (fun e => h6 (hz1.mp e).2) Set.univ _)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      isplitl [HT2]; · iexact HT2
      iintro ⟨H0, H1, H2, H3, H4, HS, HT0, HT1, HT2⟩
      isplitl [HS Hg HT0 HT1 HT2]
      · isplitl [HS Hg]
        · isplitl [HS]
          · iexists _; isplitr; swap; · iexact HS
            ipureintro
            refine fun k hk e h => by
                obtain rfl : t.val = k := by omega
                exact absurd h hu
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexists _; iexact H4

/-- The body table's row is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA_eq, PhiT_eq]
  unfold PhiS
  iintro ⟨⟨⟨%d, HS⟩, Hg⟩, HT⟩
  isplitl [HS Hg]
  · isplitl [HS]
    · iexists d; isplitr
      · ipureintro; intro k hk e; exact absurd e (by omega)
      iexact HS
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA_eq]
  unfold PhiS
  iintro ⟨⟨⟨%d, -, HS⟩, Hg⟩, -⟩
  isplitl [HS]
  · iexists d; iexact HS
  iexact Hg

set_option backward.isDefEq.respectTransparency.types false in
/-- The launch: every run ends with every array at what the proof data says, and every counter at zero. -/
theorem run_quiet (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiet m ρ hO)

/-- The frame claim, for tables that keep the blocks inside the arrays. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) (run_main m ρ hO)) ((θ_run defs _ _).mono (fun _ h => h.2) (run_quiet m ρ hO))

end ExpFrameI

end
-- ==== Proof.ExpOkI.lean ====
module

public import proofs.«01_k».proof.Proof.Gen.Pre_tables_in_range
public import Idealize.ShloMosaic.Lib.ReduceAll
public import Idealize.ShloMosaic.Lib.Pipeline.ValueKit.Point
public import proofs.«01_k».proof.Proof.ExpFrameI

@[expose] public section

set_option maxRecDepth 16384

/-! When the tables' words lie in range every block of the experts kernel lies inside its array, and the block indices
    of the windows in closed form. -/

noncomputable section

namespace ExpOkI

open Cert.Kernel2Ideal Cert.Kernel2Ideal.Gen ExpRunI ExpFrameI
open Idealize.ShloMosaic Idealize.ShloMosaic.TcCoe Idealize.ShloMosaic.Tactic
open Idealize.ShloMosaic.Pipeline (Dat Cfg Window)

variable {F : FTy → Type} [FloatOps F]
variable (m : (ℓ : Loc nD τ sig) → Buf (Elt F) ℓ)

/-- The expert of tile `i`, -/
def te (i : Fin 40) : BitVec 32 := m (((0 : Dev nD) : Thread nD τ).loc main_arg0) (ix1 i)
/-- and its row block of the sorted tokens. -/
def tb (i : Fin 40) : BitVec 32 := m (((0 : Dev nD) : Thread nD τ).loc main_arg1) (ix1 i)

/-- The chunk of the hidden width a point asks for: its own in a used tile, the last one otherwise. -/
def chunk (i : grid0.Coords) : ℕ := if ((i 0).val : ℤ) < (nu m).toInt then (i 1).val else 6

theorem small_toNat (n : ℕ) (h : n < 40) : (Scalar.indexCast (BitVec.ofNat 32 n) : Index).toNat = n :=
  (by decide : ∀ k : Fin 40, (Scalar.indexCast (BitVec.ofNat 32 k.val) : Index).toNat = k.val) ⟨n, h⟩

theorem te_at (i : grid0.Coords) : (tbl m).at 0 (Rect.unit (s := S40) ![(Scalar.indexCast (BitVec.ofNat 32 (i 0).val) : Index).toNat] S1.size (k0_off1_inb i)) numel1_S1 = te m (i 0) := by
  refine congrArg (m (((0 : Dev nD) : Thread nD τ).loc main_arg0)) ?_
  funext a; apply Fin.ext
  match a with
  | ⟨0, _⟩ =>
    show (Scalar.indexCast (BitVec.ofNat 32 (i 0).val) : Index).toNat + 1 * 0 = (i 0).val
    rw [small_toNat _ (i 0).isLt]; rfl
theorem tb_at (i : grid0.Coords) : (tbl m).at 1 (Rect.unit (s := S40) ![(Scalar.indexCast (BitVec.ofNat 32 (i 0).val) : Index).toNat] S1.size (k0_off1_inb i)) numel1_S1 = tb m (i 0) := by
  refine congrArg (m (((0 : Dev nD) : Thread nD τ).loc main_arg1)) ?_
  funext a; apply Fin.ext
  match a with
  | ⟨0, _⟩ =>
    show (Scalar.indexCast (BitVec.ofNat 32 (i 0).val) : Index).toNat + 1 * 0 = (i 0).val
    rw [small_toNat _ (i 0).isLt]; rfl
theorem nu_at : (tbl m).at 2 (Rect.unit (s := S1) ![0] S1.size inb_S1_S1_0) numel1_S1 = nu m := by
  rfl

theorem chunk_toNat (i : grid0.Coords) :
    (Scalar.select (Scalar.cmpi .slt (BitVec.ofNat 32 (i 0).val) (nu m)) (BitVec.ofNat 32 (i 1).val) 6#32 : BitVec 32).toNat = chunk m i := by
  unfold chunk
  have h0 : (i 0).val < 40 := (i 0).isLt
  have h1 : (i 1).val < 7 := (i 1).isLt
  have e : Scalar.cmpi .slt (BitVec.ofNat 32 (i 0).val) (nu m) = BitVec.ofBool (decide (((i 0).val : ℤ) < (nu m).toInt)) :=
    congrArg BitVec.ofBool (slt_small _ h0 _)
  rw [e]
  by_cases h : ((i 0).val : ℤ) < (nu m).toInt
  · rw [if_pos h, decide_eq_true h]
    exact (by decide : ∀ k : Fin 7, (Scalar.select (BitVec.ofBool true) (BitVec.ofNat 32 k.val) 6#32 : BitVec 32).toNat = k.val) ⟨_, h1⟩
  · rw [if_neg h, decide_eq_false h]
    exact (by decide : ∀ k : Fin 7, (Scalar.select (BitVec.ofBool false) (BitVec.ofNat 32 k.val) 6#32 : BitVec 32).toNat = 6) ⟨_, h1⟩
theorem chunk_lt (i : grid0.Coords) : chunk m i < 7 := by
  have h1 : (i 1).val < 7 := (i 1).isLt
  unfold chunk; split <;> omega

/-- The block each window names at a point. -/
theorem win0_at (i : grid0.Coords) : cc0_transform_0 k0_off1_inb numel1_S1 (tbl m) i = ![(tb m (i 0)).toNat, 0] := by
  rw [← tb_at]; rfl
theorem win1_at (i : grid0.Coords) : cc0_transform_1 k0_off1_inb numel1_S1 inb_S1_S1_0 (tbl m) i = ![(te m (i 0)).toNat, 0, chunk m i] := by
  rw [← te_at, ← chunk_toNat, ← nu_at]; rfl
theorem win2_at (i : grid0.Coords) : cc0_transform_2 k0_off1_inb numel1_S1 inb_S1_S1_0 (tbl m) i = ![(te m (i 0)).toNat, 0, chunk m i] := by
  rw [← te_at, ← chunk_toNat, ← nu_at]; rfl
theorem win3_at (i : grid0.Coords) : cc0_transform_3 k0_off1_inb numel1_S1 inb_S1_S1_0 (tbl m) i = ![(te m (i 0)).toNat, chunk m i, 0] := by
  rw [← te_at, ← chunk_toNat, ← nu_at]; rfl

/-- The tables' words lie in range. -/
def InRange : Prop := (∀ i, (te m i).toNat < 8 ∧ 0 ≤ (te m i).toInt) ∧ (∀ i, (tb m i).toNat < 40 ∧ 0 ≤ (tb m i).toInt)

theorem word_range (w : BitVec 32) (n : ℕ) (hn : n < 2 ^ 31) (h0 : Scalar.cmpi .sge w 0#32 = 1#1) (h1 : Scalar.cmpi .slt w (BitVec.ofNat 32 n) = 1#1) :
    w.toNat < n ∧ 0 ≤ w.toInt := by
  have b : ∀ b : Bool, BitVec.ofBool b = 1#1 → b = true := by decide
  have a0 : (0#32).sle w = true := b _ h0
  have a1 : w.slt (BitVec.ofNat 32 n) = true := b _ h1
  simp only [BitVec.sle, BitVec.slt, decide_eq_true_eq] at a0 a1
  simp only [BitVec.toInt, BitVec.toNat_ofNat] at a0 a1 ⊢
  have := w.isLt
  rw [Nat.mod_eq_of_lt (show n < 2 ^ 32 by omega)] at a1
  constructor
  · split at a1 <;> split at a1 <;> omega
  · simpa using a0

theorem andi_one : ∀ a b : BitVec 1, IntOp.andi a b = 1#1 → a = 1#1 ∧ b = 1#1 := by decide

/-- The precondition gives the ranges. -/
theorem inRange_of_pre (h : Cert.Pre_tables_in_range.fn (F := F)
      (m (((0 : Dev nD) : Thread nD τ).loc main_arg0)) (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))
      (m (((0 : Dev nD) : Thread nD τ).loc main_arg6)) = fun _ => 1#1) : InRange m := by
  have h0 := congrFun h (fun a => a.elim0)
  unfold Cert.Pre_tables_in_range.fn at h0
  simp only at h0
  obtain ⟨ha, hb⟩ := andi_one _ _ h0
  constructor
  · intro i
    obtain ⟨p, q⟩ := andi_one _ _ (Host.reduce_andi_all _ _ _ _ _ ha (ix1 i))
    exact word_range (te m i) 8 (by decide) p q
  · intro i
    obtain ⟨p, q⟩ := andi_one _ _ (Host.reduce_andi_all _ _ _ _ _ hb (ix1 i))
    exact word_range (tb m i) 40 (by decide) p q

/-- In range, every block lies inside its array. -/
theorem ok_of_range (h : InRange m) : Ok m := by
  obtain ⟨he, hb⟩ := h
  refine ⟨fun i => ⟨fun a => ?_, .inr (Affine.block_words_dvd (s := S40960x1024) (p := EltTy.packing .bf16) (by decide) (by decide))⟩,
    fun i => ⟨fun a => ?_, .inl rfl⟩, fun i => ⟨fun a => ?_, .inl rfl⟩, fun i => ⟨fun a => ?_, .inl rfl⟩⟩
  · rw [win0_at]
    match a with
    | ⟨0, _⟩ => show ((tb m (i 0)).toNat + 1) * 1024 ≤ 40960; have := (hb (i 0)).1; omega
    | ⟨1, _⟩ => show (0 + 1) * 1024 ≤ 1024; omega
  · rw [win1_at]
    match a with
    | ⟨0, _⟩ => show ((te m (i 0)).toNat + 1) * 1 ≤ 8; have := (he (i 0)).1; omega
    | ⟨1, _⟩ => show (0 + 1) * 1024 ≤ 1024; omega
    | ⟨2, _⟩ => show (chunk m i + 1) * 512 ≤ 3584; have := chunk_lt m i; omega
  · rw [win2_at]
    match a with
    | ⟨0, _⟩ => show ((te m (i 0)).toNat + 1) * 1 ≤ 8; have := (he (i 0)).1; omega
    | ⟨1, _⟩ => show (0 + 1) * 1024 ≤ 1024; omega
    | ⟨2, _⟩ => show (chunk m i + 1) * 512 ≤ 3584; have := chunk_lt m i; omega
  · rw [win3_at]
    match a with
    | ⟨0, _⟩ => show ((te m (i 0)).toNat + 1) * 1 ≤ 8; have := (he (i 0)).1; omega
    | ⟨1, _⟩ => show (chunk m i + 1) * 512 ≤ 3584; have := chunk_lt m i; omega
    | ⟨2, _⟩ => show (0 + 1) * 1024 ≤ 1024; omega

end ExpOkI

end
-- ==== Proof.ExpMath.lean ====
module

public import Idealize.ShloMosaic.Lib.Pipeline.ValueKit.Point

@[expose] public section

/-! The gated network's output as a sum over the hidden width, whole and chunk by chunk. -/

noncomputable section

open Idealize.ShloMosaic

namespace ExpMath

/-- A word that is not negative names the same number read signed or unsigned. -/
theorem word_eq (w : BitVec 32) (h : 0 ≤ w.toInt) : w.toInt.toNat = w.toNat := by
  simp only [BitVec.toInt] at h ⊢
  have := w.isLt
  split at h <;> split <;> omega

/-- One hidden unit's contribution to one output. -/
def unit (x : Fin 1024 → EReal) (w v : Fin 1024 → EReal) (u : EReal) : EReal :=
  (∑ c, x c * w c) * Ideal.logistic (∑ c, x c * w c) * (∑ c, x c * v c) * u

/-- One entry of the gated network's output: the row `x` through both first matrices, one of them gated, and the last. -/
def swi (x : Fin 1024 → EReal) (w v : Fin 1024 → Fin 3584 → EReal) (u : Fin 3584 → EReal) : EReal :=
  ∑ f : Fin 3584, unit x (fun c => w c f) (fun c => v c f) (u f)

/-- A sum over the hidden width is the sum over seven chunks of 512. -/
theorem sum_chunks (g : Fin 3584 → EReal) :
    ∑ f : Fin 3584, g f = ∑ j : Fin 7, ∑ y : Fin 512, g ⟨j.val * 512 + y.val, by omega⟩ := by
  rw [← Fintype.sum_prod_type' (f := fun (j : Fin 7) (y : Fin 512) => g ⟨j.val * 512 + y.val, by omega⟩)]
  refine (Fintype.sum_equiv (finProdFinEquiv (m := 7) (n := 512)) _ _ fun p => ?_).symm
  refine congrArg g (Fin.ext ?_)
  show p.1.val * 512 + p.2.val = p.2.val + 512 * p.1.val
  omega

end ExpMath

end
-- ==== Proof.ExpKer.lean ====
module

public import proofs.«01_k».proof.Proof.ExpOkI
public import proofs.«01_k».proof.Proof.ExpMath

@[expose] public section

set_option maxRecDepth 16384

/-! The experts kernel's output array, entry by entry. -/

noncomputable section

open Idealize.ShloMosaic Idealize.ShloMosaic.TcCoe Idealize.SL.Sem
open Idealize.ShloMosaic.Pipeline (Dat)

namespace ExpKer

open ExpMath Cert.Kernel2Ideal Cert.Kernel2Ideal.Gen ExpRunI ExpFrameI ExpOkI

/-- The accumulator after one chunk: what it held plus the chunk's units. -/
theorem pay2_at (x : Vec Ideal S1024x1024 .bf16) (w v : Vec Ideal S1x1024x512 .f32) (a : Vec Ideal S1024x1024 .f32) (u : Vec Ideal S1x512x1024 .f32)
    (r k : Fin 1024) : k0_pay2 x w v a u (ix2 r k)
      = a (ix2 r k) + ∑ y : Fin 512, unit (fun c => x (ix2 r c)) (fun c => w (ix3 0 c y)) (fun c => v (ix3 0 c y)) (u (ix3 0 y k)) := by
  unfold unit
  pointwise [k0_pay2]
theorem pay1_at (r k : Fin 1024) : k0_pay1 (F := Ideal) (ix2 r k) = 0 := by
  pointwise [k0_pay1]
theorem pay3_at (r k : Fin 1024) : k0_pay3 (F := Ideal) (ix2 r k) = 0 := by
  pointwise [k0_pay3]

variable (m : (ℓ : Loc nD τ sig) → Buf (Elt Ideal) ℓ) (hO : Ok m)

/-- The inputs. -/
abbrev X : S40960x1024.Idx → EReal := m (((0 : Dev nD) : Thread nD τ).loc main_arg3)
abbrev W1 : S8x1024x3584.Idx → EReal := m (((0 : Dev nD) : Thread nD τ).loc main_arg4)
abbrev W3 : S8x1024x3584.Idx → EReal := m (((0 : Dev nD) : Thread nD τ).loc main_arg5)
abbrev W2 : S8x3584x1024.Idx → EReal := m (((0 : Dev nD) : Thread nD τ).loc main_arg6)

section Blocks
variable (t : Fin (cfgM m hO).N) (i : Fin 40) (j : Fin 7) (hi : t.val = 7 * i.val + j.val)
variable (b : Fin 40) (e : Fin 8) (hb : (tb m i).toNat = b.val) (he : (te m i).toNat = e.val)

include hi in
theorem co0 : grid0.coords t 0 = i := Fin.ext ((c0v t).trans (by omega))
include hi in
theorem co1 : (grid0.coords t 1).val = j.val := (c1v t).trans (by omega)
include hi in
theorem chunk_used (hu : (i.val : ℤ) < (nu m).toInt) : chunk m (grid0.coords t) = j.val := by
  unfold chunk
  rw [co0 m hO t i j hi, if_pos hu, co1 m hO t i j hi]

include hi hb in
theorem blk0_at (r k : Fin 1024) : iblk m hO 0 0 t (ix2 r k) = X m (ix2 ⟨b.val * 1024 + r.val, by omega⟩ k) := by
  unfold iblk
  refine congrArg (m (((0 : Dev nD) : Thread nD τ).loc main_arg3)) ?_
  funext a; apply Fin.ext
  match a with
  | ⟨0, _⟩ =>
    show cc0_transform_0 k0_off1_inb numel1_S1 (tbl m) (grid0.coords t) 0 * 1024 + 1 * r.val = b.val * 1024 + r.val
    rw [win0_at, co0 m hO t i j hi]
    show (tb m i).toNat * 1024 + 1 * r.val = _
    omega
  | ⟨1, _⟩ =>
    show cc0_transform_0 k0_off1_inb numel1_S1 (tbl m) (grid0.coords t) 1 * 1024 + 1 * k.val = k.val
    rw [win0_at]
    show 0 * 1024 + 1 * k.val = _
    omega

include hi he in
theorem blk1_at (hu : (i.val : ℤ) < (nu m).toInt) (c : Fin 1024) (y : Fin 512) : iblk m hO 0 1 t (ix3 0 c y) = W1 m (ix3 e c ⟨j.val * 512 + y.val, by omega⟩) := by
  unfold iblk
  refine congrArg (m (((0 : Dev nD) : Thread nD τ).loc main_arg4)) ?_
  funext a; apply Fin.ext
  match a with
  | ⟨0, _⟩ =>
    show cc0_transform_1 k0_off1_inb numel1_S1 inb_S1_S1_0 (tbl m) (grid0.coords t) 0 * 1 + 1 * 0 = e.val
    rw [win1_at, co0 m hO t i j hi]
    show (te m i).toNat * 1 + 1 * 0 = _
    omega
  | ⟨1, _⟩ =>
    show cc0_transform_1 k0_off1_inb numel1_S1 inb_S1_S1_0 (tbl m) (grid0.coords t) 1 * 1024 + 1 * c.val = c.val
    rw [win1_at]
    show 0 * 1024 + 1 * c.val = _
    omega
  | ⟨2, _⟩ =>
    show cc0_transform_1 k0_off1_inb numel1_S1 inb_S1_S1_0 (tbl m) (grid0.coords t) 2 * 512 + 1 * y.val = j.val * 512 + y.val
    rw [win1_at]
    show chunk m (grid0.coords t) * 512 + 1 * y.val = _
    rw [chunk_used m hO t i j hi hu]; omega

include hi he in
theorem blk2_at (hu : (i.val : ℤ) < (nu m).toInt) (c : Fin 1024) (y : Fin 512) : iblk m hO 0 2 t (ix3 0 c y) = W3 m (ix3 e c ⟨j.val * 512 + y.val, by omega⟩) := by
  unfold iblk
  refine congrArg (m (((0 : Dev nD) : Thread nD τ).loc main_arg5)) ?_
  funext a; apply Fin.ext
  match a with
  | ⟨0, _⟩ =>
    show cc0_transform_2 k0_off1_inb numel1_S1 inb_S1_S1_0 (tbl m) (grid0.coords t) 0 * 1 + 1 * 0 = e.val
    rw [win2_at, co0 m hO t i j hi]
    show (te m i).toNat * 1 + 1 * 0 = _
    omega
  | ⟨1, _⟩ =>
    show cc0_transform_2 k0_off1_inb numel1_S1 inb_S1_S1_0 (tbl m) (grid0.coords t) 1 * 1024 + 1 * c.val = c.val
    rw [win2_at]
    show 0 * 1024 + 1 * c.val = _
    omega
  | ⟨2, _⟩ =>
    show cc0_transform_2 k0_off1_inb numel1_S1 inb_S1_S1_0 (tbl m) (grid0.coords t) 2 * 512 + 1 * y.val = j.val * 512 + y.val
    rw [win2_at]
    show chunk m (grid0.coords t) * 512 + 1 * y.val = _
    rw [chunk_used m hO t i j hi hu]; omega

include hi he in
theorem blk3_at (hu : (i.val : ℤ) < (nu m).toInt) (y : Fin 512) (k : Fin 1024) : iblk m hO 0 3 t (ix3 0 y k) = W2 m (ix3 e ⟨j.val * 512 + y.val, by omega⟩ k) := by
  unfold iblk
  refine congrArg (m (((0 : Dev nD) : Thread nD τ).loc main_arg6)) ?_
  funext a; apply Fin.ext
  match a with
  | ⟨0, _⟩ =>
    show cc0_transform_3 k0_off1_inb numel1_S1 inb_S1_S1_0 (tbl m) (grid0.coords t) 0 * 1 + 1 * 0 = e.val
    rw [win3_at, co0 m hO t i j hi]
    show (te m i).toNat * 1 + 1 * 0 = _
    omega
  | ⟨1, _⟩ =>
    show cc0_transform_3 k0_off1_inb numel1_S1 inb_S1_S1_0 (tbl m) (grid0.coords t) 1 * 512 + 1 * y.val = j.val * 512 + y.val
    rw [win3_at]
    show chunk m (grid0.coords t) * 512 + 1 * y.val = _
    rw [chunk_used m hO t i j hi hu]; omega
  | ⟨2, _⟩ =>
    show cc0_transform_3 k0_off1_inb numel1_S1 inb_S1_S1_0 (tbl m) (grid0.coords t) 2 * 1024 + 1 * k.val = k.val
    rw [win3_at]
    show 0 * 1024 + 1 * k.val = _
    omega

end Blocks

/-- Chunk `j`'s share of the entry at row `r` and column `k` of tile rows `b`, by expert `e`. -/
def part (b : Fin 40) (e : Fin 8) (r k : Fin 1024) (j : Fin 7) : EReal :=
  ∑ y : Fin 512, unit (fun c => X m (ix2 ⟨b.val * 1024 + r.val, by omega⟩ c)) (fun c => W1 m (ix3 e c ⟨j.val * 512 + y.val, by omega⟩))
    (fun c => W3 m (ix3 e c ⟨j.val * 512 + y.val, by omega⟩)) (W2 m (ix3 e ⟨j.val * 512 + y.val, by omega⟩ k))

theorem unit_congr {x x' w w' v v' : Fin 1024 → EReal} {u u' : EReal} (h1 : ∀ c, x c = x' c) (h2 : ∀ c, w c = w' c) (h3 : ∀ c, v c = v' c) (h4 : u = u') :
    unit x w v u = unit x' w' v' u' := by
  obtain rfl := funext h1; obtain rfl := funext h2; obtain rfl := funext h3; rw [h4]

/-- One chunk of a used tile adds its share. -/
theorem step_at (t : Fin (cfgM m hO).N) (i : Fin 40) (j : Fin 7) (hi : t.val = 7 * i.val + j.val)
    (b : Fin 40) (e : Fin 8) (hb : (tb m i).toNat = b.val) (he : (te m i).toNat = e.val)
    (hu : (i.val : ℤ) < (nu m).toInt) (a : Vec Ideal S1024x1024 .f32) (r k : Fin 1024) :
    k0_pay2 (F := Ideal) (iblk m hO 0 0 t) (iblk m hO 0 1 t) (iblk m hO 0 2 t) a (iblk m hO 0 3 t) (ix2 r k) = a (ix2 r k) + part m b e r k j := by
  refine (pay2_at (iblk m hO 0 0 t) (iblk m hO 0 1 t) (iblk m hO 0 2 t) a (iblk m hO 0 3 t) r k).trans ?_
  unfold part
  refine congrArg (a (ix2 r k) + ·) (Finset.sum_congr rfl fun y _ => ?_)
  exact unit_congr (fun c => blk0_at m hO t i j hi b e hb r c) (fun c => blk1_at m hO t i j hi b e he hu c y)
    (fun c => blk2_at m hO t i j hi b e he hu c y) (blk3_at m hO t i j hi b e he hu y k)

/-- After chunk `j` of a used tile the accumulator holds the shares of the chunks so far. -/
theorem acc_at (i : Fin 40) (b : Fin 40) (e : Fin 8) (hb : (tb m i).toNat = b.val) (he : (te m i).toNat = e.val)
    (hu : (i.val : ℤ) < (nu m).toInt) (r k : Fin 1024) : (j : ℕ) → (hj : j < 7) → (h : 7 * i.val + j < (cfgM m hO).N) →
      acc m hO 0 (7 * i.val + j) h (ix2 r k) = ∑ j' : Fin (j + 1), part m b e r k ⟨j'.val, by omega⟩
  | 0, hj, h => by
    refine (congrFun (acc_first m hO 0 ⟨7 * i.val + 0, h⟩ (by show (7 * i.val + 0) % 7 = 0; omega)) (ix2 r k)).trans ?_
    refine (step_at m hO ⟨7 * i.val + 0, h⟩ i ⟨0, hj⟩ rfl b e hb he hu (k0_pay1 (F := Ideal)) r k).trans ?_
    rw [pay1_at, zero_add, Fin.sum_univ_one]
    rfl
  | j + 1, hj, h => by
    refine (congrFun (acc_next m hO 0 ⟨7 * i.val + (j + 1), h⟩ (7 * i.val + j) (by omega) rfl (by show ¬(7 * i.val + (j + 1)) % 7 = 0; omega)) (ix2 r k)).trans ?_
    refine (step_at m hO ⟨7 * i.val + (j + 1), h⟩ i ⟨j + 1, hj⟩ rfl b e hb he hu _ r k).trans ?_
    rw [acc_at i b e hb he hu r k j (by omega) (by omega), Fin.sum_univ_castSucc (n := j + 1)]
    rfl

/-- After the last chunk it holds the whole entry. -/
theorem acc_last (i : Fin 40) (b : Fin 40) (e : Fin 8) (hb : (tb m i).toNat = b.val) (he : (te m i).toNat = e.val)
    (hu : (i.val : ℤ) < (nu m).toInt) (r k : Fin 1024) (h : 7 * i.val + 6 < (cfgM m hO).N) :
      acc m hO 0 (7 * i.val + 6) h (ix2 r k) = swi (fun c => X m (ix2 ⟨b.val * 1024 + r.val, by omega⟩ c)) (fun c f => W1 m (ix3 e c f))
        (fun c f => W3 m (ix3 e c f)) (fun f => W2 m (ix3 e f k)) := by
  rw [acc_at m hO i b e hb he hu r k 6 (by decide) h]
  unfold swi
  rw [sum_chunks]
  rfl

/-- The output array in closed form. -/
def out (hR : InRange m) : S40960x1024.Idx → EReal := fun x =>
  if ((x 0).val / 1024 : ℕ) < (nu m).toInt then
    swi (fun c => X m (ix2 ⟨(tb m ⟨(x 0).val / 1024, by have : (x 0).val < 40960 := (x 0).isLt; omega⟩).toNat * 1024 + (x 0).val % 1024, by
        have := (hR.2 ⟨(x 0).val / 1024, by have : (x 0).val < 40960 := (x 0).isLt; omega⟩).1; omega⟩ c))
      (fun c f => W1 m (ix3 ⟨_, (hR.1 ⟨(x 0).val / 1024, by have : (x 0).val < 40960 := (x 0).isLt; omega⟩).1⟩ c f))
      (fun c f => W3 m (ix3 ⟨_, (hR.1 ⟨(x 0).val / 1024, by have : (x 0).val < 40960 := (x 0).isLt; omega⟩).1⟩ c f))
      (fun f => W2 m (ix3 ⟨_, (hR.1 ⟨(x 0).val / 1024, by have : (x 0).val < 40960 := (x 0).isLt; omega⟩).1⟩ f (x 1)))
  else 0

theorem out_tile (hR : InRange m) (i : Fin 40) (r k : Fin 1024) (x : S40960x1024.Idx) (h0 : (x 0).val = i.val * 1024 + r.val) (h1 : (x 1).val = k.val) :
    out m hR x = if (i.val : ℤ) < (nu m).toInt then
      swi (fun c => X m (ix2 ⟨(tb m i).toNat * 1024 + r.val, by have := (hR.2 i).1; omega⟩ c)) (fun c f => W1 m (ix3 ⟨_, (hR.1 i).1⟩ c f))
        (fun c f => W3 m (ix3 ⟨_, (hR.1 i).1⟩ c f)) (fun f => W2 m (ix3 ⟨_, (hR.1 i).1⟩ f k)) else 0 := by
  have e0 : (x 0).val / 1024 = i.val := by omega
  have e1 : (x 0).val % 1024 = r.val := by omega
  have e2 : x 1 = k := Fin.ext h1
  unfold out
  simp only [e0, e1, e2]

/-- Entry by entry, what a written-back block holds. -/
theorem after_at (hR : InRange m) (i : Fin 40) (t : Fin (cfgM m hO).N) (hi : t.val = 7 * i.val + 6) (r k : Fin 1024) (x : S40960x1024.Idx)
    (h0 : (x 0).val = i.val * 1024 + r.val) (h1 : (x 1).val = k.val) : outAt m hO 0 t (ix2 r k) = out m hR x := by
  rw [out_tile m hR i r k x h0 h1]
  unfold outAt
  obtain ⟨n, hn⟩ := t
  obtain rfl : n = 7 * i.val + 6 := hi
  have hd : (7 * i.val + 6) / 7 = i.val := by omega
  by_cases hu : (i.val : ℤ) < (nu m).toInt
  · rw [if_pos (show Used (nu m) (7 * i.val + 6) by unfold Used; rw [hd]; exact hu), if_pos hu]
    exact acc_last m hO i ⟨_, (hR.2 i).1⟩ ⟨_, (hR.1 i).1⟩ rfl rfl hu r k hn
  · rw [if_neg (show ¬Used (nu m) (7 * i.val + 6) by unfold Used; rw [hd]; exact hu), if_neg hu]
    exact pay3_at r k

theorem idx4 (t : Fin (cfgM m hO).N) : cc0_transform_4 (grid0.coords t) = ![t.val / 7, 0] := by
  have ht : t.val < 280 := Nat.lt_of_lt_of_eq t.isLt N_0
  unfold cc0_transform_4
  funext a
  match a with
  | ⟨0, _⟩ =>
    show (BitVec.ofNat 32 (grid0.coords t 0).val).toNat = t.val / 7
    rw [c0v, BitVec.toNat_ofNat]; omega
  | ⟨1, _⟩ => rfl

/-- The output array the kernel leaves. -/
theorem final (hR : InRange m) : (dats m hO 0 0).arrAt 4 (cfgM m hO).N = out m hR := by
  refine (dats m hO 0 0).arrAt_eq_of_emb 4 (out m hR) (fun t hf (y : S1024x1024.Idx) => ?_) (fun (x : S40960x1024.Idx) => ?_)
  · have ht : t.val < 280 := Nat.lt_of_lt_of_eq t.isLt N_0
    have h6 := (flush4 m hO t).mp hf
    have hw := idx4 m hO t
    refine (congrArg (outAt m hO 0 t) (eq_ix2 y)).trans (after_at m hO hR ⟨t.val / 7, by omega⟩ t (by show t.val = 7 * (t.val / 7) + 6; omega) (y 0) (y 1) _ ?_ ?_)
    · show cc0_transform_4 (grid0.coords t) 0 * 1024 + 1 * (y 0).val = t.val / 7 * 1024 + (y 0).val
      rw [hw]; show t.val / 7 * 1024 + 1 * (y 0).val = _; omega
    · show cc0_transform_4 (grid0.coords t) 1 * 1024 + 1 * (y 1).val = (y 1).val
      rw [hw]; show 0 * 1024 + 1 * (y 1).val = _; omega
  · have hx0 : (x 0).val < 40960 := (x 0).isLt
    have hx1 : (x 1).val < 1024 := (x 1).isLt
    obtain ⟨t, ht⟩ : ∃ t : Fin (cfgM m hO).N, t.val = 7 * ((x 0).val / 1024) + 6 :=
      ⟨⟨7 * ((x 0).val / 1024) + 6, Nat.lt_of_lt_of_eq (by omega) N_0.symm⟩, rfl⟩
    have hw := idx4 m hO t
    have hx : (((cfgM m hO).win 4).blk t).view.emb
        (ix2 (⟨(x 0).val % 1024, by omega⟩ : Fin 1024) (⟨(x 1).val, hx1⟩ : Fin 1024) : S1024x1024.Idx) = x := by
      funext a; apply Fin.ext
      match a with
      | ⟨0, _⟩ =>
        show cc0_transform_4 (grid0.coords t) 0 * 1024 + 1 * ((x 0).val % 1024) = (x 0).val
        rw [hw]
        show t.val / 7 * 1024 + 1 * ((x 0).val % 1024) = (x 0).val
        omega
      | ⟨1, _⟩ =>
        show cc0_transform_4 (grid0.coords t) 1 * 1024 + 1 * (x 1).val = (x 1).val
        rw [hw]
        show 0 * 1024 + 1 * (x 1).val = (x 1).val
        omega
    refine ⟨t, (flush4 m hO t).mpr (by omega), ?_⟩
    rw [← hx]
    exact View.emb_mem_set _ _

end ExpKer

end
-- ==== Proof.ExpRef.lean ====
module

public import proofs.«01_k».proof.Proof.Gen.Reference2Ideal.Read
public import Idealize.ShloMosaic.Lib.Pipeline.ValueKit.Point
public import proofs.«01_k».proof.Proof.ExpMath

@[expose] public section

set_option maxRecDepth 16384

noncomputable section

open Idealize.ShloMosaic Idealize.ShloMosaic.TcCoe Idealize.SL.Sem

namespace ExpRef

open ExpMath Cert.Reference2Ideal Cert.Reference2Ideal.Read

/-! ## The reference of the experts, read at an index -/

/-- A row of blocks picked by a table: the sorted tokens. -/
theorem gatherX (x : S40x1024x1024.Idx → EReal) (idx : IVec S40x1 32) (i : Fin 40) (r : Fin 1024) (d : Fin 1024) :
    Host.gather gather_S40x1024x1024_S40x1_S40x1024x1024_12_0_n_n_0_1_110241024 x idx (ix3 i r d) = x (ix3 ⟨min (idx (ix2 i 0)).toInt.toNat 39, by omega⟩ r d) := by
  unfold Host.gather
  congr 1
  funext a
  refine Fin.ext ?_
  show gather_S40x1024x1024_S40x1_S40x1024x1024_12_0_n_n_0_1_110241024.start (ix3 i r d) idx a + gather_S40x1024x1024_S40x1_S40x1024x1024_12_0_n_n_0_1_110241024.batchCoord (ix3 i r d) a + gather_S40x1024x1024_S40x1_S40x1024x1024_12_0_n_n_0_1_110241024.offCoord (ix3 i r d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.batchCoord GatherDims.offCoord
    rw [dif_pos (by decide), dif_neg (by decide), dif_neg (by decide)]
    have hsi : gather_S40x1024x1024_S40x1_S40x1024x1024_12_0_n_n_0_1_110241024.siIdx (ix3 i r d) ⟨List.idxOf (0 : Fin 3) gather_S40x1024x1024_S40x1_S40x1024x1024_12_0_n_n_0_1_110241024.startIndexMap, List.idxOf_lt_length_iff.2 (by decide)⟩ = ix2 i 0 := by
      funext c
      refine Fin.ext ?_
      match c with
      | ⟨0, _⟩ => rfl
      | ⟨1, _⟩ => rfl
    exact congrArg (fun w : BitVec 32 => min w.toInt.toNat 39) (congrArg idx hsi)
  · unfold GatherDims.start GatherDims.batchCoord GatherDims.offCoord
    rw [dif_neg (by decide), dif_neg (by decide), dif_pos (by decide), Nat.zero_add]
    rfl
  · unfold GatherDims.start GatherDims.batchCoord GatherDims.offCoord
    rw [dif_neg (by decide), dif_neg (by decide), dif_pos (by decide), Nat.zero_add]
    rfl

/-- A row of blocks picked by a table: an expert's first matrices. -/
theorem gatherW (x : S8x1024x3584.Idx → EReal) (idx : IVec S40x1 32) (i : Fin 40) (r : Fin 1024) (d : Fin 3584) :
    Host.gather gather_S8x1024x3584_S40x1_S40x1024x3584_12_0_n_n_0_1_110243584 x idx (ix3 i r d) = x (ix3 ⟨min (idx (ix2 i 0)).toInt.toNat 7, by omega⟩ r d) := by
  unfold Host.gather
  congr 1
  funext a
  refine Fin.ext ?_
  show gather_S8x1024x3584_S40x1_S40x1024x3584_12_0_n_n_0_1_110243584.start (ix3 i r d) idx a + gather_S8x1024x3584_S40x1_S40x1024x3584_12_0_n_n_0_1_110243584.batchCoord (ix3 i r d) a + gather_S8x1024x3584_S40x1_S40x1024x3584_12_0_n_n_0_1_110243584.offCoord (ix3 i r d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.batchCoord GatherDims.offCoord
    rw [dif_pos (by decide), dif_neg (by decide), dif_neg (by decide)]
    have hsi : gather_S8x1024x3584_S40x1_S40x1024x3584_12_0_n_n_0_1_110243584.siIdx (ix3 i r d) ⟨List.idxOf (0 : Fin 3) gather_S8x1024x3584_S40x1_S40x1024x3584_12_0_n_n_0_1_110243584.startIndexMap, List.idxOf_lt_length_iff.2 (by decide)⟩ = ix2 i 0 := by
      funext c
      refine Fin.ext ?_
      match c with
      | ⟨0, _⟩ => rfl
      | ⟨1, _⟩ => rfl
    exact congrArg (fun w : BitVec 32 => min w.toInt.toNat 7) (congrArg idx hsi)
  · unfold GatherDims.start GatherDims.batchCoord GatherDims.offCoord
    rw [dif_neg (by decide), dif_neg (by decide), dif_pos (by decide), Nat.zero_add]
    rfl
  · unfold GatherDims.start GatherDims.batchCoord GatherDims.offCoord
    rw [dif_neg (by decide), dif_neg (by decide), dif_pos (by decide), Nat.zero_add]
    rfl

/-- A row of blocks picked by a table: an expert's last matrix. -/
theorem gatherD (x : S8x3584x1024.Idx → EReal) (idx : IVec S40x1 32) (i : Fin 40) (r : Fin 3584) (d : Fin 1024) :
    Host.gather gather_S8x3584x1024_S40x1_S40x3584x1024_12_0_n_n_0_1_135841024 x idx (ix3 i r d) = x (ix3 ⟨min (idx (ix2 i 0)).toInt.toNat 7, by omega⟩ r d) := by
  unfold Host.gather
  congr 1
  funext a
  refine Fin.ext ?_
  show gather_S8x3584x1024_S40x1_S40x3584x1024_12_0_n_n_0_1_135841024.start (ix3 i r d) idx a + gather_S8x3584x1024_S40x1_S40x3584x1024_12_0_n_n_0_1_135841024.batchCoord (ix3 i r d) a + gather_S8x3584x1024_S40x1_S40x3584x1024_12_0_n_n_0_1_135841024.offCoord (ix3 i r d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.batchCoord GatherDims.offCoord
    rw [dif_pos (by decide), dif_neg (by decide), dif_neg (by decide)]
    have hsi : gather_S8x3584x1024_S40x1_S40x3584x1024_12_0_n_n_0_1_135841024.siIdx (ix3 i r d) ⟨List.idxOf (0 : Fin 3) gather_S8x3584x1024_S40x1_S40x3584x1024_12_0_n_n_0_1_135841024.startIndexMap, List.idxOf_lt_length_iff.2 (by decide)⟩ = ix2 i 0 := by
      funext c
      refine Fin.ext ?_
      match c with
      | ⟨0, _⟩ => rfl
      | ⟨1, _⟩ => rfl
    exact congrArg (fun w : BitVec 32 => min w.toInt.toNat 7) (congrArg idx hsi)
  · unfold GatherDims.start GatherDims.batchCoord GatherDims.offCoord
    rw [dif_neg (by decide), dif_neg (by decide), dif_pos (by decide), Nat.zero_add]
    rfl
  · unfold GatherDims.start GatherDims.batchCoord GatherDims.offCoord
    rw [dif_neg (by decide), dif_neg (by decide), dif_pos (by decide), Nat.zero_add]
    rfl

variable (x0 x1 : IVec S40 32) (x2 : IVec S1 32) (x3 : FVec Ideal S40960x1024 .bf16)
  (x4 x5 : FVec Ideal S8x1024x3584 .f32) (x6 : FVec Ideal S8x3584x1024 .f32)

/-- An index that is not negative is kept. -/
theorem sel_keep (w n : BitVec 32) (h : 0 ≤ w.toInt) : Scalar.select (IntOp.cmpi CmpIPredicate.slt w 0#32) (IntOp.addi w n) w = w := by
  have e : IntOp.cmpi CmpIPredicate.slt w 0#32 = 0#1 := by
    show BitVec.ofBool (w.slt 0#32) = 0#1
    have : w.slt 0#32 = false := by
      simp only [BitVec.slt, decide_eq_false_iff_not, not_lt]
      exact h
    rw [this]; rfl
  rw [e]; rfl

theorem idxB (i : Fin 40) (h : 0 ≤ (x1 (ix1 i)).toInt) : val_main_v7 (F := Ideal) x1 (ix2 i 0) = x1 (ix1 i) := by
  pointwise [val_main_v7, val_main_v6, val_main_v5, val_main_v4, val_main_v3, val_main_v2, val_main_c, val_main_c_0]
  exact sel_keep _ _ h
theorem idxE1 (i : Fin 40) (h : 0 ≤ (x0 (ix1 i)).toInt) : val_main_v14 (F := Ideal) x0 (ix2 i 0) = x0 (ix1 i) := by
  pointwise [val_main_v14, val_main_v13, val_main_v12, val_main_v11, val_main_v10, val_main_v9, val_main_c_1, val_main_c_2]
  exact sel_keep _ _ h
theorem idxE2 (i : Fin 40) (h : 0 ≤ (x0 (ix1 i)).toInt) : val_main_v21 (F := Ideal) x0 (ix2 i 0) = x0 (ix1 i) := by
  pointwise [val_main_v21, val_main_v20, val_main_v19, val_main_v18, val_main_v17, val_main_v16, val_main_c_3, val_main_c_4]
  exact sel_keep _ _ h
theorem idxE3 (i : Fin 40) (h : 0 ≤ (x0 (ix1 i)).toInt) : val_main_v28 (F := Ideal) x0 (ix2 i 0) = x0 (ix1 i) := by
  pointwise [val_main_v28, val_main_v27, val_main_v26, val_main_v25, val_main_v24, val_main_v23, val_main_c_5, val_main_c_6]
  exact sel_keep _ _ h

/-- Row `r` of tile `i`, -/
theorem v8_at (i : Fin 40) (r k : Fin 1024) (b : Fin 40) (h : 0 ≤ (x1 (ix1 i)).toInt) (hb : (x1 (ix1 i)).toNat = b.val) :
    val_main_v8 (F := Ideal) x1 x3 (ix3 i r k) = x3 (ix2 ⟨b.val * 1024 + r.val, by omega⟩ k) := by
  unfold val_main_v8
  rw [gatherX, show (⟨min (val_main_v7 (F := Ideal) x1 (ix2 i 0)).toInt.toNat 39, by omega⟩ : Fin 40) = b from Fin.ext (by show min _ 39 = _; rw [idxB x1 i h, word_eq _ h]; omega)]
  pointwise [val_main_v1, val_main_v0]
/-- and the matrices of its expert. -/
theorem v15_at (i : Fin 40) (r : Fin 1024) (k : Fin 3584) (e : Fin 8) (h : 0 ≤ (x0 (ix1 i)).toInt) (he : (x0 (ix1 i)).toNat = e.val) :
    val_main_v15 (F := Ideal) x0 x4 (ix3 i r k) = x4 (ix3 e r k) := by
  unfold val_main_v15
  rw [gatherW, show (⟨min (val_main_v14 (F := Ideal) x0 (ix2 i 0)).toInt.toNat 7, by omega⟩ : Fin 8) = e from Fin.ext (by show min _ 7 = _; rw [idxE1 x0 i h, word_eq _ h]; omega)]
theorem v22_at (i : Fin 40) (r : Fin 1024) (k : Fin 3584) (e : Fin 8) (h : 0 ≤ (x0 (ix1 i)).toInt) (he : (x0 (ix1 i)).toNat = e.val) :
    val_main_v22 (F := Ideal) x0 x5 (ix3 i r k) = x5 (ix3 e r k) := by
  unfold val_main_v22
  rw [gatherW, show (⟨min (val_main_v21 (F := Ideal) x0 (ix2 i 0)).toInt.toNat 7, by omega⟩ : Fin 8) = e from Fin.ext (by show min _ 7 = _; rw [idxE2 x0 i h, word_eq _ h]; omega)]
theorem v29_at (i : Fin 40) (r : Fin 3584) (k : Fin 1024) (e : Fin 8) (h : 0 ≤ (x0 (ix1 i)).toInt) (he : (x0 (ix1 i)).toNat = e.val) :
    val_main_v29 (F := Ideal) x0 x6 (ix3 i r k) = x6 (ix3 e r k) := by
  unfold val_main_v29
  rw [gatherD, show (⟨min (val_main_v28 (F := Ideal) x0 (ix2 i 0)).toInt.toNat 7, by omega⟩ : Fin 8) = e from Fin.ext (by show min _ 7 = _; rw [idxE3 x0 i h, word_eq _ h]; omega)]

/-- The reference's output at row `r` of tile `i`. -/
theorem out_at (i : Fin 40) (r k : Fin 1024) (b : Fin 40) (e : Fin 8) (h : 0 ≤ (x1 (ix1 i)).toInt) (hb : (x1 (ix1 i)).toNat = b.val)
    (h' : 0 ≤ (x0 (ix1 i)).toInt) (he : (x0 (ix1 i)).toNat = e.val) :
    val_main_v41 (F := Ideal) x0 x1 x2 x3 x4 x5 x6 (ix2 ⟨i.val * 1024 + r.val, by omega⟩ k)
      = if (i.val : ℤ) < (x2 (ix1 0)).toInt then swi (fun c => x3 (ix2 ⟨b.val * 1024 + r.val, by omega⟩ c)) (fun c f => x4 (ix3 e c f)) (fun c f => x5 (ix3 e c f)) (fun f => x6 (ix3 e f k))
        else 0 := by
  pointwise [val_main_v41]
  pointwise [val_main_v40, val_main_v34, val_main_v33, val_main_v32, val_main_v31, val_main_v30, val_main_call0_v5, val_main_call0_v4, val_main_call0_v3, val_main_call0_v2, val_main_call0_v1,
    val_main_call0_v0, val_main_call0_cst, val_main_call0_cst_0, val_main_call1_v1, val_main_call1_v2, val_main_call1_v0, val_main_cst, val_main_v39, val_main_v38, val_main_v37, val_main_v36, val_main_v35]
  simp only [v8_at x1 x3 i _ _ b h hb, v15_at x0 x4 i _ _ e h' he, v22_at x0 x5 i _ _ e h' he, v29_at x0 x6 i _ _ e h' he]
  have z : (id (constant (F := Ideal) S_ FTy.f32 0#32) ix0 : EReal) = 0 := by
    show Ideal.ofBits .f32 0#32 = 0
    simp [Ideal.ofBits, Ideal.ieee]
  have c : IntOp.cmpi CmpIPredicate.slt (BitVec.ofNat 32 i.val) (x2 (ix1 0)) = BitVec.ofBool (decide ((i.val : ℤ) < (x2 (ix1 0)).toInt)) := by
    have e : (BitVec.ofNat 32 i.val).toInt = i.val := (by decide : ∀ k : Fin 40, (BitVec.ofNat 32 k.val).toInt = k.val) i
    show BitVec.ofBool ((BitVec.ofNat 32 i.val).slt (x2 (ix1 0))) = _
    simp only [BitVec.slt, e]
  rw [c]
  by_cases hu : (i.val : ℤ) < (x2 (ix1 0)).toInt
  · rw [if_pos hu, decide_eq_true hu]
    rfl
  · rw [if_neg hu, decide_eq_false hu]
    exact z

end ExpRef

end
-- ==== Proof.ExpClaim.lean ====
module

public import proofs.«01_k».proof.Defs
public import proofs.«01_k».proof.Proof.ExpOkB
public import proofs.«01_k».proof.Proof.ExpKer
public import proofs.«01_k».proof.Proof.ExpRef
public import proofs.«01_k».proof.Proof.Gen.Reference2Ideal.Run
public import Idealize.ShloMosaic.Lib.Quiescent

@[expose] public section

set_option maxRecDepth 16384

/-! The claims about the experts call. -/

noncomputable section

open Idealize.ShloMosaic Idealize.ShloMosaic.TcCoe Idealize.SL.Sem
open Idealize.ShloMosaic.Pipeline (Dat)

namespace ExpClaim

theorem frame_p : Cert.quiescent_Kernel2 := fun m ρ h =>
  ExpFrameB.quiet m ρ (ExpOkB.ok_of_range m (ExpOkB.inRange_of_pre m (h 0)))
theorem frame_pi : Cert.quiescent_Kernel2Ideal := fun m ρ h =>
  ExpFrameI.quiet m ρ (ExpOkI.ok_of_range m (ExpOkI.inRange_of_pre m (h 0)))

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_ri_pre : Cert.quiescent_Reference2Ideal_pre_tables_in_range := fun m ρ _ => frame_ri m ρ trivial

section

open Cert.Kernel2Ideal Cert.Kernel2Ideal.Gen

variable (m : (ℓ : Loc nD τ sig) → Buf (Elt Ideal) ℓ) (hO : ExpFrameI.Ok m)

/-- The arguments of the kernel. -/
abbrev A0 : S40.Idx → BitVec 32 := m (((0 : Dev nD).tc : Thread nD τ).loc main_arg0)
abbrev A1 : S40.Idx → BitVec 32 := m (((0 : Dev nD).tc : Thread nD τ).loc main_arg1)
abbrev A2 : S1.Idx → BitVec 32 := m (((0 : Dev nD).tc : Thread nD τ).loc main_arg2)
abbrev A3 : S40960x1024.Idx → EReal := m (((0 : Dev nD).tc : Thread nD τ).loc main_arg3)
abbrev A4 : S8x1024x3584.Idx → EReal := m (((0 : Dev nD).tc : Thread nD τ).loc main_arg4)
abbrev A5 : S8x1024x3584.Idx → EReal := m (((0 : Dev nD).tc : Thread nD τ).loc main_arg5)
abbrev A6 : S8x3584x1024.Idx → EReal := m (((0 : Dev nD).tc : Thread nD τ).loc main_arg6)

theorem nu_eq : ExpFrameI.nu m = A2 m (ix1 0) := by
  refine congrArg (m (((0 : Dev nD).tc : Thread nD τ).loc main_arg2)) ?_
  funext a; apply Fin.ext
  match a with
  | ⟨0, _⟩ => rfl

/-- The kernel's output array is the reference's. -/
theorem res (hR : ExpOkI.InRange m) :
    (ExpFrameI.dats m hO 0 0).arrAt 4 (ExpFrameI.cfgM m hO).N
      = Cert.Reference2Ideal.Read.val_main_v41 (F := Ideal) (A0 m) (A1 m) (A2 m) (A3 m) (A4 m) (A5 m) (A6 m) := by
  refine (ExpKer.final m hO hR).trans ?_
  funext (x : S40960x1024.Idx)
  have hx0 : (x 0).val < 40960 := (x 0).isLt
  have hx : x = ix2 ⟨(⟨(x 0).val / 1024, by omega⟩ : Fin 40).val * 1024 + (⟨(x 0).val % 1024, by omega⟩ : Fin 1024).val, by show (x 0).val / 1024 * 1024 + (x 0).val % 1024 < 40960; omega⟩ (x 1) := by
    funext a; apply Fin.ext
    match a with
    | ⟨0, _⟩ => show (x 0).val = (x 0).val / 1024 * 1024 + (x 0).val % 1024; omega
    | ⟨1, _⟩ => rfl
  have h0 := hR.1 ⟨(x 0).val / 1024, by omega⟩
  have h1 := hR.2 ⟨(x 0).val / 1024, by omega⟩
  refine (ExpKer.out_tile m hR ⟨(x 0).val / 1024, by omega⟩ ⟨(x 0).val % 1024, by omega⟩ (x 1) x (by show (x 0).val = (x 0).val / 1024 * 1024 + (x 0).val % 1024; omega) rfl).trans ?_
  refine Eq.trans ?_ (congrArg _ hx).symm
  refine Eq.trans ?_ (ExpRef.out_at (A0 m) (A1 m) (A2 m) (A3 m) (A4 m) (A5 m) (A6 m) ⟨(x 0).val / 1024, by omega⟩ ⟨(x 0).val % 1024, by omega⟩ (x 1)
    ⟨_, h1.1⟩ ⟨_, h0.1⟩ h1.2 rfl h0.2 rfl).symm
  rw [nu_eq]

end

/-- With the tables in range the kernel's output array is the reference's. -/
theorem algebraic : Cert.algebraic_Kernel2Ideal_Reference2Ideal := by
  intro m ρ m' ρ' hpre hagree
  have hR := ExpOkI.inRange_of_pre m (hpre 0)
  have hO := ExpOkI.ok_of_range m hR
  have hfr := ExpFrameI.frame_of m ρ hO (ExpFrameI.dats m hO) (ExpFrameI.A_eq m hO) (ExpFrameI.run_main m ρ hO)
  have hv := ExpFrameI.run_main m ρ hO
  refine ⟨fun c => (ExpFrameI.dats m hO 0 c).arrAt 4 (ExpFrameI.cfgM m hO).N, ?_, ?_⟩
  · exact (θ_run Cert.Kernel2Ideal.defs _ _).mono (fun _ h c => ⟨(h.1 c).1 4, h.2 c⟩) (θ_run_and hv hfr)
  · refine (θ_run Cert.Reference2Ideal.defs _ _).mono (fun _ h c => ⟨(h c).1.trans ?_, (h c).2⟩) (Cert.Reference2Ideal.Value.run (F := Ideal) m' ρ')
    obtain rfl : c = 0 := Subsingleton.elim _ _
    rw [Cert.Reference2Ideal.Read.val_main_v41_eq, (hagree 0).1, (hagree 0).2.1, (hagree 0).2.2.1, (hagree 0).2.2.2.1, (hagree 0).2.2.2.2.1,
      (hagree 0).2.2.2.2.2.1, (hagree 0).2.2.2.2.2.2]
    exact (res m hO hR).symm

end ExpClaim
-- ==== Proof.TailRun.lean ====
module

public import Idealize.ShloMosaic.Lib.Pipeline.FrameTail
public import Idealize.ShloMosaic.Lib.Quiescent
public import Idealize.ShloMosaic.Lib.Claim

@[expose] public section

set_option maxRecDepth 16384

/-! The launch of a program that computes on the host, enters one pipelined region and computes on the host again,
    with both what memory ends at and that every semaphore counter ends at zero. -/

noncomputable section

namespace TailRun

open Idealize.ShloMosaic
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe Idealize.ShloMosaic.Pipeline Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P) (kit : LaunchFacts (nD := nD) (τ := τ) cfgs p)
  (defs₀ : Defs nD τ sig Val Λ₀) (𝒱₀ : Variants)
  (m : (ℓ : Loc nD τ sig) → Buf Val ℓ) (g : Dev nD → PrngReg)
  (pre post : List (HloOp τ sig Val))

/-- Device `c`'s buffers when the region is entered: the first host line's results over the launch contents. -/
abbrev atEntry (c : Dev nD) : Valuation τ sig Val := StableHlo.after pre (StableHlo.launchContents m c)
/-- Its buffers when the region is left: the windows' arrays as the pipeline leaves them. -/
abbrev atExit (c : Dev nD) : Valuation τ sig Val := afterRegion (dats p c) (atEntry m pre c)
/-- Its buffers at the end: the second host line's results over those. -/
abbrev atEnd (c : Dev nD) : Valuation τ sig Val := StableHlo.after post (atExit cfgs dats p m pre c)

/-- The pipelines, with no prefetched table, and their (absent) tables' admissible contents. -/
abbrev pipes : P → PCfg sig Λ₀ Val := fun q => (cfgs q).toPCfg
abbrev noTables : (q : P) → (pipes (Val := Val) cfgs q).Adm := fun q => (cfgs q).toPCfg_adm

/-- No semaphore is given a level: nothing is owed. -/
abbrev noLev : GSem nD τ sig → Finset Unit := fun _ => ∅
abbrev zeroLev : GSem nD τ sig → Unit → ℕ := fun _ _ => 0

include kit in
set_option maxHeartbeats 400000 in
set_option backward.isDefEq.respectTransparency.types false in
/-- Every execution ends; each unscoped buffer of a core then holds its final contents, and every counter is zero. -/
theorem run
    (main : Dev nD → Prog (TpuEff nD τ sig Val (Sig Λ₀ P fun p => ((cfgs p).toPCfg (Val := Val)).Adm) .tc) PUnit)
    (hpre : pre.Forall fun op => op.bufs ⊆ StableHlo.tcRefs τ sig) (hpost : post.Forall fun op => op.bufs ⊆ StableHlo.tcRefs τ sig)
    (hmain : ∀ c, main c = chain [StableHlo.seq pre, Prog.lift (.customCall (entry p) ()), StableHlo.seq post])
    (hbody : ∀ c, BodyObligationLoose (dats p c) defs₀ 𝒱₀ () Set.univ)
    (hshare : ∀ c w, (dats p c).share w = fullShare) (howed : ∀ c t, (dats p c).owed t = 0)
    (hA : ∀ c w, (dats p c).A w = atEntry m pre c (Proc.devRef .tc (arrRef (cfgs p).spec w)))
    (hΦ : ∀ c t, (dats p c).Φ t = ΦA (cfgs p).spec c)
    (hscoped : ∀ sm : SemLoc sig, sm.isScoped .tc = true)
    (hfpre : ∀ op ∈ pre, op.fresh = ∅ := by intro _ h; (repeat (cases h with | head => rfl | tail _ h => ?_)); exact nomatch h)
    (hfpost : ∀ op ∈ post, op.fresh = ∅ := by intro _ h; (repeat (cases h with | head => rfl | tail _ h => ?_)); exact nomatch h) :
    θ_run (Pipeline.defs (pipes (Val := Val) cfgs) defs₀) (onTc main) ⟨m, fun _ => 0, g⟩ fun r =>
      (∀ (c : Dev nD) (b : Ref sig .tc), b.isScoped = false →
        r.2.mem ((c.tc : Thread nD τ).loc b) = atEnd cfgs dats p m pre post c (Proc.devRef .tc b))
      ∧ r.2.sem = fun _ => 0 := by
  classical
  have kitP : PLaunchFacts (nD := nD) (τ := τ) (pipes (Val := Val) cfgs) p := kit.toP
  let idle : Dev nD → sProp 𝕄 := fun c => iprop((∃ r, prngReg c r) ∗ ∃ W, owes (c.tc : Thread nD τ) (0 : CellTallies nD τ sig Unit) W)
  let start : Dev nD → sProp 𝕄 := fun c => iprop(prngReg c (g c) ∗ owes (c.tc : Thread nD τ) (0 : CellTallies nD τ sig Unit) ∅)
  let before : HostSeg (Name := ℕ) (U := UR sig nD τ) (pipes (Val := Val) cfgs) defs₀ 𝒱₀ noLev zeroLev :=
    HostSeg.ofOps (pipes (Val := Val) cfgs) defs₀ 𝒱₀ noLev zeroLev (ucRefs τ sig) pre
      (fun op h => sub_ucRefs op ((List.forall_iff_forall_mem.mp hpre) op h)) hfpre (fun c => StableHlo.launchContents m c) start
  let behind : HostSeg (Name := ℕ) (U := UR sig nD τ) (pipes (Val := Val) cfgs) defs₀ 𝒱₀ noLev zeroLev :=
    HostSeg.ofOps (pipes (Val := Val) cfgs) defs₀ 𝒱₀ noLev zeroLev (ucRefs τ sig) post
      (fun op h => sub_ucRefs op ((List.forall_iff_forall_mem.mp hpost) op h)) hfpost (atExit cfgs dats p m pre) idle
  have heldAs : ∀ (c : Dev nD) (V : Valuation τ sig Val), (StableHlo.held (c.tc : Thread nD τ) (ucRefs τ sig) V : sProp 𝕄)
      = unscopedBufs c (fun b => V (Proc.devRef .tc b)) :=
    fun c V => (unscopedBufs_held (Ix := Unit) (Name := ℕ) (U := UR sig nD τ) (Lvl := ℕ) c V).symm
  let region : RegionSeg (pipes (Val := Val) cfgs) (noTables (Val := Val) cfgs) dats () defs₀ 𝒱₀ noLev zeroLev p :=
    { win := kitP.win.to₀
      block_pos := kitP.block_pos
      stage_whole := kitP.stage_whole
      K := PEmpty
      osem := fun k => k.elim
      ho := OwnSemFacts.none _
      hbody := hbody
      hwaits := hwaits_of_owed_zero (pipes (Val := Val) cfgs) (noTables (Val := Val) cfgs) dats () noLev zeroLev p howed
      pre := fun c => iprop(StableHlo.held (c.tc : Thread nD τ) (ucRefs τ sig) (atEntry m pre c) ∗ start c)
      post := fun c => iprop(StableHlo.held (c.tc : Thread nD τ) (ucRefs τ sig) (atExit cfgs dats p m pre c) ∗ idle c)
      X := fun c => iprop(∃ r, prngReg c r)
      Y := fun c => iprop(∃ r, prngReg c r)
      Z := fun c => unscopedRest (Ix := Unit) (Name := ℕ) (U := UR sig nD τ) (Lvl := ℕ) (cfgs p).spec c (fun b => atEntry m pre c (Proc.devRef .tc b))
      hentry := fun c => by
        rw [ownSems0_none, heldAs]
        have apart := arrays_of_unscopedBufs (p := p) (pipes (Val := Val) cfgs) (noTables (Val := Val) cfgs) dats kitP.win kitP.arr_whole c (hshare c)
          (fun b => atEntry m pre c (Proc.devRef .tc b)) (fun w => hA c w)
        iintro ⟨⟨Hb, Hg, Ho⟩, -, -⟩
        ihave Hab := apart $$ Hb
        icases Hab with ⟨Ha, Hz⟩
        imodintro
        isplitl [Ha]; · iexact Ha
        isplitr
        · unfold prefHeld
          rw [show (Finset.univ : Finset (Fin 0)) = ∅ from rfl, BI.bigSep_empty]
          iempintro
        isplitl [Ho]
        · unfold Dat.owesAt owesWithin
          rw [howed c 0]
          iexists ∅
          isplitr
          · ipureintro; simp
          iexact Ho
        isplitl [Hg]
        · iexists _; iexact Hg
        iexact Hz
      hin := fun c => by
        rw [hΦ]
        unfold ΦA
        iintro ⟨Hg, -, Hr⟩
        isplitl [Hr]; · iexact Hr
        iexact Hg
      hout := fun c => by
        rw [hΦ, ownSems0_none]
        unfold ΦA
        iintro ⟨Hr, Hg⟩
        isplitl [Hg]; · iexact Hg
        isplitr; · iempintro
        iexact Hr
      hexit := fun c => by
        rw [heldAs]
        have together := unscopedBufs_of_arrays (p := p) (pipes (Val := Val) cfgs) (noTables (Val := Val) cfgs) (Ix := Unit) (Name := ℕ) (U := UR sig nD τ) (Lvl := ℕ)
          kitP.win kitP.arr_whole c dats (hshare c)
          (fun b => atEntry m pre c (Proc.devRef .tc b)) (fun b => atExit cfgs dats p m pre c (Proc.devRef .tc b))
          ((dats p c).arrAt · (cfgs p).N)
          (fun w => (afterRegion_arr (dats p c) (atEntry m pre c) kit.win.arr_inj w).symm)
          (fun b hb => afterRegion_of_not_arr (dats p c) (atEntry m pre c)
            fun w h => hb (h ▸ Finset.mem_image.mpr ⟨w, Finset.mem_univ _, rfl⟩))
        iintro ⟨Ha, Ho, Hg, Hz⟩
        imodintro
        isplitl [Ha Hz]
        · iapply together
          isplitl [Ha]; · iexact Ha
          iexact Hz
        isplitl [Hg]; · iexact Hg
        unfold Dat.owesAt owesWithin
        rw [howed c (Fin.last _)]
        icases Ho with ⟨%W, -, Ho⟩
        iexists W
        iexact Ho }
  refine θ_run_regions_kit_sems (pipes (Val := Val) cfgs) (noTables (Val := Val) cfgs) dats () (kitP.cellOf_inj (noTables (Val := Val) cfgs)) emb₁ defs₀ 𝒱₀ noLev zeroLev m g main
    [.host before, .region region, .host behind]
    (fun c Q => by rw [hmain c, Seg.run_eq_chain]; exact .rfl)
    (by simp only [Seg.pipes_host, Seg.pipes_region, Seg.pipes_nil]; exact List.nodup_singleton p)
    (O₀ := 0) (hL := fun _ _ => rfl)
    (G := fun _ => iprop(emp)) (u₀ := initOf (cells (pin (pipes (Val := Val) cfgs) (noTables (Val := Val) cfgs)) (kitP.cellOf_inj (noTables (Val := Val) cfgs))) (launchToks (pin (pipes (Val := Val) cfgs) (noTables (Val := Val) cfgs)) (kitP.cellOf_inj (noTables (Val := Val) cfgs))))
    (hu₀ := by
      iintro Hu
      imodintro
      isplitl [Hu]
      · iapply (show (ownU _ : sProp 𝕄) ⊢ BI.own (emb₁ (initOf (cells (pin (pipes (Val := Val) cfgs) (noTables (Val := Val) cfgs)) (kitP.cellOf_inj (noTables (Val := Val) cfgs))) (launchToks (pin (pipes (Val := Val) cfgs) (noTables (Val := Val) cfgs)) (kitP.cellOf_inj (noTables (Val := Val) cfgs))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (ucRefs τ sig) (StableHlo.launchContents m c) ∗ start c))
    (Tₙ := fun c => StableHlo.held (c.tc : Thread nD τ) (ucRefs τ sig) (atEnd cfgs dats p m pre post c))
    (hch := ⟨fun _ => .rfl, fun _ => .rfl, fun _ => .rfl, fun c =>
      (show iprop(StableHlo.held (c.tc : Thread nD τ) (ucRefs τ sig) (atEnd cfgs dats p m pre post c) ∗ idle c) ⊢ (_ : sProp 𝕄) from by
        iintro ⟨Hh, -, Ho⟩
        isplitl [Hh]; · iexact Hh
        iexact Ho)⟩)
    (hinit := by
      refine initEach noLev zeroLev fun c => ?_
      rw [show unscopedBufs c (fun b => m ((c.tc : Thread nD τ).loc b)) = (StableHlo.held (c.tc : Thread nD τ) (ucRefs τ sig) (StableHlo.launchContents m c) : sProp 𝕄)
          from (heldAs c (StableHlo.launchContents m c)).symm]
      iintro ⟨⟨Hh, -, Ho, -, Hg, -⟩, -⟩
      imodintro
      isplitl [Hh]; · iexact Hh
      isplitl [Hg]; · iexact Hg
      iexact Ho)
    (QY := fun c s => ∀ b ∈ ucRefs τ sig, s.mem ((c.tc : Thread nD τ).1, b) = atEnd cfgs dats p m pre post c b)
    (hfin := fun c s' => by
      unfold StableHlo.held
      iintro ⟨Hh, Hs⟩
      ihave Hr := (pointsTo_read_all (ucRefs τ sig) (fun b => ((c.tc : Thread nD τ).1, b)) (atEnd cfgs dats p m pre post c) s') $$ [Hh Hs]
      · isplitl [Hh]; · iexact Hh
        iexact Hs
      imodintro
      iexact Hr)
    (hQ := fun _ h hs => ⟨fun c b hb => h c (Proc.devRef .tc b) (devRef_mem_ucRefs hb), sem_eq_zero_of_scoped hscoped hs⟩)

end TailRun
-- ==== Proof.InpRun3I.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.TailRun
public import Idealize.ShloMosaic.Lib.Pipeline.FrameBody
public import Idealize.ShloMosaic.Lib.Tactic

@[expose] public section

set_option maxRecDepth 16384

/-! The input projection's launch: what each point's body leaves in the windows, and the run of the whole program. -/

noncomputable section

namespace Cert.Kernel3Ideal.Inp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer's contents when the region is entered. -/
abbrev V (c : Dev nD) (b : Ref sig .tc) : Buf (Elt F) ((c : Thread nD τ).loc b) := TailRun.atEntry m hostOps0 c (Proc.devRef .tc b)

/-- Window `w`'s block at point `t`, out of its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging block, as the body reads and writes it. -/
abbrev allX : Rect S512x1024 := Rect.unit (s := S512x1024) ![0, 0] S512x1024.size inb_S512x1024_S512x1024_0_0
abbrev allW : Rect S1024x3200 := Rect.unit (s := S1024x3200) ![0, 0] S1024x3200.size inb_S1024x3200_S1024x3200_0_0
abbrev allY : Rect S512x3200 := Rect.unit (s := S512x3200) ![0, 0] S512x3200.size inb_S512x3200_S512x3200_0_0

/-- The block a point writes back: one store over all of it. -/
def prod (x : Vec F S512x1024 .f32) (w : Vec F S1024x3200 .bf16) : Vec F S512x3200 .f32 :=
  View.canon [⟨allY, k0_pay1 (View.ld x allX) (View.ld w allW)⟩]

/-- That store reaches every element. -/
theorem prod_cover (p : Vec F S512x3200 .f32) (y : S512x3200.Idx) :
    ∃ pc ∈ ([⟨allY, p⟩] : List (View.Piece (Elt F) S512x3200 .f32)), y ∈ pc.1.set :=
  View.cover_of_tiled [⟨allY, p⟩] S512x3200.size (by rfl) y

/-- The data of the pipeline on device `c`: the arrays at entry, and the windows' blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod (iblk m c 0 t) (iblk m c 1 t)
  Φ _ := Pipeline.ΦA spec0 c
  q _ := fullShare
  owed _ := 0

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_y (c : Dev nD) (t : Fin cfg0.N) : (dats m 0 c).after 2 t = prod (iblk m c 0 t) (iblk m c 1 t) := by dsimp only [dats]

/-- Before each point the rows' window holds its block. -/
theorem before_x (c : Dev nD) (t : Fin cfg0.N) (d) : (dats m 0 c).before 0 t d = iblk m c 0 t :=
  ((dats m 0 c).before_in_eq_fetched 0 rfl (fun _ => rfl) (fun _ _ _ => rfl) (fun t => by rw [after_x]; rfl) t d).trans rfl
/-- Before each point the weights' window holds its block. -/
theorem before_w (c : Dev nD) (t : Fin cfg0.N) (d) : (dats m 0 c).before 1 t d = iblk m c 1 t :=
  ((dats m 0 c).before_in_eq_fetched 1 rfl (fun _ => rfl) (fun _ _ _ => rfl) (fun t => by rw [after_w]; rfl) t d).trans rfl

set_option maxHeartbeats 1000000 in
/-- The body leaves the two operands' blocks as they were and the product in the third. -/
theorem body_ok (c : Dev nD) (E : Set ℕ) (i : grid0.Coords) (arg1 : Memref sig .tc .vmem S512x1024 .f32) (harg1 : arg1.IsWhole)
    (arg2 : Memref sig .tc .vmem S1024x3200 .bf16) (harg2 : arg2.IsWhole) (arg3 : Memref sig .tc .vmem S512x3200 .f32) (harg3 : arg3.IsWhole)
    (x : Vec F S512x1024 .f32) (w : Vec F S1024x3200 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod x w)) -∗ K ⟨⟩))
      ⊢ wp frame (wpE (defs₀ (F := F)) Variants.none c none) E (cc0_in_proj_a_prompt i arg1 harg1 arg2 harg2 arg3 harg3) K := by
  simp only [cc0_in_proj_a_prompt_eq_skeleton]; unfold cc0_in_proj_a_prompt_skel
  unfold owns
  iintro ⟨⟨%f, %hf, Hx⟩, ⟨%g, %hg, Hw⟩, ⟨%d, %e, -, Hy⟩, Hk⟩
  subst hf hg
  sl_exec
  sl_step
  iapply Hk
  isplitl [Hx]
  · iexists f; isplitr; · ipureintro; rfl
    iexact Hx
  isplitl [Hw]
  · iexists g; isplitr; · ipureintro; rfl
    iexact Hw
  iexists _; isplitr
  swap; · iexact Hy
  ipureintro
  exact View.read_writes_eq_canon _ _ _ (prod_cover _)

/-- Every point's body keeps the pipeline's data. -/
theorem obligation (c : Dev nD) : BodyObligation (dats (F := F) m 0 c) (defs₀ (F := F)) Variants.none () Set.univ := fun t => by
  rw [bigSep_W0, bigSep_W0]
  show iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
    ⊢ wp frame (wpE (defs₀ (F := F)) Variants.none c none) Set.univ (bodyAt0 t) (fun _ => iprop((dats m 0 c).Φ t.castSucc ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)))
  unfold bodyAt0
  simp only [before_x, before_w]
  rw [after_x, after_w, after_y]
  iintro ⟨HΦ, Ho, ⟨%d0, Hx⟩, ⟨%d1, Hw⟩, ⟨%d2, Hy⟩⟩
  iapply (body_ok c Set.univ (grid0.coords t) _ _ _ _ _ _ (iblk m c 0 t) (iblk m c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

/-- A core's memory at the end of the program. -/
abbrev last (c : Dev nD) : Valuation τ sig (Elt F) := TailRun.atEnd cfgs (dats m) (0 : Fin 1) m hostOps0 hostOps1 c

set_option backward.isDefEq.respectTransparency.types false in
/-- The program ends with its memory at `last` and every counter at zero. -/
theorem run_main : θ_run defs (onTc (τ := τ) (main (F := F))) (s₀ m ρ) fun r =>
    (∀ (c : Dev nD) (b : Ref sig .tc), b.isScoped = false → r.2.mem ((c.tc : Thread nD τ).loc b) = last m c (Proc.devRef .tc b))
      ∧ r.2.sem = fun _ => 0 :=
  TailRun.run cfgs (dats m) (0 : Fin 1) launch0 defs₀ Variants.none m ρ hostOps0 hostOps1 main hostOps0_sub hostOps1_sub
    main_chain
    (hbody := fun c => (obligation m c).loose) (hshare := fun c => (dats m 0 c).share_full fun _ => rfl)
    (howed := fun _ _ => rfl) (hA := fun _ _ => rfl) (hΦ := fun _ _ => rfl) (hscoped := by decide)

/-- The end keeps the arguments as they were. -/
theorem last_arg0 (c : Dev nD) : last m c (Proc.devRef .tc main_arg0) = m ((c.tc : Thread nD τ).loc main_arg0) := by
  unfold last TailRun.atEnd TailRun.atExit TailRun.atEntry
  after_region_results
theorem last_arg1 (c : Dev nD) : last m c (Proc.devRef .tc main_arg1) = m ((c.tc : Thread nD τ).loc main_arg1) := by
  unfold last TailRun.atEnd TailRun.atExit TailRun.atEntry
  after_region_results

end Cert.Kernel3Ideal.Inp

end
-- ==== Proof.InpVal3.lean ====
module

public import proofs.«01_k».proof.Proof.InpRun3I
public import Idealize.ShloMosaic.Lib.Pointwise
public import Idealize.ShloMosaic.Lib.Pipeline.Value
public import Idealize.ShloMosaic.Lib.Pipeline.ValueKit

@[expose] public section

set_option maxRecDepth 16384

/-! The input projection's product array, entry by entry, from the program's arguments. -/

noncomputable section

open Idealize.ShloMosaic Idealize.ShloMosaic.TcCoe Idealize.SL.Sem
open Idealize.ShloMosaic.Pipeline (Dat)

namespace InpVal3

open Cert.Kernel3Ideal Cert.Kernel3Ideal.Gen Cert.Kernel3Ideal.Inp

/-- A point's payload is the matrix product of its two blocks. -/
theorem pay_at (x : Vec Ideal S512x1024 .f32) (w : Vec Ideal S1024x3200 .bf16) (r : Fin 512) (j : Fin 3200) :
    k0_pay1 x w (ix2 r j) = ∑ k : Fin 1024, x (ix2 r k) * w (ix2 k j) := by
  pointwise [k0_pay1]

/-- So is the block it writes back. -/
theorem prod_at (x : Vec Ideal S512x1024 .f32) (w : Vec Ideal S1024x3200 .bf16) (r : Fin 512) (j : Fin 3200) :
    prod x w (ix2 r j) = ∑ k : Fin 1024, x (ix2 r k) * w (ix2 k j) := by
  have h : prod x w = k0_pay1 x w := by
    unfold prod
    rw [View.canon_cons_unit_lit]
    · rw [View.ld_unit_lit, View.ld_unit_lit]
      all_goals decide
    · decide
  rw [h]
  exact pay_at x w r j

variable (m : (ℓ : Loc nD τ sig) → Buf (Elt Ideal) ℓ) (c : Dev nD)

/-- The rows and the rearranged weights, as the region finds them. -/
abbrev rows : S16384x1024.Idx → EReal := V m c main_v0
abbrev wts : S1024x3200.Idx → EReal := V m c main_v8

/-- Both run over the rows block by block. -/
theorem idx0 : ∀ t : Fin grid0.N, cc0_transform_0 (grid0.coords t) 0 = t.val := by decide +kernel
theorem idx2 : ∀ t : Fin grid0.N, cc0_transform_2 (grid0.coords t) 0 = t.val := by decide +kernel

/-- The rows' block at point `t`. -/
theorem blkX (t : Fin cfg0.N) (r : Fin 512) (k : Fin 1024) (q : Fin 16384) (hq : q.val = 512 * t.val + r.val) :
    iblk m c 0 t (ix2 r k) = rows m c (ix2 q k) := by
  unfold iblk
  refine congrArg (V m c main_v0) ?_
  funext a; apply Fin.ext
  match a with
  | ⟨0, _⟩ =>
    show cc0_transform_0 (grid0.coords t) 0 * 512 + 1 * r.val = q.val
    rw [idx0]; omega
  | ⟨1, _⟩ =>
    show 0 * 1024 + 1 * k.val = k.val
    omega

/-- The weights' block at every point. -/
theorem blkW (t : Fin cfg0.N) (k : Fin 1024) (j : Fin 3200) : iblk m c 1 t (ix2 k j) = wts m c (ix2 k j) := by
  unfold iblk
  refine congrArg (V m c main_v8) ?_
  funext a; apply Fin.ext
  match a with
  | ⟨0, _⟩ => show 0 * 1024 + 1 * k.val = k.val; omega
  | ⟨1, _⟩ => show 0 * 3200 + 1 * j.val = j.val; omega

/-- The array of products. -/
def out : S16384x3200.Idx → EReal := fun x => ∑ k : Fin 1024, rows m c (ix2 (x 0) k) * wts m c (ix2 k (x 1))

/-- What the region leaves in its result. -/
theorem final : (dats m 0 c).arrAt 2 cfg0.N = out m c := by
  refine (dats m 0 c).arrAt_eq_of_emb 2 (out m c) (fun t hf (y : S512x3200.Idx) => ?_) (fun (x : S16384x3200.Idx) => ?_)
  · have ht : t.val < 32 := Nat.lt_of_lt_of_eq t.isLt (by decide)
    have hy0 : (y 0).val < 512 := (y 0).isLt
    have he : ((cfg0.win 2).blk t).view.emb y = ix2 (⟨512 * t.val + (y 0).val, by omega⟩ : Fin 16384) (y 1) := by
      funext a; apply Fin.ext
      match a with
      | ⟨0, _⟩ =>
        show cc0_transform_2 (grid0.coords t) 0 * 512 + 1 * (y 0).val = 512 * t.val + (y 0).val
        rw [idx2]; omega
      | ⟨1, _⟩ => show 0 * 3200 + 1 * (y 1).val = (y 1).val; omega
    rw [he]
    refine (congrFun (after_y m c t) y).trans ?_
    refine (congrArg (prod (iblk m c 0 t) (iblk m c 1 t)) (eq_ix2 y)).trans ?_
    refine (prod_at _ _ (y 0) (y 1)).trans (Finset.sum_congr rfl fun k _ => ?_)
    exact congrArg₂ (· * ·) (blkX m c t (y 0) k _ rfl) (blkW m c t k (y 1))
  · have hx0 : (x 0).val < 16384 := (x 0).isLt
    have hx1 : (x 1).val < 3200 := (x 1).isLt
    obtain ⟨t, ht⟩ : ∃ t : Fin cfg0.N, t.val = (x 0).val / 512 :=
      ⟨⟨(x 0).val / 512, Nat.lt_of_lt_of_eq (by omega) (show 32 = cfg0.N by decide)⟩, rfl⟩
    have hx : ((cfg0.win 2).blk t).view.emb (ix2 (⟨(x 0).val % 512, by omega⟩ : Fin 512) (⟨(x 1).val, hx1⟩ : Fin 3200) : S512x3200.Idx) = x := by
      funext a; apply Fin.ext
      match a with
      | ⟨0, _⟩ =>
        show cc0_transform_2 (grid0.coords t) 0 * 512 + 1 * ((x 0).val % 512) = (x 0).val
        rw [idx2]; omega
      | ⟨1, _⟩ => show 0 * 3200 + 1 * (x 1).val = (x 1).val; omega
    refine ⟨t, flush0_2 t, ?_⟩
    rw [← hx]; exact View.emb_mem_set _ _

/-- The rows are the argument's, flattened. -/
theorem rows_at (x : S2x8192x1024.Idx → EReal) (hx : x = m ((c.tc : Thread nD τ).loc main_arg0)) (b : Fin 2) (t : Fin 8192) (k : Fin 1024) (q : Fin 16384)
    (hq : q.val = 8192 * b.val + t.val) : rows m c (ix2 q k) = x (ix3 b t k) := by
  have h : rows m c = shapeCast S16384x1024 x shapeCasts_S2x8192x1024_S16384x1024 := by
    subst hx
    unfold rows V TailRun.atEntry
    after_results
    rfl
  rw [h]
  pointwise []
  exact congrArg₂ (fun u v => x (ix3 u v k)) (Fin.ext (by show q.val / 8192 = b.val; omega)) (Fin.ext (by show q.val % 8192 = t.val; omega))

/-- The two ranges of the rearranged weights' columns that are read: the convolution's channels, and the keys and values. -/
theorem wts_eq (w : S1x1024x3080.Idx → EReal) (hw : w = m ((c.tc : Thread nD τ).loc main_arg1)) (k : Fin 1024) (j : Fin 1024) :
    wts m c (ix2 k ⟨j.val, by omega⟩) = w (ix3 0 k ⟨512 + j.val, by omega⟩)
    ∧ wts m c (ix2 k ⟨2048 + j.val, by omega⟩) = w (ix3 0 k ⟨2056 + j.val, by omega⟩) := by
  have h : wts m c = (truncf (F := Ideal) .bf16 (concatenate S1024x3200 1 [⟨S1024x1024, extractStridedSlice S1024x1024 ![0, 512] (shapeCast S1024x3080 w shapeCasts_S1x1024x3080_S1024x3080) slices_S1024x3080_S1024x1024_0_512⟩,
      ⟨S1024x512, extractStridedSlice S1024x512 ![0, 0] (shapeCast S1024x3080 w shapeCasts_S1x1024x3080_S1024x3080) slices_S1024x3080_S1024x512_0_0⟩,
      ⟨S1024x1536, extractStridedSlice S1024x1536 ![0, 1544] (shapeCast S1024x3080 w shapeCasts_S1x1024x3080_S1024x3080) slices_S1024x3080_S1024x1536_0_1544⟩,
      ⟨S1024x8, extractStridedSlice S1024x8 ![0, 1536] (shapeCast S1024x3080 w shapeCasts_S1x1024x3080_S1024x3080) slices_S1024x3080_S1024x8_0_1536⟩,
      ⟨S1024x120, broadcastInDim S1024x120 ![] bcast_S_S1024x120 (constant (F := Ideal) S_ .f32 0x00000000#32)⟩]
      concatenates_S1024x1024_S1024x512_S1024x1536_S1024x8_S1024x120_S1024x3200_d1) bitsLt_bf16_f32) := by
    subst hw
    unfold wts V TailRun.atEntry
    after_results
    rfl
  rw [h]
  constructor
  · pointwise []
  · pointwise []
    rw [dif_neg (by omega), dif_neg (by omega), dif_pos (by omega)]
    exact congrArg (fun q => w (ix3 0 k q)) (Fin.ext (by show 1544 + (2048 + j.val - 1024 - 512) = 2056 + j.val; omega))

/-- A product read in the columns of the convolution's channels, -/
theorem out_conv (x : S2x8192x1024.Idx → EReal) (hx : x = m ((c.tc : Thread nD τ).loc main_arg0)) (w : S1x1024x3080.Idx → EReal) (hw : w = m ((c.tc : Thread nD τ).loc main_arg1))
    (b : Fin 2) (t : Fin 8192) (j : Fin 1024) (q : Fin 16384) (hq : q.val = 8192 * b.val + t.val) (p : Fin 3200) (hp : p.val = j.val) :
    out m c (ix2 q p) = ∑ k : Fin 1024, x (ix3 b t k) * w (ix3 0 k ⟨512 + j.val, by omega⟩) := by
  exact Finset.sum_congr rfl fun k _ => congrArg₂ (· * ·) (rows_at m c x hx b t k q hq)
    ((congrArg (fun u => wts m c (ix2 k u)) (show p = ⟨j.val, by have := j.isLt; omega⟩ from Fin.ext hp)).trans (wts_eq m c w hw k j).1)
/-- and in those of the keys and values. -/
theorem out_kv (x : S2x8192x1024.Idx → EReal) (hx : x = m ((c.tc : Thread nD τ).loc main_arg0)) (w : S1x1024x3080.Idx → EReal) (hw : w = m ((c.tc : Thread nD τ).loc main_arg1))
    (b : Fin 2) (t : Fin 8192) (j : Fin 1024) (q : Fin 16384) (hq : q.val = 8192 * b.val + t.val) (p : Fin 3200) (hp : p.val = 2048 + j.val) :
    out m c (ix2 q p) = ∑ k : Fin 1024, x (ix3 b t k) * w (ix3 0 k ⟨2056 + j.val, by omega⟩) := by
  exact Finset.sum_congr rfl fun k _ => congrArg₂ (· * ·) (rows_at m c x hx b t k q hq)
    ((congrArg (fun u => wts m c (ix2 k u)) (show p = ⟨2048 + j.val, by have := j.isLt; omega⟩ from Fin.ext hp)).trans (wts_eq m c w hw k j).2)

end InpVal3
-- ==== Proof.InpRef3.lean ====
module

public import proofs.«01_k».proof.Proof.Gen.Reference3Ideal.Read
public import Idealize.ShloMosaic.Lib.Pointwise

@[expose] public section

set_option maxRecDepth 16384

/-! The reference of the prompt's input projection, entry by entry. -/

noncomputable section

open Idealize.ShloMosaic Idealize.ShloMosaic.TcCoe Idealize.SL.Sem

namespace InpRef3

open Cert.Reference3Ideal Cert.Reference3Ideal.Gen Cert.Reference3Ideal.Read

variable (x : S2x8192x1024.Idx → EReal) (w : S1x1024x3080.Idx → EReal)

/-- The product. -/
theorem prod_at (b : Fin 2) (t : Fin 8192) (j : Fin 3080) :
    val_main_v2 (F := Ideal) x w (ix3 b t j) = ∑ k : Fin 1024, x (ix3 b t k) * w (ix3 0 k j) := by
  pointwise [val_main_v2, val_main_v1]

/-- A key. -/
theorem key_at (b : Fin 2) (t : Fin 8192) (h : Fin 8) (d : Fin 64) :
    val_main_v13 (F := Ideal) x w (ix5 0 b t h d) = ∑ k : Fin 1024, x (ix3 b t k) * w (ix3 0 k ⟨2056 + (h.val * 64 + d.val), by omega⟩) := by
  refine Eq.trans ?_ (prod_at x w b t ⟨2056 + (h.val * 64 + d.val), by omega⟩)
  unfold val_main_v13 val_main_v10 val_main_v7
  generalize val_main_v2 (F := Ideal) x w = y
  pointwise []

/-- A value. -/
theorem value_at (b : Fin 2) (t : Fin 8192) (h : Fin 8) (d : Fin 64) :
    val_main_v14 (F := Ideal) x w (ix5 0 b t h d) = ∑ k : Fin 1024, x (ix3 b t k) * w (ix3 0 k ⟨2568 + (h.val * 64 + d.val), by omega⟩) := by
  refine Eq.trans ?_ (prod_at x w b t ⟨2568 + (h.val * 64 + d.val), by omega⟩)
  unfold val_main_v14 val_main_v11 val_main_v8
  generalize val_main_v2 (F := Ideal) x w = y
  pointwise []

/-- The convolution's last rows. -/
theorem conv_at (b : Fin 2) (t : Fin 3) (j : Fin 1024) :
    val_main_v15 (F := Ideal) x w (ix4 0 b t j) = ∑ k : Fin 1024, x (ix3 b ⟨8189 + t.val, by omega⟩ k) * w (ix3 0 k ⟨512 + j.val, by omega⟩) := by
  refine Eq.trans ?_ (prod_at x w b ⟨8189 + t.val, by omega⟩ ⟨512 + j.val, by omega⟩)
  unfold val_main_v15 val_main_v12 val_main_v9 val_main_v4
  generalize val_main_v2 (F := Ideal) x w = y
  pointwise []
  rw [dif_neg (by omega)]
  exact congrArg (fun u => y (ix3 b u ⟨512 + j.val, by omega⟩)) (Fin.ext (by show 8192 + t.val - 3 = 8189 + t.val; omega))

end InpRef3
-- ==== Proof.InpClaim3.lean ====
module

public import proofs.«01_k».proof.Defs
public import proofs.«01_k».proof.Proof.InpRun3B
public import proofs.«01_k».proof.Proof.InpVal3
public import proofs.«01_k».proof.Proof.InpRef3
public import proofs.«01_k».proof.Proof.Gen.Reference3Ideal.Run
public import Idealize.ShloMosaic.Lib.Quiescent

@[expose] public section

set_option maxRecDepth 16384

/-! What is claimed of the prompt's input projection. -/

noncomputable section

open Idealize.ShloMosaic Idealize.ShloMosaic.TcCoe Idealize.SL.Sem
open Idealize.ShloMosaic.Pipeline (Dat)

namespace InpClaim3

/-- The machine's program runs, keeps its arguments and leaves every counter at zero. -/
theorem frame_p : Cert.quiescent_Kernel3 := fun m ρ _ =>
  (θ_run Cert.Kernel3.defs _ _).mono (fun _ h => ⟨fun c => ⟨(h.1 c _ rfl).trans (Cert.Kernel3.Inp.last_arg0 m c), (h.1 c _ rfl).trans (Cert.Kernel3.Inp.last_arg1 m c)⟩, h.2⟩) (Cert.Kernel3.Inp.run_main m ρ)
/-- So does the program over the extended reals, -/
theorem frame_pi : Cert.quiescent_Kernel3Ideal := fun m ρ _ =>
  (θ_run Cert.Kernel3Ideal.defs _ _).mono (fun _ h => ⟨fun c => ⟨(h.1 c _ rfl).trans (Cert.Kernel3Ideal.Inp.last_arg0 m c), (h.1 c _ rfl).trans (Cert.Kernel3Ideal.Inp.last_arg1 m c)⟩, h.2⟩) (Cert.Kernel3Ideal.Inp.run_main m ρ)
/-- and the reference. -/
theorem frame_ri : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

section

open Cert.Kernel3Ideal Cert.Kernel3Ideal.Gen Cert.Kernel3Ideal.Inp

variable (m : (ℓ : Loc nD τ sig) → Buf (Elt Ideal) ℓ) (c : Dev nD)

/-- The arguments. -/
abbrev X : S2x8192x1024.Idx → EReal := m ((c.tc : Thread nD τ).loc main_arg0)
abbrev W : S1x1024x3080.Idx → EReal := m ((c.tc : Thread nD τ).loc main_arg1)

/-- The keys, as the program ends: a range of columns of the product. -/
theorem keys_of : last m c (Proc.devRef .tc main_v16) = broadcastInDim S1x2x8192x8x64 ![1, 2, 3, 4] bcast_S2x8192x8x64_S1x2x8192x8x64_1_2_3_4 (shapeCast S2x8192x8x64 (extractStridedSlice S16384x512 ![0, 2048] (InpVal3.out m c) slices_S16384x3200_S16384x512_0_2048) shapeCasts_S16384x512_S2x8192x8x64) := by
  unfold last TailRun.atEnd TailRun.atExit TailRun.atEntry
  after_region_results
  erw [Pipeline.afterRegion_arr (dats m 0 c) _ Gen.launch0.win.arr_inj 2]
  rw [InpVal3.final]
  rfl

/-- The values. -/
theorem values_of : last m c (Proc.devRef .tc main_v17) = broadcastInDim S1x2x8192x8x64 ![1, 2, 3, 4] bcast_S2x8192x8x64_S1x2x8192x8x64_1_2_3_4 (shapeCast S2x8192x8x64 (extractStridedSlice S16384x512 ![0, 2560] (InpVal3.out m c) slices_S16384x3200_S16384x512_0_2560) shapeCasts_S16384x512_S2x8192x8x64) := by
  unfold last TailRun.atEnd TailRun.atExit TailRun.atEntry
  after_region_results
  erw [Pipeline.afterRegion_arr (dats m 0 c) _ Gen.launch0.win.arr_inj 2]
  rw [InpVal3.final]
  rfl

/-- The last rows of the convolution's channels. -/
theorem conv_of : last m c (Proc.devRef .tc main_v18) = broadcastInDim S1x2x3x1024 ![1, 2, 3] bcast_S2x3x1024_S1x2x3x1024_1_2_3 (extractStridedSlice S2x3x1024 ![0, 8189, 0] (shapeCast S2x8192x3200 (InpVal3.out m c) shapeCasts_S16384x3200_S2x8192x3200) slices_S2x8192x3200_S2x3x1024_0_8189_0) := by
  unfold last TailRun.atEnd TailRun.atExit TailRun.atEntry
  after_region_results
  erw [Pipeline.afterRegion_arr (dats m 0 c) _ Gen.launch0.win.arr_inj 2]
  rw [InpVal3.final]
  rfl

/-- The keys are the reference's. -/
theorem keys_eq : last m c (Proc.devRef .tc main_v16) = Cert.Reference3Ideal.Read.val_main_v13 (F := Ideal) (X m c) (W m c) := by
  rw [keys_of]
  funext (i : S1x2x8192x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ (InpRef3.key_at (X m c) (W m c) b t h d).symm
  refine Eq.trans ?_ (InpVal3.out_kv m c (X m c) rfl (W m c) rfl b t ⟨h.val * 64 + d.val, by omega⟩ ⟨8192 * b.val + t.val, by omega⟩ rfl ⟨2048 + (h.val * 64 + d.val), by omega⟩ rfl)
  generalize InpVal3.out m c = y
  pointwise []
  exact congrArg (fun u => y (ix2 u ⟨2048 + (h.val * 64 + d.val), by omega⟩)) (Fin.ext (by show b.val * 8192 + t.val = 8192 * b.val + t.val; omega))
/-- The values are the reference's. -/
theorem values_eq : last m c (Proc.devRef .tc main_v17) = Cert.Reference3Ideal.Read.val_main_v14 (F := Ideal) (X m c) (W m c) := by
  rw [values_of]
  funext (i : S1x2x8192x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ (InpRef3.value_at (X m c) (W m c) b t h d).symm
  refine Eq.trans ?_ ((InpVal3.out_kv m c (X m c) rfl (W m c) rfl b t ⟨512 + (h.val * 64 + d.val), by omega⟩ ⟨8192 * b.val + t.val, by omega⟩ rfl ⟨2560 + (h.val * 64 + d.val), by omega⟩
    (by show 2560 + (h.val * 64 + d.val) = 2048 + (512 + (h.val * 64 + d.val)); omega)).trans
    (Finset.sum_congr rfl fun k _ => congrArg (fun u => X m c (ix3 b t k) * W m c (ix3 0 k u)) (Fin.ext (by show 2056 + (512 + (h.val * 64 + d.val)) = 2568 + (h.val * 64 + d.val); omega))))
  generalize InpVal3.out m c = y
  pointwise []
  exact congrArg (fun u => y (ix2 u ⟨2560 + (h.val * 64 + d.val), by omega⟩)) (Fin.ext (by show b.val * 8192 + t.val = 8192 * b.val + t.val; omega))
/-- The convolution's rows are the reference's. -/
theorem conv_eq : last m c (Proc.devRef .tc main_v18) = Cert.Reference3Ideal.Read.val_main_v15 (F := Ideal) (X m c) (W m c) := by
  rw [conv_of]
  funext (i : S1x2x3x1024.Idx)
  obtain ⟨b, t, j, rfl⟩ : ∃ b t j, i = ix4 0 b t j := ⟨i 1, i 2, i 3, (eq_ix4 i).trans (congrArg (fun z => ix4 z (i 1) (i 2) (i 3)) (Subsingleton.elim (α := Fin 1) _ _))⟩
  refine Eq.trans ?_ (InpRef3.conv_at (X m c) (W m c) b t j).symm
  refine Eq.trans ?_ (InpVal3.out_conv m c (X m c) rfl (W m c) rfl b ⟨8189 + t.val, by omega⟩ j ⟨8192 * b.val + (8189 + t.val), by omega⟩ rfl ⟨j.val, by omega⟩ rfl)
  generalize InpVal3.out m c = y
  pointwise []
  exact congrArg (fun u => y (ix2 u ⟨j.val, by omega⟩)) (Fin.ext (by show b.val * 8192 + (8189 + t.val) = 8192 * b.val + (8189 + t.val); omega))

end

/-- The three results are the reference's. -/
theorem algebraic : Cert.algebraic_Kernel3Ideal_Reference3Ideal := by
  intro m ρ m' ρ' _ hagree
  refine ⟨fun c => Cert.Kernel3Ideal.Inp.last m c (Proc.devRef .tc Cert.Kernel3Ideal.main_v16), fun c => Cert.Kernel3Ideal.Inp.last m c (Proc.devRef .tc Cert.Kernel3Ideal.main_v17),
    fun c => Cert.Kernel3Ideal.Inp.last m c (Proc.devRef .tc Cert.Kernel3Ideal.main_v18), ?_, ?_⟩
  · exact (θ_run Cert.Kernel3Ideal.defs _ _).mono (fun _ h c => ⟨h.1 c _ rfl, h.1 c _ rfl, h.1 c _ rfl, (h.1 c _ rfl).trans (Cert.Kernel3Ideal.Inp.last_arg0 m c), (h.1 c _ rfl).trans (Cert.Kernel3Ideal.Inp.last_arg1 m c)⟩) (Cert.Kernel3Ideal.Inp.run_main m ρ)
  · refine (θ_run Cert.Reference3Ideal.defs _ _).mono (fun _ h c => ⟨(h c).1.trans ?_, (h c).2.1.trans ?_, (h c).2.2.1.trans ?_, (h c).2.2.2⟩) (Cert.Reference3Ideal.Value.run (F := Ideal) m' ρ')
    · rw [Cert.Reference3Ideal.Read.val_main_v13_eq, (hagree c).1, (hagree c).2]
      exact (keys_eq m c).symm
    · rw [Cert.Reference3Ideal.Read.val_main_v14_eq, (hagree c).1, (hagree c).2]
      exact (values_eq m c).symm
    · rw [Cert.Reference3Ideal.Read.val_main_v15_eq, (hagree c).1, (hagree c).2]
      exact (conv_eq m c).symm

end InpClaim3
-- ==== Proof.InpRun4I.lean ====
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.TailRun
public import Idealize.ShloMosaic.Lib.Pipeline.FrameBody
public import Idealize.ShloMosaic.Lib.Tactic

@[expose] public section

set_option maxRecDepth 16384

/-! The input projection's launch: what each point's body leaves in the windows, and the run of the whole program. -/

noncomputable section

namespace Cert.Kernel4Ideal.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer's contents when the region is entered. -/
abbrev V (c : Dev nD) (b : Ref sig .tc) : Buf (Elt F) ((c : Thread nD τ).loc b) := TailRun.atEntry m hostOps0 c (Proc.devRef .tc b)

/-- Window `w`'s block at point `t`, out of its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging block, as the body reads and writes it. -/
abbrev allX : Rect S256x1024 := Rect.unit (s := S256x1024) ![0, 0] S256x1024.size inb_S256x1024_S256x1024_0_0
abbrev allW : Rect S1024x3200 := Rect.unit (s := S1024x3200) ![0, 0] S1024x3200.size inb_S1024x3200_S1024x3200_0_0
abbrev allY : Rect S256x3200 := Rect.unit (s := S256x3200) ![0, 0] S256x3200.size inb_S256x3200_S256x3200_0_0

/-- The block a point writes back: one store over all of it. -/
def prod (x : Vec F S256x1024 .f32) (w : Vec F S1024x3200 .bf16) : Vec F S256x3200 .f32 :=
  View.canon [⟨allY, k0_pay1 (View.ld x allX) (View.ld w allW)⟩]

/-- That store reaches every element. -/
theorem prod_cover (p : Vec F S256x3200 .f32) (y : S256x3200.Idx) :
    ∃ pc ∈ ([⟨allY, p⟩] : List (View.Piece (Elt F) S256x3200 .f32)), y ∈ pc.1.set :=
  View.cover_of_tiled [⟨allY, p⟩] S256x3200.size (by rfl) y

/-- The data of the pipeline on device `c`: the arrays at entry, and the windows' blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod (iblk m c 0 t) (iblk m c 1 t)
  Φ _ := Pipeline.ΦA spec0 c
  q _ := fullShare
  owed _ := 0

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_y (c : Dev nD) (t : Fin cfg0.N) : (dats m 0 c).after 2 t = prod (iblk m c 0 t) (iblk m c 1 t) := by dsimp only [dats]

/-- Before each point the rows' window holds its block. -/
theorem before_x (c : Dev nD) (t : Fin cfg0.N) (d) : (dats m 0 c).before 0 t d = iblk m c 0 t :=
  ((dats m 0 c).before_in_eq_fetched 0 rfl (fun _ => rfl) (fun _ _ _ => rfl) (fun t => by rw [after_x]; rfl) t d).trans rfl
/-- Before each point the weights' window holds its block. -/
theorem before_w (c : Dev nD) (t : Fin cfg0.N) (d) : (dats m 0 c).before 1 t d = iblk m c 1 t :=
  ((dats m 0 c).before_in_eq_fetched 1 rfl (fun _ => rfl) (fun _ _ _ => rfl) (fun t => by rw [after_w]; rfl) t d).trans rfl

set_option maxHeartbeats 1000000 in
/-- The body leaves the two operands' blocks as they were and the product in the third. -/
theorem body_ok (c : Dev nD) (E : Set ℕ) (i : grid0.Coords) (arg1 : Memref sig .tc .vmem S256x1024 .f32) (harg1 : arg1.IsWhole)
    (arg2 : Memref sig .tc .vmem S1024x3200 .bf16) (harg2 : arg2.IsWhole) (arg3 : Memref sig .tc .vmem S256x3200 .f32) (harg3 : arg3.IsWhole)
    (x : Vec F S256x1024 .f32) (w : Vec F S1024x3200 .bf16) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod x w)) -∗ K ⟨⟩))
      ⊢ wp frame (wpE (defs₀ (F := F)) Variants.none c none) E (cc0_in_proj_a_sample i arg1 harg1 arg2 harg2 arg3 harg3) K := by
  simp only [cc0_in_proj_a_sample_eq_skeleton]; unfold cc0_in_proj_a_sample_skel
  unfold owns
  iintro ⟨⟨%f, %hf, Hx⟩, ⟨%g, %hg, Hw⟩, ⟨%d, %e, -, Hy⟩, Hk⟩
  subst hf hg
  sl_exec
  sl_step
  iapply Hk
  isplitl [Hx]
  · iexists f; isplitr; · ipureintro; rfl
    iexact Hx
  isplitl [Hw]
  · iexists g; isplitr; · ipureintro; rfl
    iexact Hw
  iexists _; isplitr
  swap; · iexact Hy
  ipureintro
  exact View.read_writes_eq_canon _ _ _ (prod_cover _)

/-- Every point's body keeps the pipeline's data. -/
theorem obligation (c : Dev nD) : BodyObligation (dats (F := F) m 0 c) (defs₀ (F := F)) Variants.none () Set.univ := fun t => by
  rw [bigSep_W0, bigSep_W0]
  show iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
    ⊢ wp frame (wpE (defs₀ (F := F)) Variants.none c none) Set.univ (bodyAt0 t) (fun _ => iprop((dats m 0 c).Φ t.castSucc ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)))
  unfold bodyAt0
  simp only [before_x, before_w]
  rw [after_x, after_w, after_y]
  iintro ⟨HΦ, Ho, ⟨%d0, Hx⟩, ⟨%d1, Hw⟩, ⟨%d2, Hy⟩⟩
  iapply (body_ok c Set.univ (grid0.coords t) _ _ _ _ _ _ (iblk m c 0 t) (iblk m c 1 t) _)
  isplitl [Hx]; · iexact Hx
  isplitl [Hw]; · iexact Hw
  isplitl [Hy]; · iexists _; iexact Hy
  iintro ⟨Hx, Hw, Hy⟩
  isplitl [HΦ]; · iexact HΦ
  isplitl [Ho]; · iexact Ho
  isplitl [Hx]; · iexact Hx
  isplitl [Hw]; · iexact Hw
  iexact Hy

/-- A core's memory at the end of the program. -/
abbrev last (c : Dev nD) : Valuation τ sig (Elt F) := TailRun.atEnd cfgs (dats m) (0 : Fin 1) m hostOps0 hostOps1 c

set_option backward.isDefEq.respectTransparency.types false in
/-- The program ends with its memory at `last` and every counter at zero. -/
theorem run_main : θ_run defs (onTc (τ := τ) (main (F := F))) (s₀ m ρ) fun r =>
    (∀ (c : Dev nD) (b : Ref sig .tc), b.isScoped = false → r.2.mem ((c.tc : Thread nD τ).loc b) = last m c (Proc.devRef .tc b))
      ∧ r.2.sem = fun _ => 0 :=
  TailRun.run cfgs (dats m) (0 : Fin 1) launch0 defs₀ Variants.none m ρ hostOps0 hostOps1 main hostOps0_sub hostOps1_sub
    main_chain
    (hbody := fun c => (obligation m c).loose) (hshare := fun c => (dats m 0 c).share_full fun _ => rfl)
    (howed := fun _ _ => rfl) (hA := fun _ _ => rfl) (hΦ := fun _ _ => rfl) (hscoped := by decide)

/-- The end keeps the arguments as they were. -/
theorem last_arg0 (c : Dev nD) : last m c (Proc.devRef .tc main_arg0) = m ((c.tc : Thread nD τ).loc main_arg0) := by
  unfold last TailRun.atEnd TailRun.atExit TailRun.atEntry
  after_region_results
theorem last_arg1 (c : Dev nD) : last m c (Proc.devRef .tc main_arg1) = m ((c.tc : Thread nD τ).loc main_arg1) := by
  unfold last TailRun.atEnd TailRun.atExit TailRun.atEntry
  after_region_results
theorem last_arg2 (c : Dev nD) : last m c (Proc.devRef .tc main_arg2) = m ((c.tc : Thread nD τ).loc main_arg2) := by
  unfold last TailRun.atEnd TailRun.atExit TailRun.atEntry
  after_region_results

end Cert.Kernel4Ideal.Inp

end
-- ==== Proof.InpVal4.lean ====
module

public import proofs.«01_k».proof.Proof.InpRun4I
public import Idealize.ShloMosaic.Lib.Pointwise
public import Idealize.ShloMosaic.Lib.Pipeline.Value
public import Idealize.ShloMosaic.Lib.Pipeline.ValueKit

@[expose] public section

set_option maxRecDepth 16384

/-! The input projection's product array, entry by entry, from the program's arguments. -/

noncomputable section

open Idealize.ShloMosaic Idealize.ShloMosaic.TcCoe Idealize.SL.Sem
open Idealize.ShloMosaic.Pipeline (Dat)

namespace InpVal4

open Cert.Kernel4Ideal Cert.Kernel4Ideal.Gen Cert.Kernel4Ideal.Inp

/-- A point's payload is the matrix product of its two blocks. -/
theorem pay_at (x : Vec Ideal S256x1024 .f32) (w : Vec Ideal S1024x3200 .bf16) (r : Fin 256) (j : Fin 3200) :
    k0_pay1 x w (ix2 r j) = ∑ k : Fin 1024, x (ix2 r k) * w (ix2 k j) := by
  pointwise [k0_pay1]

/-- So is the block it writes back. -/
theorem prod_at (x : Vec Ideal S256x1024 .f32) (w : Vec Ideal S1024x3200 .bf16) (r : Fin 256) (j : Fin 3200) :
    prod x w (ix2 r j) = ∑ k : Fin 1024, x (ix2 r k) * w (ix2 k j) := by
  have h : prod x w = k0_pay1 x w := by
    unfold prod
    rw [View.canon_cons_unit_lit]
    · rw [View.ld_unit_lit, View.ld_unit_lit]
      all_goals decide
    · decide
  rw [h]
  exact pay_at x w r j

variable (m : (ℓ : Loc nD τ sig) → Buf (Elt Ideal) ℓ) (c : Dev nD)

/-- The rows and the rearranged weights, as the region finds them. -/
abbrev rows : S256x1024.Idx → EReal := V m c main_v0
abbrev wts : S1024x3200.Idx → EReal := V m c main_v8

/-- Both run over the rows block by block. -/
theorem idx0 : ∀ t : Fin grid0.N, cc0_transform_0 (grid0.coords t) 0 = t.val := by decide +kernel
theorem idx2 : ∀ t : Fin grid0.N, cc0_transform_2 (grid0.coords t) 0 = t.val := by decide +kernel

/-- The rows' block at point `t`. -/
theorem blkX (t : Fin cfg0.N) (r : Fin 256) (k : Fin 1024) (q : Fin 256) (hq : q.val = 256 * t.val + r.val) :
    iblk m c 0 t (ix2 r k) = rows m c (ix2 q k) := by
  unfold iblk
  refine congrArg (V m c main_v0) ?_
  funext a; apply Fin.ext
  match a with
  | ⟨0, _⟩ =>
    show cc0_transform_0 (grid0.coords t) 0 * 256 + 1 * r.val = q.val
    rw [idx0]; omega
  | ⟨1, _⟩ =>
    show 0 * 1024 + 1 * k.val = k.val
    omega

/-- The weights' block at every point. -/
theorem blkW (t : Fin cfg0.N) (k : Fin 1024) (j : Fin 3200) : iblk m c 1 t (ix2 k j) = wts m c (ix2 k j) := by
  unfold iblk
  refine congrArg (V m c main_v8) ?_
  funext a; apply Fin.ext
  match a with
  | ⟨0, _⟩ => show 0 * 1024 + 1 * k.val = k.val; omega
  | ⟨1, _⟩ => show 0 * 3200 + 1 * j.val = j.val; omega

/-- The array of products. -/
def out : S256x3200.Idx → EReal := fun x => ∑ k : Fin 1024, rows m c (ix2 (x 0) k) * wts m c (ix2 k (x 1))

/-- What the region leaves in its result. -/
theorem final : (dats m 0 c).arrAt 2 cfg0.N = out m c := by
  refine (dats m 0 c).arrAt_eq_of_emb 2 (out m c) (fun t hf (y : S256x3200.Idx) => ?_) (fun (x : S256x3200.Idx) => ?_)
  · have ht : t.val < 1 := Nat.lt_of_lt_of_eq t.isLt (by decide)
    have hy0 : (y 0).val < 256 := (y 0).isLt
    have he : ((cfg0.win 2).blk t).view.emb y = ix2 (⟨256 * t.val + (y 0).val, by omega⟩ : Fin 256) (y 1) := by
      funext a; apply Fin.ext
      match a with
      | ⟨0, _⟩ =>
        show cc0_transform_2 (grid0.coords t) 0 * 256 + 1 * (y 0).val = 256 * t.val + (y 0).val
        rw [idx2]; omega
      | ⟨1, _⟩ => show 0 * 3200 + 1 * (y 1).val = (y 1).val; omega
    rw [he]
    refine (congrFun (after_y m c t) y).trans ?_
    refine (congrArg (prod (iblk m c 0 t) (iblk m c 1 t)) (eq_ix2 y)).trans ?_
    refine (prod_at _ _ (y 0) (y 1)).trans (Finset.sum_congr rfl fun k _ => ?_)
    exact congrArg₂ (· * ·) (blkX m c t (y 0) k _ rfl) (blkW m c t k (y 1))
  · have hx0 : (x 0).val < 256 := (x 0).isLt
    have hx1 : (x 1).val < 3200 := (x 1).isLt
    obtain ⟨t, ht⟩ : ∃ t : Fin cfg0.N, t.val = (x 0).val / 256 :=
      ⟨⟨(x 0).val / 256, Nat.lt_of_lt_of_eq (by omega) (show 1 = cfg0.N by decide)⟩, rfl⟩
    have hx : ((cfg0.win 2).blk t).view.emb (ix2 (⟨(x 0).val % 256, by omega⟩ : Fin 256) (⟨(x 1).val, hx1⟩ : Fin 3200) : S256x3200.Idx) = x := by
      funext a; apply Fin.ext
      match a with
      | ⟨0, _⟩ =>
        show cc0_transform_2 (grid0.coords t) 0 * 256 + 1 * ((x 0).val % 256) = (x 0).val
        rw [idx2]; omega
      | ⟨1, _⟩ => show 0 * 3200 + 1 * (x 1).val = (x 1).val; omega
    refine ⟨t, flush0_2 t, ?_⟩
    rw [← hx]; exact View.emb_mem_set _ _

/-- The rows are the argument's, flattened. -/
theorem rows_at (x : S32x8x1024.Idx → EReal) (hx : x = m ((c.tc : Thread nD τ).loc main_arg0)) (b : Fin 32) (t : Fin 8) (k : Fin 1024) (q : Fin 256)
    (hq : q.val = 8 * b.val + t.val) : rows m c (ix2 q k) = x (ix3 b t k) := by
  have h : rows m c = shapeCast S256x1024 x shapeCasts_S32x8x1024_S256x1024 := by
    subst hx
    unfold rows V TailRun.atEntry
    after_results
    rfl
  rw [h]
  pointwise []
  exact congrArg₂ (fun u v => x (ix3 u v k)) (Fin.ext (by show q.val / 8 = b.val; omega)) (Fin.ext (by show q.val % 8 = t.val; omega))

/-- The two ranges of the rearranged weights' columns that are read: the convolution's channels, and the keys and values. -/
theorem wts_eq (w : S1x1024x3080.Idx → EReal) (hw : w = m ((c.tc : Thread nD τ).loc main_arg2)) (k : Fin 1024) (j : Fin 1024) :
    wts m c (ix2 k ⟨j.val, by omega⟩) = w (ix3 0 k ⟨512 + j.val, by omega⟩)
    ∧ wts m c (ix2 k ⟨2048 + j.val, by omega⟩) = w (ix3 0 k ⟨2056 + j.val, by omega⟩) := by
  have h : wts m c = (truncf (F := Ideal) .bf16 (concatenate S1024x3200 1 [⟨S1024x1024, extractStridedSlice S1024x1024 ![0, 512] (shapeCast S1024x3080 w shapeCasts_S1x1024x3080_S1024x3080) slices_S1024x3080_S1024x1024_0_512⟩,
      ⟨S1024x512, extractStridedSlice S1024x512 ![0, 0] (shapeCast S1024x3080 w shapeCasts_S1x1024x3080_S1024x3080) slices_S1024x3080_S1024x512_0_0⟩,
      ⟨S1024x1536, extractStridedSlice S1024x1536 ![0, 1544] (shapeCast S1024x3080 w shapeCasts_S1x1024x3080_S1024x3080) slices_S1024x3080_S1024x1536_0_1544⟩,
      ⟨S1024x8, extractStridedSlice S1024x8 ![0, 1536] (shapeCast S1024x3080 w shapeCasts_S1x1024x3080_S1024x3080) slices_S1024x3080_S1024x8_0_1536⟩,
      ⟨S1024x120, broadcastInDim S1024x120 ![] bcast_S_S1024x120 (constant (F := Ideal) S_ .f32 0x00000000#32)⟩]
      concatenates_S1024x1024_S1024x512_S1024x1536_S1024x8_S1024x120_S1024x3200_d1) bitsLt_bf16_f32) := by
    subst hw
    unfold wts V TailRun.atEntry
    after_results
    rfl
  rw [h]
  constructor
  · pointwise []
  · pointwise []
    rw [dif_neg (by omega), dif_neg (by omega), dif_pos (by omega)]
    exact congrArg (fun q => w (ix3 0 k q)) (Fin.ext (by show 1544 + (2048 + j.val - 1024 - 512) = 2056 + j.val; omega))

/-- A product read in the columns of the convolution's channels, -/
theorem out_conv (x : S32x8x1024.Idx → EReal) (hx : x = m ((c.tc : Thread nD τ).loc main_arg0)) (w : S1x1024x3080.Idx → EReal) (hw : w = m ((c.tc : Thread nD τ).loc main_arg2))
    (b : Fin 32) (t : Fin 8) (j : Fin 1024) (q : Fin 256) (hq : q.val = 8 * b.val + t.val) (p : Fin 3200) (hp : p.val = j.val) :
    out m c (ix2 q p) = ∑ k : Fin 1024, x (ix3 b t k) * w (ix3 0 k ⟨512 + j.val, by omega⟩) := by
  exact Finset.sum_congr rfl fun k _ => congrArg₂ (· * ·) (rows_at m c x hx b t k q hq)
    ((congrArg (fun u => wts m c (ix2 k u)) (show p = ⟨j.val, by have := j.isLt; omega⟩ from Fin.ext hp)).trans (wts_eq m c w hw k j).1)
/-- and in those of the keys and values. -/
theorem out_kv (x : S32x8x1024.Idx → EReal) (hx : x = m ((c.tc : Thread nD τ).loc main_arg0)) (w : S1x1024x3080.Idx → EReal) (hw : w = m ((c.tc : Thread nD τ).loc main_arg2))
    (b : Fin 32) (t : Fin 8) (j : Fin 1024) (q : Fin 256) (hq : q.val = 8 * b.val + t.val) (p : Fin 3200) (hp : p.val = 2048 + j.val) :
    out m c (ix2 q p) = ∑ k : Fin 1024, x (ix3 b t k) * w (ix3 0 k ⟨2056 + j.val, by omega⟩) := by
  exact Finset.sum_congr rfl fun k _ => congrArg₂ (· * ·) (rows_at m c x hx b t k q hq)
    ((congrArg (fun u => wts m c (ix2 k u)) (show p = ⟨2048 + j.val, by have := j.isLt; omega⟩ from Fin.ext hp)).trans (wts_eq m c w hw k j).2)

end InpVal4
-- ==== Proof.InpRef4.lean ====
module

public import proofs.«01_k».proof.Proof.Gen.Reference4Ideal.Read
public import Idealize.ShloMosaic.Lib.Pointwise

@[expose] public section

set_option maxRecDepth 16384

/-! The reference of the sampling rows' input projection, entry by entry. -/

noncomputable section

open Idealize.ShloMosaic Idealize.ShloMosaic.TcCoe Idealize.SL.Sem

namespace InpRef4

open Cert.Reference4Ideal Cert.Reference4Ideal.Gen Cert.Reference4Ideal.Read

variable (x : S32x8x1024.Idx → EReal) (s : S1x32x3x1024.Idx → EReal) (w : S1x1024x3080.Idx → EReal)

/-- The product. -/
theorem prod_at (b : Fin 32) (t : Fin 8) (j : Fin 3080) :
    val_main_v2 (F := Ideal) x w (ix3 b t j) = ∑ k : Fin 1024, x (ix3 b t k) * w (ix3 0 k j) := by
  pointwise [val_main_v2, val_main_v1]

/-- A key. -/
theorem key_at (b : Fin 32) (t : Fin 8) (h : Fin 8) (d : Fin 64) :
    val_main_v13 (F := Ideal) x w (ix5 0 b t h d) = ∑ k : Fin 1024, x (ix3 b t k) * w (ix3 0 k ⟨2056 + (h.val * 64 + d.val), by omega⟩) := by
  refine Eq.trans ?_ (prod_at x w b t ⟨2056 + (h.val * 64 + d.val), by omega⟩)
  unfold val_main_v13 val_main_v10 val_main_v7
  generalize val_main_v2 (F := Ideal) x w = y
  pointwise []

/-- A value. -/
theorem value_at (b : Fin 32) (t : Fin 8) (h : Fin 8) (d : Fin 64) :
    val_main_v14 (F := Ideal) x w (ix5 0 b t h d) = ∑ k : Fin 1024, x (ix3 b t k) * w (ix3 0 k ⟨2568 + (h.val * 64 + d.val), by omega⟩) := by
  refine Eq.trans ?_ (prod_at x w b t ⟨2568 + (h.val * 64 + d.val), by omega⟩)
  unfold val_main_v14 val_main_v11 val_main_v8
  generalize val_main_v2 (F := Ideal) x w = y
  pointwise []

/-- The convolution's last rows. -/
theorem conv_at (b : Fin 32) (t : Fin 3) (j : Fin 1024) :
    val_main_v15 (F := Ideal) x s w (ix4 0 b t j) = ∑ k : Fin 1024, x (ix3 b ⟨5 + t.val, by omega⟩ k) * w (ix3 0 k ⟨512 + j.val, by omega⟩) := by
  refine Eq.trans ?_ (prod_at x w b ⟨5 + t.val, by omega⟩ ⟨512 + j.val, by omega⟩)
  unfold val_main_v15 val_main_v12 val_main_v9 val_main_v4
  generalize val_main_v2 (F := Ideal) x w = y
  pointwise []
  rw [dif_neg (by omega)]
  exact congrArg (fun u => y (ix3 b u ⟨512 + j.val, by omega⟩)) (Fin.ext (by show 8 + t.val - 3 = 5 + t.val; omega))

end InpRef4
-- ==== Proof.InpClaim4.lean ====
module

public import proofs.«01_k».proof.Defs
public import proofs.«01_k».proof.Proof.InpRun4B
public import proofs.«01_k».proof.Proof.InpVal4
public import proofs.«01_k».proof.Proof.InpRef4
public import proofs.«01_k».proof.Proof.Gen.Reference4Ideal.Run
public import Idealize.ShloMosaic.Lib.Quiescent

@[expose] public section

set_option maxRecDepth 16384

/-! What is claimed of the sampling rows' input projection. -/

noncomputable section

open Idealize.ShloMosaic Idealize.ShloMosaic.TcCoe Idealize.SL.Sem
open Idealize.ShloMosaic.Pipeline (Dat)

namespace InpClaim4

/-- The machine's program runs, keeps its arguments and leaves every counter at zero. -/
theorem frame_p : Cert.quiescent_Kernel4 := fun m ρ _ =>
  (θ_run Cert.Kernel4.defs _ _).mono (fun _ h => ⟨fun c => ⟨(h.1 c _ rfl).trans (Cert.Kernel4.Inp.last_arg0 m c), (h.1 c _ rfl).trans (Cert.Kernel4.Inp.last_arg1 m c), (h.1 c _ rfl).trans (Cert.Kernel4.Inp.last_arg2 m c)⟩, h.2⟩) (Cert.Kernel4.Inp.run_main m ρ)
/-- So does the program over the extended reals, -/
theorem frame_pi : Cert.quiescent_Kernel4Ideal := fun m ρ _ =>
  (θ_run Cert.Kernel4Ideal.defs _ _).mono (fun _ h => ⟨fun c => ⟨(h.1 c _ rfl).trans (Cert.Kernel4Ideal.Inp.last_arg0 m c), (h.1 c _ rfl).trans (Cert.Kernel4Ideal.Inp.last_arg1 m c), (h.1 c _ rfl).trans (Cert.Kernel4Ideal.Inp.last_arg2 m c)⟩, h.2⟩) (Cert.Kernel4Ideal.Inp.run_main m ρ)
/-- and the reference. -/
theorem frame_ri : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

section

open Cert.Kernel4Ideal Cert.Kernel4Ideal.Gen Cert.Kernel4Ideal.Inp

variable (m : (ℓ : Loc nD τ sig) → Buf (Elt Ideal) ℓ) (c : Dev nD)

/-- The arguments. -/
abbrev X : S32x8x1024.Idx → EReal := m ((c.tc : Thread nD τ).loc main_arg0)
abbrev St : S1x32x3x1024.Idx → EReal := m ((c.tc : Thread nD τ).loc main_arg1)
abbrev W : S1x1024x3080.Idx → EReal := m ((c.tc : Thread nD τ).loc main_arg2)

/-- The keys, as the program ends: a range of columns of the product. -/
theorem keys_of : last m c (Proc.devRef .tc main_v19) = shapeCast S1x32x8x8x64 (shapeCast S32x8x512 (extractStridedSlice S256x512 ![0, 2048] (InpVal4.out m c) slices_S256x3200_S256x512_0_2048) shapeCasts_S256x512_S32x8x512) shapeCasts_S32x8x512_S1x32x8x8x64 := by
  unfold last TailRun.atEnd TailRun.atExit TailRun.atEntry
  after_region_results
  erw [Pipeline.afterRegion_arr (dats m 0 c) _ Gen.launch0.win.arr_inj 2]
  rw [InpVal4.final]
  rfl

/-- The values. -/
theorem values_of : last m c (Proc.devRef .tc main_v20) = shapeCast S1x32x8x8x64 (shapeCast S32x8x512 (extractStridedSlice S256x512 ![0, 2560] (InpVal4.out m c) slices_S256x3200_S256x512_0_2560) shapeCasts_S256x512_S32x8x512) shapeCasts_S32x8x512_S1x32x8x8x64 := by
  unfold last TailRun.atEnd TailRun.atExit TailRun.atEntry
  after_region_results
  erw [Pipeline.afterRegion_arr (dats m 0 c) _ Gen.launch0.win.arr_inj 2]
  rw [InpVal4.final]
  rfl

/-- The last rows of the state followed by the new rows. -/
theorem conv_of : last m c (Proc.devRef .tc main_v21) = broadcastInDim S1x32x3x1024 ![1, 2, 3] bcast_S32x3x1024_S1x32x3x1024_1_2_3 (extractStridedSlice S32x3x1024 ![0, 8, 0] (concatenate S32x11x1024 1 [⟨S32x3x1024, shapeCast S32x3x1024 (St m c) shapeCasts_S1x32x3x1024_S32x3x1024⟩, ⟨S32x8x1024, extractStridedSlice S32x8x1024 ![0, 0, 0] (shapeCast S32x8x3200 (InpVal4.out m c) shapeCasts_S256x3200_S32x8x3200) slices_S32x8x3200_S32x8x1024_0_0_0⟩] concatenates_S32x3x1024_S32x8x1024_S32x11x1024_d1) slices_S32x11x1024_S32x3x1024_0_8_0) := by
  unfold last TailRun.atEnd TailRun.atExit TailRun.atEntry
  after_region_results
  erw [Pipeline.afterRegion_arr (dats m 0 c) _ Gen.launch0.win.arr_inj 2]
  rw [InpVal4.final]
  rfl

/-- The keys are the reference's. -/
theorem keys_eq : last m c (Proc.devRef .tc main_v19) = Cert.Reference4Ideal.Read.val_main_v13 (F := Ideal) (X m c) (W m c) := by
  rw [keys_of]
  funext (i : S1x32x8x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ (InpRef4.key_at (X m c) (W m c) b t h d).symm
  refine Eq.trans ?_ (InpVal4.out_kv m c (X m c) rfl (W m c) rfl b t ⟨h.val * 64 + d.val, by omega⟩ ⟨8 * b.val + t.val, by omega⟩ rfl ⟨2048 + (h.val * 64 + d.val), by omega⟩ rfl)
  generalize InpVal4.out m c = y
  pointwise []
  exact congrArg (fun u => y (ix2 u ⟨2048 + (h.val * 64 + d.val), by omega⟩)) (Fin.ext (by show b.val * 8 + t.val = 8 * b.val + t.val; omega))
/-- The values are the reference's. -/
theorem values_eq : last m c (Proc.devRef .tc main_v20) = Cert.Reference4Ideal.Read.val_main_v14 (F := Ideal) (X m c) (W m c) := by
  rw [values_of]
  funext (i : S1x32x8x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ (InpRef4.value_at (X m c) (W m c) b t h d).symm
  refine Eq.trans ?_ ((InpVal4.out_kv m c (X m c) rfl (W m c) rfl b t ⟨512 + (h.val * 64 + d.val), by omega⟩ ⟨8 * b.val + t.val, by omega⟩ rfl ⟨2560 + (h.val * 64 + d.val), by omega⟩
    (by show 2560 + (h.val * 64 + d.val) = 2048 + (512 + (h.val * 64 + d.val)); omega)).trans
    (Finset.sum_congr rfl fun k _ => congrArg (fun u => X m c (ix3 b t k) * W m c (ix3 0 k u)) (Fin.ext (by show 2056 + (512 + (h.val * 64 + d.val)) = 2568 + (h.val * 64 + d.val); omega))))
  generalize InpVal4.out m c = y
  pointwise []
  exact congrArg (fun u => y (ix2 u ⟨2560 + (h.val * 64 + d.val), by omega⟩)) (Fin.ext (by show b.val * 8 + t.val = 8 * b.val + t.val; omega))
/-- The convolution's rows are the reference's. -/
theorem conv_eq : last m c (Proc.devRef .tc main_v21) = Cert.Reference4Ideal.Read.val_main_v15 (F := Ideal) (X m c) (St m c) (W m c) := by
  rw [conv_of]
  funext (i : S1x32x3x1024.Idx)
  obtain ⟨b, t, j, rfl⟩ : ∃ b t j, i = ix4 0 b t j := ⟨i 1, i 2, i 3, (eq_ix4 i).trans (congrArg (fun z => ix4 z (i 1) (i 2) (i 3)) (Subsingleton.elim (α := Fin 1) _ _))⟩
  refine Eq.trans ?_ (InpRef4.conv_at (X m c) (St m c) (W m c) b t j).symm
  refine Eq.trans ?_ (InpVal4.out_conv m c (X m c) rfl (W m c) rfl b ⟨5 + t.val, by omega⟩ j ⟨8 * b.val + (5 + t.val), by omega⟩ rfl ⟨j.val, by omega⟩ rfl)
  generalize InpVal4.out m c = y
  pointwise []
  rw [dif_neg (by omega)]
  exact congrArg (fun u => y (ix2 u ⟨j.val, by omega⟩)) (Fin.ext (by show b.val * 8 + (8 + t.val - 3) = 8 * b.val + (5 + t.val); omega))

end

/-- The three results are the reference's. -/
theorem algebraic : Cert.algebraic_Kernel4Ideal_Reference4Ideal := by
  intro m ρ m' ρ' _ hagree
  refine ⟨fun c => Cert.Kernel4Ideal.Inp.last m c (Proc.devRef .tc Cert.Kernel4Ideal.main_v19), fun c => Cert.Kernel4Ideal.Inp.last m c (Proc.devRef .tc Cert.Kernel4Ideal.main_v20),
    fun c => Cert.Kernel4Ideal.Inp.last m c (Proc.devRef .tc Cert.Kernel4Ideal.main_v21), ?_, ?_⟩
  · exact (θ_run Cert.Kernel4Ideal.defs _ _).mono (fun _ h c => ⟨h.1 c _ rfl, h.1 c _ rfl, h.1 c _ rfl, (h.1 c _ rfl).trans (Cert.Kernel4Ideal.Inp.last_arg0 m c), (h.1 c _ rfl).trans (Cert.Kernel4Ideal.Inp.last_arg1 m c), (h.1 c _ rfl).trans (Cert.Kernel4Ideal.Inp.last_arg2 m c)⟩) (Cert.Kernel4Ideal.Inp.run_main m ρ)
  · refine (θ_run Cert.Reference4Ideal.defs _ _).mono (fun _ h c => ⟨(h c).1.trans ?_, (h c).2.1.trans ?_, (h c).2.2.1.trans ?_, (h c).2.2.2⟩) (Cert.Reference4Ideal.Value.run (F := Ideal) m' ρ')
    · rw [Cert.Reference4Ideal.Read.val_main_v13_eq, (hagree c).1, (hagree c).2.2]
      exact (keys_eq m c).symm
    · rw [Cert.Reference4Ideal.Read.val_main_v14_eq, (hagree c).1, (hagree c).2.2]
      exact (values_eq m c).symm
    · rw [Cert.Reference4Ideal.Read.val_main_v15_eq, (hagree c).1, (hagree c).2.1, (hagree c).2.2]
      exact (conv_eq m c).symm

end InpClaim4
-- ==== Proof.FfnRef.lean ====
module

public import proofs.«01_k».proof.Proof.Gen.Reference5Ideal.Read
public import proofs.«01_k».proof.Proof.ExpMath
public import Idealize.ShloMosaic.Lib.Pointwise

@[expose] public section

set_option maxRecDepth 16384

/-! The gated feed-forward layer and its layer norm, as the reference writes them, entry by entry. -/

noncomputable section

open Idealize.ShloMosaic

namespace FfnRef

open ExpMath

/-- The residual: the input scaled, plus the layer's output. -/
def resid (x a : EReal) : EReal := Ideal.ofBits FTy.f32 1068827891#32 * x + a

/-- A row's mean, as a division by its length. -/
def mean (z : Fin 1024 → EReal) : EReal := Ideal.div (∑ k, z k) (Ideal.ofBits FTy.f32 1149239296#32)

/-- The layer norm of a row, at one entry, with its gain and its offset. -/
def lnorm (z : Fin 1024 → EReal) (g b : EReal) (k : Fin 1024) : EReal :=
  (z k - mean z) * Ideal.rsqrt (mean (fun j => (z j - mean z) * (z j - mean z)) + Ideal.ofBits FTy.f32 925353388#32) * g + b

/-- The gated layer's output, a sum over the hidden width. -/
def ffn (x : Fin 1024 → EReal) (w v : Fin 1024 → Fin 2816 → EReal) (u : Fin 2816 → EReal) : EReal :=
  ∑ y : Fin 2816, unit x (fun c => w c y) (fun c => v c y) (u y)

/-- A sum over the hidden width is the sum over eleven chunks of 256. -/
theorem sum_chunks (g : Fin 2816 → EReal) :
    ∑ f : Fin 2816, g f = ∑ j : Fin 11, ∑ y : Fin 256, g ⟨j.val * 256 + y.val, by omega⟩ := by
  rw [← Fintype.sum_prod_type' (f := fun (j : Fin 11) (y : Fin 256) => g ⟨j.val * 256 + y.val, by omega⟩)]
  refine (Fintype.sum_equiv (finProdFinEquiv (m := 11) (n := 256)) _ _ fun p => ?_).symm
  refine congrArg g (Fin.ext ?_)
  show p.1.val * 256 + p.2.val = p.2.val + 256 * p.1.val
  omega

section

open Cert.Reference5Ideal Cert.Reference5Ideal.Gen Cert.Reference5Ideal.Read

variable (x0 : (⟨S16384x1024, .f32⟩ : BufTy).Contents (Elt Ideal)) (x1 x2 : (⟨S1x1024x2816, .f32⟩ : BufTy).Contents (Elt Ideal))
  (x3 : (⟨S1x2816x1024, .f32⟩ : BufTy).Contents (Elt Ideal)) (x4 x5 : (⟨S1x1024, .f32⟩ : BufTy).Contents (Elt Ideal))

/-- The gated layer. -/
theorem ffn_at (q : Fin 16384) (k : Fin 1024) : val_main_v9 x0 x1 x2 x3 (ix2 q k)
    = ffn (fun c => x0 (ix2 q c)) (fun c y => x1 (ix3 0 c y)) (fun c y => x2 (ix3 0 c y)) (fun y => x3 (ix3 0 y k)) := by
  unfold ffn unit
  pointwise [val_main_v9, val_main_v8, val_main_v7, val_main_v6, val_main_call0_v5, val_main_call0_v4, val_main_call0_cst_0, val_main_call0_v3, val_main_call0_v2, val_main_call0_cst, val_main_call0_v1, val_main_call0_v0, val_main_v5, val_main_v4, val_main_v3, val_main_v2]
  rfl

/-- The result, over the gated layer's output. -/
theorem ln_at (q : Fin 16384) (k : Fin 1024) : val_main_v36 x0 x1 x2 x3 x4 x5 (ix2 q k)
    = lnorm (fun j => resid (x0 (ix2 q j)) (val_main_v9 x0 x1 x2 x3 (ix2 q j))) (x4 (ix2 0 k)) (x5 (ix2 0 k)) k := by
  unfold val_main_v36 val_main_v33 val_main_v30 val_main_v29 val_main_v28 val_main_v27 val_main_v25 val_main_v24 val_main_v23 val_main_v21 val_main_v20 val_main_v19 val_main_v18 val_main_v17 val_main_v16 val_main_v14 val_main_v13 val_main_v10
  generalize val_main_v9 x0 x1 x2 x3 = y
  pointwise [val_main_v1, val_main_v0, val_main_cst, val_main_v11, val_main_v12, val_main_v15, val_main_cst_1, val_main_v22, val_main_cst_3, val_main_v26, val_main_cst_4, val_main_v31, val_main_v32, val_main_v34, val_main_v35, val_main_cst_0, val_main_cst_2]
  rfl

/-- The result, from the arguments. -/
theorem out_at (q : Fin 16384) (k : Fin 1024) : val_main_v36 x0 x1 x2 x3 x4 x5 (ix2 q k)
    = lnorm (fun j => resid (x0 (ix2 q j)) (ffn (fun c => x0 (ix2 q c)) (fun c y => x1 (ix3 0 c y)) (fun c y => x2 (ix3 0 c y)) (fun y => x3 (ix3 0 y j))))
      (x4 (ix2 0 k)) (x5 (ix2 0 k)) k := by
  rw [ln_at]
  exact congrArg (fun z => lnorm z (x4 (ix2 0 k)) (x5 (ix2 0 k)) k) (funext fun j => congrArg (resid (x0 (ix2 q j))) (ffn_at x0 x1 x2 x3 q j))

end

end FfnRef

end
-- ==== Proof.FfnKer.lean ====
module

public import proofs.«01_k».proof.Proof.Gen.Kernel5Ideal.Value
public import proofs.«01_k».proof.Proof.FfnRef
public import Idealize.ShloMosaic.Lib.Pipeline.Value
public import Idealize.ShloMosaic.Lib.Pipeline.ValueKit
public import Idealize.ShloMosaic.Lib.Pipeline.ReadBack

@[expose] public section

set_option maxRecDepth 16384

/-! The gated feed-forward call's result, entry by entry: the hidden width's chunks add up in the scratch array, and the last point of a row block normalises. -/

noncomputable section

open Idealize.ShloMosaic Idealize.ShloMosaic.TcCoe Idealize.SL.Sem
open Idealize.ShloMosaic.Pipeline (Dat)

namespace FfnKer

open Cert.Kernel5Ideal Cert.Kernel5Ideal.Gen ExpMath FfnRef

/-! ## The payloads -/

theorem pay1_at (x : Vec Ideal S1024x1024 .f32) (r k : Fin 1024) : k0_pay1 (F := Ideal) x (ix2 r k) = x (ix2 r k) := by
  pointwise [k0_pay1]
theorem pay2_at (r k : Fin 1024) : k0_pay2 (F := Ideal) (ix2 r k) = 0 := by
  pointwise [k0_pay2]
/-- One chunk's step: the accumulator plus the chunk's share. -/
theorem pay3_at (x : Vec Ideal S1024x1024 .bf16) (w v : Vec Ideal S1024x256 .bf16) (a : Vec Ideal S1024x1024 .f32) (u : Vec Ideal S256x1024 .bf16)
    (r k : Fin 1024) : k0_pay3 (F := Ideal) x w v a u (ix2 r k)
      = a (ix2 r k) + ∑ y : Fin 256, unit (fun c => x (ix2 r c)) (fun c => w (ix2 c y)) (fun c => v (ix2 c y)) (u (ix2 y k)) := by
  unfold unit
  pointwise [k0_pay3]
/-- The last step. -/
theorem pay4_at (x a : Vec Ideal S1024x1024 .f32) (g b : Vec Ideal S1x1024 .f32) (r k : Fin 1024) :
    k0_pay4 (F := Ideal) x a g b (ix2 r k) = lnorm (fun j => resid (x (ix2 r j)) (a (ix2 r j))) (g (ix2 0 k)) (b (ix2 0 k)) k := by
  pointwise [k0_pay4]
  rfl

variable (m : (ℓ : Loc nD τ sig) → Buf (Elt Ideal) ℓ) (c : Dev nD)

/-! ## The arrays the region finds -/

abbrev X : S16384x1024.Idx → EReal := V m c main_arg0
abbrev W1 : S1024x2816.Idx → EReal := V m c main_v1
abbrev W3 : S1024x2816.Idx → EReal := V m c main_v3
abbrev W2 : S2816x1024.Idx → EReal := V m c main_v5
abbrev G : S1x1024.Idx → EReal := V m c main_v7
abbrev B : S1x1024.Idx → EReal := V m c main_v9

theorem idx0 : ∀ t : Fin grid0.N, cc0_transform_0 (grid0.coords t) 0 = t.val / 11 := by decide +kernel
theorem idx1 : ∀ t : Fin grid0.N, cc0_transform_1 (grid0.coords t) 1 = t.val % 11 := by decide +kernel
theorem idx2 : ∀ t : Fin grid0.N, cc0_transform_2 (grid0.coords t) 1 = t.val % 11 := by decide +kernel
theorem idx3 : ∀ t : Fin grid0.N, cc0_transform_3 (grid0.coords t) 0 = t.val % 11 := by decide +kernel
theorem idx6 : ∀ t : Fin grid0.N, cc0_transform_6 (grid0.coords t) 0 = t.val / 11 := by decide +kernel

theorem blk0 (t : Fin cfg0.N) (r k : Fin 1024) (q : Fin 16384) (hq : q.val = 1024 * (t.val / 11) + r.val) :
    iblk m c 0 t (ix2 r k) = X m c (ix2 q k) := by
  unfold iblk
  refine congrArg (V m c main_arg0) ?_
  funext a; apply Fin.ext
  match a with
  | ⟨0, _⟩ => show cc0_transform_0 (grid0.coords t) 0 * 1024 + 1 * r.val = q.val; rw [idx0]; omega
  | ⟨1, _⟩ => show 0 * 1024 + 1 * k.val = k.val; omega
theorem blk1 (t : Fin cfg0.N) (k : Fin 1024) (y : Fin 256) (p : Fin 2816) (hp : p.val = t.val % 11 * 256 + y.val) :
    iblk m c 1 t (ix2 k y) = W1 m c (ix2 k p) := by
  unfold iblk
  refine congrArg (V m c main_v1) ?_
  funext a; apply Fin.ext
  match a with
  | ⟨0, _⟩ => show 0 * 1024 + 1 * k.val = k.val; omega
  | ⟨1, _⟩ => show cc0_transform_1 (grid0.coords t) 1 * 256 + 1 * y.val = p.val; rw [idx1]; omega
theorem blk2 (t : Fin cfg0.N) (k : Fin 1024) (y : Fin 256) (p : Fin 2816) (hp : p.val = t.val % 11 * 256 + y.val) :
    iblk m c 2 t (ix2 k y) = W3 m c (ix2 k p) := by
  unfold iblk
  refine congrArg (V m c main_v3) ?_
  funext a; apply Fin.ext
  match a with
  | ⟨0, _⟩ => show 0 * 1024 + 1 * k.val = k.val; omega
  | ⟨1, _⟩ => show cc0_transform_2 (grid0.coords t) 1 * 256 + 1 * y.val = p.val; rw [idx2]; omega
theorem blk3 (t : Fin cfg0.N) (y : Fin 256) (k : Fin 1024) (p : Fin 2816) (hp : p.val = t.val % 11 * 256 + y.val) :
    iblk m c 3 t (ix2 y k) = W2 m c (ix2 p k) := by
  unfold iblk
  refine congrArg (V m c main_v5) ?_
  funext a; apply Fin.ext
  match a with
  | ⟨0, _⟩ => show cc0_transform_3 (grid0.coords t) 0 * 256 + 1 * y.val = p.val; rw [idx3]; omega
  | ⟨1, _⟩ => show 0 * 1024 + 1 * k.val = k.val; omega
theorem blk4 (t : Fin cfg0.N) (k : Fin 1024) : iblk m c 4 t (ix2 0 k) = G m c (ix2 0 k) := by
  unfold iblk
  refine congrArg (V m c main_v7) ?_
  funext a; apply Fin.ext
  match a with
  | ⟨0, _⟩ => rfl
  | ⟨1, _⟩ => show 0 * 1024 + 1 * k.val = k.val; omega
theorem blk5 (t : Fin cfg0.N) (k : Fin 1024) : iblk m c 5 t (ix2 0 k) = B m c (ix2 0 k) := by
  unfold iblk
  refine congrArg (V m c main_v9) ?_
  funext a; apply Fin.ext
  match a with
  | ⟨0, _⟩ => rfl
  | ⟨1, _⟩ => show 0 * 1024 + 1 * k.val = k.val; omega

/-! ## What a point leaves -/

/-- A row block's first point rounds the rows into the first scratch array -/
theorem first_rows (t : Fin cfg0.N) (h0 : t.val % 11 = 0) : (outsAt0 m c t.val t.isLt).2.1 = k0_pay1 (iblk m c 0 t) := by
  rw [outsAt0_A m c t h0 (by omega)]
  frame_out
/-- and starts the sum. -/
theorem first_sum (t : Fin cfg0.N) (h0 : t.val % 11 = 0) :
    (outsAt0 m c t.val t.isLt).2.2 = k0_pay3 (k0_pay1 (iblk m c 0 t)) (iblk m c 1 t) (iblk m c 2 t) (k0_pay2 (F := Ideal)) (iblk m c 3 t) := by
  rw [outsAt0_A m c t h0 (by omega)]
  frame_out
/-- Every other point keeps the rows -/
theorem next_rows (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl
/-- and adds its chunk. -/
theorem next_sum (t : Fin cfg0.N) (h0 : ¬t.val % 11 = 0) :
    (outsAt0 m c t.val t.isLt).2.2 = k0_pay3 (outsAt0 m c (t.val - 1) (Nat.lt_of_le_of_lt (Nat.sub_le _ _) t.isLt)).2.1 (iblk m c 1 t) (iblk m c 2 t)
      (outsAt0 m c (t.val - 1) (Nat.lt_of_le_of_lt (Nat.sub_le _ _) t.isLt)).2.2 (iblk m c 3 t) := by
  by_cases h1 : t.val % 11 = 10
  · rw [outsAt0_C m c t h0 h1]
    frame_out
    rw [read_unread_whole, read_unread_whole]
  · rw [outsAt0_B m c t h0 h1]
    frame_out
    rw [read_unread_whole, read_unread_whole]
/-- The last one normalises the sum it has just completed. -/
theorem last_out (t : Fin cfg0.N) (h1 : t.val % 11 = 10) :
    (outsAt0 m c t.val t.isLt).1 = k0_pay4 (iblk m c 0 t) (outsAt0 m c t.val t.isLt).2.2 (iblk m c 4 t) (iblk m c 5 t) := by
  rw [next_sum m c t (by omega), outsAt0_C m c t (by omega) h1]
  frame_out
  rw [read_unread_whole, read_unread_whole]

/-! ## The sums -/

/-- A column of the hidden width, by chunk and place. -/
def col (s : ℕ) (y : Fin 256) : Fin 2816 := ⟨(s * 256 + y.val) % 2816, by omega⟩

/-- A chunk's share of one output. -/
def part (q : Fin 16384) (k : Fin 1024) (s : ℕ) : EReal :=
  ∑ y : Fin 256, unit (fun d => X m c (ix2 q d)) (fun d => W1 m c (ix2 d (col s y))) (fun d => W3 m c (ix2 d (col s y))) (W2 m c (ix2 (col s y) k))

/-- A step's share, over the rows it holds. -/
theorem share (t : Fin cfg0.N) (x : Vec Ideal S1024x1024 .bf16) (r k : Fin 1024) (q : Fin 16384) (hx : ∀ d, x (ix2 r d) = X m c (ix2 q d))
    (s : ℕ) (hs : t.val % 11 = s) :
    ∑ y : Fin 256, unit (fun d => x (ix2 r d)) (fun d => iblk m c 1 t (ix2 d y)) (fun d => iblk m c 2 t (ix2 d y)) (iblk m c 3 t (ix2 y k))
      = part m c q k s := by
  subst hs
  refine Finset.sum_congr rfl fun y _ => ?_
  have hp : (col (t.val % 11) y).val = t.val % 11 * 256 + y.val := by
    have := y.isLt
    show (t.val % 11 * 256 + y.val) % 2816 = _
    omega
  rw [funext hx, funext (fun d => blk1 m c t d y _ hp), funext (fun d => blk2 m c t d y _ hp), blk3 m c t y k _ hp]

/-- After a point the scratch arrays hold its row block and the sum of the chunks so far. -/
theorem sums (i : Fin 16) : ∀ (f : ℕ) (_ : f < 11) (t : Fin cfg0.N) (_ : t.val = 11 * i.val + f) (r : Fin 1024) (q : Fin 16384) (_ : q.val = 1024 * i.val + r.val),
    (∀ k : Fin 1024, (outsAt0 m c t.val t.isLt).2.1 (ix2 r k) = X m c (ix2 q k))
    ∧ ∀ k : Fin 1024, (outsAt0 m c t.val t.isLt).2.2 (ix2 r k) = ∑ s ∈ Finset.range (f + 1), part m c q k s := by
  intro f
  induction f with
  | zero =>
    intro hf t ht r q hq
    have hx : ∀ k : Fin 1024, k0_pay1 (iblk m c 0 t) (ix2 r k) = X m c (ix2 q k) := fun k =>
      (pay1_at (iblk m c 0 t) r k).trans (blk0 m c t r k q (by omega))
    constructor
    · intro k
      rw [first_rows m c t (by omega)]
      exact hx k
    · intro k
      rw [first_sum m c t (by omega)]
      refine (pay3_at (k0_pay1 (iblk m c 0 t)) (iblk m c 1 t) (iblk m c 2 t) (k0_pay2 (F := Ideal)) (iblk m c 3 t) r k).trans ?_
      rw [Finset.sum_range_one, pay2_at, zero_add]
      exact share m c t _ r k q hx 0 (by omega)
  | succ f ih =>
    intro hf t ht r q hq
    obtain ⟨t', ht'⟩ : ∃ t' : Fin cfg0.N, t'.val = t.val - 1 := ⟨⟨t.val - 1, Nat.lt_of_le_of_lt (Nat.sub_le _ _) t.isLt⟩, rfl⟩
    have e : ∀ h, outsAt0 m c (t.val - 1) h = outsAt0 m c t'.val t'.isLt := by
      rw [← ht']; exact fun _ => rfl
    obtain ⟨h1, h2⟩ := ih (by omega) t' (by omega) r q hq
    constructor
    · intro k
      rw [next_rows m c t (by omega), e]
      exact h1 k
    · intro k
      rw [next_sum m c t (by omega), e]
      refine (pay3_at (outsAt0 m c t'.val t'.isLt).2.1 (iblk m c 1 t) (iblk m c 2 t) (outsAt0 m c t'.val t'.isLt).2.2 (iblk m c 3 t) r k).trans ?_
      rw [h2 k, Finset.sum_range_succ _ (f + 1)]
      exact congrArg _ (share m c t _ r k q h1 (f + 1) (by omega))

/-- The eleven chunks are the whole hidden width. -/
theorem whole (q : Fin 16384) (k : Fin 1024) : ∑ s ∈ Finset.range 11, part m c q k s
    = ffn (fun d => X m c (ix2 q d)) (fun d y => W1 m c (ix2 d y)) (fun d y => W3 m c (ix2 d y)) (fun y => W2 m c (ix2 y k)) := by
  unfold ffn
  rw [FfnRef.sum_chunks, Finset.sum_range]
  refine Finset.sum_congr rfl fun s _ => Finset.sum_congr rfl fun y _ => ?_
  have e : col s.val y = ⟨s.val * 256 + y.val, by omega⟩ := Fin.ext (by show (s.val * 256 + y.val) % 2816 = s.val * 256 + y.val; omega)
  rw [e]

/-! ## The result -/

/-- One row of what the layer norm reads. -/
def row (q : Fin 16384) : Fin 1024 → EReal := fun j => resid (X m c (ix2 q j))
  (ffn (fun d => X m c (ix2 q d)) (fun d y => W1 m c (ix2 d y)) (fun d y => W3 m c (ix2 d y)) (fun y => W2 m c (ix2 y j)))

/-- The result array. -/
def out : S16384x1024.Idx → EReal := fun x => lnorm (row m c (x 0)) (G m c (ix2 0 (x 1))) (B m c (ix2 0 (x 1))) (x 1)

/-- What a row block's last point writes back. -/
theorem last_at (t : Fin cfg0.N) (h1 : t.val % 11 = 10) (r k : Fin 1024) (q : Fin 16384) (hq : q.val = 1024 * (t.val / 11) + r.val) :
    (outsAt0 m c t.val t.isLt).1 (ix2 r k) = out m c (ix2 q k) := by
  have hN : t.val < 176 := Nat.lt_of_lt_of_eq t.isLt N_0
  rw [last_out m c t h1]
  refine (pay4_at (iblk m c 0 t) (outsAt0 m c t.val t.isLt).2.2 (iblk m c 4 t) (iblk m c 5 t) r k).trans ?_
  rw [blk4, blk5]
  refine congrArg (fun z => lnorm z (G m c (ix2 0 k)) (B m c (ix2 0 k)) k) (funext fun j => ?_)
  have hs := (sums m c ⟨t.val / 11, by omega⟩ 10 (by omega) t (by show t.val = 11 * (t.val / 11) + 10; omega) r q hq).2 j
  exact congrArg₂ resid (blk0 m c t r j q hq) (hs.trans (whole m c q j))

/-- What the region leaves in its result. -/
theorem final : (dats m 0 c).arrAt 6 cfg0.N = out m c := by
  refine (dats m 0 c).arrAt_eq_of_emb 6 (out m c) (fun t hf (y : S1024x1024.Idx) => ?_) (fun (x : S16384x1024.Idx) => ?_)
  · have ht : t.val < 176 := Nat.lt_of_lt_of_eq t.isLt N_0
    have h1 : t.val % 11 = 10 := (flush0_6 t).mp hf
    have hy0 : (y 0).val < 1024 := (y 0).isLt
    have he : ((cfg0.win 6).blk t).view.emb y = ix2 (⟨1024 * (t.val / 11) + (y 0).val, by omega⟩ : Fin 16384) (y 1) := by
      funext a; apply Fin.ext
      match a with
      | ⟨0, _⟩ =>
        show cc0_transform_6 (grid0.coords t) 0 * 1024 + 1 * (y 0).val = 1024 * (t.val / 11) + (y 0).val
        rw [idx6]; omega
      | ⟨1, _⟩ => show 0 * 1024 + 1 * (y 1).val = (y 1).val; omega
    rw [he]
    refine (congrFun (after0_6 m c t) y).trans ?_
    refine (congrArg (outsAt0 m c t.val t.isLt).1 (eq_ix2 y)).trans ?_
    exact last_at m c t h1 (y 0) (y 1) _ rfl
  · have hx0 : (x 0).val < 16384 := (x 0).isLt
    have hx1 : (x 1).val < 1024 := (x 1).isLt
    obtain ⟨t, ht⟩ : ∃ t : Fin cfg0.N, t.val = 11 * ((x 0).val / 1024) + 10 :=
      ⟨⟨11 * ((x 0).val / 1024) + 10, Nat.lt_of_lt_of_eq (by omega) N_0.symm⟩, rfl⟩
    have hx : ((cfg0.win 6).blk t).view.emb (ix2 (⟨(x 0).val % 1024, by omega⟩ : Fin 1024) (⟨(x 1).val, hx1⟩ : Fin 1024) : S1024x1024.Idx) = x := by
      funext a; apply Fin.ext
      match a with
      | ⟨0, _⟩ =>
        show cc0_transform_6 (grid0.coords t) 0 * 1024 + 1 * ((x 0).val % 1024) = (x 0).val
        rw [idx6]; omega
      | ⟨1, _⟩ => show 0 * 1024 + 1 * (x 1).val = (x 1).val; omega
    refine ⟨t, (flush0_6 t).mpr (by omega), ?_⟩
    rw [← hx]; exact View.emb_mem_set _ _

/-! ## The arrays, from the arguments -/

theorem X_eq (x : S16384x1024.Idx → EReal) (hx : x = m ((c.tc : Thread nD τ).loc main_arg0)) : X m c = x := by
  subst hx
  exact V_main_arg0 m c
theorem W1_at (w : S1x1024x2816.Idx → EReal) (hw : w = m ((c.tc : Thread nD τ).loc main_arg1)) (k : Fin 1024) (y : Fin 2816) :
    W1 m c (ix2 k y) = w (ix3 0 k y) := by
  have h : W1 m c = truncf (F := Ideal) .bf16 (shapeCast S1024x2816 w shapeCasts_S1x1024x2816_S1024x2816) bitsLt_bf16_f32 := by
    subst hw
    unfold W1 V
    after_results
    rfl
  rw [h]
  pointwise []
theorem W3_at (w : S1x1024x2816.Idx → EReal) (hw : w = m ((c.tc : Thread nD τ).loc main_arg2)) (k : Fin 1024) (y : Fin 2816) :
    W3 m c (ix2 k y) = w (ix3 0 k y) := by
  have h : W3 m c = truncf (F := Ideal) .bf16 (shapeCast S1024x2816 w shapeCasts_S1x1024x2816_S1024x2816) bitsLt_bf16_f32 := by
    subst hw
    unfold W3 V
    after_results
    rfl
  rw [h]
  pointwise []
theorem W2_at (w : S1x2816x1024.Idx → EReal) (hw : w = m ((c.tc : Thread nD τ).loc main_arg3)) (y : Fin 2816) (k : Fin 1024) :
    W2 m c (ix2 y k) = w (ix3 0 y k) := by
  have h : W2 m c = truncf (F := Ideal) .bf16 (shapeCast S2816x1024 w shapeCasts_S1x2816x1024_S2816x1024) bitsLt_bf16_f32 := by
    subst hw
    unfold W2 V
    after_results
    rfl
  rw [h]
  pointwise []
theorem G_at (w : S1x1024.Idx → EReal) (hw : w = m ((c.tc : Thread nD τ).loc main_arg4)) (k : Fin 1024) : G m c (ix2 0 k) = w (ix2 0 k) := by
  have h : G m c = shapeCast S1x1024 (shapeCast S1024 w shapeCasts_S1x1024_S1024) shapeCasts_S1024_S1x1024 := by
    subst hw
    unfold G V
    after_results
    rfl
  rw [h]
  pointwise []
theorem B_at (w : S1x1024.Idx → EReal) (hw : w = m ((c.tc : Thread nD τ).loc main_arg5)) (k : Fin 1024) : B m c (ix2 0 k) = w (ix2 0 k) := by
  have h : B m c = shapeCast S1x1024 (shapeCast S1024 w shapeCasts_S1x1024_S1024) shapeCasts_S1024_S1x1024 := by
    subst hw
    unfold B V
    after_results
    rfl
  rw [h]
  pointwise []

/-- The result from the arguments. -/
theorem out_at (x : S16384x1024.Idx → EReal) (hx : x = m ((c.tc : Thread nD τ).loc main_arg0)) (w : S1x1024x2816.Idx → EReal) (hw : w = m ((c.tc : Thread nD τ).loc main_arg1))
    (v : S1x1024x2816.Idx → EReal) (hv : v = m ((c.tc : Thread nD τ).loc main_arg2)) (u : S1x2816x1024.Idx → EReal) (hu : u = m ((c.tc : Thread nD τ).loc main_arg3))
    (g : S1x1024.Idx → EReal) (hg : g = m ((c.tc : Thread nD τ).loc main_arg4)) (b : S1x1024.Idx → EReal) (hb : b = m ((c.tc : Thread nD τ).loc main_arg5))
    (q : Fin 16384) (k : Fin 1024) : out m c (ix2 q k)
      = lnorm (fun j => resid (x (ix2 q j)) (ffn (fun d => x (ix2 q d)) (fun d y => w (ix3 0 d y)) (fun d y => v (ix3 0 d y)) (fun y => u (ix3 0 y j))))
        (g (ix2 0 k)) (b (ix2 0 k)) k := by
  show lnorm (row m c q) (G m c (ix2 0 k)) (B m c (ix2 0 k)) k = _
  unfold row
  simp only [X_eq m c x hx, W1_at m c w hw, W3_at m c v hv, W2_at m c u hu, G_at m c g hg, B_at m c b hb]

end FfnKer

end
-- ==== Proof.FfnClaim.lean ====
module

public import proofs.«01_k».proof.Defs
public import proofs.«01_k».proof.Proof.FfnKer
public import proofs.«01_k».proof.Proof.Gen.Kernel5.Frame
public import proofs.«01_k».proof.Proof.Gen.Reference5Ideal.Run
public import Idealize.ShloMosaic.Lib.Quiescent

@[expose] public section

set_option maxRecDepth 16384

/-! What is claimed of the gated feed-forward call. -/

noncomputable section

open Idealize.ShloMosaic Idealize.ShloMosaic.TcCoe Idealize.SL.Sem

namespace FfnClaim

/-- The machine's program runs, keeps its arguments and leaves every counter at zero. -/
theorem frame_p : Cert.quiescent_Kernel5 := fun m ρ _ => Cert.Kernel5.Gen.frame m ρ
/-- So does the program over the extended reals, -/
theorem frame_pi : Cert.quiescent_Kernel5Ideal := fun m ρ _ => Cert.Kernel5Ideal.Gen.frame m ρ
/-- and the reference. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

section

open Cert.Kernel5Ideal Cert.Kernel5Ideal.Gen

variable (m : (ℓ : Loc nD τ sig) → Buf (Elt Ideal) ℓ) (c : Dev nD)

/-- The arguments. -/
abbrev A0 : S16384x1024.Idx → EReal := m ((c.tc : Thread nD τ).loc main_arg0)
abbrev A1 : S1x1024x2816.Idx → EReal := m ((c.tc : Thread nD τ).loc main_arg1)
abbrev A2 : S1x1024x2816.Idx → EReal := m ((c.tc : Thread nD τ).loc main_arg2)
abbrev A3 : S1x2816x1024.Idx → EReal := m ((c.tc : Thread nD τ).loc main_arg3)
abbrev A4 : S1x1024.Idx → EReal := m ((c.tc : Thread nD τ).loc main_arg4)
abbrev A5 : S1x1024.Idx → EReal := m ((c.tc : Thread nD τ).loc main_arg5)

/-- The kernel's result array is the reference's. -/
theorem res : (dats m 0 c).arrAt 6 cfg0.N
    = Cert.Reference5Ideal.Read.val_main_v36 (F := Ideal) (A0 m c) (A1 m c) (A2 m c) (A3 m c) (A4 m c) (A5 m c) := by
  rw [FfnKer.final]
  funext (x : S16384x1024.Idx)
  obtain ⟨q, k, rfl⟩ : ∃ q k, x = ix2 q k := ⟨x 0, x 1, eq_ix2 x⟩
  exact (FfnKer.out_at m c (A0 m c) rfl (A1 m c) rfl (A2 m c) rfl (A3 m c) rfl (A4 m c) rfl (A5 m c) rfl q k).trans
    (FfnRef.out_at (A0 m c) (A1 m c) (A2 m c) (A3 m c) (A4 m c) (A5 m c) q k).symm

end

/-- The kernel and the reference leave one result. -/
theorem algebraic : Cert.algebraic_Kernel5Ideal_Reference5Ideal := by
  intro m ρ m' ρ' _ hagree
  refine ⟨fun c => (Cert.Kernel5Ideal.Gen.dats m 0 c).arrAt 6 Cert.Kernel5Ideal.cfg0.N, Cert.Kernel5Ideal.Value.run_blocks m ρ, ?_⟩
  refine (θ_run Cert.Reference5Ideal.defs _ _).mono (fun _ h c => ⟨(h c).1.trans ?_, (h c).2⟩) (Cert.Reference5Ideal.Value.run (F := Ideal) m' ρ')
  rw [Cert.Reference5Ideal.Read.val_main_v36_eq, (hagree c).1, (hagree c).2.1, (hagree c).2.2.1, (hagree c).2.2.2.1, (hagree c).2.2.2.2.1, (hagree c).2.2.2.2.2]
  exact (res m c).symm

end FfnClaim

end
-- ==== Proof.RopeRunI.lean ====
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.TailRun
public import Idealize.ShloMosaic.Lib.Pipeline.FrameBody
public import Idealize.ShloMosaic.Lib.Ring
public import Idealize.ShloMosaic.Lib.Tactic

@[expose] public section

set_option maxRecDepth 16384

/-! The rotated projection's launch: what each point's body leaves in the windows, and the run of the whole program. -/

noncomputable section

namespace Cert.Kernel6Ideal.Rope

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer's contents when the region is entered. -/
abbrev V (c : Dev nD) (b : Ref sig .tc) : Buf (Elt F) ((c : Thread nD τ).loc b) := TailRun.atEntry m hostOps0 c (Proc.devRef .tc b)

/-- Window `w`'s block at point `t`, out of its array at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of each staging block, as the body reads it. -/
abbrev allX : Rect S512x1024 := Rect.unit (s := S512x1024) ![0, 0] S512x1024.size inb_S512x1024_S512x1024_0_0
abbrev allW : Rect S1024x1536 := Rect.unit (s := S1024x1536) ![0, 0] S1024x1536.size inb_S1024x1536_S1024x1536_0_0
abbrev allT : Rect S512x128 := Rect.unit (s := S512x128) ![0, 0] S512x128.size inb_S512x128_S512x128_0_0
abbrev allY : Rect S512x1536 := Rect.unit (s := S512x1536) ![0, 0] S512x1536.size inb_S512x1536_S512x1536_0_0

/-- The stores of a point whose columns are rotated: twelve groups of 128 columns, the last one first. -/
abbrev turns (x : Vec F S512x1024 .f32) (w : Vec F S1024x1536 .bf16) (cs sa sb : Vec F S512x128 .f32) : List (View.Piece (Elt F) S512x1536 .f32) :=
  [ ⟨(Rect.unit (s := S512x1536) ![0, 1408] S512x128.size inb_S512x1536_S512x128_0_1408), k0_pay18 (k0_pay1 (View.ld x allX) (View.ld w allW)) (k0_pay2 (View.ld cs allT)) (k0_pay3 (View.ld sa allT)) (k0_pay4 (View.ld sb allT))⟩,
    ⟨(Rect.unit (s := S512x1536) ![0, 1280] S512x128.size inb_S512x1536_S512x128_0_1280), k0_pay17 (k0_pay1 (View.ld x allX) (View.ld w allW)) (k0_pay2 (View.ld cs allT)) (k0_pay3 (View.ld sa allT)) (k0_pay4 (View.ld sb allT))⟩,
    ⟨(Rect.unit (s := S512x1536) ![0, 1152] S512x128.size inb_S512x1536_S512x128_0_1152), k0_pay16 (k0_pay1 (View.ld x allX) (View.ld w allW)) (k0_pay2 (View.ld cs allT)) (k0_pay3 (View.ld sa allT)) (k0_pay4 (View.ld sb allT))⟩,
    ⟨(Rect.unit (s := S512x1536) ![0, 1024] S512x128.size inb_S512x1536_S512x128_0_1024), k0_pay15 (k0_pay1 (View.ld x allX) (View.ld w allW)) (k0_pay2 (View.ld cs allT)) (k0_pay3 (View.ld sa allT)) (k0_pay4 (View.ld sb allT))⟩,
    ⟨(Rect.unit (s := S512x1536) ![0, 896] S512x128.size inb_S512x1536_S512x128_0_896), k0_pay14 (k0_pay1 (View.ld x allX) (View.ld w allW)) (k0_pay2 (View.ld cs allT)) (k0_pay3 (View.ld sa allT)) (k0_pay4 (View.ld sb allT))⟩,
    ⟨(Rect.unit (s := S512x1536) ![0, 768] S512x128.size inb_S512x1536_S512x128_0_768), k0_pay13 (k0_pay1 (View.ld x allX) (View.ld w allW)) (k0_pay2 (View.ld cs allT)) (k0_pay3 (View.ld sa allT)) (k0_pay4 (View.ld sb allT))⟩,
    ⟨(Rect.unit (s := S512x1536) ![0, 640] S512x128.size inb_S512x1536_S512x128_0_640), k0_pay12 (k0_pay1 (View.ld x allX) (View.ld w allW)) (k0_pay2 (View.ld cs allT)) (k0_pay3 (View.ld sa allT)) (k0_pay4 (View.ld sb allT))⟩,
    ⟨(Rect.unit (s := S512x1536) ![0, 512] S512x128.size inb_S512x1536_S512x128_0_512), k0_pay11 (k0_pay1 (View.ld x allX) (View.ld w allW)) (k0_pay2 (View.ld cs allT)) (k0_pay3 (View.ld sa allT)) (k0_pay4 (View.ld sb allT))⟩,
    ⟨(Rect.unit (s := S512x1536) ![0, 384] S512x128.size inb_S512x1536_S512x128_0_384), k0_pay10 (k0_pay4 (View.ld sb allT)) (k0_pay8 (k0_pay1 (View.ld x allX) (View.ld w allW))) (k0_pay9 (k0_pay1 (View.ld x allX) (View.ld w allW)) (View.ld cs allT) (View.ld sa allT))⟩,
    ⟨(Rect.unit (s := S512x1536) ![0, 256] S512x128.size inb_S512x1536_S512x128_0_256), k0_pay7 (k0_pay1 (View.ld x allX) (View.ld w allW)) (View.ld cs allT) (View.ld sa allT) (View.ld sb allT)⟩,
    ⟨(Rect.unit (s := S512x1536) ![0, 128] S512x128.size inb_S512x1536_S512x128_0_128), k0_pay6 (k0_pay1 (View.ld x allX) (View.ld w allW)) (View.ld cs allT) (View.ld sa allT) (View.ld sb allT)⟩,
    ⟨(Rect.unit (s := S512x1536) ![0, 0] S512x128.size inb_S512x1536_S512x128_0_0), k0_pay5 (k0_pay1 (View.ld x allX) (View.ld w allW)) (View.ld cs allT) (View.ld sa allT) (View.ld sb allT)⟩ ]

/-- What a point whose columns are rotated leaves. -/
def turned (x : Vec F S512x1024 .f32) (w : Vec F S1024x1536 .bf16) (cs sa sb : Vec F S512x128 .f32) : Vec F S512x1536 .f32 :=
  View.canon (turns x w cs sa sb)

/-- What a point whose columns are stored as they are leaves. -/
def plain (x : Vec F S512x1024 .f32) (w : Vec F S1024x1536 .bf16) : Vec F S512x1536 .f32 :=
  View.canon [⟨allY, k0_pay1 (View.ld x allX) (View.ld w allW)⟩]

/-- The twelve stores reach every element. -/
theorem turns_cover (x : Vec F S512x1024 .f32) (w : Vec F S1024x1536 .bf16) (cs sa sb : Vec F S512x128 .f32) (y : S512x1536.Idx) :
    ∃ pc ∈ turns x w cs sa sb, y ∈ pc.1.set :=
  View.cover_of_tiledL (turns x w cs sa sb) S512x128.size (by sl_kernel_rfl) y

/-- The single store reaches every element. -/
theorem plain_cover (p : Vec F S512x1536 .f32) (y : S512x1536.Idx) :
    ∃ pc ∈ ([⟨allY, p⟩] : List (View.Piece (Elt F) S512x1536 .f32)), y ∈ pc.1.set :=
  View.cover_of_tiledL [⟨allY, p⟩] S512x1536.size (by sl_kernel_rfl) y

/-- The block point `t` writes back: every third point stores its columns as they are, the others rotate them. -/
def left (c : Dev nD) (t : Fin cfg0.N) : Vec F S512x1536 .f32 :=
  if t.val % 3 = 2 then plain (iblk m c 0 t) (iblk m c 1 t)
  else turned (iblk m c 0 t) (iblk m c 1 t) (iblk m c 2 t) (iblk m c 3 t) (iblk m c 4 t)

/-- The first branch is taken at the points whose second coordinate is 0 or 1, -/
theorem first_iff : ∀ t : Fin grid0.N, k0_cond1 (grid0.coords t) = 1#1 ↔ t.val % 3 ≠ 2 := by decide +kernel
/-- the second at those where it is 2, -/
theorem second_iff : ∀ t : Fin grid0.N, k0_cond2 (grid0.coords t) = 1#1 ↔ t.val % 3 = 2 := by decide +kernel
/-- and the result's window is in use at every point. -/
theorem in_use : ∀ t : Fin grid0.N, cfg0.idle 5 (grid0.coords t) = false := by decide +kernel

/-- The data of the pipeline on device `c`: the arrays at entry, and the windows' blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left m c t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = left m c t := by dsimp only [dats]

/-- Before each point window 0 holds its block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
/-- Before each point window 1 holds its block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
/-- Before each point window 2 holds its block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
/-- Before each point window 3 holds its block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl
/-- Before each point window 4 holds its block. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans rfl

set_option maxHeartbeats 2000000 in
/-- Where the first branch is taken the body leaves its operands' blocks as they were and the rotated columns in the result's. -/
theorem body_turned (c : Dev nD) (E : Set ℕ) (i : grid0.Coords) (arg2 : Memref sig .tc .vmem S512x1024 .f32) (harg2 : arg2.IsWhole)
    (arg3 : Memref sig .tc .vmem S1024x1536 .bf16) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x1536 .f32) (harg7 : arg7.IsWhole)
    (hc0 : k0_cond1 i = 1#1) (hc1 : ¬ k0_cond2 i = 1#1)
    (x : Vec F S512x1024 .f32) (w : Vec F S1024x1536 .bf16) (cs sa sb : Vec F S512x128 .f32) (K : PUnit → sProp 𝕄) :
    iprop(owns (c : Thread nD τ) arg2 fullShare x
        ∗ owns (c : Thread nD τ) arg3 fullShare w
        ∗ owns (c : Thread nD τ) arg4 fullShare cs
        ∗ owns (c : Thread nD τ) arg5 fullShare sa
        ∗ owns (c : Thread nD τ) arg6 fullShare sb
        ∗ (∃ d, owns (c : Thread nD τ) arg7 fullShare d)
        ∗ (iprop(owns (c : Thread nD τ) arg2 fullShare x
        ∗ owns (c : Thread nD τ) arg3 fullShare w
        ∗ owns (c : Thread nD τ) arg4 fullShare cs
        ∗ owns (c : Thread nD τ) arg5 fullShare sa
        ∗ owns (c : Thread nD τ) arg6 fullShare sb
            ∗ owns (c : Thread nD τ) arg7 fullShare (turned x w cs sa sb)) -∗ K ⟨⟩))
      ⊢ wp frame (wpE (defs₀ (F := F)) Variants.none c none) E (cc0_in_proj_c_prompt i arg2 harg2 arg3 harg3 arg4 harg4 arg5 harg5 arg6 harg6 arg7 harg7) K := by
  simp only [cc0_in_proj_c_prompt_eq_skeleton]; unfold cc0_in_proj_c_prompt_skel
  simp only [k0_part1_eq_skeleton, k0_part2_eq_skeleton, k0_part3_eq_skeleton]
  unfold owns
  iintro ⟨⟨%f0, %h0, Hx⟩, ⟨%f1, %h1, Hw⟩, ⟨%f2, %h2, Hc⟩, ⟨%f3, %h3, Ha⟩, ⟨%f4, %h4, Hb⟩, ⟨%d, %e, -, Hy⟩, Hk⟩
  subst h0 h1 h2 h3 h4
  sl_exec (disch := first | sl_exact hc0 | sl_exact hc1)
  sl_step
  iapply Hk
  isplitl [Hx]
  · iexists f0; isplitr; · ipureintro; rfl
    iexact Hx
  isplitl [Hw]
  · iexists f1; isplitr; · ipureintro; rfl
    iexact Hw
  isplitl [Hc]
  · iexists f2; isplitr; · ipureintro; rfl
    iexact Hc
  isplitl [Ha]
  · iexists f3; isplitr; · ipureintro; rfl
    iexact Ha
  isplitl [Hb]
  · iexists f4; isplitr; · ipureintro; rfl
    iexact Hb
  iexists _; isplitr
  swap; · iexact Hy
  ipureintro
  exact View.read_writes_eq_canon _ _ _ (turns_cover _ _ _ _ _)

set_option maxHeartbeats 2000000 in
/-- Where the second branch is taken it leaves the product itself in the result's block. -/
theorem body_plain (c : Dev nD) (E : Set ℕ) (i : grid0.Coords) (arg2 : Memref sig .tc .vmem S512x1024 .f32) (harg2 : arg2.IsWhole)
    (arg3 : Memref sig .tc .vmem S1024x1536 .bf16) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x1536 .f32) (harg7 : arg7.IsWhole)
    (hc0 : ¬ k0_cond1 i = 1#1) (hc1 : k0_cond2 i = 1#1)
    (x : Vec F S512x1024 .f32) (w : Vec F S1024x1536 .bf16) (cs sa sb : Vec F S512x128 .f32) (K : PUnit → sProp 𝕄) :
    iprop(owns (c : Thread nD τ) arg2 fullShare x
        ∗ owns (c : Thread nD τ) arg3 fullShare w
        ∗ owns (c : Thread nD τ) arg4 fullShare cs
        ∗ owns (c : Thread nD τ) arg5 fullShare sa
        ∗ owns (c : Thread nD τ) arg6 fullShare sb
        ∗ (∃ d, owns (c : Thread nD τ) arg7 fullShare d)
        ∗ (iprop(owns (c : Thread nD τ) arg2 fullShare x
        ∗ owns (c : Thread nD τ) arg3 fullShare w
        ∗ owns (c : Thread nD τ) arg4 fullShare cs
        ∗ owns (c : Thread nD τ) arg5 fullShare sa
        ∗ owns (c : Thread nD τ) arg6 fullShare sb
            ∗ owns (c : Thread nD τ) arg7 fullShare (plain x w)) -∗ K ⟨⟩))
      ⊢ wp frame (wpE (defs₀ (F := F)) Variants.none c none) E (cc0_in_proj_c_prompt i arg2 harg2 arg3 harg3 arg4 harg4 arg5 harg5 arg6 harg6 arg7 harg7) K := by
  simp only [cc0_in_proj_c_prompt_eq_skeleton]; unfold cc0_in_proj_c_prompt_skel
  unfold owns
  iintro ⟨⟨%f0, %h0, Hx⟩, ⟨%f1, %h1, Hw⟩, ⟨%f2, %h2, Hc⟩, ⟨%f3, %h3, Ha⟩, ⟨%f4, %h4, Hb⟩, ⟨%d, %e, -, Hy⟩, Hk⟩
  subst h0 h1 h2 h3 h4
  sl_exec (disch := first | sl_exact hc0 | sl_exact hc1)
  sl_step
  iapply Hk
  isplitl [Hx]
  · iexists f0; isplitr; · ipureintro; rfl
    iexact Hx
  isplitl [Hw]
  · iexists f1; isplitr; · ipureintro; rfl
    iexact Hw
  isplitl [Hc]
  · iexists f2; isplitr; · ipureintro; rfl
    iexact Hc
  isplitl [Ha]
  · iexists f3; isplitr; · ipureintro; rfl
    iexact Ha
  isplitl [Hb]
  · iexists f4; isplitr; · ipureintro; rfl
    iexact Hb
  iexists _; isplitr
  swap; · iexact Hy
  ipureintro
  exact View.read_writes_eq_canon _ _ _ (plain_cover _)

/-- The body's row of the table is the body as the points spell it. -/
theorem row_at (t : Fin cfg0.N) : defs₀ (F := F) .tc cfg0.body (cfg0.bodyArgs t (cfg0.slots t)) = bodyAt0 t := by
  unfold defs₀; rw [Defs.onTc_tc]

/-- The body at any point: its operands' windows as they were, and the block of `left` in the result's. -/
theorem body_at (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
    ⊢ wp frame (wpE (defs₀ (F := F)) Variants.none c none) Set.univ (bodyAt0 t) (fun _ => iprop((dats m 0 c).Φ t.castSucc ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)) := by
  have h5 : (dats m 0 c).leavesExact 5 t = owns (c : Thread nD τ) (st0_5 t) fullShare ((dats m 0 c).after 5 t) := by
    unfold Dat.leavesExact; rw [in_use t]
  rw [h5]
  unfold bodyAt0
  simp only [before_0, before_1, before_2, before_3, before_4]
  rw [after_0, after_1, after_2, after_3, after_4, after_5]
  by_cases h : t.val % 3 = 2
  · rw [show left m c t = plain (iblk m c 0 t) (iblk m c 1 t) from if_pos h]
    iintro ⟨HΦ, Ho, ⟨%d0, Hx⟩, ⟨%d1, Hw⟩, ⟨%d2, Hc⟩, ⟨%d3, Ha⟩, ⟨%d4, Hb⟩, ⟨%d5, Hy⟩⟩
    iapply (body_plain c Set.univ (grid0.coords t) _ _ _ _ _ _ _ _ _ _ _ _ (fun e => (first_iff t).mp e h) ((second_iff t).mpr h) (iblk m c 0 t) (iblk m c 1 t) (iblk m c 2 t) (iblk m c 3 t) (iblk m c 4 t) _)
    isplitl [Hx]; · iexact Hx
    isplitl [Hw]; · iexact Hw
    isplitl [Hc]; · iexact Hc
    isplitl [Ha]; · iexact Ha
    isplitl [Hb]; · iexact Hb
    isplitl [Hy]; · iexists _; iexact Hy
    iintro ⟨Hx, Hw, Hc, Ha, Hb, Hy⟩
    isplitl [HΦ]; · iexact HΦ
    isplitl [Ho]; · iexact Ho
    isplitl [Hx]; · iexact Hx
    isplitl [Hw]; · iexact Hw
    isplitl [Hc]; · iexact Hc
    isplitl [Ha]; · iexact Ha
    isplitl [Hb]; · iexact Hb
    iexact Hy
  · rw [show left m c t = turned (iblk m c 0 t) (iblk m c 1 t) (iblk m c 2 t) (iblk m c 3 t) (iblk m c 4 t) from if_neg h]
    iintro ⟨HΦ, Ho, ⟨%d0, Hx⟩, ⟨%d1, Hw⟩, ⟨%d2, Hc⟩, ⟨%d3, Ha⟩, ⟨%d4, Hb⟩, ⟨%d5, Hy⟩⟩
    iapply (body_turned c Set.univ (grid0.coords t) _ _ _ _ _ _ _ _ _ _ _ _ ((first_iff t).mpr h) (fun e => h ((second_iff t).mp e)) (iblk m c 0 t) (iblk m c 1 t) (iblk m c 2 t) (iblk m c 3 t) (iblk m c 4 t) _)
    isplitl [Hx]; · iexact Hx
    isplitl [Hw]; · iexact Hw
    isplitl [Hc]; · iexact Hc
    isplitl [Ha]; · iexact Ha
    isplitl [Hb]; · iexact Hb
    isplitl [Hy]; · iexists _; iexact Hy
    iintro ⟨Hx, Hw, Hc, Ha, Hb, Hy⟩
    isplitl [HΦ]; · iexact HΦ
    isplitl [Ho]; · iexact Ho
    isplitl [Hx]; · iexact Hx
    isplitl [Hw]; · iexact Hw
    isplitl [Hc]; · iexact Hc
    isplitl [Ha]; · iexact Ha
    isplitl [Hb]; · iexact Hb
    iexact Hy

/-- Every point's body keeps the pipeline's data. -/
theorem obligation (c : Dev nD) : BodyObligation (dats (F := F) m 0 c) (defs₀ (F := F)) Variants.none () Set.univ := fun t => by
  rw [bigSep_W0, bigSep_W0, row_at]
  exact triple_restated (body_at m c t) rfl .rfl fun _ => .rfl

/-- A core's memory at the end of the program. -/
abbrev last (c : Dev nD) : Valuation τ sig (Elt F) := TailRun.atEnd cfgs (dats m) (0 : Fin 1) m hostOps0 hostOps1 c

set_option backward.isDefEq.respectTransparency.types false in
/-- The program ends with its memory at `last` and every counter at zero. -/
theorem run_main : θ_run defs (onTc (τ := τ) (main (F := F))) (s₀ m ρ) fun r =>
    (∀ (c : Dev nD) (b : Ref sig .tc), b.isScoped = false → r.2.mem ((c.tc : Thread nD τ).loc b) = last m c (Proc.devRef .tc b))
      ∧ r.2.sem = fun _ => 0 :=
  TailRun.run cfgs (dats m) (0 : Fin 1) launch0 defs₀ Variants.none m ρ hostOps0 hostOps1 main hostOps0_sub hostOps1_sub
    main_chain
    (hbody := fun c => (obligation m c).loose) (hshare := fun c => (dats m 0 c).share_full fun _ => rfl)
    (howed := fun _ _ => rfl) (hA := fun _ _ => rfl) (hΦ := fun _ _ => rfl) (hscoped := by decide)

/-- The end keeps the arguments as they were. -/
theorem last_arg0 (c : Dev nD) : last m c (Proc.devRef .tc main_arg0) = m ((c.tc : Thread nD τ).loc main_arg0) := by
  have hV : V m c main_arg0 = m ((c.tc : Thread nD τ).loc main_arg0) := by
    unfold V TailRun.atEntry
    after_results
  unfold last TailRun.atEnd TailRun.atExit
  after_region_results
  erw [Pipeline.afterRegion_arr (dats m 0 c) _ Gen.launch0.win.arr_inj 0]
  exact ((dats m 0 c).arrAt_in 0 rfl _).trans hV
theorem last_arg1 (c : Dev nD) : last m c (Proc.devRef .tc main_arg1) = m ((c.tc : Thread nD τ).loc main_arg1) := by
  unfold last TailRun.atEnd TailRun.atExit TailRun.atEntry
  after_region_results

end Cert.Kernel6Ideal.Rope

end
-- ==== Proof.RopeRef.lean ====
module

public import proofs.«01_k».proof.Proof.Gen.Reference6Ideal.Read
public import Idealize.ShloMosaic.Lib.Pointwise

@[expose] public section

set_option maxRecDepth 16384

/-! The reference's rotated queries and keys and its values, entry by entry. -/

noncomputable section

open Idealize.ShloMosaic Idealize.ShloMosaic.TcCoe

namespace RopeRef

open Cert.Reference6Ideal Cert.Reference6Ideal.Read

/-- The cosines and the sines of the angles, by position and frequency. -/
def cosT : S8192x8.Idx → EReal := val_main_v24 (F := Ideal)
def sinT : S8192x8.Idx → EReal := val_main_v26 (F := Ideal)

/-- An entry of the product of the rows with the weights. -/
def prodAt (x : S16384x1024.Idx → EReal) (w : S1x1024x4608.Idx → EReal) (q : Fin 16384) (j : Fin 4608) : EReal :=
  ∑ k : Fin 1024, x (ix2 q k) * w (ix3 0 k j)

/-- A head's columns turned at a position: the first eight pair with the next eight, the rest stay. -/
def turn (y : Fin 64 → EReal) (t : Fin 8192) (d : Fin 64) : EReal :=
  if h : d.val < 8 then y d * cosT (ix2 t ⟨d.val, h⟩) - y ⟨8 + d.val, by omega⟩ * sinT (ix2 t ⟨d.val, h⟩)
  else if h' : d.val < 16 then y d * cosT (ix2 t ⟨d.val - 8, by omega⟩) + y ⟨d.val - 8, by omega⟩ * sinT (ix2 t ⟨d.val - 8, by omega⟩)
  else y d

variable (x : S16384x1024.Idx → EReal) (w : S1x1024x4608.Idx → EReal)

/-- The product at the problem's shapes. -/
theorem prod_at (b : Fin 2) (t : Fin 8192) (j : Fin 4608) :
    val_main_v2 (F := Ideal) x w (ix3 b t j) = prodAt x w ⟨b.val * 8192 + t.val, by omega⟩ j := by
  unfold prodAt
  pointwise [val_main_v2, val_main_v1, val_main_v0]

/-- The queries are the first third of it, turned; -/
theorem query_at (b : Fin 2) (t : Fin 8192) (g : Fin 3) (h : Fin 8) (d : Fin 64) :
    val_main_v41 (F := Ideal) x w (ix5 b t g h d)
      = turn (fun e => prodAt x w ⟨b.val * 8192 + t.val, by omega⟩ ⟨g.val * 512 + h.val * 64 + e.val, by omega⟩) t d := by
  unfold turn
  simp only [← prod_at]
  unfold cosT sinT val_main_v41 val_main_v40 val_main_v39 val_main_v38 val_main_v37 val_main_v36 val_main_v35 val_main_v34 val_main_v33 val_main_v32 val_main_v31 val_main_v30 val_main_v29 val_main_v28 val_main_v25 val_main_v27 val_main_v7 val_main_v3
  generalize val_main_v2 (F := Ideal) x w = y
  generalize val_main_v24 (F := Ideal) = ct
  generalize val_main_v26 (F := Ideal) = st
  pointwise []
  by_cases a : d.val < 8
  · simp only [dif_pos a]
  · by_cases b' : d.val < 16
    · have b1 : d.val - 8 < 8 := by omega
      have e8 : 8 + (d.val - 8) = d.val := by omega
      simp only [dif_neg a, dif_pos b', dif_pos b1, e8]
    · have b1 : ¬ d.val - 8 < 8 := by omega
      have e8 : 16 + (d.val - 8 - 8) = d.val := by omega
      simp only [dif_neg a, dif_neg b', dif_neg b1, e8]

/-- (The angles are computed anew for the keys, and are the same.) -/
theorem angle_again : val_main_v58 (F := Ideal) = val_main_v23 (F := Ideal) := by
  unfold val_main_v58 val_main_v57 val_main_v56 val_main_v55 val_main_v54 val_main_v53 val_main_v52 val_main_v51 val_main_v50 val_main_v49 val_main_v48 val_main_v47 val_main_v46 val_main_v45 val_main_v44 val_main_v43 val_main_cst_3 val_main_cst_4 val_main_cst_5 val_main_cst_6
  unfold val_main_v23 val_main_v22 val_main_v21 val_main_v20 val_main_v19 val_main_v18 val_main_v17 val_main_v16 val_main_v15 val_main_v14 val_main_v13 val_main_v12 val_main_v11 val_main_v10 val_main_v9 val_main_v8 val_main_cst val_main_cst_0 val_main_cst_1 val_main_cst_2
  rfl
theorem cos_again : val_main_v59 (F := Ideal) = val_main_v24 (F := Ideal) := congrArg (fun a => Host.cos (F := Ideal) a) angle_again
theorem sin_again : val_main_v61 (F := Ideal) = val_main_v26 (F := Ideal) := congrArg (fun a => Host.sin (F := Ideal) a) angle_again

/-- the keys the second third, turned by the same angles; -/
theorem key_at (b : Fin 2) (t : Fin 8192) (g : Fin 3) (h : Fin 8) (d : Fin 64) :
    val_main_v76 (F := Ideal) x w (ix5 b t g h d)
      = turn (fun e => prodAt x w ⟨b.val * 8192 + t.val, by omega⟩ ⟨1536 + (g.val * 512 + h.val * 64 + e.val), by omega⟩) t d := by
  unfold turn
  simp only [← prod_at]
  unfold cosT sinT val_main_v76 val_main_v75 val_main_v74 val_main_v73 val_main_v72 val_main_v71 val_main_v70 val_main_v69 val_main_v68 val_main_v67 val_main_v66 val_main_v65 val_main_v64 val_main_v63 val_main_v60 val_main_v62 val_main_v42 val_main_v4
  rw [cos_again, sin_again]
  generalize val_main_v2 (F := Ideal) x w = y
  generalize val_main_v24 (F := Ideal) = ct
  generalize val_main_v26 (F := Ideal) = st
  pointwise []
  by_cases a : d.val < 8
  · simp only [dif_pos a]
  · by_cases b' : d.val < 16
    · have b1 : d.val - 8 < 8 := by omega
      have e8 : 8 + (d.val - 8) = d.val := by omega
      simp only [dif_neg a, dif_pos b', dif_pos b1, e8]
    · have b1 : ¬ d.val - 8 < 8 := by omega
      have e8 : 16 + (d.val - 8 - 8) = d.val := by omega
      simp only [dif_neg a, dif_neg b', dif_neg b1, e8]

/-- and the values the last third as it is. -/
theorem value_at (b : Fin 2) (t : Fin 8192) (g : Fin 3) (h : Fin 8) (d : Fin 64) :
    val_main_v77 (F := Ideal) x w (ix5 b t g h d)
      = prodAt x w ⟨b.val * 8192 + t.val, by omega⟩ ⟨3072 + (g.val * 512 + h.val * 64 + d.val), by omega⟩ := by
  simp only [← prod_at]
  unfold val_main_v77 val_main_v5
  generalize val_main_v2 (F := Ideal) x w = y
  pointwise []

/-- The last 128 keys of group 0. -/
theorem key0_at (b : Fin 2) (t : Fin 128) (h : Fin 8) (d : Fin 64) :
    val_main_v81 (F := Ideal) x w (ix5 0 b t h d) = val_main_v76 (F := Ideal) x w (ix5 b ⟨8064 + t.val, by omega⟩ 0 h d) := by
  rw [val_main_v81_apply, val_main_v80_apply, val_main_v79_apply, val_main_v78_apply]
  refine congrArg (val_main_v76 (F := Ideal) x w) ?_
  funext a; apply Fin.ext
  match a with
  | ⟨0, _⟩ => show (((b.val * 8192 + (8064 + t.val)) * 8 + h.val) * 64 + d.val) / 4194304 = b.val; omega
  | ⟨1, _⟩ => show (((b.val * 8192 + (8064 + t.val)) * 8 + h.val) * 64 + d.val) / 512 % 8192 = 8064 + t.val; omega
  | ⟨2, _⟩ => rfl
  | ⟨3, _⟩ => show (((b.val * 8192 + (8064 + t.val)) * 8 + h.val) * 64 + d.val) / 64 % 8 = h.val; omega
  | ⟨4, _⟩ => show (((b.val * 8192 + (8064 + t.val)) * 8 + h.val) * 64 + d.val) % 64 = d.val; omega

/-- The last 128 values of group 0. -/
theorem value0_at (b : Fin 2) (t : Fin 128) (h : Fin 8) (d : Fin 64) :
    val_main_v85 (F := Ideal) x w (ix5 0 b t h d) = val_main_v77 (F := Ideal) x w (ix5 b ⟨8064 + t.val, by omega⟩ 0 h d) := by
  rw [val_main_v85_apply, val_main_v84_apply, val_main_v83_apply, val_main_v82_apply]
  refine congrArg (val_main_v77 (F := Ideal) x w) ?_
  funext a; apply Fin.ext
  match a with
  | ⟨0, _⟩ => show (((b.val * 8192 + (8064 + t.val)) * 8 + h.val) * 64 + d.val) / 4194304 = b.val; omega
  | ⟨1, _⟩ => show (((b.val * 8192 + (8064 + t.val)) * 8 + h.val) * 64 + d.val) / 512 % 8192 = 8064 + t.val; omega
  | ⟨2, _⟩ => rfl
  | ⟨3, _⟩ => show (((b.val * 8192 + (8064 + t.val)) * 8 + h.val) * 64 + d.val) / 64 % 8 = h.val; omega
  | ⟨4, _⟩ => show (((b.val * 8192 + (8064 + t.val)) * 8 + h.val) * 64 + d.val) % 64 = d.val; omega

/-- The last 512 keys of group 1. -/
theorem key1_at (b : Fin 2) (t : Fin 512) (h : Fin 8) (d : Fin 64) :
    val_main_v89 (F := Ideal) x w (ix5 0 b t h d) = val_main_v76 (F := Ideal) x w (ix5 b ⟨7680 + t.val, by omega⟩ 1 h d) := by
  rw [val_main_v89_apply, val_main_v88_apply, val_main_v87_apply, val_main_v86_apply]
  refine congrArg (val_main_v76 (F := Ideal) x w) ?_
  funext a; apply Fin.ext
  match a with
  | ⟨0, _⟩ => show (((b.val * 8192 + (7680 + t.val)) * 8 + h.val) * 64 + d.val) / 4194304 = b.val; omega
  | ⟨1, _⟩ => show (((b.val * 8192 + (7680 + t.val)) * 8 + h.val) * 64 + d.val) / 512 % 8192 = 7680 + t.val; omega
  | ⟨2, _⟩ => rfl
  | ⟨3, _⟩ => show (((b.val * 8192 + (7680 + t.val)) * 8 + h.val) * 64 + d.val) / 64 % 8 = h.val; omega
  | ⟨4, _⟩ => show (((b.val * 8192 + (7680 + t.val)) * 8 + h.val) * 64 + d.val) % 64 = d.val; omega

/-- The last 512 values of group 1. -/
theorem value1_at (b : Fin 2) (t : Fin 512) (h : Fin 8) (d : Fin 64) :
    val_main_v93 (F := Ideal) x w (ix5 0 b t h d) = val_main_v77 (F := Ideal) x w (ix5 b ⟨7680 + t.val, by omega⟩ 1 h d) := by
  rw [val_main_v93_apply, val_main_v92_apply, val_main_v91_apply, val_main_v90_apply]
  refine congrArg (val_main_v77 (F := Ideal) x w) ?_
  funext a; apply Fin.ext
  match a with
  | ⟨0, _⟩ => show (((b.val * 8192 + (7680 + t.val)) * 8 + h.val) * 64 + d.val) / 4194304 = b.val; omega
  | ⟨1, _⟩ => show (((b.val * 8192 + (7680 + t.val)) * 8 + h.val) * 64 + d.val) / 512 % 8192 = 7680 + t.val; omega
  | ⟨2, _⟩ => rfl
  | ⟨3, _⟩ => show (((b.val * 8192 + (7680 + t.val)) * 8 + h.val) * 64 + d.val) / 64 % 8 = h.val; omega
  | ⟨4, _⟩ => show (((b.val * 8192 + (7680 + t.val)) * 8 + h.val) * 64 + d.val) % 64 = d.val; omega

/-- The last 2048 keys of group 2. -/
theorem key2_at (b : Fin 2) (t : Fin 2048) (h : Fin 8) (d : Fin 64) :
    val_main_v97 (F := Ideal) x w (ix5 0 b t h d) = val_main_v76 (F := Ideal) x w (ix5 b ⟨6144 + t.val, by omega⟩ 2 h d) := by
  rw [val_main_v97_apply, val_main_v96_apply, val_main_v95_apply, val_main_v94_apply]
  refine congrArg (val_main_v76 (F := Ideal) x w) ?_
  funext a; apply Fin.ext
  match a with
  | ⟨0, _⟩ => show (((b.val * 8192 + (6144 + t.val)) * 8 + h.val) * 64 + d.val) / 4194304 = b.val; omega
  | ⟨1, _⟩ => show (((b.val * 8192 + (6144 + t.val)) * 8 + h.val) * 64 + d.val) / 512 % 8192 = 6144 + t.val; omega
  | ⟨2, _⟩ => rfl
  | ⟨3, _⟩ => show (((b.val * 8192 + (6144 + t.val)) * 8 + h.val) * 64 + d.val) / 64 % 8 = h.val; omega
  | ⟨4, _⟩ => show (((b.val * 8192 + (6144 + t.val)) * 8 + h.val) * 64 + d.val) % 64 = d.val; omega

/-- The last 2048 values of group 2. -/
theorem value2_at (b : Fin 2) (t : Fin 2048) (h : Fin 8) (d : Fin 64) :
    val_main_v101 (F := Ideal) x w (ix5 0 b t h d) = val_main_v77 (F := Ideal) x w (ix5 b ⟨6144 + t.val, by omega⟩ 2 h d) := by
  rw [val_main_v101_apply, val_main_v100_apply, val_main_v99_apply, val_main_v98_apply]
  refine congrArg (val_main_v77 (F := Ideal) x w) ?_
  funext a; apply Fin.ext
  match a with
  | ⟨0, _⟩ => show (((b.val * 8192 + (6144 + t.val)) * 8 + h.val) * 64 + d.val) / 4194304 = b.val; omega
  | ⟨1, _⟩ => show (((b.val * 8192 + (6144 + t.val)) * 8 + h.val) * 64 + d.val) / 512 % 8192 = 6144 + t.val; omega
  | ⟨2, _⟩ => rfl
  | ⟨3, _⟩ => show (((b.val * 8192 + (6144 + t.val)) * 8 + h.val) * 64 + d.val) / 64 % 8 = h.val; omega
  | ⟨4, _⟩ => show (((b.val * 8192 + (6144 + t.val)) * 8 + h.val) * 64 + d.val) % 64 = d.val; omega

end RopeRef
-- ==== Proof.RopeVal.lean ====
module

public import proofs.«01_k».proof.Proof.RopeRunI
public import proofs.«01_k».proof.Proof.RopeRef
public import Idealize.ShloMosaic.Lib.Pointwise
public import Idealize.ShloMosaic.Lib.Pipeline.Value
public import Idealize.ShloMosaic.Lib.Pipeline.ValueKit

@[expose] public section

set_option maxRecDepth 16384

/-! The rotated projection's array, entry by entry, from the program's arguments. -/

noncomputable section

open Idealize.ShloMosaic Idealize.ShloMosaic.TcCoe Idealize.SL.Sem
open Idealize.ShloMosaic.Pipeline (Dat)

namespace RopeVal

open Cert.Kernel6Ideal Cert.Kernel6Ideal.Gen Cert.Kernel6Ideal.Rope

/-- A point's payload is the matrix product of its two blocks. -/
theorem pay_at (x : Vec Ideal S512x1024 .f32) (w : Vec Ideal S1024x1536 .bf16) (r : Fin 512) (j : Fin 1536) :
    k0_pay1 x w (ix2 r j) = ∑ k : Fin 1024, x (ix2 r k) * w (ix2 k j) := by
  pointwise [k0_pay1]

/-- A group of 128 columns turned within itself: each column times one table, the column eight to its right times another
    and the one eight to its left times a third. -/
def mixed (y : S512x1536.Idx → EReal) (cs sa sb : S512x128.Idx → EReal) : S512x1536.Idx → EReal := fun i =>
  y i * cs (ix2 (i 0) (⟨(i 1).val % 128, Nat.mod_lt _ (by decide)⟩ : Fin 128))
    + y (ix2 (i 0) (⟨128 * ((i 1).val / 128) + ((i 1).val % 128 + 8) % 128, by have : (i 1).val < 1536 := (i 1).isLt; omega⟩ : Fin 1536)) * sa (ix2 (i 0) (⟨(i 1).val % 128, Nat.mod_lt _ (by decide)⟩ : Fin 128))
    + y (ix2 (i 0) (⟨128 * ((i 1).val / 128) + ((i 1).val % 128 + 120) % 128, by have : (i 1).val < 1536 := (i 1).isLt; omega⟩ : Fin 1536)) * sb (ix2 (i 0) (⟨(i 1).val % 128, Nat.mod_lt _ (by decide)⟩ : Fin 128))

/-- That, written by the group's first column and the lane within the group. -/
theorem mixed_at (y : S512x1536.Idx → EReal) (cs sa sb : S512x128.Idx → EReal) (o : ℕ) (ho : o % 128 = 0) (r : Fin 512) (l : Fin 128) (j a b : Fin 1536)
    (hj : j.val = o + l.val) (ha : a.val = o + (l.val + 128 - 120) % 128) (hb : b.val = o + (l.val + 128 - 8) % 128) :
    mixed y cs sa sb (ix2 r j) = y (ix2 r j) * cs (ix2 r l) + y (ix2 r a) * sa (ix2 r l) + y (ix2 r b) * sb (ix2 r l) := by
  have hl : l.val < 128 := l.isLt
  have e0 : (⟨j.val % 128, Nat.mod_lt _ (by decide)⟩ : Fin 128) = l := Fin.ext (by show j.val % 128 = l.val; omega)
  have e1 : (⟨128 * (j.val / 128) + (j.val % 128 + 8) % 128, by omega⟩ : Fin 1536) = a := Fin.ext (by show 128 * (j.val / 128) + (j.val % 128 + 8) % 128 = a.val; omega)
  have e2 : (⟨128 * (j.val / 128) + (j.val % 128 + 120) % 128, by omega⟩ : Fin 1536) = b := Fin.ext (by show 128 * (j.val / 128) + (j.val % 128 + 120) % 128 = b.val; omega)
  show y (ix2 r j) * cs (ix2 r (⟨j.val % 128, Nat.mod_lt _ (by decide)⟩ : Fin 128))
    + y (ix2 r (⟨128 * (j.val / 128) + (j.val % 128 + 8) % 128, by omega⟩ : Fin 1536)) * sa (ix2 r (⟨j.val % 128, Nat.mod_lt _ (by decide)⟩ : Fin 128))
    + y (ix2 r (⟨128 * (j.val / 128) + (j.val % 128 + 120) % 128, by omega⟩ : Fin 1536)) * sb (ix2 r (⟨j.val % 128, Nat.mod_lt _ (by decide)⟩ : Fin 128)) = _
  rw [e0, e1, e2]

/-! Each of the twelve stored groups is that. -/

theorem group0 (y : Vec Ideal S512x1536 .f32) (cs sa sb : Vec Ideal S512x128 .f32) (r : Fin 512) (l : Fin 128) :
    k0_pay5 y cs sa sb (ix2 r l) = mixed y cs sa sb (ix2 r ⟨0 + l.val, by omega⟩) := by
  rw [mixed_at y cs sa sb 0 rfl r l ⟨0 + l.val, by omega⟩ ⟨0 + (l.val + 128 - 120) % 128, by omega⟩ ⟨0 + (l.val + 128 - 8) % 128, by omega⟩ rfl rfl rfl]
  pointwise [k0_pay5, k0_pay2, k0_pay3, k0_pay4, k0_pay8, k0_pay9]
theorem group1 (y : Vec Ideal S512x1536 .f32) (cs sa sb : Vec Ideal S512x128 .f32) (r : Fin 512) (l : Fin 128) :
    k0_pay6 y cs sa sb (ix2 r l) = mixed y cs sa sb (ix2 r ⟨128 + l.val, by omega⟩) := by
  rw [mixed_at y cs sa sb 128 rfl r l ⟨128 + l.val, by omega⟩ ⟨128 + (l.val + 128 - 120) % 128, by omega⟩ ⟨128 + (l.val + 128 - 8) % 128, by omega⟩ rfl rfl rfl]
  pointwise [k0_pay6, k0_pay2, k0_pay3, k0_pay4, k0_pay8, k0_pay9]
theorem group2 (y : Vec Ideal S512x1536 .f32) (cs sa sb : Vec Ideal S512x128 .f32) (r : Fin 512) (l : Fin 128) :
    k0_pay7 y cs sa sb (ix2 r l) = mixed y cs sa sb (ix2 r ⟨256 + l.val, by omega⟩) := by
  rw [mixed_at y cs sa sb 256 rfl r l ⟨256 + l.val, by omega⟩ ⟨256 + (l.val + 128 - 120) % 128, by omega⟩ ⟨256 + (l.val + 128 - 8) % 128, by omega⟩ rfl rfl rfl]
  pointwise [k0_pay7, k0_pay2, k0_pay3, k0_pay4, k0_pay8, k0_pay9]
theorem group3 (y : Vec Ideal S512x1536 .f32) (cs sa sb : Vec Ideal S512x128 .f32) (r : Fin 512) (l : Fin 128) :
    k0_pay10 (k0_pay4 sb) (k0_pay8 y) (k0_pay9 y cs sa) (ix2 r l) = mixed y cs sa sb (ix2 r ⟨384 + l.val, by omega⟩) := by
  rw [mixed_at y cs sa sb 384 rfl r l ⟨384 + l.val, by omega⟩ ⟨384 + (l.val + 128 - 120) % 128, by omega⟩ ⟨384 + (l.val + 128 - 8) % 128, by omega⟩ rfl rfl rfl]
  pointwise [k0_pay10, k0_pay2, k0_pay3, k0_pay4, k0_pay8, k0_pay9]
theorem group4 (y : Vec Ideal S512x1536 .f32) (cs sa sb : Vec Ideal S512x128 .f32) (r : Fin 512) (l : Fin 128) :
    k0_pay11 y (k0_pay2 cs) (k0_pay3 sa) (k0_pay4 sb) (ix2 r l) = mixed y cs sa sb (ix2 r ⟨512 + l.val, by omega⟩) := by
  rw [mixed_at y cs sa sb 512 rfl r l ⟨512 + l.val, by omega⟩ ⟨512 + (l.val + 128 - 120) % 128, by omega⟩ ⟨512 + (l.val + 128 - 8) % 128, by omega⟩ rfl rfl rfl]
  pointwise [k0_pay11, k0_pay2, k0_pay3, k0_pay4, k0_pay8, k0_pay9]
theorem group5 (y : Vec Ideal S512x1536 .f32) (cs sa sb : Vec Ideal S512x128 .f32) (r : Fin 512) (l : Fin 128) :
    k0_pay12 y (k0_pay2 cs) (k0_pay3 sa) (k0_pay4 sb) (ix2 r l) = mixed y cs sa sb (ix2 r ⟨640 + l.val, by omega⟩) := by
  rw [mixed_at y cs sa sb 640 rfl r l ⟨640 + l.val, by omega⟩ ⟨640 + (l.val + 128 - 120) % 128, by omega⟩ ⟨640 + (l.val + 128 - 8) % 128, by omega⟩ rfl rfl rfl]
  pointwise [k0_pay12, k0_pay2, k0_pay3, k0_pay4, k0_pay8, k0_pay9]
theorem group6 (y : Vec Ideal S512x1536 .f32) (cs sa sb : Vec Ideal S512x128 .f32) (r : Fin 512) (l : Fin 128) :
    k0_pay13 y (k0_pay2 cs) (k0_pay3 sa) (k0_pay4 sb) (ix2 r l) = mixed y cs sa sb (ix2 r ⟨768 + l.val, by omega⟩) := by
  rw [mixed_at y cs sa sb 768 rfl r l ⟨768 + l.val, by omega⟩ ⟨768 + (l.val + 128 - 120) % 128, by omega⟩ ⟨768 + (l.val + 128 - 8) % 128, by omega⟩ rfl rfl rfl]
  pointwise [k0_pay13, k0_pay2, k0_pay3, k0_pay4, k0_pay8, k0_pay9]
theorem group7 (y : Vec Ideal S512x1536 .f32) (cs sa sb : Vec Ideal S512x128 .f32) (r : Fin 512) (l : Fin 128) :
    k0_pay14 y (k0_pay2 cs) (k0_pay3 sa) (k0_pay4 sb) (ix2 r l) = mixed y cs sa sb (ix2 r ⟨896 + l.val, by omega⟩) := by
  rw [mixed_at y cs sa sb 896 rfl r l ⟨896 + l.val, by omega⟩ ⟨896 + (l.val + 128 - 120) % 128, by omega⟩ ⟨896 + (l.val + 128 - 8) % 128, by omega⟩ rfl rfl rfl]
  pointwise [k0_pay14, k0_pay2, k0_pay3, k0_pay4, k0_pay8, k0_pay9]
theorem group8 (y : Vec Ideal S512x1536 .f32) (cs sa sb : Vec Ideal S512x128 .f32) (r : Fin 512) (l : Fin 128) :
    k0_pay15 y (k0_pay2 cs) (k0_pay3 sa) (k0_pay4 sb) (ix2 r l) = mixed y cs sa sb (ix2 r ⟨1024 + l.val, by omega⟩) := by
  rw [mixed_at y cs sa sb 1024 rfl r l ⟨1024 + l.val, by omega⟩ ⟨1024 + (l.val + 128 - 120) % 128, by omega⟩ ⟨1024 + (l.val + 128 - 8) % 128, by omega⟩ rfl rfl rfl]
  pointwise [k0_pay15, k0_pay2, k0_pay3, k0_pay4, k0_pay8, k0_pay9]
theorem group9 (y : Vec Ideal S512x1536 .f32) (cs sa sb : Vec Ideal S512x128 .f32) (r : Fin 512) (l : Fin 128) :
    k0_pay16 y (k0_pay2 cs) (k0_pay3 sa) (k0_pay4 sb) (ix2 r l) = mixed y cs sa sb (ix2 r ⟨1152 + l.val, by omega⟩) := by
  rw [mixed_at y cs sa sb 1152 rfl r l ⟨1152 + l.val, by omega⟩ ⟨1152 + (l.val + 128 - 120) % 128, by omega⟩ ⟨1152 + (l.val + 128 - 8) % 128, by omega⟩ rfl rfl rfl]
  pointwise [k0_pay16, k0_pay2, k0_pay3, k0_pay4, k0_pay8, k0_pay9]
theorem group10 (y : Vec Ideal S512x1536 .f32) (cs sa sb : Vec Ideal S512x128 .f32) (r : Fin 512) (l : Fin 128) :
    k0_pay17 y (k0_pay2 cs) (k0_pay3 sa) (k0_pay4 sb) (ix2 r l) = mixed y cs sa sb (ix2 r ⟨1280 + l.val, by omega⟩) := by
  rw [mixed_at y cs sa sb 1280 rfl r l ⟨1280 + l.val, by omega⟩ ⟨1280 + (l.val + 128 - 120) % 128, by omega⟩ ⟨1280 + (l.val + 128 - 8) % 128, by omega⟩ rfl rfl rfl]
  pointwise [k0_pay17, k0_pay2, k0_pay3, k0_pay4, k0_pay8, k0_pay9]
theorem group11 (y : Vec Ideal S512x1536 .f32) (cs sa sb : Vec Ideal S512x128 .f32) (r : Fin 512) (l : Fin 128) :
    k0_pay18 y (k0_pay2 cs) (k0_pay3 sa) (k0_pay4 sb) (ix2 r l) = mixed y cs sa sb (ix2 r ⟨1408 + l.val, by omega⟩) := by
  rw [mixed_at y cs sa sb 1408 rfl r l ⟨1408 + l.val, by omega⟩ ⟨1408 + (l.val + 128 - 120) % 128, by omega⟩ ⟨1408 + (l.val + 128 - 8) % 128, by omega⟩ rfl rfl rfl]
  pointwise [k0_pay18, k0_pay2, k0_pay3, k0_pay4, k0_pay8, k0_pay9]

/-- Where a group's element lies in the block. -/
theorem emb_at (o : ℕ) (h : ∀ a, (![0, o] : Fin 2 → ℕ) a + S512x128.size a ≤ S512x1536.size a) (z : S512x128.Idx) :
    (Rect.unit (s := S512x1536) ![0, o] S512x128.size h).emb z
      = ix2 (z 0) (⟨o + (z 1).val, by have h1 : o + 128 ≤ 1536 := h 1; have : (z 1).val < 128 := (z 1).isLt; omega⟩ : Fin 1536) := by
  funext a; apply Fin.ext
  match a with
  | ⟨0, _⟩ => show 0 + 1 * (z 0).val = (z 0).val; omega
  | ⟨1, _⟩ => show o + 1 * (z 1).val = o + (z 1).val; omega

/-- The block a rotating point writes back. -/
theorem turned_at (x : Vec Ideal S512x1024 .f32) (w : Vec Ideal S1024x1536 .bf16) (cs sa sb : Vec Ideal S512x128 .f32) (i : S512x1536.Idx) :
    turned x w cs sa sb i = mixed (k0_pay1 x w) cs sa sb i := by
  unfold turned
  refine View.canon_apply_of_pieces (mixed (k0_pay1 x w) cs sa sb) _ ?_ i (turns_cover x w cs sa sb i)
  unfold turns
  have e0 : View.ld x allX = x := by rw [View.ld_unit_lit]; decide
  have e1 : View.ld w allW = w := by rw [View.ld_unit_lit]; decide
  have e2 : ∀ v : Vec Ideal S512x128 .f32, View.ld v allT = v := fun v => by rw [View.ld_unit_lit]; decide
  rw [e0, e1, e2, e2, e2]
  simp only [List.forall_mem_cons]
  exact ⟨fun z => (congrArg _ (eq_ix2 z)).trans ((group11 (k0_pay1 x w) cs sa sb (z 0) (z 1)).trans (congrArg (mixed (k0_pay1 x w) cs sa sb) (emb_at 1408 _ z).symm)),
    fun z => (congrArg _ (eq_ix2 z)).trans ((group10 (k0_pay1 x w) cs sa sb (z 0) (z 1)).trans (congrArg (mixed (k0_pay1 x w) cs sa sb) (emb_at 1280 _ z).symm)),
    fun z => (congrArg _ (eq_ix2 z)).trans ((group9 (k0_pay1 x w) cs sa sb (z 0) (z 1)).trans (congrArg (mixed (k0_pay1 x w) cs sa sb) (emb_at 1152 _ z).symm)),
    fun z => (congrArg _ (eq_ix2 z)).trans ((group8 (k0_pay1 x w) cs sa sb (z 0) (z 1)).trans (congrArg (mixed (k0_pay1 x w) cs sa sb) (emb_at 1024 _ z).symm)),
    fun z => (congrArg _ (eq_ix2 z)).trans ((group7 (k0_pay1 x w) cs sa sb (z 0) (z 1)).trans (congrArg (mixed (k0_pay1 x w) cs sa sb) (emb_at 896 _ z).symm)),
    fun z => (congrArg _ (eq_ix2 z)).trans ((group6 (k0_pay1 x w) cs sa sb (z 0) (z 1)).trans (congrArg (mixed (k0_pay1 x w) cs sa sb) (emb_at 768 _ z).symm)),
    fun z => (congrArg _ (eq_ix2 z)).trans ((group5 (k0_pay1 x w) cs sa sb (z 0) (z 1)).trans (congrArg (mixed (k0_pay1 x w) cs sa sb) (emb_at 640 _ z).symm)),
    fun z => (congrArg _ (eq_ix2 z)).trans ((group4 (k0_pay1 x w) cs sa sb (z 0) (z 1)).trans (congrArg (mixed (k0_pay1 x w) cs sa sb) (emb_at 512 _ z).symm)),
    fun z => (congrArg _ (eq_ix2 z)).trans ((group3 (k0_pay1 x w) cs sa sb (z 0) (z 1)).trans (congrArg (mixed (k0_pay1 x w) cs sa sb) (emb_at 384 _ z).symm)),
    fun z => (congrArg _ (eq_ix2 z)).trans ((group2 (k0_pay1 x w) cs sa sb (z 0) (z 1)).trans (congrArg (mixed (k0_pay1 x w) cs sa sb) (emb_at 256 _ z).symm)),
    fun z => (congrArg _ (eq_ix2 z)).trans ((group1 (k0_pay1 x w) cs sa sb (z 0) (z 1)).trans (congrArg (mixed (k0_pay1 x w) cs sa sb) (emb_at 128 _ z).symm)),
    fun z => (congrArg _ (eq_ix2 z)).trans ((group0 (k0_pay1 x w) cs sa sb (z 0) (z 1)).trans (congrArg (mixed (k0_pay1 x w) cs sa sb) (emb_at 0 _ z).symm)),
    fun _ h => nomatch h⟩

/-- A point whose columns are stored as they are writes back the product. -/
theorem plain_at (x : Vec Ideal S512x1024 .f32) (w : Vec Ideal S1024x1536 .bf16) : plain x w = k0_pay1 x w := by
  unfold plain
  rw [View.canon_cons_unit_lit]
  rw [View.ld_unit_lit, View.ld_unit_lit]
  all_goals decide

variable (m : (ℓ : Loc nD τ sig) → Buf (Elt Ideal) ℓ) (c : Dev nD)

/-- The rows, the weights and the three tables, as the region finds them. -/
abbrev rows : S16384x1024.Idx → EReal := V m c main_arg0
abbrev wts : S1024x4608.Idx → EReal := V m c main_v1
abbrev tabC : S8192x128.Idx → EReal := V m c main_v27
abbrev tabA : S8192x128.Idx → EReal := V m c main_v32
abbrev tabB : S8192x128.Idx → EReal := V m c main_v36

/-- The rows are the first argument. -/
theorem rows_eq : rows m c = m ((c.tc : Thread nD τ).loc main_arg0) := by
  unfold rows V TailRun.atEntry
  after_results

/-- The weights are the second argument without its leading axis. -/
theorem wts_at (w : S1x1024x4608.Idx → EReal) (hw : w = m ((c.tc : Thread nD τ).loc main_arg1)) (k : Fin 1024) (j : Fin 4608) : wts m c (ix2 k j) = w (ix3 0 k j) := by
  have h : wts m c = truncf .bf16 (shapeCast S1024x4608 w shapeCasts_S1x1024x4608_S1024x4608 : FVec Ideal S1024x4608 .f32) bitsLt_bf16_f32 := by
    subst hw
    unfold wts V TailRun.atEntry
    after_results
    rfl
  rw [h]
  pointwise []

/-- The table each lane's own column is multiplied by. -/
theorem tabC_at (p : Fin 8192) (l : Fin 128) : tabC m c (ix2 p l)
    = if h : l.val % 64 < 8 then RopeRef.cosT (ix2 p ⟨l.val % 64, h⟩) else if h' : l.val % 64 - 8 < 8 then RopeRef.cosT (ix2 p ⟨l.val % 64 - 8, h'⟩) else 1 := by
  have h : tabC m c = shapeCast S8192x128 (broadcastInDim S1x8192x2x64 ![0, 1, 2, 3] bcast_S1x8192x1x64_S1x8192x2x64_0_1_2_3
      (shapeCast S1x8192x1x64 (concatenate S8192x64 1 [⟨S8192x8, RopeRef.cosT⟩, ⟨S8192x8, RopeRef.cosT⟩, ⟨S8192x48, broadcastInDim S8192x48 ![] bcast_S_S8192x48 (constant (F := Ideal) S_ .f32 0x3F800000#32)⟩]
        concatenates_S8192x8_S8192x8_S8192x48_S8192x64_d1) shapeCasts_S8192x64_S1x8192x1x64)) shapeCasts_S1x8192x2x64_S8192x128 := by
    unfold tabC V TailRun.atEntry
    after_results
    dsimp only [Matrix.cons_val]
    simp only [↓ StableHlo.readResult, ↓ StableHlo.readPieces, -eq_self]
    unfold RopeRef.cosT Cert.Reference6Ideal.Read.val_main_v24 Cert.Reference6Ideal.Read.val_main_v23 Cert.Reference6Ideal.Read.val_main_v22 Cert.Reference6Ideal.Read.val_main_v21 Cert.Reference6Ideal.Read.val_main_v20 Cert.Reference6Ideal.Read.val_main_v19 Cert.Reference6Ideal.Read.val_main_v18 Cert.Reference6Ideal.Read.val_main_v17 Cert.Reference6Ideal.Read.val_main_v16 Cert.Reference6Ideal.Read.val_main_v15 Cert.Reference6Ideal.Read.val_main_v14 Cert.Reference6Ideal.Read.val_main_v13 Cert.Reference6Ideal.Read.val_main_v12 Cert.Reference6Ideal.Read.val_main_v11 Cert.Reference6Ideal.Read.val_main_v10 Cert.Reference6Ideal.Read.val_main_v9 Cert.Reference6Ideal.Read.val_main_v8 Cert.Reference6Ideal.Read.val_main_v6 Cert.Reference6Ideal.Read.val_main_cst Cert.Reference6Ideal.Read.val_main_cst_0 Cert.Reference6Ideal.Read.val_main_cst_1 Cert.Reference6Ideal.Read.val_main_cst_2
    rfl
  rw [h]
  generalize RopeRef.cosT = ct
  pointwise []

/-- The table the column eight lanes on is multiplied by. -/
theorem tabA_at (p : Fin 8192) (l : Fin 128) : tabA m c (ix2 p l)
    = if h : l.val % 64 < 8 then -RopeRef.sinT (ix2 p ⟨l.val % 64, h⟩) else 0 := by
  have h : tabA m c = shapeCast S8192x128 (broadcastInDim S1x8192x2x64 ![0, 1, 2, 3] bcast_S1x8192x1x64_S1x8192x2x64_0_1_2_3
      (shapeCast S1x8192x1x64 (concatenate S8192x64 1 [⟨S8192x8, Host.negf RopeRef.sinT⟩, ⟨S8192x8, broadcastInDim S8192x8 ![] bcast_S_S8192x8 (constant (F := Ideal) S_ .f32 0x00000000#32)⟩, ⟨S8192x48, broadcastInDim S8192x48 ![] bcast_S_S8192x48 (constant (F := Ideal) S_ .f32 0x00000000#32)⟩]
        concatenates_S8192x8_S8192x8_S8192x48_S8192x64_d1) shapeCasts_S8192x64_S1x8192x1x64)) shapeCasts_S1x8192x2x64_S8192x128 := by
    unfold tabA V TailRun.atEntry
    after_results
    dsimp only [Matrix.cons_val]
    simp only [↓ StableHlo.readResult, ↓ StableHlo.readPieces, -eq_self]
    unfold RopeRef.sinT Cert.Reference6Ideal.Read.val_main_v26 Cert.Reference6Ideal.Read.val_main_v23 Cert.Reference6Ideal.Read.val_main_v22 Cert.Reference6Ideal.Read.val_main_v21 Cert.Reference6Ideal.Read.val_main_v20 Cert.Reference6Ideal.Read.val_main_v19 Cert.Reference6Ideal.Read.val_main_v18 Cert.Reference6Ideal.Read.val_main_v17 Cert.Reference6Ideal.Read.val_main_v16 Cert.Reference6Ideal.Read.val_main_v15 Cert.Reference6Ideal.Read.val_main_v14 Cert.Reference6Ideal.Read.val_main_v13 Cert.Reference6Ideal.Read.val_main_v12 Cert.Reference6Ideal.Read.val_main_v11 Cert.Reference6Ideal.Read.val_main_v10 Cert.Reference6Ideal.Read.val_main_v9 Cert.Reference6Ideal.Read.val_main_v8 Cert.Reference6Ideal.Read.val_main_v6 Cert.Reference6Ideal.Read.val_main_cst Cert.Reference6Ideal.Read.val_main_cst_0 Cert.Reference6Ideal.Read.val_main_cst_1 Cert.Reference6Ideal.Read.val_main_cst_2
    rfl
  rw [h]
  generalize RopeRef.sinT = ct
  pointwise []
  simp only [dite_eq_ite, ite_self]

/-- The table the column eight lanes back is multiplied by. -/
theorem tabB_at (p : Fin 8192) (l : Fin 128) : tabB m c (ix2 p l)
    = if l.val % 64 < 8 then 0 else if h' : l.val % 64 - 8 < 8 then RopeRef.sinT (ix2 p ⟨l.val % 64 - 8, h'⟩) else 0 := by
  have h : tabB m c = shapeCast S8192x128 (broadcastInDim S1x8192x2x64 ![0, 1, 2, 3] bcast_S1x8192x1x64_S1x8192x2x64_0_1_2_3
      (shapeCast S1x8192x1x64 (concatenate S8192x64 1 [⟨S8192x8, broadcastInDim S8192x8 ![] bcast_S_S8192x8 (constant (F := Ideal) S_ .f32 0x00000000#32)⟩, ⟨S8192x8, RopeRef.sinT⟩, ⟨S8192x48, broadcastInDim S8192x48 ![] bcast_S_S8192x48 (constant (F := Ideal) S_ .f32 0x00000000#32)⟩]
        concatenates_S8192x8_S8192x8_S8192x48_S8192x64_d1) shapeCasts_S8192x64_S1x8192x1x64)) shapeCasts_S1x8192x2x64_S8192x128 := by
    unfold tabB V TailRun.atEntry
    after_results
    dsimp only [Matrix.cons_val]
    simp only [↓ StableHlo.readResult, ↓ StableHlo.readPieces, -eq_self]
    unfold RopeRef.sinT Cert.Reference6Ideal.Read.val_main_v26 Cert.Reference6Ideal.Read.val_main_v23 Cert.Reference6Ideal.Read.val_main_v22 Cert.Reference6Ideal.Read.val_main_v21 Cert.Reference6Ideal.Read.val_main_v20 Cert.Reference6Ideal.Read.val_main_v19 Cert.Reference6Ideal.Read.val_main_v18 Cert.Reference6Ideal.Read.val_main_v17 Cert.Reference6Ideal.Read.val_main_v16 Cert.Reference6Ideal.Read.val_main_v15 Cert.Reference6Ideal.Read.val_main_v14 Cert.Reference6Ideal.Read.val_main_v13 Cert.Reference6Ideal.Read.val_main_v12 Cert.Reference6Ideal.Read.val_main_v11 Cert.Reference6Ideal.Read.val_main_v10 Cert.Reference6Ideal.Read.val_main_v9 Cert.Reference6Ideal.Read.val_main_v8 Cert.Reference6Ideal.Read.val_main_v6 Cert.Reference6Ideal.Read.val_main_cst Cert.Reference6Ideal.Read.val_main_cst_0 Cert.Reference6Ideal.Read.val_main_cst_1 Cert.Reference6Ideal.Read.val_main_cst_2
    rfl
  rw [h]
  generalize RopeRef.sinT = ct
  pointwise []
  rfl

/-- Point `t` takes row block `t / 3` and column block `t % 3`; the tables' row blocks repeat every sixteen. -/
theorem idx0 : ∀ t : Fin grid0.N, cc0_transform_0 (grid0.coords t) 0 = t.val / 3 := by decide +kernel
theorem idx1 : ∀ t : Fin grid0.N, cc0_transform_1 (grid0.coords t) 1 = t.val % 3 := by decide +kernel
theorem idx2 : ∀ t : Fin grid0.N, cc0_transform_2 (grid0.coords t) 0 = t.val / 3 % 16 := by decide +kernel
theorem idx3 : ∀ t : Fin grid0.N, cc0_transform_3 (grid0.coords t) 0 = t.val / 3 % 16 := by decide +kernel
theorem idx4 : ∀ t : Fin grid0.N, cc0_transform_4 (grid0.coords t) 0 = t.val / 3 % 16 := by decide +kernel
theorem idx5 : ∀ t : Fin grid0.N, cc0_transform_5 (grid0.coords t) 0 = t.val / 3 ∧ cc0_transform_5 (grid0.coords t) 1 = t.val % 3 := by decide +kernel

/-- The rows' block at point `t`. -/
theorem blkX (t : Fin cfg0.N) (r : Fin 512) (k : Fin 1024) (q : Fin 16384) (hq : q.val = 512 * (t.val / 3) + r.val) :
    iblk m c 0 t (ix2 r k) = rows m c (ix2 q k) := by
  unfold iblk
  refine congrArg (V m c main_arg0) ?_
  funext a; apply Fin.ext
  match a with
  | ⟨0, _⟩ =>
    show cc0_transform_0 (grid0.coords t) 0 * 512 + 1 * r.val = q.val
    rw [idx0]; omega
  | ⟨1, _⟩ =>
    show 0 * 1024 + 1 * k.val = k.val
    omega

/-- The weights' block at point `t`. -/
theorem blkW (t : Fin cfg0.N) (k : Fin 1024) (j : Fin 1536) (o : Fin 4608) (ho : o.val = 1536 * (t.val % 3) + j.val) :
    iblk m c 1 t (ix2 k j) = wts m c (ix2 k o) := by
  unfold iblk
  refine congrArg (V m c main_v1) ?_
  funext a; apply Fin.ext
  match a with
  | ⟨0, _⟩ => show 0 * 1024 + 1 * k.val = k.val; omega
  | ⟨1, _⟩ =>
    show cc0_transform_1 (grid0.coords t) 1 * 1536 + 1 * j.val = o.val
    rw [idx1]; omega

/-- A table's block at point `t`. -/
theorem blkC (t : Fin cfg0.N) (r : Fin 512) (l : Fin 128) (p : Fin 8192) (hp : p.val = 512 * (t.val / 3 % 16) + r.val) :
    iblk m c 2 t (ix2 r l) = tabC m c (ix2 p l) := by
  unfold iblk
  refine congrArg (V m c main_v27) ?_
  funext a; apply Fin.ext
  match a with
  | ⟨0, _⟩ =>
    show cc0_transform_2 (grid0.coords t) 0 * 512 + 1 * r.val = p.val
    rw [idx2]; omega
  | ⟨1, _⟩ => show 0 * 128 + 1 * l.val = l.val; omega

/-- A table's block at point `t`. -/
theorem blkA (t : Fin cfg0.N) (r : Fin 512) (l : Fin 128) (p : Fin 8192) (hp : p.val = 512 * (t.val / 3 % 16) + r.val) :
    iblk m c 3 t (ix2 r l) = tabA m c (ix2 p l) := by
  unfold iblk
  refine congrArg (V m c main_v32) ?_
  funext a; apply Fin.ext
  match a with
  | ⟨0, _⟩ =>
    show cc0_transform_3 (grid0.coords t) 0 * 512 + 1 * r.val = p.val
    rw [idx3]; omega
  | ⟨1, _⟩ => show 0 * 128 + 1 * l.val = l.val; omega

/-- A table's block at point `t`. -/
theorem blkB (t : Fin cfg0.N) (r : Fin 512) (l : Fin 128) (p : Fin 8192) (hp : p.val = 512 * (t.val / 3 % 16) + r.val) :
    iblk m c 4 t (ix2 r l) = tabB m c (ix2 p l) := by
  unfold iblk
  refine congrArg (V m c main_v36) ?_
  funext a; apply Fin.ext
  match a with
  | ⟨0, _⟩ =>
    show cc0_transform_4 (grid0.coords t) 0 * 512 + 1 * r.val = p.val
    rw [idx4]; omega
  | ⟨1, _⟩ => show 0 * 128 + 1 * l.val = l.val; omega

/-- One entry of the product. -/
def dot (q : Fin 16384) (j : Fin 4608) : EReal := ∑ k : Fin 1024, rows m c (ix2 q k) * wts m c (ix2 k j)

/-- One entry of the product after the tables. -/
def rot (q : Fin 16384) (j : Fin 4608) : EReal :=
  dot m c q j * tabC m c (ix2 (⟨q.val % 8192, by omega⟩ : Fin 8192) (⟨j.val % 128, by omega⟩ : Fin 128))
    + dot m c q ⟨128 * (j.val / 128) + (j.val % 128 + 8) % 128, by omega⟩ * tabA m c (ix2 (⟨q.val % 8192, by omega⟩ : Fin 8192) (⟨j.val % 128, by omega⟩ : Fin 128))
    + dot m c q ⟨128 * (j.val / 128) + (j.val % 128 + 120) % 128, by omega⟩ * tabB m c (ix2 (⟨q.val % 8192, by omega⟩ : Fin 8192) (⟨j.val % 128, by omega⟩ : Fin 128))

/-- The array the region leaves: queries and keys after the tables, values as they are. -/
def out : S16384x4608.Idx → EReal := fun x => if (x 1).val < 3072 then rot m c (x 0) (x 1) else dot m c (x 0) (x 1)

/-- A point's product is that of the whole arrays. -/
theorem pay_dot (t : Fin cfg0.N) (r : Fin 512) (j : Fin 1536) (q : Fin 16384) (hq : q.val = 512 * (t.val / 3) + r.val) (o : Fin 4608) (ho : o.val = 1536 * (t.val % 3) + j.val) :
    k0_pay1 (iblk m c 0 t) (iblk m c 1 t) (ix2 r j) = dot m c q o :=
  (pay_at _ _ r j).trans (Finset.sum_congr rfl fun k _ => congrArg₂ (· * ·) (blkX m c t r k q hq) (blkW m c t k j o ho))

/-- What a point writes is the array's block. -/
theorem left_at (t : Fin cfg0.N) (r : Fin 512) (j : Fin 1536) (q : Fin 16384) (hq : q.val = 512 * (t.val / 3) + r.val) (o : Fin 4608) (ho : o.val = 1536 * (t.val % 3) + j.val) :
    left m c t (ix2 r j) = out m c (ix2 q o) := by
  have ht : t.val < 96 := Nat.lt_of_lt_of_eq t.isLt (by decide)
  have hj : j.val < 1536 := j.isLt
  have hr : r.val < 512 := r.isLt
  by_cases h : t.val % 3 = 2
  · rw [show left m c t = plain (iblk m c 0 t) (iblk m c 1 t) from if_pos h, plain_at]
    refine (pay_dot m c t r j q hq o ho).trans (Eq.symm (if_neg ?_))
    show ¬ o.val < 3072
    omega
  · rw [show left m c t = turned (iblk m c 0 t) (iblk m c 1 t) (iblk m c 2 t) (iblk m c 3 t) (iblk m c 4 t) from if_neg h]
    refine (turned_at _ _ _ _ _ (ix2 r j)).trans ?_
    refine (mixed_at (k0_pay1 (iblk m c 0 t) (iblk m c 1 t)) _ _ _ (128 * (j.val / 128)) (by omega) r ⟨j.val % 128, by omega⟩ j
      ⟨128 * (j.val / 128) + (j.val % 128 + 128 - 120) % 128, by omega⟩ ⟨128 * (j.val / 128) + (j.val % 128 + 128 - 8) % 128, by omega⟩ (by show j.val = 128 * (j.val / 128) + j.val % 128; omega) rfl rfl).trans ?_
    refine Eq.trans ?_ (Eq.symm (if_pos (show o.val < 3072 by omega)))
    unfold rot
    rw [pay_dot m c t r j q hq o ho,
      pay_dot m c t r ⟨128 * (j.val / 128) + (j.val % 128 + 128 - 120) % 128, by omega⟩ q hq ⟨128 * (o.val / 128) + (o.val % 128 + 8) % 128, by omega⟩
        (by show 128 * (o.val / 128) + (o.val % 128 + 8) % 128 = 1536 * (t.val % 3) + (128 * (j.val / 128) + (j.val % 128 + 128 - 120) % 128); omega),
      pay_dot m c t r ⟨128 * (j.val / 128) + (j.val % 128 + 128 - 8) % 128, by omega⟩ q hq ⟨128 * (o.val / 128) + (o.val % 128 + 120) % 128, by omega⟩
        (by show 128 * (o.val / 128) + (o.val % 128 + 120) % 128 = 1536 * (t.val % 3) + (128 * (j.val / 128) + (j.val % 128 + 128 - 8) % 128); omega),
      blkC m c t r ⟨j.val % 128, by omega⟩ ⟨q.val % 8192, by omega⟩ (by show q.val % 8192 = 512 * (t.val / 3 % 16) + r.val; omega),
      blkA m c t r ⟨j.val % 128, by omega⟩ ⟨q.val % 8192, by omega⟩ (by show q.val % 8192 = 512 * (t.val / 3 % 16) + r.val; omega),
      blkB m c t r ⟨j.val % 128, by omega⟩ ⟨q.val % 8192, by omega⟩ (by show q.val % 8192 = 512 * (t.val / 3 % 16) + r.val; omega)]
    have e : (⟨j.val % 128, by omega⟩ : Fin 128) = ⟨o.val % 128, by omega⟩ := Fin.ext (by show j.val % 128 = o.val % 128; omega)
    rw [e]
    rfl

/-- What the region leaves in its result. -/
theorem final : (dats m 0 c).arrAt 5 cfg0.N = out m c := by
  refine (dats m 0 c).arrAt_eq_of_emb 5 (out m c) (fun t hf (y : S512x1536.Idx) => ?_) (fun (x : S16384x4608.Idx) => ?_)
  · have ht : t.val < 96 := Nat.lt_of_lt_of_eq t.isLt (by decide)
    have hy0 : (y 0).val < 512 := (y 0).isLt
    have hy1 : (y 1).val < 1536 := (y 1).isLt
    have he : ((cfg0.win 5).blk t).view.emb y = ix2 (⟨512 * (t.val / 3) + (y 0).val, by omega⟩ : Fin 16384) (⟨1536 * (t.val % 3) + (y 1).val, by omega⟩ : Fin 4608) := by
      funext a; apply Fin.ext
      match a with
      | ⟨0, _⟩ =>
        show cc0_transform_5 (grid0.coords t) 0 * 512 + 1 * (y 0).val = 512 * (t.val / 3) + (y 0).val
        rw [(idx5 t).1]; omega
      | ⟨1, _⟩ =>
        show cc0_transform_5 (grid0.coords t) 1 * 1536 + 1 * (y 1).val = 1536 * (t.val % 3) + (y 1).val
        rw [(idx5 t).2]; omega
    rw [he]
    refine (congrFun (after_5 m c t) y).trans ?_
    exact (congrArg (left m c t) (eq_ix2 y)).trans (left_at m c t (y 0) (y 1) _ rfl _ rfl)
  · have hx0 : (x 0).val < 16384 := (x 0).isLt
    have hx1 : (x 1).val < 4608 := (x 1).isLt
    obtain ⟨t, ht⟩ : ∃ t : Fin cfg0.N, t.val = 3 * ((x 0).val / 512) + (x 1).val / 1536 :=
      ⟨⟨3 * ((x 0).val / 512) + (x 1).val / 1536, Nat.lt_of_lt_of_eq (by omega) (show 96 = cfg0.N by decide)⟩, rfl⟩
    have hx : ((cfg0.win 5).blk t).view.emb (ix2 (⟨(x 0).val % 512, by omega⟩ : Fin 512) (⟨(x 1).val % 1536, by omega⟩ : Fin 1536) : S512x1536.Idx) = x := by
      funext a; apply Fin.ext
      match a with
      | ⟨0, _⟩ =>
        show cc0_transform_5 (grid0.coords t) 0 * 512 + 1 * ((x 0).val % 512) = (x 0).val
        rw [(idx5 t).1]; omega
      | ⟨1, _⟩ =>
        show cc0_transform_5 (grid0.coords t) 1 * 1536 + 1 * ((x 1).val % 1536) = (x 1).val
        rw [(idx5 t).2]; omega
    refine ⟨t, flush0_5 t, ?_⟩
    rw [← hx]; exact View.emb_mem_set _ _

/-- An entry of the product, from the arguments. -/
theorem dot_at (x : S16384x1024.Idx → EReal) (hx : x = m ((c.tc : Thread nD τ).loc main_arg0)) (w : S1x1024x4608.Idx → EReal) (hw : w = m ((c.tc : Thread nD τ).loc main_arg1))
    (q : Fin 16384) (j : Fin 4608) : dot m c q j = RopeRef.prodAt x w q j := by
  subst hx; subst hw
  exact Finset.sum_congr rfl fun k _ => congrArg₂ (· * ·) (congrFun (rows_eq m c) (ix2 q k)) (wts_at m c _ rfl k j)

/-- The columns from 3072 on are the product's. -/
theorem out_value (x : S16384x1024.Idx → EReal) (hx : x = m ((c.tc : Thread nD τ).loc main_arg0)) (w : S1x1024x4608.Idx → EReal) (hw : w = m ((c.tc : Thread nD τ).loc main_arg1))
    (q : Fin 16384) (j : Fin 4608) (hj : 3072 ≤ j.val) : out m c (ix2 q j) = RopeRef.prodAt x w q j :=
  (if_neg (show ¬ j.val < 3072 by omega)).trans (dot_at m c x hx w hw q j)

/-- The columns before are, head by head, the product's rotated. -/
theorem out_turn (x : S16384x1024.Idx → EReal) (hx : x = m ((c.tc : Thread nD τ).loc main_arg0)) (w : S1x1024x4608.Idx → EReal) (hw : w = m ((c.tc : Thread nD τ).loc main_arg1))
    (q : Fin 16384) (p : Fin 8192) (hp : q.val % 8192 = p.val) (f : Fin 64 → Fin 4608) (o : ℕ) (ho : o % 64 = 0) (hf : ∀ e, (f e).val = o + e.val) (d : Fin 64) (h3 : (f d).val < 3072) :
    out m c (ix2 q (f d)) = RopeRef.turn (fun e => RopeRef.prodAt x w q (f e)) p d := by
  have hd : d.val < 64 := d.isLt
  refine (if_pos h3).trans ?_
  show rot m c q (f d) = _
  unfold rot RopeRef.turn
  have hfd : (f d).val = o + d.val := hf d
  have ep : (⟨q.val % 8192, by omega⟩ : Fin 8192) = p := Fin.ext hp
  rw [ep, tabC_at, tabA_at, tabB_at]
  have hl : (f d).val % 128 % 64 = d.val := by omega
  by_cases h8 : d.val < 8
  · have g : (⟨128 * ((f d).val / 128) + ((f d).val % 128 + 8) % 128, by omega⟩ : Fin 4608) = f ⟨8 + d.val, by omega⟩ :=
      Fin.ext (by have := hf ⟨8 + d.val, by omega⟩; show 128 * ((f d).val / 128) + ((f d).val % 128 + 8) % 128 = (f ⟨8 + d.val, by omega⟩).val; rw [this]; show _ = o + (8 + d.val); omega)
    simp only [hl, dif_pos h8, if_pos h8, g, mul_zero, add_zero, mul_neg, sub_eq_add_neg, dot_at m c x hx w hw]
  · by_cases h16 : d.val - 8 < 8
    · have g : (⟨128 * ((f d).val / 128) + ((f d).val % 128 + 120) % 128, by omega⟩ : Fin 4608) = f ⟨d.val - 8, by omega⟩ :=
        Fin.ext (by have := hf ⟨d.val - 8, by omega⟩; show 128 * ((f d).val / 128) + ((f d).val % 128 + 120) % 128 = (f ⟨d.val - 8, by omega⟩).val; rw [this]; show _ = o + (d.val - 8); omega)
      have h16' : d.val < 16 := by omega
      simp only [hl, dif_neg h8, if_neg h8, dif_pos h16, dif_pos h16', g, mul_zero, add_zero, dot_at m c x hx w hw]
    · have h16' : ¬ d.val < 16 := by omega
      simp only [hl, dif_neg h8, if_neg h8, dif_neg h16, dif_neg h16', mul_zero, add_zero, mul_one, dot_at m c x hx w hw]

end RopeVal
-- ==== Proof.RopeClaim.lean ====
module

public import proofs.«01_k».proof.Defs
public import proofs.«01_k».proof.Proof.RopeRunB
public import proofs.«01_k».proof.Proof.RopeVal
public import proofs.«01_k».proof.Proof.RopeRef
public import proofs.«01_k».proof.Proof.Gen.Reference6Ideal.Run
public import Idealize.ShloMosaic.Lib.Quiescent

@[expose] public section

set_option maxRecDepth 16384

/-! What is claimed of the prompt's second input projection and its partial rotation. -/

noncomputable section

open Idealize.ShloMosaic Idealize.ShloMosaic.TcCoe Idealize.SL.Sem
open Idealize.ShloMosaic.Pipeline (Dat)

namespace RopeClaim

/-- The machine's program runs, keeps its arguments and leaves every counter at zero. -/
theorem frame_p : Cert.quiescent_Kernel6 := fun m ρ _ =>
  (θ_run Cert.Kernel6.defs _ _).mono (fun _ h => ⟨fun c => ⟨(h.1 c _ rfl).trans (Cert.Kernel6.Rope.last_arg0 m c), (h.1 c _ rfl).trans (Cert.Kernel6.Rope.last_arg1 m c)⟩, h.2⟩) (Cert.Kernel6.Rope.run_main m ρ)
/-- So does the program over the extended reals, -/
theorem frame_pi : Cert.quiescent_Kernel6Ideal := fun m ρ _ =>
  (θ_run Cert.Kernel6Ideal.defs _ _).mono (fun _ h => ⟨fun c => ⟨(h.1 c _ rfl).trans (Cert.Kernel6Ideal.Rope.last_arg0 m c), (h.1 c _ rfl).trans (Cert.Kernel6Ideal.Rope.last_arg1 m c)⟩, h.2⟩) (Cert.Kernel6Ideal.Rope.run_main m ρ)
/-- and the reference. -/
theorem frame_ri : Cert.quiescent_Reference6Ideal := fun m ρ _ =>
  (θ_run Cert.Reference6Ideal.defs _ _).mono (fun r h => ⟨fun c => (h c).2.2.2.2.2.2.2,
      Idealize.ShloMosaic.sem_eq_zero_of_no_sems (by decide) r.2⟩)
    (Cert.Reference6Ideal.Value.run (F := Ideal) m ρ)

section

open Cert.Kernel6Ideal Cert.Kernel6Ideal.Gen Cert.Kernel6Ideal.Rope

variable (m : (ℓ : Loc nD τ sig) → Buf (Elt Ideal) ℓ) (c : Dev nD)

/-- The arguments. -/
abbrev X : S16384x1024.Idx → EReal := m ((c.tc : Thread nD τ).loc main_arg0)
abbrev W : S1x1024x4608.Idx → EReal := m ((c.tc : Thread nD τ).loc main_arg1)

/-- The queries, as the program ends: the first columns of the region's array. -/
theorem query_of : last m c (Proc.devRef .tc main_v39) = shapeCast S2x8192x3x8x64 (extractStridedSlice S16384x1536 ![0, 0] (RopeVal.out m c) slices_S16384x4608_S16384x1536_0_0) shapeCasts_S16384x1536_S2x8192x3x8x64 := by
  unfold last TailRun.atEnd TailRun.atExit TailRun.atEntry
  after_region_results
  erw [Pipeline.afterRegion_arr (dats m 0 c) _ Gen.launch0.win.arr_inj 5]
  rw [RopeVal.final]
  rfl

/-- The queries are the reference's. -/
theorem query_eq : last m c (Proc.devRef .tc main_v39) = Cert.Reference6Ideal.Read.val_main_v41 (F := Ideal) (X m c) (W m c) := by
  rw [query_of]
  funext (i : S2x8192x3x8x64.Idx)
  obtain ⟨b, t, g, h, d, rfl⟩ : ∃ b t g h d, i = ix5 b t g h d := ⟨i 0, i 1, i 2, i 3, i 4, eq_ix5 i⟩
  refine Eq.trans ?_ (RopeRef.query_at (X m c) (W m c) b t g h d).symm
  refine Eq.trans ?_ (RopeVal.out_turn m c (X m c) rfl (W m c) rfl ⟨b.val * 8192 + t.val, by omega⟩ t (by show (b.val * 8192 + t.val) % 8192 = t.val; omega)
    (fun e => ⟨g.val * 512 + h.val * 64 + e.val, by omega⟩) (g.val * 512 + h.val * 64) (by omega) (fun _ => rfl) d (by show g.val * 512 + h.val * 64 + d.val < 3072; omega))
  generalize RopeVal.out m c = y
  pointwise []

/-- The last 128 keys of group 0, as the program ends. -/
theorem key0_of : last m c (Proc.devRef .tc main_v44) = broadcastInDim S1x2x128x8x64 ![1, 2, 3, 4] bcast_S2x128x8x64_S1x2x128x8x64_1_2_3_4 (extractStridedSlice S2x128x8x64 ![0, 8064, 0, 0]
    (shapeCast S2x8192x8x64 (extractStridedSlice S16384x512 ![0, 1536] (RopeVal.out m c) slices_S16384x4608_S16384x512_0_1536) shapeCasts_S16384x512_S2x8192x8x64) slices_S2x8192x8x64_S2x128x8x64_0_8064_0_0) := by
  unfold last TailRun.atEnd TailRun.atExit TailRun.atEntry
  after_region_results
  erw [Pipeline.afterRegion_arr (dats m 0 c) _ Gen.launch0.win.arr_inj 5]
  rw [RopeVal.final]
  rfl

/-- They are the reference's. -/
theorem key0_eq : last m c (Proc.devRef .tc main_v44) = Cert.Reference6Ideal.Read.val_main_v81 (F := Ideal) (X m c) (W m c) := by
  rw [key0_of]
  funext (i : S1x2x128x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ ((RopeRef.key0_at (X m c) (W m c) b t h d).trans (RopeRef.key_at (X m c) (W m c) b ⟨8064 + t.val, by omega⟩ 0 h d)).symm
  refine Eq.trans ?_ (RopeVal.out_turn m c (X m c) rfl (W m c) rfl ⟨b.val * 8192 + (8064 + t.val), by omega⟩ ⟨8064 + t.val, by omega⟩ (by show (b.val * 8192 + (8064 + t.val)) % 8192 = 8064 + t.val; omega)
    (fun e => ⟨1536 + (0 + h.val * 64 + e.val), by omega⟩) (1536 + h.val * 64) (by omega) (fun e => by show 1536 + (0 + h.val * 64 + e.val) = 1536 + h.val * 64 + e.val; omega) d
    (by show 1536 + (0 + h.val * 64 + d.val) < 3072; omega))
  generalize RopeVal.out m c = y
  pointwise []

/-- The last 128 values of group 0, as the program ends. -/
theorem value0_of : last m c (Proc.devRef .tc main_v47) = broadcastInDim S1x2x128x8x64 ![1, 2, 3, 4] bcast_S2x128x8x64_S1x2x128x8x64_1_2_3_4 (extractStridedSlice S2x128x8x64 ![0, 8064, 0, 0]
    (shapeCast S2x8192x8x64 (extractStridedSlice S16384x512 ![0, 3072] (RopeVal.out m c) slices_S16384x4608_S16384x512_0_3072) shapeCasts_S16384x512_S2x8192x8x64) slices_S2x8192x8x64_S2x128x8x64_0_8064_0_0) := by
  unfold last TailRun.atEnd TailRun.atExit TailRun.atEntry
  after_region_results
  erw [Pipeline.afterRegion_arr (dats m 0 c) _ Gen.launch0.win.arr_inj 5]
  rw [RopeVal.final]
  rfl

/-- They are the reference's. -/
theorem value0_eq : last m c (Proc.devRef .tc main_v47) = Cert.Reference6Ideal.Read.val_main_v85 (F := Ideal) (X m c) (W m c) := by
  rw [value0_of]
  funext (i : S1x2x128x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ ((RopeRef.value0_at (X m c) (W m c) b t h d).trans (RopeRef.value_at (X m c) (W m c) b ⟨8064 + t.val, by omega⟩ 0 h d)).symm
  refine Eq.trans ?_ (RopeVal.out_value m c (X m c) rfl (W m c) rfl ⟨b.val * 8192 + (8064 + t.val), by omega⟩ ⟨3072 + (0 + h.val * 64 + d.val), by omega⟩ (by show 3072 ≤ 3072 + (0 + h.val * 64 + d.val); omega))
  generalize RopeVal.out m c = y
  pointwise []

/-- The last 512 keys of group 1, as the program ends. -/
theorem key1_of : last m c (Proc.devRef .tc main_v52) = broadcastInDim S1x2x512x8x64 ![1, 2, 3, 4] bcast_S2x512x8x64_S1x2x512x8x64_1_2_3_4 (extractStridedSlice S2x512x8x64 ![0, 7680, 0, 0]
    (shapeCast S2x8192x8x64 (extractStridedSlice S16384x512 ![0, 2048] (RopeVal.out m c) slices_S16384x4608_S16384x512_0_2048) shapeCasts_S16384x512_S2x8192x8x64) slices_S2x8192x8x64_S2x512x8x64_0_7680_0_0) := by
  unfold last TailRun.atEnd TailRun.atExit TailRun.atEntry
  after_region_results
  erw [Pipeline.afterRegion_arr (dats m 0 c) _ Gen.launch0.win.arr_inj 5]
  rw [RopeVal.final]
  rfl

/-- They are the reference's. -/
theorem key1_eq : last m c (Proc.devRef .tc main_v52) = Cert.Reference6Ideal.Read.val_main_v89 (F := Ideal) (X m c) (W m c) := by
  rw [key1_of]
  funext (i : S1x2x512x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ ((RopeRef.key1_at (X m c) (W m c) b t h d).trans (RopeRef.key_at (X m c) (W m c) b ⟨7680 + t.val, by omega⟩ 1 h d)).symm
  refine Eq.trans ?_ (RopeVal.out_turn m c (X m c) rfl (W m c) rfl ⟨b.val * 8192 + (7680 + t.val), by omega⟩ ⟨7680 + t.val, by omega⟩ (by show (b.val * 8192 + (7680 + t.val)) % 8192 = 7680 + t.val; omega)
    (fun e => ⟨1536 + (512 + h.val * 64 + e.val), by omega⟩) (2048 + h.val * 64) (by omega) (fun e => by show 1536 + (512 + h.val * 64 + e.val) = 2048 + h.val * 64 + e.val; omega) d
    (by show 1536 + (512 + h.val * 64 + d.val) < 3072; omega))
  generalize RopeVal.out m c = y
  pointwise []
  exact congrArg (fun u => y (ix2 ⟨b.val * 8192 + (7680 + t.val), by omega⟩ u)) (Fin.ext (by show 2048 + (h.val * 64 + d.val) = 1536 + (512 + h.val * 64 + d.val); omega))

/-- The last 512 values of group 1, as the program ends. -/
theorem value1_of : last m c (Proc.devRef .tc main_v55) = broadcastInDim S1x2x512x8x64 ![1, 2, 3, 4] bcast_S2x512x8x64_S1x2x512x8x64_1_2_3_4 (extractStridedSlice S2x512x8x64 ![0, 7680, 0, 0]
    (shapeCast S2x8192x8x64 (extractStridedSlice S16384x512 ![0, 3584] (RopeVal.out m c) slices_S16384x4608_S16384x512_0_3584) shapeCasts_S16384x512_S2x8192x8x64) slices_S2x8192x8x64_S2x512x8x64_0_7680_0_0) := by
  unfold last TailRun.atEnd TailRun.atExit TailRun.atEntry
  after_region_results
  erw [Pipeline.afterRegion_arr (dats m 0 c) _ Gen.launch0.win.arr_inj 5]
  rw [RopeVal.final]
  rfl

/-- They are the reference's. -/
theorem value1_eq : last m c (Proc.devRef .tc main_v55) = Cert.Reference6Ideal.Read.val_main_v93 (F := Ideal) (X m c) (W m c) := by
  rw [value1_of]
  funext (i : S1x2x512x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ ((RopeRef.value1_at (X m c) (W m c) b t h d).trans (RopeRef.value_at (X m c) (W m c) b ⟨7680 + t.val, by omega⟩ 1 h d)).symm
  refine Eq.trans ?_ (RopeVal.out_value m c (X m c) rfl (W m c) rfl ⟨b.val * 8192 + (7680 + t.val), by omega⟩ ⟨3072 + (512 + h.val * 64 + d.val), by omega⟩ (by show 3072 ≤ 3072 + (512 + h.val * 64 + d.val); omega))
  generalize RopeVal.out m c = y
  pointwise []
  exact congrArg (fun u => y (ix2 ⟨b.val * 8192 + (7680 + t.val), by omega⟩ u)) (Fin.ext (by show 3584 + (h.val * 64 + d.val) = 3072 + (512 + h.val * 64 + d.val); omega))

/-- The last 2048 keys of group 2, as the program ends. -/
theorem key2_of : last m c (Proc.devRef .tc main_v60) = broadcastInDim S1x2x2048x8x64 ![1, 2, 3, 4] bcast_S2x2048x8x64_S1x2x2048x8x64_1_2_3_4 (extractStridedSlice S2x2048x8x64 ![0, 6144, 0, 0]
    (shapeCast S2x8192x8x64 (extractStridedSlice S16384x512 ![0, 2560] (RopeVal.out m c) slices_S16384x4608_S16384x512_0_2560) shapeCasts_S16384x512_S2x8192x8x64) slices_S2x8192x8x64_S2x2048x8x64_0_6144_0_0) := by
  unfold last TailRun.atEnd TailRun.atExit TailRun.atEntry
  after_region_results
  erw [Pipeline.afterRegion_arr (dats m 0 c) _ Gen.launch0.win.arr_inj 5]
  rw [RopeVal.final]
  rfl

/-- They are the reference's. -/
theorem key2_eq : last m c (Proc.devRef .tc main_v60) = Cert.Reference6Ideal.Read.val_main_v97 (F := Ideal) (X m c) (W m c) := by
  rw [key2_of]
  funext (i : S1x2x2048x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ ((RopeRef.key2_at (X m c) (W m c) b t h d).trans (RopeRef.key_at (X m c) (W m c) b ⟨6144 + t.val, by omega⟩ 2 h d)).symm
  refine Eq.trans ?_ (RopeVal.out_turn m c (X m c) rfl (W m c) rfl ⟨b.val * 8192 + (6144 + t.val), by omega⟩ ⟨6144 + t.val, by omega⟩ (by show (b.val * 8192 + (6144 + t.val)) % 8192 = 6144 + t.val; omega)
    (fun e => ⟨1536 + (1024 + h.val * 64 + e.val), by omega⟩) (2560 + h.val * 64) (by omega) (fun e => by show 1536 + (1024 + h.val * 64 + e.val) = 2560 + h.val * 64 + e.val; omega) d
    (by show 1536 + (1024 + h.val * 64 + d.val) < 3072; omega))
  generalize RopeVal.out m c = y
  pointwise []
  exact congrArg (fun u => y (ix2 ⟨b.val * 8192 + (6144 + t.val), by omega⟩ u)) (Fin.ext (by show 2560 + (h.val * 64 + d.val) = 1536 + (1024 + h.val * 64 + d.val); omega))

/-- The last 2048 values of group 2, as the program ends. -/
theorem value2_of : last m c (Proc.devRef .tc main_v63) = broadcastInDim S1x2x2048x8x64 ![1, 2, 3, 4] bcast_S2x2048x8x64_S1x2x2048x8x64_1_2_3_4 (extractStridedSlice S2x2048x8x64 ![0, 6144, 0, 0]
    (shapeCast S2x8192x8x64 (extractStridedSlice S16384x512 ![0, 4096] (RopeVal.out m c) slices_S16384x4608_S16384x512_0_4096) shapeCasts_S16384x512_S2x8192x8x64) slices_S2x8192x8x64_S2x2048x8x64_0_6144_0_0) := by
  unfold last TailRun.atEnd TailRun.atExit TailRun.atEntry
  after_region_results
  erw [Pipeline.afterRegion_arr (dats m 0 c) _ Gen.launch0.win.arr_inj 5]
  rw [RopeVal.final]
  rfl

/-- They are the reference's. -/
theorem value2_eq : last m c (Proc.devRef .tc main_v63) = Cert.Reference6Ideal.Read.val_main_v101 (F := Ideal) (X m c) (W m c) := by
  rw [value2_of]
  funext (i : S1x2x2048x8x64.Idx)
  obtain ⟨b, t, h, d, rfl⟩ : ∃ b t h d, i = ix5 0 b t h d := ⟨i 1, i 2, i 3, i 4, (eq_ix5 i).trans (congrArg (fun z => ix5 z (i 1) (i 2) (i 3) (i 4)) (Subsingleton.elim (α := Fin 1) _ _))⟩
  refine Eq.trans ?_ ((RopeRef.value2_at (X m c) (W m c) b t h d).trans (RopeRef.value_at (X m c) (W m c) b ⟨6144 + t.val, by omega⟩ 2 h d)).symm
  refine Eq.trans ?_ (RopeVal.out_value m c (X m c) rfl (W m c) rfl ⟨b.val * 8192 + (6144 + t.val), by omega⟩ ⟨3072 + (1024 + h.val * 64 + d.val), by omega⟩ (by show 3072 ≤ 3072 + (1024 + h.val * 64 + d.val); omega))
  generalize RopeVal.out m c = y
  pointwise []
  exact congrArg (fun u => y (ix2 ⟨b.val * 8192 + (6144 + t.val), by omega⟩ u)) (Fin.ext (by show 4096 + (h.val * 64 + d.val) = 3072 + (1024 + h.val * 64 + d.val); omega))

end

/-- The seven results are the reference's. -/
theorem algebraic : Cert.algebraic_Kernel6Ideal_Reference6Ideal := by
  intro m ρ m' ρ' _ hagree
  refine ⟨fun c => Cert.Kernel6Ideal.Rope.last m c (Proc.devRef .tc Cert.Kernel6Ideal.main_v39),
    fun c => Cert.Kernel6Ideal.Rope.last m c (Proc.devRef .tc Cert.Kernel6Ideal.main_v44),
    fun c => Cert.Kernel6Ideal.Rope.last m c (Proc.devRef .tc Cert.Kernel6Ideal.main_v47),
    fun c => Cert.Kernel6Ideal.Rope.last m c (Proc.devRef .tc Cert.Kernel6Ideal.main_v52),
    fun c => Cert.Kernel6Ideal.Rope.last m c (Proc.devRef .tc Cert.Kernel6Ideal.main_v55),
    fun c => Cert.Kernel6Ideal.Rope.last m c (Proc.devRef .tc Cert.Kernel6Ideal.main_v60),
    fun c => Cert.Kernel6Ideal.Rope.last m c (Proc.devRef .tc Cert.Kernel6Ideal.main_v63), ?_, ?_⟩
  · exact (θ_run Cert.Kernel6Ideal.defs _ _).mono (fun _ h c => ⟨h.1 c _ rfl, h.1 c _ rfl, h.1 c _ rfl, h.1 c _ rfl, h.1 c _ rfl, h.1 c _ rfl, h.1 c _ rfl, (h.1 c _ rfl).trans (Cert.Kernel6Ideal.Rope.last_arg0 m c), (h.1 c _ rfl).trans (Cert.Kernel6Ideal.Rope.last_arg1 m c)⟩) (Cert.Kernel6Ideal.Rope.run_main m ρ)
  · refine (θ_run Cert.Reference6Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference6Ideal.Value.run (F := Ideal) m' ρ')
    · rw [Cert.Reference6Ideal.Read.val_main_v41_eq, (hagree c).1, (hagree c).2]
      exact (query_eq m c).symm
    · rw [Cert.Reference6Ideal.Read.val_main_v81_eq, (hagree c).1, (hagree c).2]
      exact (key0_eq m c).symm
    · rw [Cert.Reference6Ideal.Read.val_main_v85_eq, (hagree c).1, (hagree c).2]
      exact (value0_eq m c).symm
    · rw [Cert.Reference6Ideal.Read.val_main_v89_eq, (hagree c).1, (hagree c).2]
      exact (key1_eq m c).symm
    · rw [Cert.Reference6Ideal.Read.val_main_v93_eq, (hagree c).1, (hagree c).2]
      exact (value1_eq m c).symm
    · rw [Cert.Reference6Ideal.Read.val_main_v97_eq, (hagree c).1, (hagree c).2]
      exact (key2_eq m c).symm
    · rw [Cert.Reference6Ideal.Read.val_main_v101_eq, (hagree c).1, (hagree c).2]
      exact (value2_eq m c).symm

end RopeClaim
-- ==== Proof.DilStep.lean ====
module

public import proofs.«01_k».proof.Proof.DilMath

@[expose] public section

set_option maxRecDepth 16384

noncomputable section

open Idealize.ShloMosaic

/-! ## Attention over a masked buffer, for any dilation

   As in `DilMath`, for a window of `W = 128 D` and any dilation `D`: with a small one a query's keys are the last new ones
   as well, and the positions more than `W` back are cut off. -/

namespace Cert.Proof.DilStep

open Cert.Proof.DilMath (exp_bot_sub softmax_div max_real)

variable (W D : ℕ)

/-- Where key number `k` of the query of new token `i` stands: in the buffer or among the new rows, `D k` tokens back. -/
def spot (i : Fin 8) (k : Fin 129) : Fin W ⊕ Fin 128 :=
  if h : W + i.val - D * k.val < W then Sum.inl ⟨W + i.val - D * k.val, h⟩ else Sum.inr ⟨W + i.val - D * k.val - W, by omega⟩

/-- What the query of new token `i` sees as its key number `k`. -/
def pick {α : Type} (i : Fin 8) (b : Fin W → α) (n : Fin 128 → α) (k : Fin 129) : α := Sum.elim b n (spot W D i k)

/-- The buffer's scores with −∞ at the disallowed positions; -/
def maskB (i : Fin 8) (zb : Fin W → EReal) (j : Fin W) : EReal := if (W + i.val - j.val) % D = 0 ∧ W + i.val - j.val ≤ W then zb j else ⊥

/-- the new keys' scores likewise. -/
def maskN (i : Fin 8) (zn : Fin 128 → EReal) (j : Fin 128) : EReal := if j.val ≤ i.val ∧ (i.val - j.val) % D = 0 then zn j else ⊥

variable {W D} (hW : W = D * 128) (hD : 0 < D)
include hW

/-- A key is never further back than the window. -/
theorem back_le (k : Fin 129) : D * k.val ≤ W := hW ▸ Nat.mul_le_mul_left D (by omega)

/-- The masked score at a key's place is its score. -/
theorem mask_spot (i : Fin 8) (zb : Fin W → EReal) (zn : Fin 128 → EReal) (k : Fin 129) :
    Sum.elim (maskB W D i zb) (maskN D i zn) (spot W D i k) = pick W D i zb zn k := by
  have hk := back_le hW k
  unfold pick spot
  by_cases h : W + i.val - D * k.val < W
  · rw [dif_pos h]
    refine if_pos ⟨?_, ?_⟩
    · show (W + i.val - (W + i.val - D * k.val)) % D = 0
      rw [show W + i.val - (W + i.val - D * k.val) = D * k.val by omega, Nat.mul_mod_right]
    · show W + i.val - (W + i.val - D * k.val) ≤ W
      omega
  · rw [dif_neg h]
    refine if_pos ⟨?_, ?_⟩
    · show W + i.val - D * k.val - W ≤ i.val
      omega
    · show (i.val - (W + i.val - D * k.val - W)) % D = 0
      rw [show i.val - (W + i.val - D * k.val - W) = D * k.val by omega, Nat.mul_mod_right]

include hD

/-- Every allowed position of the buffer is some key's place, -/
theorem spot_buf (i : Fin 8) (j : Fin W) (h : (W + i.val - j.val) % D = 0 ∧ W + i.val - j.val ≤ W) : ∃ k, spot W D i k = Sum.inl j := by
  obtain ⟨q, hq⟩ := Nat.dvd_of_mod_eq_zero h.1
  have hq' : q ≤ 128 := Nat.le_of_mul_le_mul_left (by rw [← hq, ← hW]; exact h.2) hD
  refine ⟨⟨q, by omega⟩, ?_⟩
  have hj := j.isLt
  unfold spot
  have e : W + i.val - D * q = j.val := by omega
  rw [dif_pos (show W + i.val - D * q < W by omega)]
  exact congrArg Sum.inl (Fin.ext e)

/-- and every allowed new row. -/
theorem spot_new (i : Fin 8) (j : Fin 128) (h : j.val ≤ i.val ∧ (i.val - j.val) % D = 0) : ∃ k, spot W D i k = Sum.inr j := by
  obtain ⟨q, hq⟩ := Nat.dvd_of_mod_eq_zero h.2
  have hq' : q ≤ i.val - j.val := by rw [hq]; exact Nat.le_mul_of_pos_left q hD
  refine ⟨⟨q, by omega⟩, ?_⟩
  unfold spot
  have hw : D * q ≤ W := by rw [hW]; exact Nat.mul_le_mul_left D (by omega)
  have e : W + i.val - D * q - W = j.val := by omega
  rw [dif_neg (show ¬ W + i.val - D * q < W by omega)]
  exact congrArg Sum.inr (Fin.ext e)

/-- Different keys stand at different places. -/
theorem spot_inj (i : Fin 8) : Function.Injective (spot W D i) := by
  intro a b e
  have ha := back_le hW a
  have hb := back_le hW b
  have key : W + i.val - D * a.val = W + i.val - D * b.val := by
    unfold spot at e
    by_cases h : W + i.val - D * a.val < W <;> by_cases h' : W + i.val - D * b.val < W
    · rw [dif_pos h, dif_pos h'] at e
      exact congrArg Fin.val (Sum.inl.inj e)
    · rw [dif_pos h, dif_neg h'] at e
      exact nomatch e
    · rw [dif_neg h, dif_pos h'] at e
      exact nomatch e
    · rw [dif_neg h, dif_neg h'] at e
      have := congrArg Fin.val (Sum.inr.inj e)
      simp only at this
      omega
  exact Fin.ext (Nat.eq_of_mul_eq_mul_left hD (by omega))

/-- A sum over buffer and new rows of terms that vanish off the allowed ones is the sum over the keys. -/
theorem sum_all (i : Fin 8) (f : Fin W → EReal) (g : Fin 128 → EReal)
    (hf : ∀ j : Fin W, ¬ ((W + i.val - j.val) % D = 0 ∧ W + i.val - j.val ≤ W) → f j = 0)
    (hg : ∀ j : Fin 128, ¬ (j.val ≤ i.val ∧ (i.val - j.val) % D = 0) → g j = 0) :
    (∑ j, f j) + (∑ j, g j) = ∑ k, pick W D i f g k := by
  refine (Fintype.sum_sum_type (Sum.elim f g)).symm.trans (Eq.symm ?_)
  refine Finset.sum_of_injOn (spot W D i) (fun a _ b _ e => spot_inj hW hD i e) (fun _ _ => Finset.mem_coe.mpr (Finset.mem_univ _)) ?_ (fun _ _ => rfl)
  rintro (j | j) _ hj
  · refine hf j fun h => hj ?_
    obtain ⟨k, e⟩ := spot_buf hW hD i j h
    exact ⟨k, Finset.mem_coe.mpr (Finset.mem_univ _), e⟩
  · refine hg j fun h => hj ?_
    obtain ⟨k, e⟩ := spot_new hW hD i j h
    exact ⟨k, Finset.mem_coe.mpr (Finset.mem_univ _), e⟩

/-- The maximum over the masked scores is the maximum over the keys' ones. -/
theorem max_eq (i : Fin 8) (zb : Fin W → EReal) (zn : Fin 128 → EReal) :
    max (Finset.univ.fold max ⊥ (maskB W D i zb)) (Finset.univ.fold max ⊥ (maskN D i zn)) = Finset.univ.fold max ⊥ (pick W D i zb zn) := by
  show max (Finset.univ.sup (maskB W D i zb)) (Finset.univ.sup (maskN D i zn)) = Finset.univ.sup (pick W D i zb zn)
  apply le_antisymm
  · refine max_le (Finset.sup_le fun j _ => ?_) (Finset.sup_le fun j _ => ?_)
    · by_cases h : (W + i.val - j.val) % D = 0 ∧ W + i.val - j.val ≤ W
      · obtain ⟨k, e⟩ := spot_buf hW hD i j h
        have hz : maskB W D i zb j = pick W D i zb zn k := (congrArg (Sum.elim (maskB W D i zb) (maskN D i zn)) e).symm.trans (mask_spot hW i zb zn k)
        rw [hz]
        exact Finset.le_sup (f := pick W D i zb zn) (Finset.mem_univ k)
      · exact ((if_neg h : maskB W D i zb j = ⊥)).trans_le bot_le
    · by_cases h : j.val ≤ i.val ∧ (i.val - j.val) % D = 0
      · obtain ⟨k, e⟩ := spot_new hW hD i j h
        have hz : maskN D i zn j = pick W D i zb zn k := (congrArg (Sum.elim (maskB W D i zb) (maskN D i zn)) e).symm.trans (mask_spot hW i zb zn k)
        rw [hz]
        exact Finset.le_sup (f := pick W D i zb zn) (Finset.mem_univ k)
      · exact ((if_neg h : maskN D i zn j = ⊥)).trans_le bot_le
  · refine Finset.sup_le fun k _ => ?_
    rw [← mask_spot hW i zb zn k]
    rcases spot W D i k with j | j
    · exact le_max_of_le_left (Finset.le_sup (f := maskB W D i zb) (Finset.mem_univ j))
    · exact le_max_of_le_right (Finset.le_sup (f := maskN D i zn) (Finset.mem_univ j))

/-- Sums weighted by the exponentials of masked scores are sums over the keys. -/
theorem sum_eq (i : Fin 8) (zb : Fin W → EReal) (zn : Fin 128 → EReal) (x : EReal) (wb : Fin W → EReal) (wn : Fin 128 → EReal) :
    (∑ j, Ideal.exp (maskB W D i zb j - x) * wb j) + (∑ j, Ideal.exp (maskN D i zn j - x) * wn j)
      = ∑ k, Ideal.exp (pick W D i zb zn k - x) * pick W D i wb wn k := by
  refine (sum_all hW hD i (fun j => Ideal.exp (maskB W D i zb j - x) * wb j) (fun j => Ideal.exp (maskN D i zn j - x) * wn j)
    (fun j hj => by simp only [maskB, if_neg hj, exp_bot_sub, zero_mul]) (fun j hj => by simp only [maskN, if_neg hj, exp_bot_sub, zero_mul])).trans ?_
  refine Finset.sum_congr rfl fun k _ => ?_
  rw [← mask_spot hW i zb zn k]
  unfold pick
  rcases spot W D i k with j | j <;> rfl

theorem den_eq (i : Fin 8) (zb : Fin W → EReal) (zn : Fin 128 → EReal) (x : EReal) :
    (∑ j, Ideal.exp (maskB W D i zb j - x)) + (∑ j, Ideal.exp (maskN D i zn j - x)) = ∑ k, Ideal.exp (pick W D i zb zn k - x) := by
  refine (sum_all hW hD i (fun j => Ideal.exp (maskB W D i zb j - x)) (fun j => Ideal.exp (maskN D i zn j - x))
    (fun j hj => by simp only [maskB, if_neg hj, exp_bot_sub]) (fun j hj => by simp only [maskN, if_neg hj, exp_bot_sub])).trans ?_
  refine Finset.sum_congr rfl fun k _ => ?_
  rw [← mask_spot hW i zb zn k]
  unfold pick
  rcases spot W D i k with j | j <;> rfl

/-- The kernel's attention output for one query and column is the reference's. -/
theorem out_eq (i : Fin 8) (zb : Fin W → EReal) (zn : Fin 128 → EReal) (wb : Fin W → EReal) (wn : Fin 128 → EReal)
    (hb : ∀ j, ∃ x : ℝ, zb j = x) (hn : ∀ j, ∃ x : ℝ, zn j = x) (mx den : EReal)
    (hmx : mx = Finset.univ.fold max ⊥ (pick W D i zb zn)) (hden : den = ∑ k, Ideal.exp (pick W D i zb zn k - mx)) :
    Ideal.div ((∑ j, Ideal.exp (maskB W D i zb j - mx) * wb j) + (∑ j, Ideal.exp (maskN D i zn j - mx) * wn j)) den
      = ∑ k, Ideal.exp (pick W D i zb zn k - (mx + Ideal.log den)) * pick W D i wb wn k := by
  have hp : ∀ k, ∃ x : ℝ, pick W D i zb zn k = x := fun k => by
    unfold pick
    rcases spot W D i k with j | j
    · exact hb j
    · exact hn j
  obtain ⟨x, hx⟩ := max_real _ hp
  choose s hs using hp
  rw [sum_eq hW hD, hden, hmx, hx]
  simp only [hs]
  exact (softmax_div s _ x).symm

end Cert.Proof.DilStep
-- ==== Proof.DilKer7.lean ====
module

public import proofs.«01_k».proof.Proof.Gen.Kernel7Ideal.Value
public import proofs.«01_k».proof.Proof.DilStep

@[expose] public section

set_option maxRecDepth 16384

noncomputable section

open Idealize.ShloMosaic Idealize.ShloMosaic.TcCoe Idealize.SL.Sem
open Idealize.ShloMosaic.Pipeline (Dat)

namespace Cert.Proof.DilKer7

open Cert.Kernel7Ideal Cert.Kernel7Ideal.Gen Cert.Proof.DilStep
open Cert.Proof.DilMath (tok)

/-! ## The payloads of one grid point, read at an index -/

section Payloads

theorem hz3 : (![0, 0, 0] : Fin 3 → Nat) = fun _ => 0 := funext fun a => by fin_cases a <;> rfl

/-- The remainder the kernel writes: the machine's, moved into the sign of the divisor. -/
def fm (x n : BitVec 32) : BitVec 32 :=
  Scalar.select (IntOp.andi (IntOp.xori (IntOp.cmpi CmpIPredicate.slt (IntOp.remsi ArithUnit.vector x n) 0#32)
      (Scalar.cmpi CmpIPredicate.slt n 0#32)) (IntOp.cmpi CmpIPredicate.ne (IntOp.remsi ArithUnit.vector x n) 0#32))
    (IntOp.addi (IntOp.remsi ArithUnit.vector x n) n) (IntOp.remsi ArithUnit.vector x n)

theorem sel8 : Scalar.select (Scalar.cmpi CmpIPredicate.eq 8#32 0#32) 1#32 8#32 = 8#32 := by decide
theorem sel4 : Scalar.select (Scalar.cmpi CmpIPredicate.eq 4#32 0#32) 1#32 4#32 = 4#32 := by decide
theorem fm8 : ∀ r : Fin 64, fm (BitVec.ofNat 32 r) 8#32 = BitVec.ofNat 32 (r.val % 8) := by decide +kernel

/-- An age is allowed when it is a multiple of 4 of at most 512. -/
theorem age_ok : ∀ x : Fin 520, IntOp.andi (IntOp.cmpi CmpIPredicate.eq (fm (BitVec.ofNat 32 x.val) 4#32) 0#32)
      (IntOp.cmpi CmpIPredicate.sle (BitVec.ofNat 32 x.val) 512#32) = if x.val % 4 = 0 ∧ x.val ≤ 512 then 1#1 else 0#1 := by decide +kernel

theorem new_ok : ∀ i : Fin 8, ∀ j : Fin 128,
    IntOp.andi (IntOp.andi (IntOp.cmpi CmpIPredicate.sge (IntOp.subi (BitVec.ofNat 32 i.val) (BitVec.ofNat 32 j.val)) 0#32)
      (IntOp.cmpi CmpIPredicate.eq (fm (IntOp.subi (BitVec.ofNat 32 i.val) (BitVec.ofNat 32 j.val)) 4#32) 0#32))
      (IntOp.cmpi CmpIPredicate.slt (BitVec.ofNat 32 j.val) 8#32) = if j.val ≤ i.val ∧ (i.val - j.val) % 4 = 0 then 1#1 else 0#1 := by decide +kernel

theorem m1_at (r : Fin 64) (j : Fin 512) : k0_pay17 kernelRun0_A.sl.v26 8#32 (ix2 r j)
    = if (512 + r.val % 8 - j.val) % 4 = 0 ∧ 512 + r.val % 8 - j.val ≤ 512 then 1#1 else 0#1 := by
  unfold kernelRun0_A.sl.v26
  pointwise [k0_pay17]
  simp only [sel8, sel4]
  have e : IntOp.subi (IntOp.addi (512#32) (fm (BitVec.ofNat 32 r.val) 8#32)) (BitVec.ofNat 32 j.val)
      = BitVec.ofNat 32 (512 + r.val % 8 - j.val) := by
    rw [fm8]
    unfold IntOp.subi IntOp.addi
    have := j.isLt
    apply BitVec.eq_of_toNat_eq
    simp
    omega
  have h := age_ok ⟨512 + r.val % 8 - j.val, by omega⟩
  simp only [← e] at h
  exact h

theorem m2_at (r : Fin 64) (j : Fin 128) : k0_pay18 kernelRun0_A.sl.v68 8#32 0#1 1#32 (ix2 r j)
    = if j.val ≤ r.val % 8 ∧ (r.val % 8 - j.val) % 4 = 0 then 1#1 else 0#1 := by
  unfold kernelRun0_A.sl.v68
  pointwise [k0_pay18]
  simp only [sel8, sel4]
  have h := new_ok ⟨r.val % 8, by omega⟩ j
  simp only [← fm8] at h
  exact h

theorem bits_bot : Ideal.ofBits .f32 4286578688#32 = (⊥ : EReal) := by simp [Ideal.ofBits, Ideal.ieee]

variable (q : Vec Ideal S1x64x512 .bf16) (kb vb : Vec Ideal S1x512x512 .f32) (kn vn : Vec Ideal S1x128x512 .f32)

/-- The score of row `r` of the block against a buffer key, -/
def zb (r : Fin 64) (j : Fin 512) : EReal := ∑ x : Fin 512, q (ix3 0 r x) * kb (ix3 0 j x)

/-- and against a new key. -/
def zn (r : Fin 64) (j : Fin 128) : EReal := ∑ x : Fin 512, q (ix3 0 r x) * kn (ix3 0 j x)

/-- The kernel's masked scores of the buffer; -/
abbrev B : FVec Ideal S64x512 .f32 := k0_pay19 (k0_pay8 kb) (k0_pay16 q) (k0_pay17 kernelRun0_A.sl.v26 8#32)

/-- its mask of the new rows; -/
abbrev M : IVec S64x128 1 := k0_pay18 kernelRun0_A.sl.v68 8#32 0#1 1#32

theorem sb_at (r : Fin 64) (j : Fin 512) : B q kb (ix2 r j) = maskB 512 4 (tok r) (zb q kb r) j := by
  unfold B
  pointwise [k0_pay19, k0_pay8, k0_pay16]
  rw [m1_at, bits_bot]
  unfold maskB
  by_cases h : (512 + r.val % 8 - j.val) % 4 = 0 ∧ 512 + r.val % 8 - j.val ≤ 512
  · rw [if_pos h, if_pos (show ((512 + (tok r).val - j.val) % 4 = 0 ∧ 512 + (tok r).val - j.val ≤ 512) from h)]; rfl
  · rw [if_neg h, if_neg (show ¬ ((512 + (tok r).val - j.val) % 4 = 0 ∧ 512 + (tok r).val - j.val ≤ 512) from h)]; rfl

theorem sn_at (r : Fin 64) (j : Fin 128) :
    k0_pay1 (k0_pay16 q) M (k0_pay20 (k0_pay10 kn)) (ix2 r j) = maskN 4 (tok r) (zn q kn r) j := by
  unfold M
  pointwise [k0_pay1, k0_pay20, k0_pay10, k0_pay16]
  rw [m2_at, bits_bot]
  unfold maskN
  by_cases h : j.val ≤ r.val % 8 ∧ (r.val % 8 - j.val) % 4 = 0
  · rw [if_pos h, if_pos (show (j.val ≤ (tok r).val ∧ ((tok r).val - j.val) % 4 = 0) from h)]; rfl
  · rw [if_neg h, if_neg (show ¬ (j.val ≤ (tok r).val ∧ ((tok r).val - j.val) % 4 = 0) from h)]; rfl

/-- The largest score of row `r`. -/
def mxOf (r : Fin 64) : EReal := Finset.univ.fold max ⊥ (pick 512 4 (tok r) (zb q kb r) (zn q kn r))

/-- The sum of the exponentials of row `r`. -/
def denOf (r : Fin 64) : EReal := ∑ k, Ideal.exp (pick 512 4 (tok r) (zb q kb r) (zn q kn r) k - mxOf q kb kn r)

theorem mx_at (r : Fin 64) : k0_pay2 (k0_pay16 q) M (B q kb) (k0_pay20 (k0_pay10 kn)) (ix2 r 0) = mxOf q kb kn r := by
  pointwise [k0_pay2]
  simp only [sb_at, sn_at, bits_bot]
  exact max_eq (W := 512) (D := 4) rfl (by decide) (tok r) (zb q kb r) (zn q kn r)

theorem den_at (r : Fin 64) : k0_pay5 (k0_pay16 q) M (B q kb) (k0_pay20 (k0_pay10 kn)) (ix2 r 0) = denOf q kb kn r := by
  pointwise [k0_pay5, k0_pay3, k0_pay4]
  simp only [sb_at, sn_at, mx_at]
  exact den_eq (W := 512) (D := 4) rfl (by decide) (tok r) (zb q kb r) (zn q kn r) _

/-- The log-sum-exp the kernel stores, on every lane. -/
theorem l_at (r : Fin 64) (d : Fin 128) : k0_pay7 (k0_pay16 q) M (B q kb) (k0_pay20 (k0_pay10 kn)) (ix3 0 r d)
    = mxOf q kb kn r + Ideal.log (denOf q kb kn r) := by
  pointwise [k0_pay7]
  rw [mx_at, den_at]

/-- The attention output the kernel stores, when the scores are finite. -/
theorem o_at (r : Fin 64) (d : Fin 512) (hb : ∀ j, ∃ x : ℝ, zb q kb r j = x) (hn : ∀ j, ∃ x : ℝ, zn q kn r j = x) :
    k0_pay6 (k0_pay9 vb) (k0_pay11 vn) (k0_pay16 q) M (B q kb) (k0_pay20 (k0_pay10 kn)) (ix3 0 r d)
    = ∑ k, Ideal.exp (pick 512 4 (tok r) (zb q kb r) (zn q kn r) k - (mxOf q kb kn r + Ideal.log (denOf q kb kn r)))
        * pick 512 4 (tok r) (fun j => vb (ix3 0 j d)) (fun j => vn (ix3 0 j d)) k := by
  pointwise [k0_pay6, k0_pay3, k0_pay4, k0_pay9, k0_pay11]
  simp only [sb_at, sn_at, mx_at, den_at]
  exact out_eq (W := 512) (D := 4) rfl (by decide) (tok r) _ _ _ _ hb hn _ _ rfl rfl

theorem p12_at (r : Fin 504) (d : Fin 512) : k0_pay12 kb (ix3 0 r d) = kb (ix3 0 ⟨8 + r.val, by omega⟩ d) := by
  pointwise [k0_pay12, k0_pay8]
theorem p13_at (r : Fin 8) (d : Fin 512) : k0_pay13 kn (ix3 0 r d) = kn (ix3 0 ⟨r.val, by omega⟩ d) := by
  pointwise [k0_pay13, k0_pay10]
theorem p14_at (r : Fin 504) (d : Fin 512) : k0_pay14 vb (ix3 0 r d) = vb (ix3 0 ⟨8 + r.val, by omega⟩ d) := by
  pointwise [k0_pay14, k0_pay9]
theorem p15_at (r : Fin 8) (d : Fin 512) : k0_pay15 vn (ix3 0 r d) = vn (ix3 0 ⟨r.val, by omega⟩ d) := by
  pointwise [k0_pay15, k0_pay11]

end Payloads

/-! ## The result arrays -/

section Arrays

variable (m : (ℓ : Loc nD τ sig) → Buf (Elt Ideal) ℓ) (ρ : Dev nD → PrngReg)

theorem idx0 : ∀ t : Fin cfg0.N, win0_0.index t = ![t.val, 0, 0] :=
  (by decide +kernel : ∀ t : Fin grid0.N, win0_0.index t = ![t.val, 0, 0])

/-- Window 0's block at point `t` is sequence `t` of its argument. -/
theorem ib0 (c : Dev nD) (t : Fin cfg0.N) (r : Fin 64) (d : Fin 512) :
    iblk m c 0 t (ix3 0 r d) = m ((c : Thread nD τ).loc main_arg0) (ix3 ⟨t.val, t.isLt⟩ r d) := by
  unfold iblk
  refine congrArg (m ((c : Thread nD τ).loc main_arg0)) ?_
  funext a
  apply Fin.ext
  match a with
  | ⟨0, _⟩ => show win0_0.index t 0 * 1 + 1 * 0 = t.val; rw [idx0]; simp
  | ⟨1, _⟩ => show win0_0.index t 1 * 64 + 1 * r.val = r.val; rw [idx0]; simp
  | ⟨2, _⟩ => show win0_0.index t 2 * 512 + 1 * d.val = d.val; rw [idx0]; simp

theorem idx1 : ∀ t : Fin cfg0.N, win0_1.index t = ![t.val, 0, 0] :=
  (by decide +kernel : ∀ t : Fin grid0.N, win0_1.index t = ![t.val, 0, 0])

/-- Window 1's block at point `t` is sequence `t` of its argument. -/
theorem ib1 (c : Dev nD) (t : Fin cfg0.N) (r : Fin 512) (d : Fin 512) :
    iblk m c 1 t (ix3 0 r d) = m ((c : Thread nD τ).loc main_arg1) (ix3 ⟨t.val, t.isLt⟩ r d) := by
  unfold iblk
  refine congrArg (m ((c : Thread nD τ).loc main_arg1)) ?_
  funext a
  apply Fin.ext
  match a with
  | ⟨0, _⟩ => show win0_1.index t 0 * 1 + 1 * 0 = t.val; rw [idx1]; simp
  | ⟨1, _⟩ => show win0_1.index t 1 * 512 + 1 * r.val = r.val; rw [idx1]; simp
  | ⟨2, _⟩ => show win0_1.index t 2 * 512 + 1 * d.val = d.val; rw [idx1]; simp

theorem idx2 : ∀ t : Fin cfg0.N, win0_2.index t = ![t.val, 0, 0] :=
  (by decide +kernel : ∀ t : Fin grid0.N, win0_2.index t = ![t.val, 0, 0])

/-- Window 2's block at point `t` is sequence `t` of its argument. -/
theorem ib2 (c : Dev nD) (t : Fin cfg0.N) (r : Fin 512) (d : Fin 512) :
    iblk m c 2 t (ix3 0 r d) = m ((c : Thread nD τ).loc main_arg2) (ix3 ⟨t.val, t.isLt⟩ r d) := by
  unfold iblk
  refine congrArg (m ((c : Thread nD τ).loc main_arg2)) ?_
  funext a
  apply Fin.ext
  match a with
  | ⟨0, _⟩ => show win0_2.index t 0 * 1 + 1 * 0 = t.val; rw [idx2]; simp
  | ⟨1, _⟩ => show win0_2.index t 1 * 512 + 1 * r.val = r.val; rw [idx2]; simp
  | ⟨2, _⟩ => show win0_2.index t 2 * 512 + 1 * d.val = d.val; rw [idx2]; simp

theorem idx3 : ∀ t : Fin cfg0.N, win0_3.index t = ![t.val, 0, 0] :=
  (by decide +kernel : ∀ t : Fin grid0.N, win0_3.index t = ![t.val, 0, 0])

/-- Window 3's block at point `t` is sequence `t` of its argument. -/
theorem ib3 (c : Dev nD) (t : Fin cfg0.N) (r : Fin 128) (d : Fin 512) :
    iblk m c 3 t (ix3 0 r d) = m ((c : Thread nD τ).loc main_arg3) (ix3 ⟨t.val, t.isLt⟩ r d) := by
  unfold iblk
  refine congrArg (m ((c : Thread nD τ).loc main_arg3)) ?_
  funext a
  apply Fin.ext
  match a with
  | ⟨0, _⟩ => show win0_3.index t 0 * 1 + 1 * 0 = t.val; rw [idx3]; simp
  | ⟨1, _⟩ => show win0_3.index t 1 * 128 + 1 * r.val = r.val; rw [idx3]; simp
  | ⟨2, _⟩ => show win0_3.index t 2 * 512 + 1 * d.val = d.val; rw [idx3]; simp

theorem idx4 : ∀ t : Fin cfg0.N, win0_4.index t = ![t.val, 0, 0] :=
  (by decide +kernel : ∀ t : Fin grid0.N, win0_4.index t = ![t.val, 0, 0])

/-- Window 4's block at point `t` is sequence `t` of its argument. -/
theorem ib4 (c : Dev nD) (t : Fin cfg0.N) (r : Fin 128) (d : Fin 512) :
    iblk m c 4 t (ix3 0 r d) = m ((c : Thread nD τ).loc main_arg4) (ix3 ⟨t.val, t.isLt⟩ r d) := by
  unfold iblk
  refine congrArg (m ((c : Thread nD τ).loc main_arg4)) ?_
  funext a
  apply Fin.ext
  match a with
  | ⟨0, _⟩ => show win0_4.index t 0 * 1 + 1 * 0 = t.val; rw [idx4]; simp
  | ⟨1, _⟩ => show win0_4.index t 1 * 128 + 1 * r.val = r.val; rw [idx4]; simp
  | ⟨2, _⟩ => show win0_4.index t 2 * 512 + 1 * d.val = d.val; rw [idx4]; simp

theorem idx5 : ∀ t : Fin cfg0.N, win0_5.index t = ![t.val, 0, 0] :=
  (by decide +kernel : ∀ t : Fin grid0.N, win0_5.index t = ![t.val, 0, 0])

/-- Output window 5's block at point `t`, of any array. -/
theorem rd5 (f : S32x64x512.Idx → EReal) (t : Fin cfg0.N) (r : Fin 64) (d : Fin 512) :
    ((cfg0.win 5).blk t).view.read (Elt Ideal) f (ix3 0 r d) = f (ix3 ⟨t.val, t.isLt⟩ r d) := by
  refine congrArg f ?_
  funext a
  apply Fin.ext
  match a with
  | ⟨0, _⟩ => show win0_5.index t 0 * 1 + 1 * 0 = t.val; rw [idx5]; simp
  | ⟨1, _⟩ => show win0_5.index t 1 * 64 + 1 * r.val = r.val; rw [idx5]; simp
  | ⟨2, _⟩ => show win0_5.index t 2 * 512 + 1 * d.val = d.val; rw [idx5]; simp

theorem idx6 : ∀ t : Fin cfg0.N, win0_6.index t = ![t.val, 0, 0] :=
  (by decide +kernel : ∀ t : Fin grid0.N, win0_6.index t = ![t.val, 0, 0])

/-- Output window 6's block at point `t`, of any array. -/
theorem rd6 (f : S32x64x128.Idx → EReal) (t : Fin cfg0.N) (r : Fin 64) (d : Fin 128) :
    ((cfg0.win 6).blk t).view.read (Elt Ideal) f (ix3 0 r d) = f (ix3 ⟨t.val, t.isLt⟩ r d) := by
  refine congrArg f ?_
  funext a
  apply Fin.ext
  match a with
  | ⟨0, _⟩ => show win0_6.index t 0 * 1 + 1 * 0 = t.val; rw [idx6]; simp
  | ⟨1, _⟩ => show win0_6.index t 1 * 64 + 1 * r.val = r.val; rw [idx6]; simp
  | ⟨2, _⟩ => show win0_6.index t 2 * 128 + 1 * d.val = d.val; rw [idx6]; simp

theorem idx7 : ∀ t : Fin cfg0.N, win0_7.index t = ![t.val, 0, 0] :=
  (by decide +kernel : ∀ t : Fin grid0.N, win0_7.index t = ![t.val, 0, 0])

/-- Output window 7's block at point `t`, of any array. -/
theorem rd7 (f : S32x512x512.Idx → EReal) (t : Fin cfg0.N) (r : Fin 512) (d : Fin 512) :
    ((cfg0.win 7).blk t).view.read (Elt Ideal) f (ix3 0 r d) = f (ix3 ⟨t.val, t.isLt⟩ r d) := by
  refine congrArg f ?_
  funext a
  apply Fin.ext
  match a with
  | ⟨0, _⟩ => show win0_7.index t 0 * 1 + 1 * 0 = t.val; rw [idx7]; simp
  | ⟨1, _⟩ => show win0_7.index t 1 * 512 + 1 * r.val = r.val; rw [idx7]; simp
  | ⟨2, _⟩ => show win0_7.index t 2 * 512 + 1 * d.val = d.val; rw [idx7]; simp

theorem idx8 : ∀ t : Fin cfg0.N, win0_8.index t = ![t.val, 0, 0] :=
  (by decide +kernel : ∀ t : Fin grid0.N, win0_8.index t = ![t.val, 0, 0])

/-- Output window 8's block at point `t`, of any array. -/
theorem rd8 (f : S32x512x512.Idx → EReal) (t : Fin cfg0.N) (r : Fin 512) (d : Fin 512) :
    ((cfg0.win 8).blk t).view.read (Elt Ideal) f (ix3 0 r d) = f (ix3 ⟨t.val, t.isLt⟩ r d) := by
  refine congrArg f ?_
  funext a
  apply Fin.ext
  match a with
  | ⟨0, _⟩ => show win0_8.index t 0 * 1 + 1 * 0 = t.val; rw [idx8]; simp
  | ⟨1, _⟩ => show win0_8.index t 1 * 512 + 1 * r.val = r.val; rw [idx8]; simp
  | ⟨2, _⟩ => show win0_8.index t 2 * 512 + 1 * d.val = d.val; rw [idx8]; simp

theorem N32 (b : Fin 32) : b.val < cfg0.N := b.isLt

/-- The attention output of sequence `b`, as its point's payload. -/
theorem arr5 (c : Dev nD) (b : Fin 32) (r : Fin 64) (d : Fin 512) :
    (dats m 0 c).arrAt 5 cfg0.N (ix3 b r d)
      = k0_pay6 (k0_pay9 (iblk m c 2 ⟨b.val, N32 b⟩)) (k0_pay11 (iblk m c 4 ⟨b.val, N32 b⟩)) (k0_pay16 (iblk m c 0 ⟨b.val, N32 b⟩)) M
          (B (iblk m c 0 ⟨b.val, N32 b⟩) (iblk m c 1 ⟨b.val, N32 b⟩)) (k0_pay20 (k0_pay10 (iblk m c 3 ⟨b.val, N32 b⟩))) (ix3 0 r d) := by
  have h := congrFun (Value.blocks5 m c ⟨b.val, N32 b⟩ (flush0_5 _)) (ix3 0 r d)
  rw [rd5] at h
  refine h.trans ?_
  rw [Value.flushed5_A]
  unfold out0_A_5 kernelRun0_A
  simp only [View.readAt_eq_ld, Memref.IsWhole.read_unread, View.read_writes_junk_eq_canon]
  rw [View.canon_unit_zero (S := S1x64x512) hz3]
  unfold kernelRun0_A.sl.r_1 kernelRun0_A.sl.r_3 kernelRun0_A.sl.r_4 kernelRun0_A.sl.r_6 kernelRun0_A.sl.r_7 kernelRun0_A.sl.r_8
  unfold kernelRun0_A.sl.r kernelRun0_A.sl.r_2 kernelRun0_A.sl.r_4 kernelRun0_A.sl.r_5
  simp only [View.readAt_eq_ld, Memref.IsWhole.read_unread, View.ld_unit_zero (S := S1x512x512) hz3,
    View.ld_unit_zero (S := S1x128x512) hz3, View.ld_unit_zero (S := S1x64x512) hz3]
  rfl

/-- Its log-sum-exp. -/
theorem arr6 (c : Dev nD) (b : Fin 32) (r : Fin 64) (d : Fin 128) :
    (dats m 0 c).arrAt 6 cfg0.N (ix3 b r d)
      = k0_pay7 (k0_pay16 (iblk m c 0 ⟨b.val, N32 b⟩)) M
          (B (iblk m c 0 ⟨b.val, N32 b⟩) (iblk m c 1 ⟨b.val, N32 b⟩)) (k0_pay20 (k0_pay10 (iblk m c 3 ⟨b.val, N32 b⟩))) (ix3 0 r d) := by
  have h := congrFun (Value.blocks6 m c ⟨b.val, N32 b⟩ (flush0_6 _)) (ix3 0 r d)
  rw [rd6] at h
  refine h.trans ?_
  rw [Value.flushed6_A]
  unfold out0_A_6 kernelRun0_A
  simp only [View.readAt_eq_ld, Memref.IsWhole.read_unread, View.read_writes_junk_eq_canon]
  rw [View.canon_unit_zero (S := S1x64x128) hz3]
  unfold kernelRun0_A.sl.r_4 kernelRun0_A.sl.r_6 kernelRun0_A.sl.r_7 kernelRun0_A.sl.r_8
  unfold kernelRun0_A.sl.r kernelRun0_A.sl.r_2 kernelRun0_A.sl.r_4 kernelRun0_A.sl.r_5
  simp only [View.readAt_eq_ld, Memref.IsWhole.read_unread, View.ld_unit_zero (S := S1x512x512) hz3,
    View.ld_unit_zero (S := S1x128x512) hz3, View.ld_unit_zero (S := S1x64x512) hz3]
  rfl

/-- Two stores, rows 0 … 503 and then rows 504 … 511, read at a row. -/
theorem two_rows (hA hB) (u : S1x504x512.Idx → EReal) (v : S1x8x512.Idx → EReal) (r : Fin 512) (d : Fin 512) :
    View.canon (Val := Elt Ideal) (s := S1x512x512) (e := .f32)
      [⟨Rect.unit ![0, 504, 0] ![1, 8, 512] hB, v⟩, ⟨Rect.unit ![0, 0, 0] ![1, 504, 512] hA, u⟩] (ix3 0 r d)
      = if h : r.val < 504 then u (ix3 0 ⟨r.val, h⟩ d) else v (ix3 0 ⟨r.val - 504, by omega⟩ d) := by
  by_cases h : r.val < 504
  · rw [dif_pos h]
    refine (View.canon_cons_of_not_mem _ _ ?_).trans ?_
    · intro hm
      have h' : 504 ≤ r.val := ((Rect.mem_set_unit (inb := hB)).mp hm 1).1
      omega
    · have e : (ix3 0 r d : S1x512x512.Idx) = (Rect.unit ![0, 0, 0] ![1, 504, 512] hA).emb (ix3 0 ⟨r.val, h⟩ d) := by
        funext a
        apply Fin.ext
        match a with
        | ⟨0, _⟩ => rfl
        | ⟨1, _⟩ => show r.val = 0 + 1 * r.val; omega
        | ⟨2, _⟩ => show d.val = 0 + 1 * d.val; omega
      rw [e]
      exact View.canon_cons_emb _ _ _ _
  · rw [dif_neg h]
    have e : (ix3 0 r d : S1x512x512.Idx) = (Rect.unit ![0, 504, 0] ![1, 8, 512] hB).emb (ix3 0 ⟨r.val - 504, by omega⟩ d) := by
      funext a
      apply Fin.ext
      match a with
      | ⟨0, _⟩ => rfl
      | ⟨1, _⟩ => show r.val = 504 + 1 * (r.val - 504); omega
      | ⟨2, _⟩ => show d.val = 0 + 1 * d.val; omega
    rw [e]
    exact View.canon_cons_emb _ _ _ _

/-- The moved-on buffer of keys. -/
theorem arr7 (c : Dev nD) (b : Fin 32) (r : Fin 512) (d : Fin 512) :
    (dats m 0 c).arrAt 7 cfg0.N (ix3 b r d)
      = if h : r.val < 504 then m ((c : Thread nD τ).loc main_arg1) (ix3 b ⟨r.val + 8, by omega⟩ d)
        else m ((c : Thread nD τ).loc main_arg3) (ix3 b ⟨r.val - 504, by omega⟩ d) := by
  have h := congrFun (Value.blocks7 m c ⟨b.val, N32 b⟩ (flush0_7 _)) (ix3 0 r d)
  rw [rd7] at h
  refine h.trans ?_
  rw [Value.flushed7_A]
  unfold out0_A_7 kernelRun0_A
  simp only [View.readAt_eq_ld, Memref.IsWhole.read_unread, View.ld_unit_zero (S := S1x512x512) hz3,
    View.ld_unit_zero (S := S1x128x512) hz3, View.read_writes_junk_eq_canon]
  refine (two_rows _ _ _ _ r d).trans ?_
  by_cases h : r.val < 504
  · rw [dif_pos h, dif_pos h, p12_at, ib1]
    exact congrArg (fun n => m ((c : Thread nD τ).loc main_arg1) (ix3 b n d)) (Fin.ext (show 8 + r.val = r.val + 8 by omega))
  · rw [dif_neg h, dif_neg h, p13_at, ib3]

/-- The moved-on buffer of values. -/
theorem arr8 (c : Dev nD) (b : Fin 32) (r : Fin 512) (d : Fin 512) :
    (dats m 0 c).arrAt 8 cfg0.N (ix3 b r d)
      = if h : r.val < 504 then m ((c : Thread nD τ).loc main_arg2) (ix3 b ⟨r.val + 8, by omega⟩ d)
        else m ((c : Thread nD τ).loc main_arg4) (ix3 b ⟨r.val - 504, by omega⟩ d) := by
  have h := congrFun (Value.blocks8 m c ⟨b.val, N32 b⟩ (flush0_8 _)) (ix3 0 r d)
  rw [rd8] at h
  refine h.trans ?_
  rw [Value.flushed8_A]
  unfold out0_A_8 kernelRun0_A
  simp only [View.readAt_eq_ld, Memref.IsWhole.read_unread, View.ld_unit_zero (S := S1x512x512) hz3,
    View.ld_unit_zero (S := S1x128x512) hz3, View.read_writes_junk_eq_canon]
  refine (two_rows _ _ _ _ r d).trans ?_
  by_cases h : r.val < 504
  · rw [dif_pos h, dif_pos h, p14_at, ib2]
    exact congrArg (fun n => m ((c : Thread nD τ).loc main_arg2) (ix3 b n d)) (Fin.ext (show 8 + r.val = r.val + 8 by omega))
  · rw [dif_neg h, dif_neg h, p15_at, ib4]

end Arrays

end Cert.Proof.DilKer7
-- ==== Proof.DilRef7.lean ====
module

public import proofs.«01_k».proof.Proof.Gen.Reference7Ideal.Read
public import proofs.«01_k».proof.Proof.DilStep

@[expose] public section

set_option maxRecDepth 16384

noncomputable section

open Idealize.ShloMosaic Idealize.ShloMosaic.TcCoe Idealize.SL.Sem

namespace Cert.Proof.DilRef7

open Cert.Reference7Ideal Cert.Reference7Ideal.Gen Cert.Reference7Ideal.Read Cert.Proof.DilStep
open Cert.Proof.DilMath (tok)

/-- The gather read at an index: row `idx[r, m]`, read signed and clamped into the 520 rows. -/
theorem gather_at (x : S32x520x512.Idx → EReal) (idx : IVec S64x129x1 32) (b : Fin 32) (r : Fin 64) (k : Fin 129) (d : Fin 512) :
    Host.gather gather_S32x520x512_S64x129x1_S32x64x129x512_03_1_n_n_1_2_321512 x idx (ix4 b r k d)
      = x (ix3 b ⟨min (idx (ix3 r k 0)).toInt.toNat 519, by omega⟩ d) := by
  unfold Host.gather
  congr 1
  funext a
  refine Fin.ext ?_
  show gather_S32x520x512_S64x129x1_S32x64x129x512_03_1_n_n_1_2_321512.start (ix4 b r k d) idx a
    + gather_S32x520x512_S64x129x1_S32x64x129x512_03_1_n_n_1_2_321512.batchCoord (ix4 b r k d) a
    + gather_S32x520x512_S64x129x1_S32x64x129x512_03_1_n_n_1_2_321512.offCoord (ix4 b r k d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.batchCoord GatherDims.offCoord
    rw [dif_neg (by decide), dif_neg (by decide), dif_pos (by decide), Nat.zero_add]
    rfl
  · unfold GatherDims.start GatherDims.batchCoord GatherDims.offCoord
    rw [dif_pos (by decide), dif_neg (by decide), dif_neg (by decide)]
    have hsi : gather_S32x520x512_S64x129x1_S32x64x129x512_03_1_n_n_1_2_321512.siIdx (ix4 b r k d)
        ⟨List.idxOf (1 : Fin 3) gather_S32x520x512_S64x129x1_S32x64x129x512_03_1_n_n_1_2_321512.startIndexMap,
          List.idxOf_lt_length_iff.2 (by decide)⟩ = ix3 r k 0 := by
      funext c
      refine Fin.ext ?_
      match c with
      | ⟨0, _⟩ => rfl
      | ⟨1, _⟩ => rfl
      | ⟨2, _⟩ => rfl
    exact congrArg (fun w : BitVec 32 => min w.toInt.toNat 519) (congrArg idx hsi)
  · unfold GatherDims.start GatherDims.batchCoord GatherDims.offCoord
    rw [dif_neg (by decide), dif_neg (by decide), dif_pos (by decide), Nat.zero_add]
    rfl

theorem idx_word : ∀ i : Fin 8, ∀ k : Fin 129,
    (Scalar.select (IntOp.cmpi .slt (IntOp.subi (IntOp.addi 512#32 (BitVec.ofNat 32 i.val)) (IntOp.muli 4#32 (BitVec.ofNat 32 k.val))) 0#32)
      (IntOp.addi (IntOp.subi (IntOp.addi 512#32 (BitVec.ofNat 32 i.val)) (IntOp.muli 4#32 (BitVec.ofNat 32 k.val))) 520#32)
      (IntOp.subi (IntOp.addi 512#32 (BitVec.ofNat 32 i.val)) (IntOp.muli 4#32 (BitVec.ofNat 32 k.val)))).toInt.toNat = 512 + i.val - 4 * k.val := by
  decide +kernel

theorem rem8 : ∀ r : Fin 64, IntOp.remsi .host (BitVec.ofNat 32 r.val) 8#32 = BitVec.ofNat 32 (r.val % 8) := by decide +kernel

theorem idx22 (r : Fin 64) (k : Fin 129) : (val_main_v22 (F := Ideal) (ix3 r k 0)).toInt.toNat = 512 + r.val % 8 - 4 * k.val := by
  rw [← idx_word ⟨r.val % 8, by omega⟩ k]
  simp only [← rem8]
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_c_0, val_main_c_1, val_main_c_2, val_main_c_3]

theorem idx29 (r : Fin 64) (k : Fin 129) : (val_main_v29 (F := Ideal) (ix3 r k 0)).toInt.toNat = 512 + r.val % 8 - 4 * k.val := by
  rw [← idx_word ⟨r.val % 8, by omega⟩ k]
  simp only [← rem8]
  pointwise [val_main_v29, val_main_v28, val_main_v27, val_main_v26, val_main_v25, val_main_v24, val_main_v16, val_main_v15, val_main_v14, val_main_v13, val_main_v12, val_main_v11, val_main_v10, val_main_v9, val_main_v8, val_main_v7, val_main_v6, val_main_v5, val_main_v4, val_main_c, val_main_c_0, val_main_c_1, val_main_c_4, val_main_c_5]

variable (x0 : (⟨S32x64x512, .bf16⟩ : BufTy).Contents (Elt Ideal)) (x1 x2 : (⟨S32x512x512, .f32⟩ : BufTy).Contents (Elt Ideal))
  (x3 x4 : (⟨S32x128x512, .f32⟩ : BufTy).Contents (Elt Ideal))

theorem v1_at (b : Fin 32) (j : Fin 520) (d : Fin 512) : val_main_v1 (F := Ideal) x1 x3 (ix3 b j d)
    = if h : j.val < 512 then x1 (ix3 b ⟨j.val, h⟩ d) else x3 (ix3 b ⟨j.val - 512, by omega⟩ d) := by
  pointwise [val_main_v1, val_main_v0]

theorem v3_at (b : Fin 32) (j : Fin 520) (d : Fin 512) : val_main_v3 (F := Ideal) x2 x4 (ix3 b j d)
    = if h : j.val < 512 then x2 (ix3 b ⟨j.val, h⟩ d) else x4 (ix3 b ⟨j.val - 512, by omega⟩ d) := by
  pointwise [val_main_v3, val_main_v2]

/-- Laid after one another and read at the positions 4 k before token `r`'s, buffer and new rows give what `pick` does. -/
theorem cat_pick (f : Fin 512 → EReal) (g : Fin 128 → EReal) (r : Fin 64) (k : Fin 129) (n : Fin 520)
    (hn : n.val = 512 + r.val % 8 - 4 * k.val) :
    (if h : n.val < 512 then f ⟨n.val, h⟩ else g ⟨n.val - 512, by omega⟩) = pick 512 4 (tok r) f g k := by
  have ht : (tok r).val = r.val % 8 := rfl
  unfold pick spot
  by_cases h : n.val < 512
  · rw [dif_pos h, dif_pos (show 512 + (tok r).val - 4 * k.val < 512 by omega)]
    exact congrArg f (Fin.ext hn)
  · rw [dif_neg h, dif_neg (show ¬ 512 + (tok r).val - 4 * k.val < 512 by omega)]
    exact congrArg g (Fin.ext (show n.val - 512 = 512 + (tok r).val - 4 * k.val - 512 by omega))

theorem v23_at (b : Fin 32) (r : Fin 64) (k : Fin 129) (d : Fin 512) : val_main_v23 (F := Ideal) x1 x3 (ix4 b r k d)
    = pick 512 4 (tok r) (fun j => x1 (ix3 b j d)) (fun j => x3 (ix3 b j d)) k := by
  unfold val_main_v23
  rw [gather_at, v1_at]
  refine cat_pick (fun j => x1 (ix3 b j d)) (fun j => x3 (ix3 b j d)) r k _ ?_
  show min _ 519 = _
  rw [idx22]
  omega

theorem v30_at (b : Fin 32) (r : Fin 64) (k : Fin 129) (d : Fin 512) : val_main_v30 (F := Ideal) x2 x4 (ix4 b r k d)
    = pick 512 4 (tok r) (fun j => x2 (ix3 b j d)) (fun j => x4 (ix3 b j d)) k := by
  unfold val_main_v30
  rw [gather_at, v3_at]
  refine cat_pick (fun j => x2 (ix3 b j d)) (fun j => x4 (ix3 b j d)) r k _ ?_
  show min _ 519 = _
  rw [idx29]
  omega

/-- The score of row `r` against a buffer key, -/
def zb (b : Fin 32) (r : Fin 64) (j : Fin 512) : EReal := ∑ x : Fin 512, x0 (ix3 b r x) * x1 (ix3 b j x)

/-- and against a new key. -/
def zn (b : Fin 32) (r : Fin 64) (j : Fin 128) : EReal := ∑ x : Fin 512, x0 (ix3 b r x) * x3 (ix3 b j x)

/-- The reference's scores of row `r`. -/
theorem v32_at (b : Fin 32) (r : Fin 64) (k : Fin 129) : val_main_v32 (F := Ideal) x0 x1 x3 (ix3 b r k)
    = pick 512 4 (tok r) (zb x0 x1 b r) (zn x0 x3 b r) k := by
  pointwise [val_main_v32, val_main_v31]
  simp only [v23_at]
  unfold pick
  rcases spot 512 4 (tok r) k with j | j <;> rfl

theorem cst_bot : val_main_cst (F := Ideal) (Shape.Idx.first h_S_) = (⊥ : EReal) := by
  show Ideal.ofBits .f32 0xFF800000#32 = ⊥
  simp [Ideal.ofBits, Ideal.ieee]

theorem cst_zero : val_main_cst_6 (F := Ideal) (Shape.Idx.first h_S_) = (0 : EReal) := by
  show Ideal.ofBits .f32 0x00000000#32 = 0
  simp

/-- The reference's largest score of a row. -/
def mxOf (b : Fin 32) (r : Fin 64) : EReal := Finset.univ.fold max ⊥ (pick 512 4 (tok r) (zb x0 x1 b r) (zn x0 x3 b r))

/-- The reference's log-sum-exp of a row. -/
def lseOf (b : Fin 32) (r : Fin 64) : EReal :=
  mxOf x0 x1 x3 b r + Ideal.log (∑ k, Ideal.exp (pick 512 4 (tok r) (zb x0 x1 b r) (zn x0 x3 b r) k - mxOf x0 x1 x3 b r))

theorem v33_at (b : Fin 32) (r : Fin 64) : val_main_v33 (F := Ideal) x0 x1 x3 (ix2 b r) = mxOf x0 x1 x3 b r := by
  pointwise [val_main_v33]
  simp only [v32_at, cst_bot]
  rfl

theorem v40_at (b : Fin 32) (r : Fin 64) : val_main_v40 (F := Ideal) x0 x1 x3 (ix2 b r) = lseOf x0 x1 x3 b r := by
  pointwise [val_main_v40, val_main_v39, val_main_v38, val_main_v37, val_main_v36, val_main_v35, val_main_v34]
  simp only [v32_at, v33_at, cst_zero, zero_add]
  rfl

/-- The reference's attention output; -/
theorem v45_at (b : Fin 32) (r : Fin 64) (d : Fin 512) : val_main_v45 (F := Ideal) x0 x1 x2 x3 x4 (ix3 b r d)
    = ∑ k, Ideal.exp (pick 512 4 (tok r) (zb x0 x1 b r) (zn x0 x3 b r) k - lseOf x0 x1 x3 b r)
        * pick 512 4 (tok r) (fun j => x2 (ix3 b j d)) (fun j => x4 (ix3 b j d)) k := by
  pointwise [val_main_v45, val_main_v44, val_main_v43, val_main_v42, val_main_v41]
  simp only [v32_at, v40_at, v30_at]

/-- its log-sum-exp, on every lane; -/
theorem v47_at (b : Fin 32) (r : Fin 64) (d : Fin 128) : val_main_v47 (F := Ideal) x0 x1 x3 (ix3 b r d) = lseOf x0 x1 x3 b r := by
  pointwise [val_main_v47, val_main_v46]
  exact v40_at x0 x1 x3 b r

/-- the buffer of keys moved on by the eight new ones; -/
theorem v48_at (b : Fin 32) (r : Fin 512) (d : Fin 512) : val_main_v48 (F := Ideal) x1 x3 (ix3 b r d)
    = if h : r.val < 504 then x1 (ix3 b ⟨r.val + 8, by omega⟩ d) else x3 (ix3 b ⟨r.val - 504, by omega⟩ d) := by
  pointwise [val_main_v48]
  rw [v1_at]
  by_cases h : r.val < 504
  · rw [dif_pos h, dif_pos (show 8 + r.val < 512 by omega)]
    exact congrArg (fun n => x1 (ix3 b n d)) (Fin.ext (show 8 + r.val = r.val + 8 by omega))
  · rw [dif_neg h, dif_neg (show ¬ 8 + r.val < 512 by omega)]
    exact congrArg (fun n => x3 (ix3 b n d)) (Fin.ext (show 8 + r.val - 512 = r.val - 504 by omega))

/-- and the buffer of values likewise. -/
theorem v49_at (b : Fin 32) (r : Fin 512) (d : Fin 512) : val_main_v49 (F := Ideal) x2 x4 (ix3 b r d)
    = if h : r.val < 504 then x2 (ix3 b ⟨r.val + 8, by omega⟩ d) else x4 (ix3 b ⟨r.val - 504, by omega⟩ d) := by
  pointwise [val_main_v49]
  rw [v3_at]
  by_cases h : r.val < 504
  · rw [dif_pos h, dif_pos (show 8 + r.val < 512 by omega)]
    exact congrArg (fun n => x2 (ix3 b n d)) (Fin.ext (show 8 + r.val = r.val + 8 by omega))
  · rw [dif_neg h, dif_neg (show ¬ 8 + r.val < 512 by omega)]
    exact congrArg (fun n => x4 (ix3 b n d)) (Fin.ext (show 8 + r.val - 512 = r.val - 504 by omega))

end Cert.Proof.DilRef7
-- ==== Proof.DilClaim7.lean ====
module

public import proofs.«01_k».proof.Defs
public import proofs.«01_k».proof.Proof.DilClaim
public import proofs.«01_k».proof.Proof.Gen.Kernel7.Frame
public import proofs.«01_k».proof.Proof.DilKer7
public import proofs.«01_k».proof.Proof.DilRef7
public import proofs.«01_k».proof.Proof.Gen.Pre_finite_qk_512
public import proofs.«01_k».proof.Proof.Gen.Reference7Ideal.Run
public import Idealize.ShloMosaic.Lib.ReduceAll
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.DilClaim7

open Cert.Proof.DilClaim (real_of_lt dot_real ex3)

/-! ## The precondition -/

section

variable (x0 : FVec Ideal Cert.Pre_finite_qk_512.S32x64x512 .bf16) (x1 x2 : FVec Ideal Cert.Pre_finite_qk_512.S32x512x512 .f32)
  (x3 x4 : FVec Ideal Cert.Pre_finite_qk_512.S32x128x512 .f32)

/-- What the precondition says: queries, buffered and new keys are real. -/
theorem pre_real (h : Cert.Pre_finite_qk_512.fn (F := Ideal) x0 x1 x2 x3 x4 = fun _ => 1#1) :
    (∀ i, ∃ r : ℝ, x0 i = r) ∧ (∀ i, ∃ r : ℝ, x1 i = r) ∧ (∀ i, ∃ r : ℝ, x3 i = r) := by
  have h0 := congrFun h (fun a => a.elim0)
  unfold Cert.Pre_finite_qk_512.fn at h0
  simp only at h0
  have hand : ∀ a b : BitVec 1, IntOp.andi a b = 1#1 → a = 1#1 ∧ b = 1#1 := by decide
  obtain ⟨h1, h3⟩ := hand _ _ h0
  obtain ⟨h1, h2⟩ := hand _ _ h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end

/-! ## The claim -/

section

open Cert.Kernel7Ideal Cert.Kernel7Ideal.Gen

variable (m : (ℓ : Loc nD τ sig) → Buf (Elt Ideal) ℓ) (m' : (ℓ : Loc Cert.Reference7Ideal.nD Cert.Reference7Ideal.τ Cert.Reference7Ideal.sig) → Buf (Elt Ideal) ℓ)

/-- The five arguments of the kernel, on a device. -/
abbrev A0 (c : Dev nD) : S32x64x512.Idx → EReal := m ((c.tc : Thread nD τ).loc main_arg0)
abbrev A1 (c : Dev nD) : S32x512x512.Idx → EReal := m ((c.tc : Thread nD τ).loc main_arg1)
abbrev A2 (c : Dev nD) : S32x512x512.Idx → EReal := m ((c.tc : Thread nD τ).loc main_arg2)
abbrev A3 (c : Dev nD) : S32x128x512.Idx → EReal := m ((c.tc : Thread nD τ).loc main_arg3)
abbrev A4 (c : Dev nD) : S32x128x512.Idx → EReal := m ((c.tc : Thread nD τ).loc main_arg4)

/-- The scores of a point's blocks are the scores of the arguments' sequence. -/
theorem zb_eq (c : Dev nD) (b : Fin 32) (r : Fin 64) :
    DilKer7.zb (iblk m c 0 ⟨b.val, DilKer7.N32 b⟩) (iblk m c 1 ⟨b.val, DilKer7.N32 b⟩) r = DilRef7.zb (A0 m c) (A1 m c) b r := by
  funext j
  unfold DilKer7.zb DilRef7.zb
  refine Finset.sum_congr rfl fun x _ => ?_
  rw [DilKer7.ib0, DilKer7.ib1]

theorem zn_eq (c : Dev nD) (b : Fin 32) (r : Fin 64) :
    DilKer7.zn (iblk m c 0 ⟨b.val, DilKer7.N32 b⟩) (iblk m c 3 ⟨b.val, DilKer7.N32 b⟩) r = DilRef7.zn (A0 m c) (A3 m c) b r := by
  funext j
  unfold DilKer7.zn DilRef7.zn
  refine Finset.sum_congr rfl fun x _ => ?_
  rw [DilKer7.ib0, DilKer7.ib3]

theorem lse_eq (c : Dev nD) (b : Fin 32) (r : Fin 64) :
    DilKer7.mxOf (iblk m c 0 ⟨b.val, DilKer7.N32 b⟩) (iblk m c 1 ⟨b.val, DilKer7.N32 b⟩) (iblk m c 3 ⟨b.val, DilKer7.N32 b⟩) r
      + Ideal.log (DilKer7.denOf (iblk m c 0 ⟨b.val, DilKer7.N32 b⟩) (iblk m c 1 ⟨b.val, DilKer7.N32 b⟩) (iblk m c 3 ⟨b.val, DilKer7.N32 b⟩) r)
      = DilRef7.lseOf (A0 m c) (A1 m c) (A3 m c) b r := by
  unfold DilKer7.denOf DilKer7.mxOf
  rw [zb_eq, zn_eq]
  rfl

/-- The kernel's attention output is the reference's. -/
theorem res0 (c : Dev nD) (h0 : ∀ i, ∃ r : ℝ, A0 m c i = r) (h1 : ∀ i, ∃ r : ℝ, A1 m c i = r) (h3 : ∀ i, ∃ r : ℝ, A3 m c i = r) :
    (dats m 0 c).arrAt 5 cfg0.N = Cert.Reference7Ideal.Read.val_main_v45 (F := Ideal) (A0 m c) (A1 m c) (A2 m c) (A3 m c) (A4 m c) := by
  funext i
  obtain ⟨b, r, d, rfl⟩ := ex3 i
  refine (DilKer7.arr5 m c b r d).trans (Eq.trans ?_ (DilRef7.v45_at _ _ _ _ _ b r d).symm)
  rw [DilKer7.o_at, lse_eq, zb_eq, zn_eq]
  · simp only [DilKer7.ib2, DilKer7.ib4]
  · intro j
    rw [zb_eq]
    exact dot_real _ _ (fun x => h0 _) (fun x => h1 _)
  · intro j
    rw [zn_eq]
    exact dot_real _ _ (fun x => h0 _) (fun x => h3 _)

/-- Its log-sum-exp is the reference's. -/
theorem res1 (c : Dev nD) :
    (dats m 0 c).arrAt 6 cfg0.N = Cert.Reference7Ideal.Read.val_main_v47 (F := Ideal) (A0 m c) (A1 m c) (A3 m c) := by
  funext i
  obtain ⟨b, r, d, rfl⟩ := ex3 i
  refine (DilKer7.arr6 m c b r d).trans (Eq.trans ?_ (DilRef7.v47_at _ _ _ b r d).symm)
  rw [DilKer7.l_at, lse_eq]

/-- The moved-on buffers are the reference's. -/
theorem res2 (c : Dev nD) :
    (dats m 0 c).arrAt 7 cfg0.N = Cert.Reference7Ideal.Read.val_main_v48 (F := Ideal) (A1 m c) (A3 m c) := by
  funext i
  obtain ⟨b, r, d, rfl⟩ := ex3 i
  exact (DilKer7.arr7 m c b r d).trans (DilRef7.v48_at _ _ b r d).symm

theorem res3 (c : Dev nD) :
    (dats m 0 c).arrAt 8 cfg0.N = Cert.Reference7Ideal.Read.val_main_v49 (F := Ideal) (A2 m c) (A4 m c) := by
  funext i
  obtain ⟨b, r, d, rfl⟩ := ex3 i
  exact (DilKer7.arr8 m c b r d).trans (DilRef7.v49_at _ _ b r d).symm

end

theorem frame_p : Cert.quiescent_Kernel7 := fun m ρ _ => Cert.Kernel7.Gen.frame m ρ
theorem frame_pi : Cert.quiescent_Kernel7Ideal := fun m ρ _ => Cert.Kernel7Ideal.Gen.frame m ρ
theorem frame_pi_pre : Cert.quiescent_Kernel7Ideal_pre_finite_qk_512 := fun m ρ _ => Cert.Kernel7Ideal.Gen.frame m ρ

theorem frame_ri : Cert.quiescent_Reference7Ideal := fun m ρ _ =>
  (θ_run Cert.Reference7Ideal.defs _ _).mono (fun r h => ⟨fun c => (h c).2.2.2.2,
      Idealize.ShloMosaic.sem_eq_zero_of_no_sems (by decide) r.2⟩)
    (Cert.Reference7Ideal.Value.run (F := Ideal) m ρ)
theorem frame_ri_pre : Cert.quiescent_Reference7Ideal_pre_finite_qk_512 := fun m ρ _ => frame_ri m ρ trivial

/-- On finite queries and keys the kernel's four result arrays are the reference's. -/
theorem algebraic : Cert.algebraic_Kernel7Ideal_Reference7Ideal_pre_finite_qk_512 := by
  intro m ρ m' ρ' hpre hagree
  have hr := fun c => pre_real _ _ _ _ _ (hpre c)
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N,
    fun c => (Cert.Kernel7Ideal.Gen.dats m 0 c).arrAt 7 Cert.Kernel7Ideal.cfg0.N, fun c => (Cert.Kernel7Ideal.Gen.dats m 0 c).arrAt 8 Cert.Kernel7Ideal.cfg0.N,
    Cert.Kernel7Ideal.Value.run_blocks m ρ, ?_⟩
  refine (θ_run Cert.Reference7Ideal.defs _ _).mono
    (fun _ h c => ⟨(h c).1.trans ?_, (h c).2.1.trans ?_, (h c).2.2.1.trans ?_, (h c).2.2.2.1.trans ?_, (h c).2.2.2.2⟩)
    (Cert.Reference7Ideal.Value.run (F := Ideal) m' ρ')
  · rw [Cert.Reference7Ideal.Read.val_main_v45_eq, (hagree c).1, (hagree c).2.1, (hagree c).2.2.1, (hagree c).2.2.2.1, (hagree c).2.2.2.2]
    exact (res0 m c (hr c).1 (hr c).2.1 (hr c).2.2).symm
  · rw [Cert.Reference7Ideal.Read.val_main_v47_eq, (hagree c).1, (hagree c).2.1, (hagree c).2.2.2.1]
    exact (res1 m c).symm
  · rw [(hagree c).2.1, (hagree c).2.2.2.1]
    exact (res2 m c).symm
  · rw [(hagree c).2.2.1, (hagree c).2.2.2.2]
    exact (res3 m c).symm

end Cert.Proof.DilClaim7
-- ==== Proof.DilKer8.lean ====
module

public import proofs.«01_k».proof.Proof.Gen.Kernel8Ideal.Value
public import proofs.«01_k».proof.Proof.DilStep

@[expose] public section

set_option maxRecDepth 16384

noncomputable section

open Idealize.ShloMosaic Idealize.ShloMosaic.TcCoe Idealize.SL.Sem
open Idealize.ShloMosaic.Pipeline (Dat)

namespace Cert.Proof.DilKer8

open Cert.Kernel8Ideal Cert.Kernel8Ideal.Gen Cert.Proof.DilStep
open Cert.Proof.DilMath (tok)

/-! ## The payloads of one grid point, read at an index -/

section Payloads

theorem hz3 : (![0, 0, 0] : Fin 3 → Nat) = fun _ => 0 := funext fun a => by fin_cases a <;> rfl

/-- The remainder the kernel writes: the machine's, moved into the sign of the divisor. -/
def fm (x n : BitVec 32) : BitVec 32 :=
  Scalar.select (IntOp.andi (IntOp.xori (IntOp.cmpi CmpIPredicate.slt (IntOp.remsi ArithUnit.vector x n) 0#32)
      (Scalar.cmpi CmpIPredicate.slt n 0#32)) (IntOp.cmpi CmpIPredicate.ne (IntOp.remsi ArithUnit.vector x n) 0#32))
    (IntOp.addi (IntOp.remsi ArithUnit.vector x n) n) (IntOp.remsi ArithUnit.vector x n)

theorem sel8 : Scalar.select (Scalar.cmpi CmpIPredicate.eq 8#32 0#32) 1#32 8#32 = 8#32 := by decide
theorem sel1 : Scalar.select (Scalar.cmpi CmpIPredicate.eq 1#32 0#32) 1#32 1#32 = 1#32 := by decide
theorem fm8 : ∀ r : Fin 64, fm (BitVec.ofNat 32 r) 8#32 = BitVec.ofNat 32 (r.val % 8) := by decide +kernel

/-- An age is allowed when it is a multiple of 1 of at most 128. -/
theorem age_ok : ∀ x : Fin 136, IntOp.andi (IntOp.cmpi CmpIPredicate.eq (fm (BitVec.ofNat 32 x.val) 1#32) 0#32)
      (IntOp.cmpi CmpIPredicate.sle (BitVec.ofNat 32 x.val) 128#32) = if x.val ≤ 128 then 1#1 else 0#1 := by decide +kernel

theorem new_ok : ∀ i : Fin 8, ∀ j : Fin 128,
    IntOp.andi (IntOp.andi (IntOp.cmpi CmpIPredicate.sge (IntOp.subi (BitVec.ofNat 32 i.val) (BitVec.ofNat 32 j.val)) 0#32)
      (IntOp.cmpi CmpIPredicate.eq (fm (IntOp.subi (BitVec.ofNat 32 i.val) (BitVec.ofNat 32 j.val)) 1#32) 0#32))
      (IntOp.cmpi CmpIPredicate.slt (BitVec.ofNat 32 j.val) 8#32) = if j.val ≤ i.val then 1#1 else 0#1 := by decide +kernel

theorem m1_at (r : Fin 64) (j : Fin 128) : k0_pay17 kernelRun0_A.sl.v26 8#32 (ix2 r j)
    = if 128 + r.val % 8 - j.val ≤ 128 then 1#1 else 0#1 := by
  unfold kernelRun0_A.sl.v26
  pointwise [k0_pay17]
  simp only [sel8, sel1]
  have e : IntOp.subi (IntOp.addi (128#32) (fm (BitVec.ofNat 32 r.val) 8#32)) (BitVec.ofNat 32 j.val)
      = BitVec.ofNat 32 (128 + r.val % 8 - j.val) := by
    rw [fm8]
    unfold IntOp.subi IntOp.addi
    have := j.isLt
    apply BitVec.eq_of_toNat_eq
    simp
    omega
  have h := age_ok ⟨128 + r.val % 8 - j.val, by omega⟩
  simp only [← e] at h
  exact h

theorem m2_at (r : Fin 64) (j : Fin 128) : k0_pay18 kernelRun0_A.sl.v26 8#32 0#1 1#32 (ix2 r j)
    = if j.val ≤ r.val % 8 then 1#1 else 0#1 := by
  unfold kernelRun0_A.sl.v26
  pointwise [k0_pay18]
  have h := new_ok ⟨r.val % 8, by omega⟩ j
  simp only [← fm8] at h
  exact h

theorem bits_bot : Ideal.ofBits .f32 4286578688#32 = (⊥ : EReal) := by simp [Ideal.ofBits, Ideal.ieee]

variable (q : Vec Ideal S1x64x512 .bf16) (kb vb : Vec Ideal S1x128x512 .f32) (kn vn : Vec Ideal S1x128x512 .f32)

/-- The score of row `r` of the block against a buffer key, -/
def zb (r : Fin 64) (j : Fin 128) : EReal := ∑ x : Fin 512, q (ix3 0 r x) * kb (ix3 0 j x)

/-- and against a new key. -/
def zn (r : Fin 64) (j : Fin 128) : EReal := ∑ x : Fin 512, q (ix3 0 r x) * kn (ix3 0 j x)

/-- The kernel's masked scores of the buffer; -/
abbrev B : FVec Ideal S64x128 .f32 := k0_pay19 (k0_pay8 kb) (k0_pay16 q) (k0_pay17 kernelRun0_A.sl.v26 8#32)

/-- its mask of the new rows; -/
abbrev M : IVec S64x128 1 := k0_pay18 kernelRun0_A.sl.v26 8#32 0#1 1#32

theorem sb_at (r : Fin 64) (j : Fin 128) : B q kb (ix2 r j) = maskB 128 1 (tok r) (zb q kb r) j := by
  unfold B
  pointwise [k0_pay19, k0_pay8, k0_pay16]
  rw [m1_at, bits_bot]
  unfold maskB
  by_cases h : 128 + r.val % 8 - j.val ≤ 128
  · rw [if_pos h, if_pos (show ((128 + (tok r).val - j.val) % 1 = 0 ∧ 128 + (tok r).val - j.val ≤ 128) from ⟨Nat.mod_one _, h⟩)]; rfl
  · rw [if_neg h, if_neg (show ¬ ((128 + (tok r).val - j.val) % 1 = 0 ∧ 128 + (tok r).val - j.val ≤ 128) from fun e => h e.2)]; rfl

theorem sn_at (r : Fin 64) (j : Fin 128) :
    k0_pay1 (k0_pay16 q) M (k0_pay20 (k0_pay10 kn)) (ix2 r j) = maskN 1 (tok r) (zn q kn r) j := by
  unfold M
  pointwise [k0_pay1, k0_pay20, k0_pay10, k0_pay16]
  rw [m2_at, bits_bot]
  unfold maskN
  by_cases h : j.val ≤ r.val % 8
  · rw [if_pos h, if_pos (show (j.val ≤ (tok r).val ∧ ((tok r).val - j.val) % 1 = 0) from ⟨h, Nat.mod_one _⟩)]; rfl
  · rw [if_neg h, if_neg (show ¬ (j.val ≤ (tok r).val ∧ ((tok r).val - j.val) % 1 = 0) from fun e => h e.1)]; rfl

/-- The largest score of row `r`. -/
def mxOf (r : Fin 64) : EReal := Finset.univ.fold max ⊥ (pick 128 1 (tok r) (zb q kb r) (zn q kn r))

/-- The sum of the exponentials of row `r`. -/
def denOf (r : Fin 64) : EReal := ∑ k, Ideal.exp (pick 128 1 (tok r) (zb q kb r) (zn q kn r) k - mxOf q kb kn r)

theorem mx_at (r : Fin 64) : k0_pay2 (k0_pay16 q) M (B q kb) (k0_pay20 (k0_pay10 kn)) (ix2 r 0) = mxOf q kb kn r := by
  pointwise [k0_pay2]
  simp only [sb_at, sn_at, bits_bot]
  exact max_eq (W := 128) (D := 1) rfl (by decide) (tok r) (zb q kb r) (zn q kn r)

theorem den_at (r : Fin 64) : k0_pay5 (k0_pay16 q) M (B q kb) (k0_pay20 (k0_pay10 kn)) (ix2 r 0) = denOf q kb kn r := by
  pointwise [k0_pay5, k0_pay3, k0_pay4]
  simp only [sb_at, sn_at, mx_at]
  exact den_eq (W := 128) (D := 1) rfl (by decide) (tok r) (zb q kb r) (zn q kn r) _

/-- The log-sum-exp the kernel stores, on every lane. -/
theorem l_at (r : Fin 64) (d : Fin 128) : k0_pay7 (k0_pay16 q) M (B q kb) (k0_pay20 (k0_pay10 kn)) (ix3 0 r d)
    = mxOf q kb kn r + Ideal.log (denOf q kb kn r) := by
  pointwise [k0_pay7]
  rw [mx_at, den_at]

/-- The attention output the kernel stores, when the scores are finite. -/
theorem o_at (r : Fin 64) (d : Fin 512) (hb : ∀ j, ∃ x : ℝ, zb q kb r j = x) (hn : ∀ j, ∃ x : ℝ, zn q kn r j = x) :
    k0_pay6 (k0_pay9 vb) (k0_pay11 vn) (k0_pay16 q) M (B q kb) (k0_pay20 (k0_pay10 kn)) (ix3 0 r d)
    = ∑ k, Ideal.exp (pick 128 1 (tok r) (zb q kb r) (zn q kn r) k - (mxOf q kb kn r + Ideal.log (denOf q kb kn r)))
        * pick 128 1 (tok r) (fun j => vb (ix3 0 j d)) (fun j => vn (ix3 0 j d)) k := by
  pointwise [k0_pay6, k0_pay3, k0_pay4, k0_pay9, k0_pay11]
  simp only [sb_at, sn_at, mx_at, den_at]
  exact out_eq (W := 128) (D := 1) rfl (by decide) (tok r) _ _ _ _ hb hn _ _ rfl rfl

theorem p12_at (r : Fin 120) (d : Fin 512) : k0_pay12 kb (ix3 0 r d) = kb (ix3 0 ⟨8 + r.val, by omega⟩ d) := by
  pointwise [k0_pay12, k0_pay8]
theorem p13_at (r : Fin 8) (d : Fin 512) : k0_pay13 kn (ix3 0 r d) = kn (ix3 0 ⟨r.val, by omega⟩ d) := by
  pointwise [k0_pay13, k0_pay10]
theorem p14_at (r : Fin 120) (d : Fin 512) : k0_pay14 vb (ix3 0 r d) = vb (ix3 0 ⟨8 + r.val, by omega⟩ d) := by
  pointwise [k0_pay14, k0_pay9]
theorem p15_at (r : Fin 8) (d : Fin 512) : k0_pay15 vn (ix3 0 r d) = vn (ix3 0 ⟨r.val, by omega⟩ d) := by
  pointwise [k0_pay15, k0_pay11]

end Payloads

/-! ## The result arrays -/

section Arrays

variable (m : (ℓ : Loc nD τ sig) → Buf (Elt Ideal) ℓ) (ρ : Dev nD → PrngReg)

theorem idx0 : ∀ t : Fin cfg0.N, win0_0.index t = ![t.val, 0, 0] :=
  (by decide +kernel : ∀ t : Fin grid0.N, win0_0.index t = ![t.val, 0, 0])

/-- Window 0's block at point `t` is sequence `t` of its argument. -/
theorem ib0 (c : Dev nD) (t : Fin cfg0.N) (r : Fin 64) (d : Fin 512) :
    iblk m c 0 t (ix3 0 r d) = m ((c : Thread nD τ).loc main_arg0) (ix3 ⟨t.val, t.isLt⟩ r d) := by
  unfold iblk
  refine congrArg (m ((c : Thread nD τ).loc main_arg0)) ?_
  funext a
  apply Fin.ext
  match a with
  | ⟨0, _⟩ => show win0_0.index t 0 * 1 + 1 * 0 = t.val; rw [idx0]; simp
  | ⟨1, _⟩ => show win0_0.index t 1 * 64 + 1 * r.val = r.val; rw [idx0]; simp
  | ⟨2, _⟩ => show win0_0.index t 2 * 512 + 1 * d.val = d.val; rw [idx0]; simp

theorem idx1 : ∀ t : Fin cfg0.N, win0_1.index t = ![t.val, 0, 0] :=
  (by decide +kernel : ∀ t : Fin grid0.N, win0_1.index t = ![t.val, 0, 0])

/-- Window 1's block at point `t` is sequence `t` of its argument. -/
theorem ib1 (c : Dev nD) (t : Fin cfg0.N) (r : Fin 128) (d : Fin 512) :
    iblk m c 1 t (ix3 0 r d) = m ((c : Thread nD τ).loc main_arg1) (ix3 ⟨t.val, t.isLt⟩ r d) := by
  unfold iblk
  refine congrArg (m ((c : Thread nD τ).loc main_arg1)) ?_
  funext a
  apply Fin.ext
  match a with
  | ⟨0, _⟩ => show win0_1.index t 0 * 1 + 1 * 0 = t.val; rw [idx1]; simp
  | ⟨1, _⟩ => show win0_1.index t 1 * 128 + 1 * r.val = r.val; rw [idx1]; simp
  | ⟨2, _⟩ => show win0_1.index t 2 * 512 + 1 * d.val = d.val; rw [idx1]; simp

theorem idx2 : ∀ t : Fin cfg0.N, win0_2.index t = ![t.val, 0, 0] :=
  (by decide +kernel : ∀ t : Fin grid0.N, win0_2.index t = ![t.val, 0, 0])

/-- Window 2's block at point `t` is sequence `t` of its argument. -/
theorem ib2 (c : Dev nD) (t : Fin cfg0.N) (r : Fin 128) (d : Fin 512) :
    iblk m c 2 t (ix3 0 r d) = m ((c : Thread nD τ).loc main_arg2) (ix3 ⟨t.val, t.isLt⟩ r d) := by
  unfold iblk
  refine congrArg (m ((c : Thread nD τ).loc main_arg2)) ?_
  funext a
  apply Fin.ext
  match a with
  | ⟨0, _⟩ => show win0_2.index t 0 * 1 + 1 * 0 = t.val; rw [idx2]; simp
  | ⟨1, _⟩ => show win0_2.index t 1 * 128 + 1 * r.val = r.val; rw [idx2]; simp
  | ⟨2, _⟩ => show win0_2.index t 2 * 512 + 1 * d.val = d.val; rw [idx2]; simp

theorem idx3 : ∀ t : Fin cfg0.N, win0_3.index t = ![t.val, 0, 0] :=
  (by decide +kernel : ∀ t : Fin grid0.N, win0_3.index t = ![t.val, 0, 0])

/-- Window 3's block at point `t` is sequence `t` of its argument. -/
theorem ib3 (c : Dev nD) (t : Fin cfg0.N) (r : Fin 128) (d : Fin 512) :
    iblk m c 3 t (ix3 0 r d) = m ((c : Thread nD τ).loc main_arg3) (ix3 ⟨t.val, t.isLt⟩ r d) := by
  unfold iblk
  refine congrArg (m ((c : Thread nD τ).loc main_arg3)) ?_
  funext a
  apply Fin.ext
  match a with
  | ⟨0, _⟩ => show win0_3.index t 0 * 1 + 1 * 0 = t.val; rw [idx3]; simp
  | ⟨1, _⟩ => show win0_3.index t 1 * 128 + 1 * r.val = r.val; rw [idx3]; simp
  | ⟨2, _⟩ => show win0_3.index t 2 * 512 + 1 * d.val = d.val; rw [idx3]; simp

theorem idx4 : ∀ t : Fin cfg0.N, win0_4.index t = ![t.val, 0, 0] :=
  (by decide +kernel : ∀ t : Fin grid0.N, win0_4.index t = ![t.val, 0, 0])

/-- Window 4's block at point `t` is sequence `t` of its argument. -/
theorem ib4 (c : Dev nD) (t : Fin cfg0.N) (r : Fin 128) (d : Fin 512) :
    iblk m c 4 t (ix3 0 r d) = m ((c : Thread nD τ).loc main_arg4) (ix3 ⟨t.val, t.isLt⟩ r d) := by
  unfold iblk
  refine congrArg (m ((c : Thread nD τ).loc main_arg4)) ?_
  funext a
  apply Fin.ext
  match a with
  | ⟨0, _⟩ => show win0_4.index t 0 * 1 + 1 * 0 = t.val; rw [idx4]; simp
  | ⟨1, _⟩ => show win0_4.index t 1 * 128 + 1 * r.val = r.val; rw [idx4]; simp
  | ⟨2, _⟩ => show win0_4.index t 2 * 512 + 1 * d.val = d.val; rw [idx4]; simp

theorem idx5 : ∀ t : Fin cfg0.N, win0_5.index t = ![t.val, 0, 0] :=
  (by decide +kernel : ∀ t : Fin grid0.N, win0_5.index t = ![t.val, 0, 0])

/-- Output window 5's block at point `t`, of any array. -/
theorem rd5 (f : S32x64x512.Idx → EReal) (t : Fin cfg0.N) (r : Fin 64) (d : Fin 512) :
    ((cfg0.win 5).blk t).view.read (Elt Ideal) f (ix3 0 r d) = f (ix3 ⟨t.val, t.isLt⟩ r d) := by
  refine congrArg f ?_
  funext a
  apply Fin.ext
  match a with
  | ⟨0, _⟩ => show win0_5.index t 0 * 1 + 1 * 0 = t.val; rw [idx5]; simp
  | ⟨1, _⟩ => show win0_5.index t 1 * 64 + 1 * r.val = r.val; rw [idx5]; simp
  | ⟨2, _⟩ => show win0_5.index t 2 * 512 + 1 * d.val = d.val; rw [idx5]; simp

theorem idx6 : ∀ t : Fin cfg0.N, win0_6.index t = ![t.val, 0, 0] :=
  (by decide +kernel : ∀ t : Fin grid0.N, win0_6.index t = ![t.val, 0, 0])

/-- Output window 6's block at point `t`, of any array. -/
theorem rd6 (f : S32x64x128.Idx → EReal) (t : Fin cfg0.N) (r : Fin 64) (d : Fin 128) :
    ((cfg0.win 6).blk t).view.read (Elt Ideal) f (ix3 0 r d) = f (ix3 ⟨t.val, t.isLt⟩ r d) := by
  refine congrArg f ?_
  funext a
  apply Fin.ext
  match a with
  | ⟨0, _⟩ => show win0_6.index t 0 * 1 + 1 * 0 = t.val; rw [idx6]; simp
  | ⟨1, _⟩ => show win0_6.index t 1 * 64 + 1 * r.val = r.val; rw [idx6]; simp
  | ⟨2, _⟩ => show win0_6.index t 2 * 128 + 1 * d.val = d.val; rw [idx6]; simp

theorem idx7 : ∀ t : Fin cfg0.N, win0_7.index t = ![t.val, 0, 0] :=
  (by decide +kernel : ∀ t : Fin grid0.N, win0_7.index t = ![t.val, 0, 0])

/-- Output window 7's block at point `t`, of any array. -/
theorem rd7 (f : S32x128x512.Idx → EReal) (t : Fin cfg0.N) (r : Fin 128) (d : Fin 512) :
    ((cfg0.win 7).blk t).view.read (Elt Ideal) f (ix3 0 r d) = f (ix3 ⟨t.val, t.isLt⟩ r d) := by
  refine congrArg f ?_
  funext a
  apply Fin.ext
  match a with
  | ⟨0, _⟩ => show win0_7.index t 0 * 1 + 1 * 0 = t.val; rw [idx7]; simp
  | ⟨1, _⟩ => show win0_7.index t 1 * 128 + 1 * r.val = r.val; rw [idx7]; simp
  | ⟨2, _⟩ => show win0_7.index t 2 * 512 + 1 * d.val = d.val; rw [idx7]; simp

theorem idx8 : ∀ t : Fin cfg0.N, win0_8.index t = ![t.val, 0, 0] :=
  (by decide +kernel : ∀ t : Fin grid0.N, win0_8.index t = ![t.val, 0, 0])

/-- Output window 8's block at point `t`, of any array. -/
theorem rd8 (f : S32x128x512.Idx → EReal) (t : Fin cfg0.N) (r : Fin 128) (d : Fin 512) :
    ((cfg0.win 8).blk t).view.read (Elt Ideal) f (ix3 0 r d) = f (ix3 ⟨t.val, t.isLt⟩ r d) := by
  refine congrArg f ?_
  funext a
  apply Fin.ext
  match a with
  | ⟨0, _⟩ => show win0_8.index t 0 * 1 + 1 * 0 = t.val; rw [idx8]; simp
  | ⟨1, _⟩ => show win0_8.index t 1 * 128 + 1 * r.val = r.val; rw [idx8]; simp
  | ⟨2, _⟩ => show win0_8.index t 2 * 512 + 1 * d.val = d.val; rw [idx8]; simp

theorem N32 (b : Fin 32) : b.val < cfg0.N := b.isLt

/-- The attention output of sequence `b`, as its point's payload. -/
theorem arr5 (c : Dev nD) (b : Fin 32) (r : Fin 64) (d : Fin 512) :
    (dats m 0 c).arrAt 5 cfg0.N (ix3 b r d)
      = k0_pay6 (k0_pay9 (iblk m c 2 ⟨b.val, N32 b⟩)) (k0_pay11 (iblk m c 4 ⟨b.val, N32 b⟩)) (k0_pay16 (iblk m c 0 ⟨b.val, N32 b⟩)) M
          (B (iblk m c 0 ⟨b.val, N32 b⟩) (iblk m c 1 ⟨b.val, N32 b⟩)) (k0_pay20 (k0_pay10 (iblk m c 3 ⟨b.val, N32 b⟩))) (ix3 0 r d) := by
  have h := congrFun (Value.blocks5 m c ⟨b.val, N32 b⟩ (flush0_5 _)) (ix3 0 r d)
  rw [rd5] at h
  refine h.trans ?_
  rw [Value.flushed5_A]
  unfold out0_A_5 kernelRun0_A
  simp only [View.readAt_eq_ld, Memref.IsWhole.read_unread, View.read_writes_junk_eq_canon]
  rw [View.canon_unit_zero (S := S1x64x512) hz3]
  unfold kernelRun0_A.sl.r_1 kernelRun0_A.sl.r_3 kernelRun0_A.sl.r_4 kernelRun0_A.sl.r_6 kernelRun0_A.sl.r_7 kernelRun0_A.sl.r_8
  unfold kernelRun0_A.sl.r kernelRun0_A.sl.r_2 kernelRun0_A.sl.r_4 kernelRun0_A.sl.r_5
  simp only [View.readAt_eq_ld, Memref.IsWhole.read_unread, View.ld_unit_zero (S := S1x128x512) hz3,
    View.ld_unit_zero (S := S1x128x512) hz3, View.ld_unit_zero (S := S1x64x512) hz3]
  rfl

/-- Its log-sum-exp. -/
theorem arr6 (c : Dev nD) (b : Fin 32) (r : Fin 64) (d : Fin 128) :
    (dats m 0 c).arrAt 6 cfg0.N (ix3 b r d)
      = k0_pay7 (k0_pay16 (iblk m c 0 ⟨b.val, N32 b⟩)) M
          (B (iblk m c 0 ⟨b.val, N32 b⟩) (iblk m c 1 ⟨b.val, N32 b⟩)) (k0_pay20 (k0_pay10 (iblk m c 3 ⟨b.val, N32 b⟩))) (ix3 0 r d) := by
  have h := congrFun (Value.blocks6 m c ⟨b.val, N32 b⟩ (flush0_6 _)) (ix3 0 r d)
  rw [rd6] at h
  refine h.trans ?_
  rw [Value.flushed6_A]
  unfold out0_A_6 kernelRun0_A
  simp only [View.readAt_eq_ld, Memref.IsWhole.read_unread, View.read_writes_junk_eq_canon]
  rw [View.canon_unit_zero (S := S1x64x128) hz3]
  unfold kernelRun0_A.sl.r_4 kernelRun0_A.sl.r_6 kernelRun0_A.sl.r_7 kernelRun0_A.sl.r_8
  unfold kernelRun0_A.sl.r kernelRun0_A.sl.r_2 kernelRun0_A.sl.r_4 kernelRun0_A.sl.r_5
  simp only [View.readAt_eq_ld, Memref.IsWhole.read_unread, View.ld_unit_zero (S := S1x128x512) hz3,
    View.ld_unit_zero (S := S1x128x512) hz3, View.ld_unit_zero (S := S1x64x512) hz3]
  rfl

/-- Two stores, rows 0 … 119 and then rows 120 … 127, read at a row. -/
theorem two_rows (hA hB) (u : S1x120x512.Idx → EReal) (v : S1x8x512.Idx → EReal) (r : Fin 128) (d : Fin 512) :
    View.canon (Val := Elt Ideal) (s := S1x128x512) (e := .f32)
      [⟨Rect.unit ![0, 120, 0] ![1, 8, 512] hB, v⟩, ⟨Rect.unit ![0, 0, 0] ![1, 120, 512] hA, u⟩] (ix3 0 r d)
      = if h : r.val < 120 then u (ix3 0 ⟨r.val, h⟩ d) else v (ix3 0 ⟨r.val - 120, by omega⟩ d) := by
  by_cases h : r.val < 120
  · rw [dif_pos h]
    refine (View.canon_cons_of_not_mem _ _ ?_).trans ?_
    · intro hm
      have h' : 120 ≤ r.val := ((Rect.mem_set_unit (inb := hB)).mp hm 1).1
      omega
    · have e : (ix3 0 r d : S1x128x512.Idx) = (Rect.unit ![0, 0, 0] ![1, 120, 512] hA).emb (ix3 0 ⟨r.val, h⟩ d) := by
        funext a
        apply Fin.ext
        match a with
        | ⟨0, _⟩ => rfl
        | ⟨1, _⟩ => show r.val = 0 + 1 * r.val; omega
        | ⟨2, _⟩ => show d.val = 0 + 1 * d.val; omega
      rw [e]
      exact View.canon_cons_emb _ _ _ _
  · rw [dif_neg h]
    have e : (ix3 0 r d : S1x128x512.Idx) = (Rect.unit ![0, 120, 0] ![1, 8, 512] hB).emb (ix3 0 ⟨r.val - 120, by omega⟩ d) := by
      funext a
      apply Fin.ext
      match a with
      | ⟨0, _⟩ => rfl
      | ⟨1, _⟩ => show r.val = 120 + 1 * (r.val - 120); omega
      | ⟨2, _⟩ => show d.val = 0 + 1 * d.val; omega
    rw [e]
    exact View.canon_cons_emb _ _ _ _

/-- The moved-on buffer of keys. -/
theorem arr7 (c : Dev nD) (b : Fin 32) (r : Fin 128) (d : Fin 512) :
    (dats m 0 c).arrAt 7 cfg0.N (ix3 b r d)
      = if h : r.val < 120 then m ((c : Thread nD τ).loc main_arg1) (ix3 b ⟨r.val + 8, by omega⟩ d)
        else m ((c : Thread nD τ).loc main_arg3) (ix3 b ⟨r.val - 120, by omega⟩ d) := by
  have h := congrFun (Value.blocks7 m c ⟨b.val, N32 b⟩ (flush0_7 _)) (ix3 0 r d)
  rw [rd7] at h
  refine h.trans ?_
  rw [Value.flushed7_A]
  unfold out0_A_7 kernelRun0_A
  simp only [View.readAt_eq_ld, Memref.IsWhole.read_unread, View.ld_unit_zero (S := S1x128x512) hz3,
    View.ld_unit_zero (S := S1x128x512) hz3, View.read_writes_junk_eq_canon]
  refine (two_rows _ _ _ _ r d).trans ?_
  by_cases h : r.val < 120
  · rw [dif_pos h, dif_pos h, p12_at, ib1]
    exact congrArg (fun n => m ((c : Thread nD τ).loc main_arg1) (ix3 b n d)) (Fin.ext (show 8 + r.val = r.val + 8 by omega))
  · rw [dif_neg h, dif_neg h, p13_at, ib3]

/-- The moved-on buffer of values. -/
theorem arr8 (c : Dev nD) (b : Fin 32) (r : Fin 128) (d : Fin 512) :
    (dats m 0 c).arrAt 8 cfg0.N (ix3 b r d)
      = if h : r.val < 120 then m ((c : Thread nD τ).loc main_arg2) (ix3 b ⟨r.val + 8, by omega⟩ d)
        else m ((c : Thread nD τ).loc main_arg4) (ix3 b ⟨r.val - 120, by omega⟩ d) := by
  have h := congrFun (Value.blocks8 m c ⟨b.val, N32 b⟩ (flush0_8 _)) (ix3 0 r d)
  rw [rd8] at h
  refine h.trans ?_
  rw [Value.flushed8_A]
  unfold out0_A_8 kernelRun0_A
  simp only [View.readAt_eq_ld, Memref.IsWhole.read_unread, View.ld_unit_zero (S := S1x128x512) hz3,
    View.ld_unit_zero (S := S1x128x512) hz3, View.read_writes_junk_eq_canon]
  refine (two_rows _ _ _ _ r d).trans ?_
  by_cases h : r.val < 120
  · rw [dif_pos h, dif_pos h, p14_at, ib2]
    exact congrArg (fun n => m ((c : Thread nD τ).loc main_arg2) (ix3 b n d)) (Fin.ext (show 8 + r.val = r.val + 8 by omega))
  · rw [dif_neg h, dif_neg h, p15_at, ib4]

end Arrays

end Cert.Proof.DilKer8
-- ==== Proof.DilRef8.lean ====
module

public import proofs.«01_k».proof.Proof.Gen.Reference8Ideal.Read
public import proofs.«01_k».proof.Proof.DilStep

@[expose] public section

set_option maxRecDepth 16384

noncomputable section

open Idealize.ShloMosaic Idealize.ShloMosaic.TcCoe Idealize.SL.Sem

namespace Cert.Proof.DilRef8

open Cert.Reference8Ideal Cert.Reference8Ideal.Gen Cert.Reference8Ideal.Read Cert.Proof.DilStep
open Cert.Proof.DilMath (tok)

/-- The gather read at an index: row `idx[r, m]`, read signed and clamped into the 136 rows. -/
theorem gather_at (x : S32x136x512.Idx → EReal) (idx : IVec S64x129x1 32) (b : Fin 32) (r : Fin 64) (k : Fin 129) (d : Fin 512) :
    Host.gather gather_S32x136x512_S64x129x1_S32x64x129x512_03_1_n_n_1_2_321512 x idx (ix4 b r k d)
      = x (ix3 b ⟨min (idx (ix3 r k 0)).toInt.toNat 135, by omega⟩ d) := by
  unfold Host.gather
  congr 1
  funext a
  refine Fin.ext ?_
  show gather_S32x136x512_S64x129x1_S32x64x129x512_03_1_n_n_1_2_321512.start (ix4 b r k d) idx a
    + gather_S32x136x512_S64x129x1_S32x64x129x512_03_1_n_n_1_2_321512.batchCoord (ix4 b r k d) a
    + gather_S32x136x512_S64x129x1_S32x64x129x512_03_1_n_n_1_2_321512.offCoord (ix4 b r k d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.batchCoord GatherDims.offCoord
    rw [dif_neg (by decide), dif_neg (by decide), dif_pos (by decide), Nat.zero_add]
    rfl
  · unfold GatherDims.start GatherDims.batchCoord GatherDims.offCoord
    rw [dif_pos (by decide), dif_neg (by decide), dif_neg (by decide)]
    have hsi : gather_S32x136x512_S64x129x1_S32x64x129x512_03_1_n_n_1_2_321512.siIdx (ix4 b r k d)
        ⟨List.idxOf (1 : Fin 3) gather_S32x136x512_S64x129x1_S32x64x129x512_03_1_n_n_1_2_321512.startIndexMap,
          List.idxOf_lt_length_iff.2 (by decide)⟩ = ix3 r k 0 := by
      funext c
      refine Fin.ext ?_
      match c with
      | ⟨0, _⟩ => rfl
      | ⟨1, _⟩ => rfl
      | ⟨2, _⟩ => rfl
    exact congrArg (fun w : BitVec 32 => min w.toInt.toNat 135) (congrArg idx hsi)
  · unfold GatherDims.start GatherDims.batchCoord GatherDims.offCoord
    rw [dif_neg (by decide), dif_neg (by decide), dif_pos (by decide), Nat.zero_add]
    rfl

theorem idx_word : ∀ i : Fin 8, ∀ k : Fin 129,
    (Scalar.select (IntOp.cmpi .slt (IntOp.subi (IntOp.addi 128#32 (BitVec.ofNat 32 i.val)) (IntOp.muli 1#32 (BitVec.ofNat 32 k.val))) 0#32)
      (IntOp.addi (IntOp.subi (IntOp.addi 128#32 (BitVec.ofNat 32 i.val)) (IntOp.muli 1#32 (BitVec.ofNat 32 k.val))) 136#32)
      (IntOp.subi (IntOp.addi 128#32 (BitVec.ofNat 32 i.val)) (IntOp.muli 1#32 (BitVec.ofNat 32 k.val)))).toInt.toNat = 128 + i.val - 1 * k.val := by
  decide +kernel

theorem rem8 : ∀ r : Fin 64, IntOp.remsi .host (BitVec.ofNat 32 r.val) 8#32 = BitVec.ofNat 32 (r.val % 8) := by decide +kernel

theorem idx22 (r : Fin 64) (k : Fin 129) : (val_main_v22 (F := Ideal) (ix3 r k 0)).toInt.toNat = 128 + r.val % 8 - 1 * k.val := by
  rw [← idx_word ⟨r.val % 8, by omega⟩ k]
  simp only [← rem8]
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_c, val_main_c_0, val_main_c_1, val_main_c_2, val_main_c_3]

theorem idx29 (r : Fin 64) (k : Fin 129) : (val_main_v29 (F := Ideal) (ix3 r k 0)).toInt.toNat = 128 + r.val % 8 - 1 * k.val := by
  rw [← idx_word ⟨r.val % 8, by omega⟩ k]
  simp only [← rem8]
  pointwise [val_main_v29, val_main_v28, val_main_v27, val_main_v26, val_main_v25, val_main_v24, val_main_v16, val_main_v15, val_main_v14, val_main_v13, val_main_v12, val_main_v11, val_main_v10, val_main_v9, val_main_v8, val_main_v7, val_main_v6, val_main_v5, val_main_v4, val_main_c, val_main_c_0, val_main_c_1, val_main_c_4, val_main_c_5]

variable (x0 : (⟨S32x64x512, .bf16⟩ : BufTy).Contents (Elt Ideal)) (x1 x2 : (⟨S32x128x512, .f32⟩ : BufTy).Contents (Elt Ideal))
  (x3 x4 : (⟨S32x128x512, .f32⟩ : BufTy).Contents (Elt Ideal))

theorem v1_at (b : Fin 32) (j : Fin 136) (d : Fin 512) : val_main_v1 (F := Ideal) x1 x3 (ix3 b j d)
    = if h : j.val < 128 then x1 (ix3 b ⟨j.val, h⟩ d) else x3 (ix3 b ⟨j.val - 128, by omega⟩ d) := by
  pointwise [val_main_v1, val_main_v0]

theorem v3_at (b : Fin 32) (j : Fin 136) (d : Fin 512) : val_main_v3 (F := Ideal) x2 x4 (ix3 b j d)
    = if h : j.val < 128 then x2 (ix3 b ⟨j.val, h⟩ d) else x4 (ix3 b ⟨j.val - 128, by omega⟩ d) := by
  pointwise [val_main_v3, val_main_v2]

/-- Laid after one another and read at the positions 1 k before token `r`'s, buffer and new rows give what `pick` does. -/
theorem cat_pick (f : Fin 128 → EReal) (g : Fin 128 → EReal) (r : Fin 64) (k : Fin 129) (n : Fin 136)
    (hn : n.val = 128 + r.val % 8 - 1 * k.val) :
    (if h : n.val < 128 then f ⟨n.val, h⟩ else g ⟨n.val - 128, by omega⟩) = pick 128 1 (tok r) f g k := by
  have ht : (tok r).val = r.val % 8 := rfl
  unfold pick spot
  by_cases h : n.val < 128
  · rw [dif_pos h, dif_pos (show 128 + (tok r).val - 1 * k.val < 128 by omega)]
    exact congrArg f (Fin.ext hn)
  · rw [dif_neg h, dif_neg (show ¬ 128 + (tok r).val - 1 * k.val < 128 by omega)]
    exact congrArg g (Fin.ext (show n.val - 128 = 128 + (tok r).val - 1 * k.val - 128 by omega))

theorem v23_at (b : Fin 32) (r : Fin 64) (k : Fin 129) (d : Fin 512) : val_main_v23 (F := Ideal) x1 x3 (ix4 b r k d)
    = pick 128 1 (tok r) (fun j => x1 (ix3 b j d)) (fun j => x3 (ix3 b j d)) k := by
  unfold val_main_v23
  rw [gather_at, v1_at]
  refine cat_pick (fun j => x1 (ix3 b j d)) (fun j => x3 (ix3 b j d)) r k _ ?_
  show min _ 135 = _
  rw [idx22]
  omega

theorem v30_at (b : Fin 32) (r : Fin 64) (k : Fin 129) (d : Fin 512) : val_main_v30 (F := Ideal) x2 x4 (ix4 b r k d)
    = pick 128 1 (tok r) (fun j => x2 (ix3 b j d)) (fun j => x4 (ix3 b j d)) k := by
  unfold val_main_v30
  rw [gather_at, v3_at]
  refine cat_pick (fun j => x2 (ix3 b j d)) (fun j => x4 (ix3 b j d)) r k _ ?_
  show min _ 135 = _
  rw [idx29]
  omega

/-- The score of row `r` against a buffer key, -/
def zb (b : Fin 32) (r : Fin 64) (j : Fin 128) : EReal := ∑ x : Fin 512, x0 (ix3 b r x) * x1 (ix3 b j x)

/-- and against a new key. -/
def zn (b : Fin 32) (r : Fin 64) (j : Fin 128) : EReal := ∑ x : Fin 512, x0 (ix3 b r x) * x3 (ix3 b j x)

/-- The reference's scores of row `r`. -/
theorem v32_at (b : Fin 32) (r : Fin 64) (k : Fin 129) : val_main_v32 (F := Ideal) x0 x1 x3 (ix3 b r k)
    = pick 128 1 (tok r) (zb x0 x1 b r) (zn x0 x3 b r) k := by
  pointwise [val_main_v32, val_main_v31]
  simp only [v23_at]
  unfold pick
  rcases spot 128 1 (tok r) k with j | j <;> rfl

theorem cst_bot : val_main_cst (F := Ideal) (Shape.Idx.first h_S_) = (⊥ : EReal) := by
  show Ideal.ofBits .f32 0xFF800000#32 = ⊥
  simp [Ideal.ofBits, Ideal.ieee]

theorem cst_zero : val_main_cst_6 (F := Ideal) (Shape.Idx.first h_S_) = (0 : EReal) := by
  show Ideal.ofBits .f32 0x00000000#32 = 0
  simp

/-- The reference's largest score of a row. -/
def mxOf (b : Fin 32) (r : Fin 64) : EReal := Finset.univ.fold max ⊥ (pick 128 1 (tok r) (zb x0 x1 b r) (zn x0 x3 b r))

/-- The reference's log-sum-exp of a row. -/
def lseOf (b : Fin 32) (r : Fin 64) : EReal :=
  mxOf x0 x1 x3 b r + Ideal.log (∑ k, Ideal.exp (pick 128 1 (tok r) (zb x0 x1 b r) (zn x0 x3 b r) k - mxOf x0 x1 x3 b r))

theorem v33_at (b : Fin 32) (r : Fin 64) : val_main_v33 (F := Ideal) x0 x1 x3 (ix2 b r) = mxOf x0 x1 x3 b r := by
  pointwise [val_main_v33]
  simp only [v32_at, cst_bot]
  rfl

theorem v40_at (b : Fin 32) (r : Fin 64) : val_main_v40 (F := Ideal) x0 x1 x3 (ix2 b r) = lseOf x0 x1 x3 b r := by
  pointwise [val_main_v40, val_main_v39, val_main_v38, val_main_v37, val_main_v36, val_main_v35, val_main_v34]
  simp only [v32_at, v33_at, cst_zero, zero_add]
  rfl

/-- The reference's attention output; -/
theorem v45_at (b : Fin 32) (r : Fin 64) (d : Fin 512) : val_main_v45 (F := Ideal) x0 x1 x2 x3 x4 (ix3 b r d)
    = ∑ k, Ideal.exp (pick 128 1 (tok r) (zb x0 x1 b r) (zn x0 x3 b r) k - lseOf x0 x1 x3 b r)
        * pick 128 1 (tok r) (fun j => x2 (ix3 b j d)) (fun j => x4 (ix3 b j d)) k := by
  pointwise [val_main_v45, val_main_v44, val_main_v43, val_main_v42, val_main_v41]
  simp only [v32_at, v40_at, v30_at]

/-- its log-sum-exp, on every lane; -/
theorem v47_at (b : Fin 32) (r : Fin 64) (d : Fin 128) : val_main_v47 (F := Ideal) x0 x1 x3 (ix3 b r d) = lseOf x0 x1 x3 b r := by
  pointwise [val_main_v47, val_main_v46]
  exact v40_at x0 x1 x3 b r

/-- the buffer of keys moved on by the eight new ones; -/
theorem v48_at (b : Fin 32) (r : Fin 128) (d : Fin 512) : val_main_v48 (F := Ideal) x1 x3 (ix3 b r d)
    = if h : r.val < 120 then x1 (ix3 b ⟨r.val + 8, by omega⟩ d) else x3 (ix3 b ⟨r.val - 120, by omega⟩ d) := by
  pointwise [val_main_v48]
  rw [v1_at]
  by_cases h : r.val < 120
  · rw [dif_pos h, dif_pos (show 8 + r.val < 128 by omega)]
    exact congrArg (fun n => x1 (ix3 b n d)) (Fin.ext (show 8 + r.val = r.val + 8 by omega))
  · rw [dif_neg h, dif_neg (show ¬ 8 + r.val < 128 by omega)]
    exact congrArg (fun n => x3 (ix3 b n d)) (Fin.ext (show 8 + r.val - 128 = r.val - 120 by omega))

/-- and the buffer of values likewise. -/
theorem v49_at (b : Fin 32) (r : Fin 128) (d : Fin 512) : val_main_v49 (F := Ideal) x2 x4 (ix3 b r d)
    = if h : r.val < 120 then x2 (ix3 b ⟨r.val + 8, by omega⟩ d) else x4 (ix3 b ⟨r.val - 120, by omega⟩ d) := by
  pointwise [val_main_v49]
  rw [v3_at]
  by_cases h : r.val < 120
  · rw [dif_pos h, dif_pos (show 8 + r.val < 128 by omega)]
    exact congrArg (fun n => x2 (ix3 b n d)) (Fin.ext (show 8 + r.val = r.val + 8 by omega))
  · rw [dif_neg h, dif_neg (show ¬ 8 + r.val < 128 by omega)]
    exact congrArg (fun n => x4 (ix3 b n d)) (Fin.ext (show 8 + r.val - 128 = r.val - 120 by omega))

end Cert.Proof.DilRef8
-- ==== Proof.DilClaim8.lean ====
module

public import proofs.«01_k».proof.Defs
public import proofs.«01_k».proof.Proof.DilClaim
public import proofs.«01_k».proof.Proof.Gen.Kernel8.Frame
public import proofs.«01_k».proof.Proof.DilKer8
public import proofs.«01_k».proof.Proof.DilRef8
public import proofs.«01_k».proof.Proof.Gen.Pre_finite_qk_128
public import proofs.«01_k».proof.Proof.Gen.Reference8Ideal.Run
public import Idealize.ShloMosaic.Lib.ReduceAll
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.DilClaim8

open Cert.Proof.DilClaim (real_of_lt dot_real ex3)

/-! ## The precondition -/

section

variable (x0 : FVec Ideal Cert.Pre_finite_qk_128.S32x64x512 .bf16) (x1 x2 : FVec Ideal Cert.Pre_finite_qk_128.S32x128x512 .f32)
  (x3 x4 : FVec Ideal Cert.Pre_finite_qk_128.S32x128x512 .f32)

/-- What the precondition says: queries, buffered and new keys are real. -/
theorem pre_real (h : Cert.Pre_finite_qk_128.fn (F := Ideal) x0 x1 x2 x3 x4 = fun _ => 1#1) :
    (∀ i, ∃ r : ℝ, x0 i = r) ∧ (∀ i, ∃ r : ℝ, x1 i = r) ∧ (∀ i, ∃ r : ℝ, x3 i = r) := by
  have h0 := congrFun h (fun a => a.elim0)
  unfold Cert.Pre_finite_qk_128.fn at h0
  simp only at h0
  have hand : ∀ a b : BitVec 1, IntOp.andi a b = 1#1 → a = 1#1 ∧ b = 1#1 := by decide
  obtain ⟨h1, h3⟩ := hand _ _ h0
  obtain ⟨h1, h2⟩ := hand _ _ h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end

/-! ## The claim -/

section

open Cert.Kernel8Ideal Cert.Kernel8Ideal.Gen

variable (m : (ℓ : Loc nD τ sig) → Buf (Elt Ideal) ℓ) (m' : (ℓ : Loc Cert.Reference8Ideal.nD Cert.Reference8Ideal.τ Cert.Reference8Ideal.sig) → Buf (Elt Ideal) ℓ)

/-- The five arguments of the kernel, on a device. -/
abbrev A0 (c : Dev nD) : S32x64x512.Idx → EReal := m ((c.tc : Thread nD τ).loc main_arg0)
abbrev A1 (c : Dev nD) : S32x128x512.Idx → EReal := m ((c.tc : Thread nD τ).loc main_arg1)
abbrev A2 (c : Dev nD) : S32x128x512.Idx → EReal := m ((c.tc : Thread nD τ).loc main_arg2)
abbrev A3 (c : Dev nD) : S32x128x512.Idx → EReal := m ((c.tc : Thread nD τ).loc main_arg3)
abbrev A4 (c : Dev nD) : S32x128x512.Idx → EReal := m ((c.tc : Thread nD τ).loc main_arg4)

/-- The scores of a point's blocks are the scores of the arguments' sequence. -/
theorem zb_eq (c : Dev nD) (b : Fin 32) (r : Fin 64) :
    DilKer8.zb (iblk m c 0 ⟨b.val, DilKer8.N32 b⟩) (iblk m c 1 ⟨b.val, DilKer8.N32 b⟩) r = DilRef8.zb (A0 m c) (A1 m c) b r := by
  funext j
  unfold DilKer8.zb DilRef8.zb
  refine Finset.sum_congr rfl fun x _ => ?_
  rw [DilKer8.ib0, DilKer8.ib1]

theorem zn_eq (c : Dev nD) (b : Fin 32) (r : Fin 64) :
    DilKer8.zn (iblk m c 0 ⟨b.val, DilKer8.N32 b⟩) (iblk m c 3 ⟨b.val, DilKer8.N32 b⟩) r = DilRef8.zn (A0 m c) (A3 m c) b r := by
  funext j
  unfold DilKer8.zn DilRef8.zn
  refine Finset.sum_congr rfl fun x _ => ?_
  rw [DilKer8.ib0, DilKer8.ib3]

theorem lse_eq (c : Dev nD) (b : Fin 32) (r : Fin 64) :
    DilKer8.mxOf (iblk m c 0 ⟨b.val, DilKer8.N32 b⟩) (iblk m c 1 ⟨b.val, DilKer8.N32 b⟩) (iblk m c 3 ⟨b.val, DilKer8.N32 b⟩) r
      + Ideal.log (DilKer8.denOf (iblk m c 0 ⟨b.val, DilKer8.N32 b⟩) (iblk m c 1 ⟨b.val, DilKer8.N32 b⟩) (iblk m c 3 ⟨b.val, DilKer8.N32 b⟩) r)
      = DilRef8.lseOf (A0 m c) (A1 m c) (A3 m c) b r := by
  unfold DilKer8.denOf DilKer8.mxOf
  rw [zb_eq, zn_eq]
  rfl

/-- The kernel's attention output is the reference's. -/
theorem res0 (c : Dev nD) (h0 : ∀ i, ∃ r : ℝ, A0 m c i = r) (h1 : ∀ i, ∃ r : ℝ, A1 m c i = r) (h3 : ∀ i, ∃ r : ℝ, A3 m c i = r) :
    (dats m 0 c).arrAt 5 cfg0.N = Cert.Reference8Ideal.Read.val_main_v45 (F := Ideal) (A0 m c) (A1 m c) (A2 m c) (A3 m c) (A4 m c) := by
  funext i
  obtain ⟨b, r, d, rfl⟩ := ex3 i
  refine (DilKer8.arr5 m c b r d).trans (Eq.trans ?_ (DilRef8.v45_at _ _ _ _ _ b r d).symm)
  rw [DilKer8.o_at, lse_eq, zb_eq, zn_eq]
  · simp only [DilKer8.ib2, DilKer8.ib4]
  · intro j
    rw [zb_eq]
    exact dot_real _ _ (fun x => h0 _) (fun x => h1 _)
  · intro j
    rw [zn_eq]
    exact dot_real _ _ (fun x => h0 _) (fun x => h3 _)

/-- Its log-sum-exp is the reference's. -/
theorem res1 (c : Dev nD) :
    (dats m 0 c).arrAt 6 cfg0.N = Cert.Reference8Ideal.Read.val_main_v47 (F := Ideal) (A0 m c) (A1 m c) (A3 m c) := by
  funext i
  obtain ⟨b, r, d, rfl⟩ := ex3 i
  refine (DilKer8.arr6 m c b r d).trans (Eq.trans ?_ (DilRef8.v47_at _ _ _ b r d).symm)
  rw [DilKer8.l_at, lse_eq]

/-- The moved-on buffers are the reference's. -/
theorem res2 (c : Dev nD) :
    (dats m 0 c).arrAt 7 cfg0.N = Cert.Reference8Ideal.Read.val_main_v48 (F := Ideal) (A1 m c) (A3 m c) := by
  funext i
  obtain ⟨b, r, d, rfl⟩ := ex3 i
  exact (DilKer8.arr7 m c b r d).trans (DilRef8.v48_at _ _ b r d).symm

theorem res3 (c : Dev nD) :
    (dats m 0 c).arrAt 8 cfg0.N = Cert.Reference8Ideal.Read.val_main_v49 (F := Ideal) (A2 m c) (A4 m c) := by
  funext i
  obtain ⟨b, r, d, rfl⟩ := ex3 i
  exact (DilKer8.arr8 m c b r d).trans (DilRef8.v49_at _ _ b r d).symm

end

theorem frame_p : Cert.quiescent_Kernel8 := fun m ρ _ => Cert.Kernel8.Gen.frame m ρ
theorem frame_pi : Cert.quiescent_Kernel8Ideal := fun m ρ _ => Cert.Kernel8Ideal.Gen.frame m ρ
theorem frame_pi_pre : Cert.quiescent_Kernel8Ideal_pre_finite_qk_128 := fun m ρ _ => Cert.Kernel8Ideal.Gen.frame m ρ

theorem frame_ri : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)
theorem frame_ri_pre : Cert.quiescent_Reference8Ideal_pre_finite_qk_128 := fun m ρ _ => frame_ri m ρ trivial

/-- On finite queries and keys the kernel's four result arrays are the reference's. -/
theorem algebraic : Cert.algebraic_Kernel8Ideal_Reference8Ideal_pre_finite_qk_128 := by
  intro m ρ m' ρ' hpre hagree
  have hr := fun c => pre_real _ _ _ _ _ (hpre c)
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N,
    fun c => (Cert.Kernel8Ideal.Gen.dats m 0 c).arrAt 7 Cert.Kernel8Ideal.cfg0.N, fun c => (Cert.Kernel8Ideal.Gen.dats m 0 c).arrAt 8 Cert.Kernel8Ideal.cfg0.N,
    Cert.Kernel8Ideal.Value.run_blocks m ρ, ?_⟩
  refine (θ_run Cert.Reference8Ideal.defs _ _).mono
    (fun _ h c => ⟨(h c).1.trans ?_, (h c).2.1.trans ?_, (h c).2.2.1.trans ?_, (h c).2.2.2.1.trans ?_, (h c).2.2.2.2⟩)
    (Cert.Reference8Ideal.Value.run (F := Ideal) m' ρ')
  · rw [Cert.Reference8Ideal.Read.val_main_v45_eq, (hagree c).1, (hagree c).2.1, (hagree c).2.2.1, (hagree c).2.2.2.1, (hagree c).2.2.2.2]
    exact (res0 m c (hr c).1 (hr c).2.1 (hr c).2.2).symm
  · rw [Cert.Reference8Ideal.Read.val_main_v47_eq, (hagree c).1, (hagree c).2.1, (hagree c).2.2.2.1]
    exact (res1 m c).symm
  · rw [(hagree c).2.1, (hagree c).2.2.2.1]
    exact (res2 m c).symm
  · rw [(hagree c).2.2.1, (hagree c).2.2.2.2]
    exact (res3 m c).symm

end Cert.Proof.DilClaim8
-- ==== Proof.ProjRef.lean ====
module

public import proofs.«01_k».proof.Proof.Gen.Reference9Ideal.Read
public import proofs.«01_k».proof.Proof.FfnRef
public import Idealize.ShloMosaic.Lib.Pointwise

@[expose] public section

set_option maxRecDepth 16384

/-! The first layer's output projection with its residual and layer norm, as the reference writes it, entry by entry. -/

noncomputable section

open Idealize.ShloMosaic

namespace ProjRef

open FfnRef

/-- A row's product with the matrix, by the two halves of the row. -/
def halves (y o : Fin 512 → EReal) (w : Fin 1024 → EReal) : EReal :=
  (∑ e : Fin 512, y e * w ⟨e.val, by omega⟩) + ∑ e : Fin 512, o e * w ⟨512 + e.val, by omega⟩

/-- A sum over a joined row is the sum over its halves. -/
theorem sum_halves (z : Fin 1024 → EReal) (y o : Fin 512 → EReal) (w : Fin 1024 → EReal)
    (hy : ∀ e : Fin 512, z ⟨e.val, by omega⟩ = y e) (ho : ∀ e : Fin 512, z ⟨512 + e.val, by omega⟩ = o e) :
    ∑ d : Fin 1024, z d * w d = halves y o w := by
  unfold halves
  refine (Fin.sum_univ_add (a := 512) (b := 512) (fun d : Fin 1024 => z d * w d)).trans ?_
  refine congrArg₂ (· + ·) (Finset.sum_congr rfl fun e _ => ?_) (Finset.sum_congr rfl fun e _ => ?_)
  · exact congrArg (· * w ⟨e.val, by omega⟩) (hy e)
  · exact congrArg (· * w ⟨512 + e.val, by omega⟩) (ho e)

section

open Cert.Reference9Ideal Cert.Reference9Ideal.Gen Cert.Reference9Ideal.Read

variable (x0 x1 : (⟨S16384x512, .f32⟩ : BufTy).Contents (Elt Ideal)) (x2 : (⟨S16384x1024, .f32⟩ : BufTy).Contents (Elt Ideal))
  (x3 : (⟨S1x1024x1024, .f32⟩ : BufTy).Contents (Elt Ideal)) (x4 x5 : (⟨S1x1024, .f32⟩ : BufTy).Contents (Elt Ideal))

/-- The joined row's first half -/
theorem left_at (q : Fin 16384) (e : Fin 512) : val_main_v0 x0 x1 (ix2 q (⟨e.val, by omega⟩ : Fin 1024)) = x0 (ix2 q e) := by
  have := e.isLt
  pointwise [val_main_v0]
/-- and its second. -/
theorem right_at (q : Fin 16384) (e : Fin 512) : val_main_v0 x0 x1 (ix2 q (⟨512 + e.val, by omega⟩ : Fin 1024)) = x1 (ix2 q e) := by
  have := e.isLt
  pointwise [val_main_v0]

/-- The projection. -/
theorem proj_at (q : Fin 16384) (k : Fin 1024) : val_main_v2 x0 x1 x3 (ix2 q k)
    = halves (fun e => x0 (ix2 q e)) (fun e => x1 (ix2 q e)) (fun d => x3 (ix3 0 d k)) := by
  refine Eq.trans ?_ (sum_halves (fun d => val_main_v0 x0 x1 (ix2 q d)) _ _ (fun d => x3 (ix3 0 d k)) (left_at x0 x1 q) (right_at x0 x1 q))
  unfold val_main_v2
  generalize val_main_v0 x0 x1 = y
  pointwise [val_main_v1]

/-- The result, over the projection. -/
theorem ln_at (q : Fin 16384) (k : Fin 1024) : val_main_v31 x0 x1 x2 x3 x4 x5 (ix2 q k)
    = lnorm (fun j => resid (x2 (ix2 q j)) (val_main_v2 x0 x1 x3 (ix2 q j))) (x4 (ix2 0 k)) (x5 (ix2 0 k)) k := by
  unfold val_main_v31 val_main_v28 val_main_v25 val_main_v24 val_main_v23 val_main_v22 val_main_v20 val_main_v19 val_main_v18 val_main_v16 val_main_v15 val_main_v14 val_main_v13 val_main_v12 val_main_v11 val_main_v9 val_main_v8 val_main_v5
  generalize val_main_v2 x0 x1 x3 = y
  pointwise [val_main_v4, val_main_v3, val_main_cst, val_main_v6, val_main_v7, val_main_v10, val_main_cst_1, val_main_v17, val_main_cst_3, val_main_v21, val_main_cst_4, val_main_v26, val_main_v27, val_main_v29, val_main_v30, val_main_cst_0, val_main_cst_2]
  rfl

/-- The result, from the arguments. -/
theorem out_at (q : Fin 16384) (k : Fin 1024) : val_main_v31 x0 x1 x2 x3 x4 x5 (ix2 q k)
    = lnorm (fun j => resid (x2 (ix2 q j)) (halves (fun e => x0 (ix2 q e)) (fun e => x1 (ix2 q e)) (fun d => x3 (ix3 0 d j))))
      (x4 (ix2 0 k)) (x5 (ix2 0 k)) k := by
  rw [ln_at]
  exact congrArg (fun z => lnorm z (x4 (ix2 0 k)) (x5 (ix2 0 k)) k) (funext fun j => congrArg (resid (x2 (ix2 q j))) (proj_at x0 x1 x3 q j))

end

end ProjRef

end
-- ==== Proof.ProjKer.lean ====
module

public import proofs.«01_k».proof.Proof.Gen.Kernel9Ideal.Value
public import proofs.«01_k».proof.Proof.ProjRef
public import Idealize.ShloMosaic.Lib.Pipeline.Value
public import Idealize.ShloMosaic.Lib.Pipeline.ValueKit
public import Idealize.ShloMosaic.Lib.Pipeline.ReadBack

@[expose] public section

set_option maxRecDepth 16384

/-! The first layer's output projection call, entry by entry: each grid point projects, adds and normalises its own rows. -/

noncomputable section

open Idealize.ShloMosaic Idealize.ShloMosaic.TcCoe Idealize.SL.Sem
open Idealize.ShloMosaic.Pipeline (Dat)

namespace ProjKer

open Cert.Kernel9Ideal Cert.Kernel9Ideal.Gen FfnRef ProjRef

/-! ## The body -/

/-- A block's product, by halves. -/
def prod (x : Vec Ideal S512x512 .f32) (w : Vec Ideal S512x1024 .bf16) (y : Vec Ideal S512x512 .f32) (v : Vec Ideal S512x1024 .bf16) (r : Fin 512) (j : Fin 1024) : EReal :=
  (∑ e : Fin 512, x (ix2 r e) * w (ix2 e j)) + ∑ e : Fin 512, y (ix2 r e) * v (ix2 e j)

/-- What the body stores. -/
theorem body_at (x : Vec Ideal S512x512 .f32) (w : Vec Ideal S512x1024 .bf16) (y : Vec Ideal S512x512 .f32) (v : Vec Ideal S512x1024 .bf16)
    (a : Vec Ideal S512x1024 .f32) (g b : Vec Ideal S1x1024 .f32) (r : Fin 512) (k : Fin 1024) :
    k0_pay1 (F := Ideal) (k0_pay2 b) (k0_pay3 x w y v a g) (ix2 r k)
      = lnorm (fun j => resid (a (ix2 r j)) (prod x w y v r j)) (g (ix2 0 k)) (b (ix2 0 k)) k := by
  pointwise [k0_pay1, k0_pay2, k0_pay3]
  rfl

variable (m : (ℓ : Loc nD τ sig) → Buf (Elt Ideal) ℓ) (c : Dev nD)

/-! ## The arrays the region finds -/

abbrev Y : S16384x512.Idx → EReal := V m c main_arg0
abbrev O : S16384x512.Idx → EReal := V m c main_arg1
abbrev W1 : S512x1024.Idx → EReal := V m c main_v6
abbrev W2 : S512x1024.Idx → EReal := V m c main_v7
abbrev X : S16384x1024.Idx → EReal := V m c main_arg2
abbrev G : S1x1024.Idx → EReal := V m c main_v3
abbrev B : S1x1024.Idx → EReal := V m c main_v5

theorem idx0 : ∀ t : Fin grid0.N, cc0_transform_0 (grid0.coords t) 0 = t.val := by decide +kernel
theorem idx1 : ∀ t : Fin grid0.N, cc0_transform_1 (grid0.coords t) 0 = t.val := by decide +kernel
theorem idx4 : ∀ t : Fin grid0.N, cc0_transform_4 (grid0.coords t) 0 = t.val := by decide +kernel
theorem idx7 : ∀ t : Fin grid0.N, cc0_transform_7 (grid0.coords t) 0 = t.val := by decide +kernel

theorem blk0 (t : Fin cfg0.N) (r e : Fin 512) (q : Fin 16384) (hq : q.val = 512 * t.val + r.val) : iblk m c 0 t (ix2 r e) = Y m c (ix2 q e) := by
  unfold iblk
  refine congrArg (V m c main_arg0) ?_
  funext a; apply Fin.ext
  match a with
  | ⟨0, _⟩ => show cc0_transform_0 (grid0.coords t) 0 * 512 + 1 * r.val = q.val; rw [idx0]; omega
  | ⟨1, _⟩ => show 0 * 512 + 1 * e.val = e.val; omega
theorem blk1 (t : Fin cfg0.N) (r e : Fin 512) (q : Fin 16384) (hq : q.val = 512 * t.val + r.val) : iblk m c 1 t (ix2 r e) = O m c (ix2 q e) := by
  unfold iblk
  refine congrArg (V m c main_arg1) ?_
  funext a; apply Fin.ext
  match a with
  | ⟨0, _⟩ => show cc0_transform_1 (grid0.coords t) 0 * 512 + 1 * r.val = q.val; rw [idx1]; omega
  | ⟨1, _⟩ => show 0 * 512 + 1 * e.val = e.val; omega
theorem blk2 (t : Fin cfg0.N) (e : Fin 512) (k : Fin 1024) : iblk m c 2 t (ix2 e k) = W1 m c (ix2 e k) := by
  unfold iblk
  refine congrArg (V m c main_v6) ?_
  funext a; apply Fin.ext
  match a with
  | ⟨0, _⟩ => show 0 * 512 + 1 * e.val = e.val; omega
  | ⟨1, _⟩ => show 0 * 1024 + 1 * k.val = k.val; omega
theorem blk3 (t : Fin cfg0.N) (e : Fin 512) (k : Fin 1024) : iblk m c 3 t (ix2 e k) = W2 m c (ix2 e k) := by
  unfold iblk
  refine congrArg (V m c main_v7) ?_
  funext a; apply Fin.ext
  match a with
  | ⟨0, _⟩ => show 0 * 512 + 1 * e.val = e.val; omega
  | ⟨1, _⟩ => show 0 * 1024 + 1 * k.val = k.val; omega
theorem blk4 (t : Fin cfg0.N) (r : Fin 512) (k : Fin 1024) (q : Fin 16384) (hq : q.val = 512 * t.val + r.val) : iblk m c 4 t (ix2 r k) = X m c (ix2 q k) := by
  unfold iblk
  refine congrArg (V m c main_arg2) ?_
  funext a; apply Fin.ext
  match a with
  | ⟨0, _⟩ => show cc0_transform_4 (grid0.coords t) 0 * 512 + 1 * r.val = q.val; rw [idx4]; omega
  | ⟨1, _⟩ => show 0 * 1024 + 1 * k.val = k.val; omega
theorem blk5 (t : Fin cfg0.N) (k : Fin 1024) : iblk m c 5 t (ix2 0 k) = G m c (ix2 0 k) := by
  unfold iblk
  refine congrArg (V m c main_v3) ?_
  funext a; apply Fin.ext
  match a with
  | ⟨0, _⟩ => rfl
  | ⟨1, _⟩ => show 0 * 1024 + 1 * k.val = k.val; omega
theorem blk6 (t : Fin cfg0.N) (k : Fin 1024) : iblk m c 6 t (ix2 0 k) = B m c (ix2 0 k) := by
  unfold iblk
  refine congrArg (V m c main_v5) ?_
  funext a; apply Fin.ext
  match a with
  | ⟨0, _⟩ => rfl
  | ⟨1, _⟩ => show 0 * 1024 + 1 * k.val = k.val; omega

/-! ## The result -/

/-- One row of what the layer norm reads. -/
def row (q : Fin 16384) : Fin 1024 → EReal := fun j => resid (X m c (ix2 q j))
  ((∑ e : Fin 512, Y m c (ix2 q e) * W1 m c (ix2 e j)) + ∑ e : Fin 512, O m c (ix2 q e) * W2 m c (ix2 e j))

/-- The result array. -/
def out : S16384x1024.Idx → EReal := fun x => lnorm (row m c (x 0)) (G m c (ix2 0 (x 1))) (B m c (ix2 0 (x 1))) (x 1)

/-- What a point leaves. -/
theorem point_at (t : Fin cfg0.N) (r : Fin 512) (k : Fin 1024) (q : Fin 16384) (hq : q.val = 512 * t.val + r.val) :
    out0_7 (iblk m c 0 t) (iblk m c 1 t) (iblk m c 2 t) (iblk m c 3 t) (iblk m c 4 t) (iblk m c 5 t) (iblk m c 6 t) (ix2 r k) = out m c (ix2 q k) := by
  have e : out0_7 (iblk m c 0 t) (iblk m c 1 t) (iblk m c 2 t) (iblk m c 3 t) (iblk m c 4 t) (iblk m c 5 t) (iblk m c 6 t)
      = k0_pay1 (k0_pay2 (iblk m c 6 t)) (k0_pay3 (iblk m c 0 t) (iblk m c 2 t) (iblk m c 1 t) (iblk m c 3 t) (iblk m c 4 t) (iblk m c 5 t)) := by
    frame_out
  rw [e]
  refine (body_at (iblk m c 0 t) (iblk m c 2 t) (iblk m c 1 t) (iblk m c 3 t) (iblk m c 4 t) (iblk m c 5 t) (iblk m c 6 t) r k).trans ?_
  rw [blk5, blk6]
  refine congrArg (fun z => lnorm z (G m c (ix2 0 k)) (B m c (ix2 0 k)) k) (funext fun j => ?_)
  refine congrArg₂ resid (blk4 m c t r j q hq) ?_
  exact congrArg₂ (· + ·) (Finset.sum_congr rfl fun e _ => congrArg₂ (· * ·) (blk0 m c t r e q hq) (blk2 m c t e j))
    (Finset.sum_congr rfl fun e _ => congrArg₂ (· * ·) (blk1 m c t r e q hq) (blk3 m c t e j))

/-- What the region leaves in its result. -/
theorem final : (dats m 0 c).arrAt 7 cfg0.N = out m c := by
  refine (dats m 0 c).arrAt_eq_of_emb 7 (out m c) (fun t hf (y : S512x1024.Idx) => ?_) (fun (x : S16384x1024.Idx) => ?_)
  · have ht : t.val < 32 := Nat.lt_of_lt_of_eq t.isLt N_0
    have hy0 : (y 0).val < 512 := (y 0).isLt
    have he : ((cfg0.win 7).blk t).view.emb y = ix2 (⟨512 * t.val + (y 0).val, by omega⟩ : Fin 16384) (y 1) := by
      funext a; apply Fin.ext
      match a with
      | ⟨0, _⟩ =>
        show cc0_transform_7 (grid0.coords t) 0 * 512 + 1 * (y 0).val = 512 * t.val + (y 0).val
        rw [idx7]; omega
      | ⟨1, _⟩ => show 0 * 1024 + 1 * (y 1).val = (y 1).val; omega
    rw [he]
    refine (congrFun (after0_7 m c t) y).trans ?_
    refine (congrArg (out0_7 (iblk m c 0 t) (iblk m c 1 t) (iblk m c 2 t) (iblk m c 3 t) (iblk m c 4 t) (iblk m c 5 t) (iblk m c 6 t)) (eq_ix2 y)).trans ?_
    exact point_at m c t (y 0) (y 1) _ rfl
  · have hx0 : (x 0).val < 16384 := (x 0).isLt
    have hx1 : (x 1).val < 1024 := (x 1).isLt
    obtain ⟨t, ht⟩ : ∃ t : Fin cfg0.N, t.val = (x 0).val / 512 :=
      ⟨⟨(x 0).val / 512, Nat.lt_of_lt_of_eq (by omega) N_0.symm⟩, rfl⟩
    have hx : ((cfg0.win 7).blk t).view.emb (ix2 (⟨(x 0).val % 512, by omega⟩ : Fin 512) (⟨(x 1).val, hx1⟩ : Fin 1024) : S512x1024.Idx) = x := by
      funext a; apply Fin.ext
      match a with
      | ⟨0, _⟩ =>
        show cc0_transform_7 (grid0.coords t) 0 * 512 + 1 * ((x 0).val % 512) = (x 0).val
        rw [idx7]; omega
      | ⟨1, _⟩ => show 0 * 1024 + 1 * (x 1).val = (x 1).val; omega
    refine ⟨t, flush0_7 t, ?_⟩
    rw [← hx]; exact View.emb_mem_set _ _

/-! ## The arrays, from the arguments -/

theorem Y_eq (x : S16384x512.Idx → EReal) (hx : x = m ((c.tc : Thread nD τ).loc main_arg0)) : Y m c = x := by
  subst hx
  exact V_main_arg0 m c
theorem O_eq (x : S16384x512.Idx → EReal) (hx : x = m ((c.tc : Thread nD τ).loc main_arg1)) : O m c = x := by
  subst hx
  exact V_main_arg1 m c
theorem X_eq (x : S16384x1024.Idx → EReal) (hx : x = m ((c.tc : Thread nD τ).loc main_arg2)) : X m c = x := by
  subst hx
  exact V_main_arg2 m c
theorem W1_at (w : S1x1024x1024.Idx → EReal) (hw : w = m ((c.tc : Thread nD τ).loc main_arg3)) (e : Fin 512) (k : Fin 1024) :
    W1 m c (ix2 e k) = w (ix3 0 (⟨e.val, by omega⟩ : Fin 1024) k) := by
  have h : W1 m c = extractStridedSlice S512x1024 ![0, 0] (truncf (F := Ideal) .bf16 (shapeCast S1024x1024 w shapeCasts_S1x1024x1024_S1024x1024) bitsLt_bf16_f32)
      slices_S1024x1024_S512x1024_0_0 := by
    subst hw
    unfold W1 V
    after_results
    rfl
  rw [h]
  pointwise []
theorem W2_at (w : S1x1024x1024.Idx → EReal) (hw : w = m ((c.tc : Thread nD τ).loc main_arg3)) (e : Fin 512) (k : Fin 1024) :
    W2 m c (ix2 e k) = w (ix3 0 (⟨512 + e.val, by omega⟩ : Fin 1024) k) := by
  have h : W2 m c = extractStridedSlice S512x1024 ![512, 0] (truncf (F := Ideal) .bf16 (shapeCast S1024x1024 w shapeCasts_S1x1024x1024_S1024x1024) bitsLt_bf16_f32)
      slices_S1024x1024_S512x1024_512_0 := by
    subst hw
    unfold W2 V
    after_results
    rfl
  rw [h]
  pointwise []
theorem G_at (w : S1x1024.Idx → EReal) (hw : w = m ((c.tc : Thread nD τ).loc main_arg4)) (k : Fin 1024) : G m c (ix2 0 k) = w (ix2 0 k) := by
  have h : G m c = shapeCast S1x1024 (shapeCast S1024 w shapeCasts_S1x1024_S1024) shapeCasts_S1024_S1x1024 := by
    subst hw
    unfold G V
    after_results
    rfl
  rw [h]
  pointwise []
theorem B_at (w : S1x1024.Idx → EReal) (hw : w = m ((c.tc : Thread nD τ).loc main_arg5)) (k : Fin 1024) : B m c (ix2 0 k) = w (ix2 0 k) := by
  have h : B m c = shapeCast S1x1024 (shapeCast S1024 w shapeCasts_S1x1024_S1024) shapeCasts_S1024_S1x1024 := by
    subst hw
    unfold B V
    after_results
    rfl
  rw [h]
  pointwise []

/-- The result from the arguments. -/
theorem out_at (y : S16384x512.Idx → EReal) (hy : y = m ((c.tc : Thread nD τ).loc main_arg0)) (o : S16384x512.Idx → EReal) (ho : o = m ((c.tc : Thread nD τ).loc main_arg1))
    (x : S16384x1024.Idx → EReal) (hx : x = m ((c.tc : Thread nD τ).loc main_arg2)) (w : S1x1024x1024.Idx → EReal) (hw : w = m ((c.tc : Thread nD τ).loc main_arg3))
    (g : S1x1024.Idx → EReal) (hg : g = m ((c.tc : Thread nD τ).loc main_arg4)) (b : S1x1024.Idx → EReal) (hb : b = m ((c.tc : Thread nD τ).loc main_arg5))
    (q : Fin 16384) (k : Fin 1024) : out m c (ix2 q k)
      = lnorm (fun j => resid (x (ix2 q j)) (halves (fun e => y (ix2 q e)) (fun e => o (ix2 q e)) (fun d => w (ix3 0 d j))))
        (g (ix2 0 k)) (b (ix2 0 k)) k := by
  show lnorm (row m c q) (G m c (ix2 0 k)) (B m c (ix2 0 k)) k = _
  unfold row halves
  simp only [Y_eq m c y hy, O_eq m c o ho, X_eq m c x hx, W1_at m c w hw, W2_at m c w hw, G_at m c g hg, B_at m c b hb]

end ProjKer

end
-- ==== Proof.ProjClaim.lean ====
module

public import proofs.«01_k».proof.Defs
public import proofs.«01_k».proof.Proof.ProjKer
public import proofs.«01_k».proof.Proof.Gen.Kernel9.Frame
public import proofs.«01_k».proof.Proof.Gen.Reference9Ideal.Run
public import Idealize.ShloMosaic.Lib.Quiescent

@[expose] public section

set_option maxRecDepth 16384

/-! What is claimed of the output projection of the first layer. -/

noncomputable section

open Idealize.ShloMosaic Idealize.ShloMosaic.TcCoe Idealize.SL.Sem

namespace ProjClaim

/-- The machine's program runs, keeps its arguments and leaves every counter at zero. -/
theorem frame_p : Cert.quiescent_Kernel9 := fun m ρ _ => Cert.Kernel9.Gen.frame m ρ
/-- So does the program over the extended reals, -/
theorem frame_pi : Cert.quiescent_Kernel9Ideal := fun m ρ _ => Cert.Kernel9Ideal.Gen.frame m ρ
/-- and the reference. -/
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

section

open Cert.Kernel9Ideal Cert.Kernel9Ideal.Gen

variable (m : (ℓ : Loc nD τ sig) → Buf (Elt Ideal) ℓ) (c : Dev nD)

/-- The arguments. -/
abbrev A0 : S16384x512.Idx → EReal := m ((c.tc : Thread nD τ).loc main_arg0)
abbrev A1 : S16384x512.Idx → EReal := m ((c.tc : Thread nD τ).loc main_arg1)
abbrev A2 : S16384x1024.Idx → EReal := m ((c.tc : Thread nD τ).loc main_arg2)
abbrev A3 : S1x1024x1024.Idx → EReal := m ((c.tc : Thread nD τ).loc main_arg3)
abbrev A4 : S1x1024.Idx → EReal := m ((c.tc : Thread nD τ).loc main_arg4)
abbrev A5 : S1x1024.Idx → EReal := m ((c.tc : Thread nD τ).loc main_arg5)

/-- The kernel's result array is the reference's. -/
theorem res : (dats m 0 c).arrAt 7 cfg0.N
    = Cert.Reference9Ideal.Read.val_main_v31 (F := Ideal) (A0 m c) (A1 m c) (A2 m c) (A3 m c) (A4 m c) (A5 m c) := by
  rw [ProjKer.final]
  funext (x : S16384x1024.Idx)
  obtain ⟨q, k, rfl⟩ : ∃ q k, x = ix2 q k := ⟨x 0, x 1, eq_ix2 x⟩
  exact (ProjKer.out_at m c (A0 m c) rfl (A1 m c) rfl (A2 m c) rfl (A3 m c) rfl (A4 m c) rfl (A5 m c) rfl q k).trans
    (ProjRef.out_at (A0 m c) (A1 m c) (A2 m c) (A3 m c) (A4 m c) (A5 m c) q k).symm

end

/-- The kernel and the reference leave one result. -/
theorem algebraic : Cert.algebraic_Kernel9Ideal_Reference9Ideal := by
  intro m ρ m' ρ' _ hagree
  refine ⟨fun c => (Cert.Kernel9Ideal.Gen.dats m 0 c).arrAt 7 Cert.Kernel9Ideal.cfg0.N, Cert.Kernel9Ideal.Value.run_blocks m ρ, ?_⟩
  refine (θ_run Cert.Reference9Ideal.defs _ _).mono (fun _ h c => ⟨(h c).1.trans ?_, (h c).2⟩) (Cert.Reference9Ideal.Value.run (F := Ideal) m' ρ')
  rw [Cert.Reference9Ideal.Read.val_main_v31_eq, (hagree c).1, (hagree c).2.1, (hagree c).2.2.1, (hagree c).2.2.2.1, (hagree c).2.2.2.2.1, (hagree c).2.2.2.2.2]
  exact (res m c).symm

end ProjClaim

end
-- ==== Proof.MergeRef.lean ====
module

public import proofs.«01_k».proof.Proof.Gen.Reference10Ideal.Read
public import proofs.«01_k».proof.Proof.FfnRef
public import Idealize.ShloMosaic.Lib.Pointwise

@[expose] public section

set_option maxRecDepth 16384

/-! The dilated layer's output projection: the three groups' outputs weighed by a softmax over their log-sum-exps, projected,
    added to the scaled residual and normalised, as the reference writes it, entry by entry. -/

noncomputable section

open Idealize.ShloMosaic

namespace MergeRef

open FfnRef

/-- The largest of three. -/
def top (a b c : EReal) : EReal := max (max a b) c

/-- Three exponentials' sum. -/
def den (a b c : EReal) : EReal := Ideal.exp (a - top a b c) + Ideal.exp (b - top a b c) + Ideal.exp (c - top a b c)

/-- Three values, each weighed by its share. -/
def weighed (a b c x y z : EReal) : EReal := Ideal.div (Ideal.exp (a - top a b c)) (den a b c) * x
  + Ideal.div (Ideal.exp (b - top a b c)) (den a b c) * y + Ideal.div (Ideal.exp (c - top a b c)) (den a b c) * z

/-- The same with one division at the end. -/
def merged (a b c x y z : EReal) : EReal :=
  Ideal.div (Ideal.exp (a - top a b c) * x + Ideal.exp (b - top a b c) * y + Ideal.exp (c - top a b c) * z) (den a b c)

/-- For finite scores the two are one; the values may be infinite. -/
theorem merged_eq (a b c x y z : EReal) (ha : ∃ r : ℝ, a = r) (hb : ∃ r : ℝ, b = r) (hc : ∃ r : ℝ, c = r) :
    merged a b c x y z = weighed a b c x y z := by
  obtain ⟨a, rfl⟩ := ha
  obtain ⟨b, rfl⟩ := hb
  obtain ⟨c, rfl⟩ := hc
  have ht : top (a : EReal) b c = ((max (max a b) c : ℝ) : EReal) := by
    unfold top
    rw [EReal.coe_strictMono.monotone.map_max, EReal.coe_strictMono.monotone.map_max]
  unfold merged weighed den
  rw [ht]
  generalize max (max a b) c = t
  rw [← EReal.coe_sub, ← EReal.coe_sub, ← EReal.coe_sub, Ideal.exp_coe, Ideal.exp_coe, Ideal.exp_coe, ← EReal.coe_add, ← EReal.coe_add]
  have hp : 0 < Real.exp (a - t) + Real.exp (b - t) + Real.exp (c - t) := by positivity
  generalize Real.exp (a - t) + Real.exp (b - t) + Real.exp (c - t) = d at hp
  rw [Ideal.div_coe hp.ne', Ideal.div_coe hp.ne', Ideal.div_coe hp.ne', Ideal.div_coe hp.ne']
  have hq : (0 : EReal) ≤ ((1 / d : ℝ) : EReal) := by exact_mod_cast (one_div_pos.mpr hp).le
  rw [EReal.right_distrib_of_nonneg_of_ne_top hq (EReal.coe_ne_top _), EReal.right_distrib_of_nonneg_of_ne_top hq (EReal.coe_ne_top _)]
  refine congrArg₂ (· + ·) (congrArg₂ (· + ·) ?_ ?_) ?_ <;> rw [mul_right_comm]

/-- The maximum of a row of three. -/
theorem fold_three (f : Fin 3 → EReal) : Finset.univ.fold max ⊥ f = top (f 0) (f 1) (f 2) := by
  have e : (Finset.univ : Finset (Fin 3)) = {0, 1, 2} := by decide
  rw [e, Finset.fold_insert (by decide), Finset.fold_insert (by decide), Finset.fold_singleton]
  unfold top
  rw [max_bot_right, max_assoc]

/-- The pattern of minus infinity. -/
theorem bits_bot : Ideal.ofBits FTy.f32 4286578688#32 = (⊥ : EReal) := by simp [Ideal.ofBits, Ideal.ieee]

section

open Cert.Reference10Ideal Cert.Reference10Ideal.Gen Cert.Reference10Ideal.Read

variable (x0 x1 x2 x3 x4 x5 : (⟨S16384x512, .f32⟩ : BufTy).Contents (Elt Ideal)) (x6 : (⟨S16384x1024, .f32⟩ : BufTy).Contents (Elt Ideal))
  (x7 : (⟨S1x512x1024, .f32⟩ : BufTy).Contents (Elt Ideal)) (x8 x9 : (⟨S1x1024, .f32⟩ : BufTy).Contents (Elt Ideal))

/-- The stacked log-sum-exps -/
theorem l0_at (q : Fin 16384) (e : Fin 512) : val_main_v3 x3 x4 x5 (ix3 0 q e) = x3 (ix2 q e) := by
  pointwise [val_main_v3, val_main_v0, val_main_v1, val_main_v2]
theorem l1_at (q : Fin 16384) (e : Fin 512) : val_main_v3 x3 x4 x5 (ix3 1 q e) = x4 (ix2 q e) := by
  pointwise [val_main_v3, val_main_v0, val_main_v1, val_main_v2]
theorem l2_at (q : Fin 16384) (e : Fin 512) : val_main_v3 x3 x4 x5 (ix3 2 q e) = x5 (ix2 q e) := by
  pointwise [val_main_v3, val_main_v0, val_main_v1, val_main_v2]
/-- and outputs. -/
theorem o0_at (q : Fin 16384) (e : Fin 512) : val_main_v18 x0 x1 x2 (ix3 0 q e) = x0 (ix2 q e) := by
  pointwise [val_main_v18, val_main_v15, val_main_v16, val_main_v17]
theorem o1_at (q : Fin 16384) (e : Fin 512) : val_main_v18 x0 x1 x2 (ix3 1 q e) = x1 (ix2 q e) := by
  pointwise [val_main_v18, val_main_v15, val_main_v16, val_main_v17]
theorem o2_at (q : Fin 16384) (e : Fin 512) : val_main_v18 x0 x1 x2 (ix3 2 q e) = x2 (ix2 q e) := by
  pointwise [val_main_v18, val_main_v15, val_main_v16, val_main_v17]

/-- The pointwise maximum over the stack. -/
theorem max_at (l : (⟨S3x16384x512, .f32⟩ : BufTy).Contents (Elt Ideal)) (q : Fin 16384) (e : Fin 512) :
    Host.reduce (FloatOps.maximumf (F := Ideal) (φ := .f32)) l (val_main_cst (F := Ideal)) reducesTo_S3x16384x512_S16384x512_d0 h_S_ (ix2 q e)
      = Finset.univ.fold max (Ideal.ofBits FTy.f32 4286578688#32) (fun g : Fin 3 => l (ix3 g q e)) := by
  pointwise [val_main_cst]

/-- The maximum's start is minus infinity. -/
theorem start_at (q : Fin 16384) (e : Fin 512) : val_main_v5 (F := Ideal) (ix2 q e) = ⊥ := by
  unfold val_main_v5
  pointwise [val_main_cst_0]
  exact bits_bot

/-- The maximum over the stack, of the three it stacks. -/
theorem stack_at (q : Fin 16384) (e : Fin 512) :
    val_main_v4 x3 x4 x5 (ix2 q e) = Finset.univ.fold max (Ideal.ofBits FTy.f32 4286578688#32) (fun g : Fin 3 => val_main_v3 x3 x4 x5 (ix3 g q e)) := by
  unfold val_main_v4
  exact max_at (val_main_v3 x3 x4 x5) q e

/-- The greatest log-sum-exp, over the two parts. -/
theorem both_at (u v : FVec Ideal S16384x512 .f32) (i : S16384x512.Idx) : maximumf u v i = max (u i) (v i) := by
  rw [maximumf_apply, Ideal.maximumf_def]

/-- The maximum of the stack's entries. -/
theorem three_at (q : Fin 16384) (e : Fin 512) (f : Fin 3 → EReal) (h0 : f 0 = x3 (ix2 q e)) (h1 : f 1 = x4 (ix2 q e)) (h2 : f 2 = x5 (ix2 q e)) :
    max ⊥ (Finset.univ.fold max (Ideal.ofBits FTy.f32 4286578688#32) f) = top (x3 (ix2 q e)) (x4 (ix2 q e)) (x5 (ix2 q e)) := by
  rw [bits_bot, max_bot_left, fold_three, h0, h1, h2]

/-- The greatest log-sum-exp. -/
theorem top_at (q : Fin 16384) (e : Fin 512) : val_main_v6 x3 x4 x5 (ix2 q e) = top (x3 (ix2 q e)) (x4 (ix2 q e)) (x5 (ix2 q e)) := by
  unfold val_main_v6
  rw [both_at, start_at, stack_at]
  exact three_at x3 x4 x5 q e (fun g => val_main_v3 x3 x4 x5 (ix3 g q e)) (l0_at x3 x4 x5 q e) (l1_at x3 x4 x5 q e) (l2_at x3 x4 x5 q e)

/-- An exponential. -/
theorem exp_at (g : Fin 3) (q : Fin 16384) (e : Fin 512) :
    val_main_v10 x3 x4 x5 (ix3 g q e) = Ideal.exp (val_main_v3 x3 x4 x5 (ix3 g q e) - val_main_v6 x3 x4 x5 (ix2 q e)) := by
  unfold val_main_v10 val_main_v9 val_main_v8 val_main_v7
  generalize val_main_v3 x3 x4 x5 = l
  generalize val_main_v6 x3 x4 x5 = t
  pointwise []

/-- The exponentials' sum. -/
theorem den_at (q : Fin 16384) (e : Fin 512) : val_main_v11 x3 x4 x5 (ix2 q e) = den (x3 (ix2 q e)) (x4 (ix2 q e)) (x5 (ix2 q e)) := by
  have h : val_main_v11 x3 x4 x5 (ix2 q e) = ∑ g : Fin 3, val_main_v10 x3 x4 x5 (ix3 g q e) := by
    unfold val_main_v11
    generalize val_main_v10 x3 x4 x5 = l
    pointwise [val_main_cst_1]
  rw [h, Fin.sum_univ_three, exp_at, exp_at, exp_at, top_at, l0_at, l1_at, l2_at]
  rfl

/-- The weighed sum of the outputs. -/
theorem mix_at (q : Fin 16384) (e : Fin 512) : val_main_v20 x0 x1 x2 x3 x4 x5 (ix2 q e)
    = weighed (x3 (ix2 q e)) (x4 (ix2 q e)) (x5 (ix2 q e)) (x0 (ix2 q e)) (x1 (ix2 q e)) (x2 (ix2 q e)) := by
  have h : val_main_v20 x0 x1 x2 x3 x4 x5 (ix2 q e)
      = ∑ g : Fin 3, Ideal.div (val_main_v10 x3 x4 x5 (ix3 g q e)) (val_main_v11 x3 x4 x5 (ix2 q e)) * val_main_v18 x0 x1 x2 (ix3 g q e) := by
    unfold val_main_v20 val_main_v19 val_main_v14 val_main_v13 val_main_v12
    generalize val_main_v10 x3 x4 x5 = l
    generalize val_main_v11 x3 x4 x5 = s
    generalize val_main_v18 x0 x1 x2 = o
    pointwise [val_main_cst_2]
  rw [h, Fin.sum_univ_three, exp_at, exp_at, exp_at, top_at, den_at, l0_at, l1_at, l2_at, o0_at, o1_at, o2_at]
  rfl

/-- The projection. -/
theorem proj_at (q : Fin 16384) (k : Fin 1024) : val_main_v24 x0 x1 x2 x3 x4 x5 x7 (ix2 q k)
    = ∑ e : Fin 512, weighed (x3 (ix2 q e)) (x4 (ix2 q e)) (x5 (ix2 q e)) (x0 (ix2 q e)) (x1 (ix2 q e)) (x2 (ix2 q e)) * x7 (ix3 0 e k) := by
  refine Eq.trans ?_ (Finset.sum_congr rfl fun e _ => congrArg (· * x7 (ix3 0 e k)) (mix_at x0 x1 x2 x3 x4 x5 q e))
  unfold val_main_v24
  generalize val_main_v20 x0 x1 x2 x3 x4 x5 = y
  pointwise [val_main_v23]

/-- The result, over the projection. -/
theorem ln_at (q : Fin 16384) (k : Fin 1024) : val_main_v51 x0 x1 x2 x3 x4 x5 x6 x7 x8 x9 (ix2 q k)
    = lnorm (fun j => resid (x6 (ix2 q j)) (val_main_v24 x0 x1 x2 x3 x4 x5 x7 (ix2 q j))) (x8 (ix2 0 k)) (x9 (ix2 0 k)) k := by
  unfold val_main_v51 val_main_v48 val_main_v45 val_main_v44 val_main_v43 val_main_v42 val_main_v40 val_main_v39 val_main_v38 val_main_v36 val_main_v35 val_main_v34 val_main_v33 val_main_v32 val_main_v31 val_main_v29 val_main_v28 val_main_v25
  generalize val_main_v24 x0 x1 x2 x3 x4 x5 x7 = y
  pointwise [val_main_v22, val_main_v21, val_main_cst_3, val_main_v26, val_main_v27, val_main_v30, val_main_cst_5, val_main_v37, val_main_cst_7, val_main_v41, val_main_cst_8, val_main_v46, val_main_v47, val_main_v49, val_main_v50, val_main_cst_4, val_main_cst_6]
  rfl

/-- The result, from the arguments. -/
theorem out_at (q : Fin 16384) (k : Fin 1024) : val_main_v51 x0 x1 x2 x3 x4 x5 x6 x7 x8 x9 (ix2 q k)
    = lnorm (fun j => resid (x6 (ix2 q j)) (∑ e : Fin 512,
        weighed (x3 (ix2 q e)) (x4 (ix2 q e)) (x5 (ix2 q e)) (x0 (ix2 q e)) (x1 (ix2 q e)) (x2 (ix2 q e)) * x7 (ix3 0 e j)))
      (x8 (ix2 0 k)) (x9 (ix2 0 k)) k := by
  rw [ln_at]
  exact congrArg (fun z => lnorm z (x8 (ix2 0 k)) (x9 (ix2 0 k)) k) (funext fun j => congrArg (resid (x6 (ix2 q j))) (proj_at x0 x1 x2 x3 x4 x5 x7 q j))

end

end MergeRef

end
-- ==== Proof.MergeKer.lean ====
module

public import proofs.«01_k».proof.Proof.Gen.Kernel10Ideal.Value
public import proofs.«01_k».proof.Proof.MergeRef
public import Idealize.ShloMosaic.Lib.Pipeline.Value
public import Idealize.ShloMosaic.Lib.Pipeline.ValueKit
public import Idealize.ShloMosaic.Lib.Pipeline.ReadBack

@[expose] public section

set_option maxRecDepth 16384

/-! The dilated layer's output projection call, entry by entry: each grid point merges the groups, projects, adds and normalises its own rows. -/

noncomputable section

open Idealize.ShloMosaic Idealize.ShloMosaic.TcCoe Idealize.SL.Sem
open Idealize.ShloMosaic.Pipeline (Dat)

namespace MergeKer

open Cert.Kernel10Ideal Cert.Kernel10Ideal.Gen FfnRef MergeRef

/-! ## The body -/

/-- A block's merged rows and their product. -/
def prod (a b c x y z : Vec Ideal S512x512 .f32) (w : Vec Ideal S512x1024 .bf16) (r : Fin 512) (j : Fin 1024) : EReal :=
  ∑ e : Fin 512, merged (a (ix2 r e)) (b (ix2 r e)) (c (ix2 r e)) (x (ix2 r e)) (y (ix2 r e)) (z (ix2 r e)) * w (ix2 e j)

/-- What the layer norm reads. -/
theorem pre_at (a b c x y z : Vec Ideal S512x512 .f32) (w : Vec Ideal S512x1024 .bf16) (u : Vec Ideal S512x1024 .f32) (r : Fin 512) (j : Fin 1024) :
    k0_pay2 (F := Ideal) a b c x y z w u (ix2 r j) = resid (u (ix2 r j)) (prod a b c x y z w r j) := by
  unfold prod merged den top
  pointwise [k0_pay2]
  rfl

/-- What the body stores, over that. -/
theorem norm_at (p : FVec Ideal S512x1024 .f32) (g b : Vec Ideal S1x1024 .f32) (s : FVec Ideal S512x1 .f32)
    (r : Fin 512) (hs : s (ix2 r 0) = ∑ j : Fin 1024, p (ix2 r j)) (k : Fin 1024) :
    k0_pay1 (F := Ideal) p (k0_pay3 g) (k0_pay4 b) s (ix2 r k) = lnorm (fun j => p (ix2 r j)) (g (ix2 0 k)) (b (ix2 0 k)) k := by
  have hm : Ideal.div (s (ix2 r 0)) (Ideal.ofBits FTy.f32 1149239296#32) = mean (fun j => p (ix2 r j)) := by
    rw [hs]
    rfl
  unfold lnorm
  rw [← hm]
  pointwise [k0_pay1, k0_pay3, k0_pay4]
  rfl

/-- A row's sum. -/
theorem sum_at (a b c x y z : Vec Ideal S512x512 .f32) (w : Vec Ideal S512x1024 .bf16) (u : Vec Ideal S512x1024 .f32) (r : Fin 512) :
    k0_pay5 (F := Ideal) a b c x y z w u (ix2 r 0) = ∑ j : Fin 1024, k0_pay2 (F := Ideal) a b c x y z w u (ix2 r j) := by
  unfold k0_pay5
  generalize k0_pay2 (F := Ideal) a b c x y z w u = p
  pointwise []

/-- What the body stores. -/
theorem body_at (a b c x y z : Vec Ideal S512x512 .f32) (w : Vec Ideal S512x1024 .bf16) (u : Vec Ideal S512x1024 .f32) (g h : Vec Ideal S1x1024 .f32)
    (r : Fin 512) (k : Fin 1024) :
    k0_pay1 (F := Ideal) (k0_pay2 a b c x y z w u) (k0_pay3 g) (k0_pay4 h) (k0_pay5 a b c x y z w u) (ix2 r k)
      = lnorm (fun j => resid (u (ix2 r j)) (prod a b c x y z w r j)) (g (ix2 0 k)) (h (ix2 0 k)) k :=
  (norm_at _ g h _ r (sum_at a b c x y z w u r) k).trans
    (congrArg (fun f => lnorm f (g (ix2 0 k)) (h (ix2 0 k)) k) (funext fun j => pre_at a b c x y z w u r j))

variable (m : (ℓ : Loc nD τ sig) → Buf (Elt Ideal) ℓ) (c : Dev nD)

/-! ## The arrays the region finds -/

abbrev O0 : S16384x512.Idx → EReal := V m c main_arg0
abbrev O1 : S16384x512.Idx → EReal := V m c main_arg1
abbrev O2 : S16384x512.Idx → EReal := V m c main_arg2
abbrev L0 : S16384x512.Idx → EReal := V m c main_arg3
abbrev L1 : S16384x512.Idx → EReal := V m c main_arg4
abbrev L2 : S16384x512.Idx → EReal := V m c main_arg5
abbrev W : S512x1024.Idx → EReal := V m c main_v5
abbrev X : S16384x1024.Idx → EReal := V m c main_arg6
abbrev G : S1x1024.Idx → EReal := V m c main_v1
abbrev B : S1x1024.Idx → EReal := V m c main_v3

theorem idx0 : ∀ t : Fin grid0.N, cc0_transform_0 (grid0.coords t) 0 = t.val := by decide +kernel
theorem idx1 : ∀ t : Fin grid0.N, cc0_transform_1 (grid0.coords t) 0 = t.val := by decide +kernel
theorem idx2 : ∀ t : Fin grid0.N, cc0_transform_2 (grid0.coords t) 0 = t.val := by decide +kernel
theorem idx3 : ∀ t : Fin grid0.N, cc0_transform_3 (grid0.coords t) 0 = t.val := by decide +kernel
theorem idx4 : ∀ t : Fin grid0.N, cc0_transform_4 (grid0.coords t) 0 = t.val := by decide +kernel
theorem idx5 : ∀ t : Fin grid0.N, cc0_transform_5 (grid0.coords t) 0 = t.val := by decide +kernel
theorem idx7 : ∀ t : Fin grid0.N, cc0_transform_7 (grid0.coords t) 0 = t.val := by decide +kernel
theorem idx10 : ∀ t : Fin grid0.N, cc0_transform_10 (grid0.coords t) 0 = t.val := by decide +kernel

theorem blk0 (t : Fin cfg0.N) (r e : Fin 512) (q : Fin 16384) (hq : q.val = 512 * t.val + r.val) : iblk m c 0 t (ix2 r e) = O0 m c (ix2 q e) := by
  unfold iblk
  refine congrArg (V m c main_arg0) ?_
  funext a; apply Fin.ext
  match a with
  | ⟨0, _⟩ => show cc0_transform_0 (grid0.coords t) 0 * 512 + 1 * r.val = q.val; rw [idx0]; omega
  | ⟨1, _⟩ => show 0 * 512 + 1 * e.val = e.val; omega
theorem blk1 (t : Fin cfg0.N) (r e : Fin 512) (q : Fin 16384) (hq : q.val = 512 * t.val + r.val) : iblk m c 1 t (ix2 r e) = O1 m c (ix2 q e) := by
  unfold iblk
  refine congrArg (V m c main_arg1) ?_
  funext a; apply Fin.ext
  match a with
  | ⟨0, _⟩ => show cc0_transform_1 (grid0.coords t) 0 * 512 + 1 * r.val = q.val; rw [idx1]; omega
  | ⟨1, _⟩ => show 0 * 512 + 1 * e.val = e.val; omega
theorem blk2 (t : Fin cfg0.N) (r e : Fin 512) (q : Fin 16384) (hq : q.val = 512 * t.val + r.val) : iblk m c 2 t (ix2 r e) = O2 m c (ix2 q e) := by
  unfold iblk
  refine congrArg (V m c main_arg2) ?_
  funext a; apply Fin.ext
  match a with
  | ⟨0, _⟩ => show cc0_transform_2 (grid0.coords t) 0 * 512 + 1 * r.val = q.val; rw [idx2]; omega
  | ⟨1, _⟩ => show 0 * 512 + 1 * e.val = e.val; omega
theorem blk3 (t : Fin cfg0.N) (r e : Fin 512) (q : Fin 16384) (hq : q.val = 512 * t.val + r.val) : iblk m c 3 t (ix2 r e) = L0 m c (ix2 q e) := by
  unfold iblk
  refine congrArg (V m c main_arg3) ?_
  funext a; apply Fin.ext
  match a with
  | ⟨0, _⟩ => show cc0_transform_3 (grid0.coords t) 0 * 512 + 1 * r.val = q.val; rw [idx3]; omega
  | ⟨1, _⟩ => show 0 * 512 + 1 * e.val = e.val; omega
theorem blk4 (t : Fin cfg0.N) (r e : Fin 512) (q : Fin 16384) (hq : q.val = 512 * t.val + r.val) : iblk m c 4 t (ix2 r e) = L1 m c (ix2 q e) := by
  unfold iblk
  refine congrArg (V m c main_arg4) ?_
  funext a; apply Fin.ext
  match a with
  | ⟨0, _⟩ => show cc0_transform_4 (grid0.coords t) 0 * 512 + 1 * r.val = q.val; rw [idx4]; omega
  | ⟨1, _⟩ => show 0 * 512 + 1 * e.val = e.val; omega
theorem blk5 (t : Fin cfg0.N) (r e : Fin 512) (q : Fin 16384) (hq : q.val = 512 * t.val + r.val) : iblk m c 5 t (ix2 r e) = L2 m c (ix2 q e) := by
  unfold iblk
  refine congrArg (V m c main_arg5) ?_
  funext a; apply Fin.ext
  match a with
  | ⟨0, _⟩ => show cc0_transform_5 (grid0.coords t) 0 * 512 + 1 * r.val = q.val; rw [idx5]; omega
  | ⟨1, _⟩ => show 0 * 512 + 1 * e.val = e.val; omega
theorem blk6 (t : Fin cfg0.N) (e : Fin 512) (k : Fin 1024) : iblk m c 6 t (ix2 e k) = W m c (ix2 e k) := by
  unfold iblk
  refine congrArg (V m c main_v5) ?_
  funext a; apply Fin.ext
  match a with
  | ⟨0, _⟩ => show 0 * 512 + 1 * e.val = e.val; omega
  | ⟨1, _⟩ => show 0 * 1024 + 1 * k.val = k.val; omega
theorem blk7 (t : Fin cfg0.N) (r : Fin 512) (k : Fin 1024) (q : Fin 16384) (hq : q.val = 512 * t.val + r.val) : iblk m c 7 t (ix2 r k) = X m c (ix2 q k) := by
  unfold iblk
  refine congrArg (V m c main_arg6) ?_
  funext a; apply Fin.ext
  match a with
  | ⟨0, _⟩ => show cc0_transform_7 (grid0.coords t) 0 * 512 + 1 * r.val = q.val; rw [idx7]; omega
  | ⟨1, _⟩ => show 0 * 1024 + 1 * k.val = k.val; omega
theorem blk8 (t : Fin cfg0.N) (k : Fin 1024) : iblk m c 8 t (ix2 0 k) = G m c (ix2 0 k) := by
  unfold iblk
  refine congrArg (V m c main_v1) ?_
  funext a; apply Fin.ext
  match a with
  | ⟨0, _⟩ => rfl
  | ⟨1, _⟩ => show 0 * 1024 + 1 * k.val = k.val; omega
theorem blk9 (t : Fin cfg0.N) (k : Fin 1024) : iblk m c 9 t (ix2 0 k) = B m c (ix2 0 k) := by
  unfold iblk
  refine congrArg (V m c main_v3) ?_
  funext a; apply Fin.ext
  match a with
  | ⟨0, _⟩ => rfl
  | ⟨1, _⟩ => show 0 * 1024 + 1 * k.val = k.val; omega

/-! ## The result -/

/-- One row of what the layer norm reads. -/
def row (q : Fin 16384) : Fin 1024 → EReal := fun j => resid (X m c (ix2 q j))
  (∑ e : Fin 512, merged (L0 m c (ix2 q e)) (L1 m c (ix2 q e)) (L2 m c (ix2 q e)) (O0 m c (ix2 q e)) (O1 m c (ix2 q e)) (O2 m c (ix2 q e)) * W m c (ix2 e j))

/-- The result array. -/
def out : S16384x1024.Idx → EReal := fun x => lnorm (row m c (x 0)) (G m c (ix2 0 (x 1))) (B m c (ix2 0 (x 1))) (x 1)

/-- What a point leaves. -/
theorem point_at (t : Fin cfg0.N) (r : Fin 512) (k : Fin 1024) (q : Fin 16384) (hq : q.val = 512 * t.val + r.val) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r k) = out m c (ix2 q k) := by
  have e : out0_10 (iblk m c 0 t) (iblk m c 1 t) (iblk m c 2 t) (iblk m c 3 t) (iblk m c 4 t) (iblk m c 5 t) (iblk m c 6 t) (iblk m c 7 t) (iblk m c 8 t) (iblk m c 9 t)
      = k0_pay1 (k0_pay2 (iblk m c 3 t) (iblk m c 4 t) (iblk m c 5 t) (iblk m c 0 t) (iblk m c 1 t) (iblk m c 2 t) (iblk m c 6 t) (iblk m c 7 t)) (k0_pay3 (iblk m c 8 t)) (k0_pay4 (iblk m c 9 t)) (k0_pay5 (iblk m c 3 t) (iblk m c 4 t) (iblk m c 5 t) (iblk m c 0 t) (iblk m c 1 t) (iblk m c 2 t) (iblk m c 6 t) (iblk m c 7 t)) := by
    frame_out
  rw [e]
  refine (body_at (iblk m c 3 t) (iblk m c 4 t) (iblk m c 5 t) (iblk m c 0 t) (iblk m c 1 t) (iblk m c 2 t) (iblk m c 6 t) (iblk m c 7 t) (iblk m c 8 t) (iblk m c 9 t) r k).trans ?_
  rw [blk8, blk9]
  refine congrArg (fun z => lnorm z (G m c (ix2 0 k)) (B m c (ix2 0 k)) k) (funext fun j => ?_)
  refine congrArg₂ resid (blk7 m c t r j q hq) (Finset.sum_congr rfl fun e _ => ?_)
  rw [blk0 m c t r e q hq, blk1 m c t r e q hq, blk2 m c t r e q hq, blk3 m c t r e q hq, blk4 m c t r e q hq, blk5 m c t r e q hq, blk6 m c t e j]
  rfl

/-- What the region leaves in its result. -/
theorem final : (dats m 0 c).arrAt 10 cfg0.N = out m c := by
  refine (dats m 0 c).arrAt_eq_of_emb 10 (out m c) (fun t hf (y : S512x1024.Idx) => ?_) (fun (x : S16384x1024.Idx) => ?_)
  · have ht : t.val < 32 := Nat.lt_of_lt_of_eq t.isLt N_0
    have hy0 : (y 0).val < 512 := (y 0).isLt
    have he : ((cfg0.win 10).blk t).view.emb y = ix2 (⟨512 * t.val + (y 0).val, by omega⟩ : Fin 16384) (y 1) := by
      funext a; apply Fin.ext
      match a with
      | ⟨0, _⟩ =>
        show cc0_transform_10 (grid0.coords t) 0 * 512 + 1 * (y 0).val = 512 * t.val + (y 0).val
        rw [idx10]; omega
      | ⟨1, _⟩ => show 0 * 1024 + 1 * (y 1).val = (y 1).val; omega
    rw [he]
    refine (congrFun (after0_10 m c t) y).trans ?_
    refine (congrArg (out0_10 (iblk m c 0 t) (iblk m c 1 t) (iblk m c 2 t) (iblk m c 3 t) (iblk m c 4 t) (iblk m c 5 t) (iblk m c 6 t) (iblk m c 7 t) (iblk m c 8 t) (iblk m c 9 t)) (eq_ix2 y)).trans ?_
    exact point_at m c t (y 0) (y 1) _ rfl
  · have hx0 : (x 0).val < 16384 := (x 0).isLt
    have hx1 : (x 1).val < 1024 := (x 1).isLt
    obtain ⟨t, ht⟩ : ∃ t : Fin cfg0.N, t.val = (x 0).val / 512 :=
      ⟨⟨(x 0).val / 512, Nat.lt_of_lt_of_eq (by omega) N_0.symm⟩, rfl⟩
    have hx : ((cfg0.win 10).blk t).view.emb (ix2 (⟨(x 0).val % 512, by omega⟩ : Fin 512) (⟨(x 1).val, hx1⟩ : Fin 1024) : S512x1024.Idx) = x := by
      funext a; apply Fin.ext
      match a with
      | ⟨0, _⟩ =>
        show cc0_transform_10 (grid0.coords t) 0 * 512 + 1 * ((x 0).val % 512) = (x 0).val
        rw [idx10]; omega
      | ⟨1, _⟩ => show 0 * 1024 + 1 * (x 1).val = (x 1).val; omega
    refine ⟨t, flush0_10 t, ?_⟩
    rw [← hx]; exact View.emb_mem_set _ _

/-! ## The arrays, from the arguments -/

theorem O0_eq (x : S16384x512.Idx → EReal) (hx : x = m ((c.tc : Thread nD τ).loc main_arg0)) : O0 m c = x := by
  subst hx
  exact V_main_arg0 m c
theorem O1_eq (x : S16384x512.Idx → EReal) (hx : x = m ((c.tc : Thread nD τ).loc main_arg1)) : O1 m c = x := by
  subst hx
  exact V_main_arg1 m c
theorem O2_eq (x : S16384x512.Idx → EReal) (hx : x = m ((c.tc : Thread nD τ).loc main_arg2)) : O2 m c = x := by
  subst hx
  exact V_main_arg2 m c
theorem L0_eq (x : S16384x512.Idx → EReal) (hx : x = m ((c.tc : Thread nD τ).loc main_arg3)) : L0 m c = x := by
  subst hx
  exact V_main_arg3 m c
theorem L1_eq (x : S16384x512.Idx → EReal) (hx : x = m ((c.tc : Thread nD τ).loc main_arg4)) : L1 m c = x := by
  subst hx
  exact V_main_arg4 m c
theorem L2_eq (x : S16384x512.Idx → EReal) (hx : x = m ((c.tc : Thread nD τ).loc main_arg5)) : L2 m c = x := by
  subst hx
  exact V_main_arg5 m c
theorem X_eq (x : S16384x1024.Idx → EReal) (hx : x = m ((c.tc : Thread nD τ).loc main_arg6)) : X m c = x := by
  subst hx
  exact V_main_arg6 m c
theorem W_at (w : S1x512x1024.Idx → EReal) (hw : w = m ((c.tc : Thread nD τ).loc main_arg7)) (e : Fin 512) (k : Fin 1024) :
    W m c (ix2 e k) = w (ix3 0 e k) := by
  have h : W m c = truncf (F := Ideal) .bf16 (shapeCast S512x1024 w shapeCasts_S1x512x1024_S512x1024) bitsLt_bf16_f32 := by
    subst hw
    unfold W V
    after_results
    rfl
  rw [h]
  pointwise []
theorem G_at (w : S1x1024.Idx → EReal) (hw : w = m ((c.tc : Thread nD τ).loc main_arg8)) (k : Fin 1024) : G m c (ix2 0 k) = w (ix2 0 k) := by
  have h : G m c = shapeCast S1x1024 (shapeCast S1024 w shapeCasts_S1x1024_S1024) shapeCasts_S1024_S1x1024 := by
    subst hw
    unfold G V
    after_results
    rfl
  rw [h]
  pointwise []
theorem B_at (w : S1x1024.Idx → EReal) (hw : w = m ((c.tc : Thread nD τ).loc main_arg9)) (k : Fin 1024) : B m c (ix2 0 k) = w (ix2 0 k) := by
  have h : B m c = shapeCast S1x1024 (shapeCast S1024 w shapeCasts_S1x1024_S1024) shapeCasts_S1024_S1x1024 := by
    subst hw
    unfold B V
    after_results
    rfl
  rw [h]
  pointwise []

/-- The result from the arguments. -/
theorem out_at (o0 : S16384x512.Idx → EReal) (ho0 : o0 = m ((c.tc : Thread nD τ).loc main_arg0)) (o1 : S16384x512.Idx → EReal) (ho1 : o1 = m ((c.tc : Thread nD τ).loc main_arg1)) (o2 : S16384x512.Idx → EReal) (ho2 : o2 = m ((c.tc : Thread nD τ).loc main_arg2)) (l0 : S16384x512.Idx → EReal) (hl0 : l0 = m ((c.tc : Thread nD τ).loc main_arg3)) (l1 : S16384x512.Idx → EReal) (hl1 : l1 = m ((c.tc : Thread nD τ).loc main_arg4)) (l2 : S16384x512.Idx → EReal) (hl2 : l2 = m ((c.tc : Thread nD τ).loc main_arg5))
    (x : S16384x1024.Idx → EReal) (hx : x = m ((c.tc : Thread nD τ).loc main_arg6)) (w : S1x512x1024.Idx → EReal) (hw : w = m ((c.tc : Thread nD τ).loc main_arg7))
    (g : S1x1024.Idx → EReal) (hg : g = m ((c.tc : Thread nD τ).loc main_arg8)) (b : S1x1024.Idx → EReal) (hb : b = m ((c.tc : Thread nD τ).loc main_arg9))
    (q : Fin 16384) (k : Fin 1024) : out m c (ix2 q k)
      = lnorm (fun j => resid (x (ix2 q j)) (∑ e : Fin 512,
          merged (l0 (ix2 q e)) (l1 (ix2 q e)) (l2 (ix2 q e)) (o0 (ix2 q e)) (o1 (ix2 q e)) (o2 (ix2 q e)) * w (ix3 0 e j)))
        (g (ix2 0 k)) (b (ix2 0 k)) k := by
  show lnorm (row m c q) (G m c (ix2 0 k)) (B m c (ix2 0 k)) k = _
  unfold row
  simp only [O0_eq m c o0 ho0, O1_eq m c o1 ho1, O2_eq m c o2 ho2, L0_eq m c l0 hl0, L1_eq m c l1 hl1, L2_eq m c l2 hl2,
    X_eq m c x hx, W_at m c w hw, G_at m c g hg, B_at m c b hb]

end MergeKer

end
-- ==== Proof.MergeClaim.lean ====
module

public import proofs.«01_k».proof.Defs
public import proofs.«01_k».proof.Proof.DilClaim
public import proofs.«01_k».proof.Proof.MergeKer
public import proofs.«01_k».proof.Proof.Gen.Kernel10.Frame
public import proofs.«01_k».proof.Proof.Gen.Pre_finite_lse
public import proofs.«01_k».proof.Proof.Gen.Reference10Ideal.Run
public import Idealize.ShloMosaic.Lib.ReduceAll
public import Idealize.ShloMosaic.Lib.Quiescent

@[expose] public section

set_option maxRecDepth 16384

/-! What is claimed of the output projection of the dilated layer. -/

noncomputable section

open Idealize.ShloMosaic Idealize.ShloMosaic.TcCoe Idealize.SL.Sem

namespace MergeClaim

/-! ## The precondition -/

section

open Cert.Pre_finite_lse

variable (x0 x1 x2 x3 x4 x5 : FVec Ideal S16384x512 .f32) (x6 : FVec Ideal S16384x1024 .f32) (x7 : FVec Ideal S1x512x1024 .f32)
  (x8 x9 : FVec Ideal S1x1024 .f32)

/-- What the precondition says: the log-sum-exps are real. -/
theorem pre_real (h : fn (F := Ideal) x0 x1 x2 x3 x4 x5 x6 x7 x8 x9 = fun _ => 1#1) :
    (∀ i, ∃ r : ℝ, x3 i = r) ∧ (∀ i, ∃ r : ℝ, x4 i = r) ∧ (∀ i, ∃ r : ℝ, x5 i = r) := by
  have h0 := congrFun h (fun a => a.elim0)
  unfold fn at h0
  simp only at h0
  have hand : ∀ a b : BitVec 1, IntOp.andi a b = 1#1 → a = 1#1 ∧ b = 1#1 := by decide
  obtain ⟨h1, h3⟩ := hand _ _ h0
  obtain ⟨h1, h2⟩ := hand _ _ h1
  exact ⟨fun i => Cert.Proof.DilClaim.real_of_lt _ (Host.reduce_andi_all _ _ _ _ _ h1 i),
    fun i => Cert.Proof.DilClaim.real_of_lt _ (Host.reduce_andi_all _ _ _ _ _ h2 i),
    fun i => Cert.Proof.DilClaim.real_of_lt _ (Host.reduce_andi_all _ _ _ _ _ h3 i)⟩

end

/-! ## The runs -/

/-- The machine's program runs, keeps its arguments and leaves every counter at zero. -/
theorem frame_p : Cert.quiescent_Kernel10 := fun m ρ _ => Cert.Kernel10.Gen.frame m ρ
/-- So does the program over the extended reals, -/
theorem frame_pi : Cert.quiescent_Kernel10Ideal := fun m ρ _ => Cert.Kernel10Ideal.Gen.frame m ρ
/-- under the precondition too, -/
theorem frame_pi_pre : Cert.quiescent_Kernel10Ideal_pre_finite_lse := fun m ρ _ => Cert.Kernel10Ideal.Gen.frame m ρ
/-- and the reference, -/
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)
/-- under the precondition too. -/
theorem frame_ri_pre : Cert.quiescent_Reference10Ideal_pre_finite_lse := fun m ρ _ => frame_ri m ρ trivial

/-! ## The result -/

section

open Cert.Kernel10Ideal Cert.Kernel10Ideal.Gen

variable (m : (ℓ : Loc nD τ sig) → Buf (Elt Ideal) ℓ) (c : Dev nD)

/-- The arguments. -/
abbrev A0 : S16384x512.Idx → EReal := m ((c.tc : Thread nD τ).loc main_arg0)
abbrev A1 : S16384x512.Idx → EReal := m ((c.tc : Thread nD τ).loc main_arg1)
abbrev A2 : S16384x512.Idx → EReal := m ((c.tc : Thread nD τ).loc main_arg2)
abbrev A3 : S16384x512.Idx → EReal := m ((c.tc : Thread nD τ).loc main_arg3)
abbrev A4 : S16384x512.Idx → EReal := m ((c.tc : Thread nD τ).loc main_arg4)
abbrev A5 : S16384x512.Idx → EReal := m ((c.tc : Thread nD τ).loc main_arg5)
abbrev A6 : S16384x1024.Idx → EReal := m ((c.tc : Thread nD τ).loc main_arg6)
abbrev A7 : S1x512x1024.Idx → EReal := m ((c.tc : Thread nD τ).loc main_arg7)
abbrev A8 : S1x1024.Idx → EReal := m ((c.tc : Thread nD τ).loc main_arg8)
abbrev A9 : S1x1024.Idx → EReal := m ((c.tc : Thread nD τ).loc main_arg9)

/-- For finite log-sum-exps the kernel's result array is the reference's. -/
theorem res (h3 : ∀ i, ∃ r : ℝ, A3 m c i = r) (h4 : ∀ i, ∃ r : ℝ, A4 m c i = r) (h5 : ∀ i, ∃ r : ℝ, A5 m c i = r) : (dats m 0 c).arrAt 10 cfg0.N
    = Cert.Reference10Ideal.Read.val_main_v51 (F := Ideal) (A0 m c) (A1 m c) (A2 m c) (A3 m c) (A4 m c) (A5 m c) (A6 m c) (A7 m c) (A8 m c) (A9 m c) := by
  rw [MergeKer.final]
  funext (x : S16384x1024.Idx)
  obtain ⟨q, k, rfl⟩ : ∃ q k, x = ix2 q k := ⟨x 0, x 1, eq_ix2 x⟩
  refine (MergeKer.out_at m c (A0 m c) rfl (A1 m c) rfl (A2 m c) rfl (A3 m c) rfl (A4 m c) rfl (A5 m c) rfl (A6 m c) rfl (A7 m c) rfl (A8 m c) rfl (A9 m c) rfl q k).trans (Eq.trans ?_ (MergeRef.out_at (A0 m c) (A1 m c) (A2 m c) (A3 m c) (A4 m c) (A5 m c) (A6 m c) (A7 m c) (A8 m c) (A9 m c) q k).symm)
  refine congrArg (fun z => FfnRef.lnorm z (A8 m c (ix2 0 k)) (A9 m c (ix2 0 k)) k) (funext fun j => congrArg (FfnRef.resid (A6 m c (ix2 q j))) ?_)
  refine Finset.sum_congr rfl fun e _ => congrArg (· * A7 m c (ix3 0 e j)) ?_
  exact MergeRef.merged_eq _ _ _ _ _ _ (h3 _) (h4 _) (h5 _)

end

/-- On finite log-sum-exps the kernel and the reference leave one result. -/
theorem algebraic : Cert.algebraic_Kernel10Ideal_Reference10Ideal_pre_finite_lse := by
  intro m ρ m' ρ' hpre hagree
  have hr := fun c => pre_real _ _ _ _ _ _ _ _ _ _ (hpre c)
  refine ⟨fun c => (Cert.Kernel10Ideal.Gen.dats m 0 c).arrAt 10 Cert.Kernel10Ideal.cfg0.N, Cert.Kernel10Ideal.Value.run_blocks m ρ, ?_⟩
  refine (θ_run Cert.Reference10Ideal.defs _ _).mono (fun _ h c => ⟨(h c).1.trans ?_, (h c).2⟩) (Cert.Reference10Ideal.Value.run (F := Ideal) m' ρ')
  rw [Cert.Reference10Ideal.Read.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (res m c (hr c).1 (hr c).2.1 (hr c).2.2).symm

end MergeClaim

end
-- ==== Proof.lean ====
module

public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite_lse
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_qk_512
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_qk_128
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_tables_in_range
public import proofs.«01_k».proof.Proof.Gen.Kernel2
public import proofs.«01_k».proof.Proof.Gen.Kernel2Ideal
public import proofs.«01_k».proof.Proof.Gen.Reference2Ideal
public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.DilClaim
public import proofs.«01_k».proof.Proof.ExpClaim
public import proofs.«01_k».proof.Proof.InpClaim3
public import proofs.«01_k».proof.Proof.InpClaim4
public import proofs.«01_k».proof.Proof.FfnClaim
public import proofs.«01_k».proof.Proof.RopeClaim
public import proofs.«01_k».proof.Proof.DilClaim7
public import proofs.«01_k».proof.Proof.DilClaim8
public import proofs.«01_k».proof.Proof.ProjClaim
public import proofs.«01_k».proof.Proof.MergeClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_qk.Gen.facts, Cert.Pre_tables_in_range.Gen.facts, Cert.Pre_finite_qk_512.Gen.facts, Cert.Pre_finite_qk_128.Gen.facts, Cert.Pre_finite_lse.Gen.facts, by
  exact ⟨DilClaim.frame_p, DilClaim.frame_pi, DilClaim.frame_pi_pre, DilClaim.frame_ri, DilClaim.frame_ri_pre,
    ExpClaim.frame_p, ExpClaim.frame_pi, ExpClaim.frame_ri, ExpClaim.frame_ri_pre,
    InpClaim3.frame_p, InpClaim3.frame_pi, InpClaim3.frame_ri, InpClaim4.frame_p, InpClaim4.frame_pi, InpClaim4.frame_ri,
    FfnClaim.frame_p, FfnClaim.frame_pi, FfnClaim.frame_ri, RopeClaim.frame_p, RopeClaim.frame_pi, RopeClaim.frame_ri,
    DilClaim7.frame_p, DilClaim7.frame_pi, DilClaim7.frame_pi_pre, DilClaim7.frame_ri, DilClaim7.frame_ri_pre,
    DilClaim8.frame_p, DilClaim8.frame_pi, DilClaim8.frame_pi_pre, DilClaim8.frame_ri, DilClaim8.frame_ri_pre,
    ProjClaim.frame_p, ProjClaim.frame_pi, ProjClaim.frame_ri,
    MergeClaim.frame_p, MergeClaim.frame_pi, MergeClaim.frame_pi_pre, MergeClaim.frame_ri, MergeClaim.frame_ri_pre,
    trivial, DilClaim.algebraic, trivial, ExpClaim.algebraic, trivial, InpClaim3.algebraic, trivial, InpClaim4.algebraic, trivial, FfnClaim.algebraic,
    trivial, RopeClaim.algebraic, trivial, DilClaim7.algebraic, trivial, DilClaim8.algebraic,
    trivial, ProjClaim.algebraic, trivial, MergeClaim.algebraic⟩⟩

end Cert.Proof

end
